-- ==== Defs.lean ====
def Pre_MlpBwd (m : (ℓ : Loc Cert.MlpBwd.nD Cert.MlpBwd.τ Cert.MlpBwd.sig) → Buf (Elt Bits) ℓ) : Prop :=
  True

def Pre_MlpBwdIdeal (m : (ℓ : Loc Cert.MlpBwdIdeal.nD Cert.MlpBwdIdeal.τ Cert.MlpBwdIdeal.sig) → Buf (Elt Ideal) ℓ) : Prop :=
  True

def Pre_MlpBwdRefIdeal (m : (ℓ : Loc Cert.MlpBwdRefIdeal.nD Cert.MlpBwdRefIdeal.τ Cert.MlpBwdRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_MlpFwd (m : (ℓ : Loc Cert.MlpFwd.nD Cert.MlpFwd.τ Cert.MlpFwd.sig) → Buf (Elt Bits) ℓ) : Prop :=
  True

def Pre_MlpFwdIdeal (m : (ℓ : Loc Cert.MlpFwdIdeal.nD Cert.MlpFwdIdeal.τ Cert.MlpFwdIdeal.sig) → Buf (Elt Ideal) ℓ) : Prop :=
  True

def Pre_MlpFwdRefIdeal (m : (ℓ : Loc Cert.MlpFwdRefIdeal.nD Cert.MlpFwdRefIdeal.τ Cert.MlpFwdRefIdeal.sig) → Buf (Elt Ideal) ℓ) : Prop :=
  True

def Pre_WgradOut (m : (ℓ : Loc Cert.WgradOut.nD Cert.WgradOut.τ Cert.WgradOut.sig) → Buf (Elt Bits) ℓ) : Prop :=
  True

def Pre_WgradOutIdeal (m : (ℓ : Loc Cert.WgradOutIdeal.nD Cert.WgradOutIdeal.τ Cert.WgradOutIdeal.sig) → Buf (Elt Ideal) ℓ) : Prop :=
  True

def Pre_WgradOutRefIdeal (m : (ℓ : Loc Cert.WgradOutRefIdeal.nD Cert.WgradOutRefIdeal.τ Cert.WgradOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamMedium (m : (ℓ : Loc Cert.AdamMedium.nD Cert.AdamMedium.τ Cert.AdamMedium.sig) → Buf (Elt Bits) ℓ) : Prop :=
  True

def Pre_AdamMediumIdeal (m : (ℓ : Loc Cert.AdamMediumIdeal.nD Cert.AdamMediumIdeal.τ Cert.AdamMediumIdeal.sig) → Buf (Elt Ideal) ℓ) : Prop :=
  True

def Pre_AdamMediumRefIdeal (m : (ℓ : Loc Cert.AdamMediumRefIdeal.nD Cert.AdamMediumRefIdeal.τ Cert.AdamMediumRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_MlpBwd [hMlpBwd : Cert.MlpBwd.Facts] : Prop :=
  ∀ (m : (ℓ : Loc Cert.MlpBwd.nD Cert.MlpBwd.τ Cert.MlpBwd.sig) → Buf (Elt Bits) ℓ) (g : Dev Cert.MlpBwd.nD → PrngReg), Pre_MlpBwd m →
    θ_run (Cert.MlpBwd.defs (F := Bits)) (onTc (τ := Cert.MlpBwd.τ) (Cert.MlpBwd.main (F := Bits))) ⟨m, fun _ => 0, g⟩ (fun r => (∀ c : Dev Cert.MlpBwd.nD,
      r.2.mem ((c.tc : Thread Cert.MlpBwd.nD Cert.MlpBwd.τ).loc Cert.MlpBwd.main_arg0) = m ((c.tc : Thread Cert.MlpBwd.nD Cert.MlpBwd.τ).loc Cert.MlpBwd.main_arg0)
      ∧ r.2.mem ((c.tc : Thread Cert.MlpBwd.nD Cert.MlpBwd.τ).loc Cert.MlpBwd.main_arg1) = m ((c.tc : Thread Cert.MlpBwd.nD Cert.MlpBwd.τ).loc Cert.MlpBwd.main_arg1)
      ∧ r.2.mem ((c.tc : Thread Cert.MlpBwd.nD Cert.MlpBwd.τ).loc Cert.MlpBwd.main_arg2) = m ((c.tc : Thread Cert.MlpBwd.nD Cert.MlpBwd.τ).loc Cert.MlpBwd.main_arg2)
      ∧ r.2.mem ((c.tc : Thread Cert.MlpBwd.nD Cert.MlpBwd.τ).loc Cert.MlpBwd.main_arg3) = m ((c.tc : Thread Cert.MlpBwd.nD Cert.MlpBwd.τ).loc Cert.MlpBwd.main_arg3))
      ∧ r.2.sem = fun _ => 0)

def quiescent_MlpBwdIdeal [hMlpBwdIdeal : Cert.MlpBwdIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3))
      ∧ r.2.sem = fun _ => 0)

def quiescent_MlpBwdRefIdeal [hMlpBwdRefIdeal : Cert.MlpBwdRefIdeal.Facts] : Prop :=
  ∀ (m : (ℓ : Loc Cert.MlpBwdRefIdeal.nD Cert.MlpBwdRefIdeal.τ Cert.MlpBwdRefIdeal.sig) → Buf (Elt Ideal) ℓ) (g : Dev Cert.MlpBwdRefIdeal.nD → PrngReg), Pre_MlpBwdRefIdeal m →
    θ_run (Cert.MlpBwdRefIdeal.defs (F := Ideal)) (onTc (τ := Cert.MlpBwdRefIdeal.τ) (Cert.MlpBwdRefIdeal.main (F := Ideal))) ⟨m, fun _ => 0, g⟩ (fun r => (∀ c : Dev Cert.MlpBwdRefIdeal.nD,
      r.2.mem ((c.tc : Thread Cert.MlpBwdRefIdeal.nD Cert.MlpBwdRefIdeal.τ).loc Cert.MlpBwdRefIdeal.main_arg0) = m ((c.tc : Thread Cert.MlpBwdRefIdeal.nD Cert.MlpBwdRefIdeal.τ).loc Cert.MlpBwdRefIdeal.main_arg0)
      ∧ r.2.mem ((c.tc : Thread Cert.MlpBwdRefIdeal.nD Cert.MlpBwdRefIdeal.τ).loc Cert.MlpBwdRefIdeal.main_arg1) = m ((c.tc : Thread Cert.MlpBwdRefIdeal.nD Cert.MlpBwdRefIdeal.τ).loc Cert.MlpBwdRefIdeal.main_arg1)
      ∧ r.2.mem ((c.tc : Thread Cert.MlpBwdRefIdeal.nD Cert.MlpBwdRefIdeal.τ).loc Cert.MlpBwdRefIdeal.main_arg2) = m ((c.tc : Thread Cert.MlpBwdRefIdeal.nD Cert.MlpBwdRefIdeal.τ).loc Cert.MlpBwdRefIdeal.main_arg2)
      ∧ r.2.mem ((c.tc : Thread Cert.MlpBwdRefIdeal.nD Cert.MlpBwdRefIdeal.τ).loc Cert.MlpBwdRefIdeal.main_arg3) = m ((c.tc : Thread Cert.MlpBwdRefIdeal.nD Cert.MlpBwdRefIdeal.τ).loc Cert.MlpBwdRefIdeal.main_arg3))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6)
      ∧ r.2.mem ((c.tc : Thread Cert.Ple.nD Cert.Ple.τ).loc Cert.Ple.main_arg7) = m ((c.tc : Thread Cert.Ple.nD Cert.Ple.τ).loc Cert.Ple.main_arg7))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
      ∧ r.2.mem ((c.tc : Thread Cert.PleIdeal.nD Cert.PleIdeal.τ).loc Cert.PleIdeal.main_arg7) = m ((c.tc : Thread Cert.PleIdeal.nD Cert.PleIdeal.τ).loc Cert.PleIdeal.main_arg7))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6)
      ∧ r.2.mem ((c.tc : Thread Cert.PleRefIdeal.nD Cert.PleRefIdeal.τ).loc Cert.PleRefIdeal.main_arg7) = m ((c.tc : Thread Cert.PleRefIdeal.nD Cert.PleRefIdeal.τ).loc Cert.PleRefIdeal.main_arg7))
      ∧ r.2.sem = fun _ => 0)

def quiescent_MlpFwd [hMlpFwd : Cert.MlpFwd.Facts] : Prop :=
  ∀ (m : (ℓ : Loc Cert.MlpFwd.nD Cert.MlpFwd.τ Cert.MlpFwd.sig) → Buf (Elt Bits) ℓ) (g : Dev Cert.MlpFwd.nD → PrngReg), Pre_MlpFwd m →
    θ_run (Cert.MlpFwd.defs (F := Bits)) (onTc (τ := Cert.MlpFwd.τ) (Cert.MlpFwd.main (F := Bits))) ⟨m, fun _ => 0, g⟩ (fun r => (∀ c : Dev Cert.MlpFwd.nD,
      r.2.mem ((c.tc : Thread Cert.MlpFwd.nD Cert.MlpFwd.τ).loc Cert.MlpFwd.main_arg0) = m ((c.tc : Thread Cert.MlpFwd.nD Cert.MlpFwd.τ).loc Cert.MlpFwd.main_arg0)
      ∧ r.2.mem ((c.tc : Thread Cert.MlpFwd.nD Cert.MlpFwd.τ).loc Cert.MlpFwd.main_arg1) = m ((c.tc : Thread Cert.MlpFwd.nD Cert.MlpFwd.τ).loc Cert.MlpFwd.main_arg1)
      ∧ r.2.mem ((c.tc : Thread Cert.MlpFwd.nD Cert.MlpFwd.τ).loc Cert.MlpFwd.main_arg2) = m ((c.tc : Thread Cert.MlpFwd.nD Cert.MlpFwd.τ).loc Cert.MlpFwd.main_arg2)
      ∧ r.2.mem ((c.tc : Thread Cert.MlpFwd.nD Cert.MlpFwd.τ).loc Cert.MlpFwd.main_arg3) = m ((c.tc : Thread Cert.MlpFwd.nD Cert.MlpFwd.τ).loc Cert.MlpFwd.main_arg3))
      ∧ r.2.sem = fun _ => 0)

def quiescent_MlpFwdIdeal [hMlpFwdIdeal : Cert.MlpFwdIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg), Pre_MlpFwdIdeal m →
    θ_run (Cert.MlpFwdIdeal.defs (F := Ideal)) (onTc (τ := Cert.MlpFwdIdeal.τ) (Cert.MlpFwdIdeal.main (F := Ideal))) ⟨m, fun _ => 0, g⟩ (fun r => (∀ c : Dev Cert.MlpFwdIdeal.nD,
      r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
      ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
      ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
      ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3))
      ∧ r.2.sem = fun _ => 0)

def quiescent_MlpFwdRefIdeal [hMlpFwdRefIdeal : Cert.MlpFwdRefIdeal.Facts] : Prop :=
  ∀ (m : (ℓ : Loc Cert.MlpFwdRefIdeal.nD Cert.MlpFwdRefIdeal.τ Cert.MlpFwdRefIdeal.sig) → Buf (Elt Ideal) ℓ) (g : Dev Cert.MlpFwdRefIdeal.nD → PrngReg), Pre_MlpFwdRefIdeal m →
    θ_run (Cert.MlpFwdRefIdeal.defs (F := Ideal)) (onTc (τ := Cert.MlpFwdRefIdeal.τ) (Cert.MlpFwdRefIdeal.main (F := Ideal))) ⟨m, fun _ => 0, g⟩ (fun r => (∀ c : Dev Cert.MlpFwdRefIdeal.nD,
      r.2.mem ((c.tc : Thread Cert.MlpFwdRefIdeal.nD Cert.MlpFwdRefIdeal.τ).loc Cert.MlpFwdRefIdeal.main_arg0) = m ((c.tc : Thread Cert.MlpFwdRefIdeal.nD Cert.MlpFwdRefIdeal.τ).loc Cert.MlpFwdRefIdeal.main_arg0)
      ∧ r.2.mem ((c.tc : Thread Cert.MlpFwdRefIdeal.nD Cert.MlpFwdRefIdeal.τ).loc Cert.MlpFwdRefIdeal.main_arg1) = m ((c.tc : Thread Cert.MlpFwdRefIdeal.nD Cert.MlpFwdRefIdeal.τ).loc Cert.MlpFwdRefIdeal.main_arg1)
      ∧ r.2.mem ((c.tc : Thread Cert.MlpFwdRefIdeal.nD Cert.MlpFwdRefIdeal.τ).loc Cert.MlpFwdRefIdeal.main_arg2) = m ((c.tc : Thread Cert.MlpFwdRefIdeal.nD Cert.MlpFwdRefIdeal.τ).loc Cert.MlpFwdRefIdeal.main_arg2)
      ∧ r.2.mem ((c.tc : Thread Cert.MlpFwdRefIdeal.nD Cert.MlpFwdRefIdeal.τ).loc Cert.MlpFwdRefIdeal.main_arg3) = m ((c.tc : Thread Cert.MlpFwdRefIdeal.nD Cert.MlpFwdRefIdeal.τ).loc Cert.MlpFwdRefIdeal.main_arg3))
      ∧ r.2.sem = fun _ => 0)

def quiescent_WgradOut [hWgradOut : Cert.WgradOut.Facts] : Prop :=
  ∀ (m : (ℓ : Loc Cert.WgradOut.nD Cert.WgradOut.τ Cert.WgradOut.sig) → Buf (Elt Bits) ℓ) (g : Dev Cert.WgradOut.nD → PrngReg), Pre_WgradOut m →
    θ_run (Cert.WgradOut.defs (F := Bits)) (onTc (τ := Cert.WgradOut.τ) (Cert.WgradOut.main (F := Bits))) ⟨m, fun _ => 0, g⟩ (fun r => (∀ c : Dev Cert.WgradOut.nD,
      r.2.mem ((c.tc : Thread Cert.WgradOut.nD Cert.WgradOut.τ).loc Cert.WgradOut.main_arg0) = m ((c.tc : Thread Cert.WgradOut.nD Cert.WgradOut.τ).loc Cert.WgradOut.main_arg0)
      ∧ r.2.mem ((c.tc : Thread Cert.WgradOut.nD Cert.WgradOut.τ).loc Cert.WgradOut.main_arg1) = m ((c.tc : Thread Cert.WgradOut.nD Cert.WgradOut.τ).loc Cert.WgradOut.main_arg1))
      ∧ r.2.sem = fun _ => 0)

def quiescent_WgradOutIdeal [hWgradOutIdeal : Cert.WgradOutIdeal.Facts] : Prop :=
  ∀ (m : (ℓ : Loc Cert.WgradOutIdeal.nD Cert.WgradOutIdeal.τ Cert.WgradOutIdeal.sig) → Buf (Elt Ideal) ℓ) (g : Dev Cert.WgradOutIdeal.nD → PrngReg), Pre_WgradOutIdeal m →
    θ_run (Cert.WgradOutIdeal.defs (F := Ideal)) (onTc (τ := Cert.WgradOutIdeal.τ) (Cert.WgradOutIdeal.main (F := Ideal))) ⟨m, fun _ => 0, g⟩ (fun r => (∀ c : Dev Cert.WgradOutIdeal.nD,
      r.2.mem ((c.tc : Thread Cert.WgradOutIdeal.nD Cert.WgradOutIdeal.τ).loc Cert.WgradOutIdeal.main_arg0) = m ((c.tc : Thread Cert.WgradOutIdeal.nD Cert.WgradOutIdeal.τ).loc Cert.WgradOutIdeal.main_arg0)
      ∧ r.2.mem ((c.tc : Thread Cert.WgradOutIdeal.nD Cert.WgradOutIdeal.τ).loc Cert.WgradOutIdeal.main_arg1) = m ((c.tc : Thread Cert.WgradOutIdeal.nD Cert.WgradOutIdeal.τ).loc Cert.WgradOutIdeal.main_arg1))
      ∧ r.2.sem = fun _ => 0)

def quiescent_WgradOutRefIdeal [hWgradOutRefIdeal : Cert.WgradOutRefIdeal.Facts] : Prop :=
  ∀ (m : (ℓ : Loc Cert.WgradOutRefIdeal.nD Cert.WgradOutRefIdeal.τ Cert.WgradOutRefIdeal.sig) → Buf (Elt Ideal) ℓ) (g : Dev Cert.WgradOutRefIdeal.nD → PrngReg), Pre_WgradOutRefIdeal m →
    θ_run (Cert.WgradOutRefIdeal.defs (F := Ideal)) (onTc (τ := Cert.WgradOutRefIdeal.τ) (Cert.WgradOutRefIdeal.main (F := Ideal))) ⟨m, fun _ => 0, g⟩ (fun r => (∀ c : Dev Cert.WgradOutRefIdeal.nD,
      r.2.mem ((c.tc : Thread Cert.WgradOutRefIdeal.nD Cert.WgradOutRefIdeal.τ).loc Cert.WgradOutRefIdeal.main_arg0) = m ((c.tc : Thread Cert.WgradOutRefIdeal.nD Cert.WgradOutRefIdeal.τ).loc Cert.WgradOutRefIdeal.main_arg0)
      ∧ r.2.mem ((c.tc : Thread Cert.WgradOutRefIdeal.nD Cert.WgradOutRefIdeal.τ).loc Cert.WgradOutRefIdeal.main_arg1) = m ((c.tc : Thread Cert.WgradOutRefIdeal.nD Cert.WgradOutRefIdeal.τ).loc Cert.WgradOutRefIdeal.main_arg1))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamMedium [hAdamMedium : Cert.AdamMedium.Facts] : Prop :=
  ∀ (m : (ℓ : Loc Cert.AdamMedium.nD Cert.AdamMedium.τ Cert.AdamMedium.sig) → Buf (Elt Bits) ℓ) (g : Dev Cert.AdamMedium.nD → PrngReg), Pre_AdamMedium m →
    θ_run (Cert.AdamMedium.defs (F := Bits)) (onTc (τ := Cert.AdamMedium.τ) (Cert.AdamMedium.main (F := Bits))) ⟨m, fun _ => 0, g⟩ (fun r => (∀ c : Dev Cert.AdamMedium.nD,
      r.2.mem ((c.tc : Thread Cert.AdamMedium.nD Cert.AdamMedium.τ).loc Cert.AdamMedium.main_arg0) = m ((c.tc : Thread Cert.AdamMedium.nD Cert.AdamMedium.τ).loc Cert.AdamMedium.main_arg0)
      ∧ r.2.mem ((c.tc : Thread Cert.AdamMedium.nD Cert.AdamMedium.τ).loc Cert.AdamMedium.main_arg1) = m ((c.tc : Thread Cert.AdamMedium.nD Cert.AdamMedium.τ).loc Cert.AdamMedium.main_arg1)
      ∧ r.2.mem ((c.tc : Thread Cert.AdamMedium.nD Cert.AdamMedium.τ).loc Cert.AdamMedium.main_arg2) = m ((c.tc : Thread Cert.AdamMedium.nD Cert.AdamMedium.τ).loc Cert.AdamMedium.main_arg2)
      ∧ r.2.mem ((c.tc : Thread Cert.AdamMedium.nD Cert.AdamMedium.τ).loc Cert.AdamMedium.main_arg3) = m ((c.tc : Thread Cert.AdamMedium.nD Cert.AdamMedium.τ).loc Cert.AdamMedium.main_arg3)
      ∧ r.2.mem ((c.tc : Thread Cert.AdamMedium.nD Cert.AdamMedium.τ).loc Cert.AdamMedium.main_arg4) = m ((c.tc : Thread Cert.AdamMedium.nD Cert.AdamMedium.τ).loc Cert.AdamMedium.main_arg4)
      ∧ r.2.mem ((c.tc : Thread Cert.AdamMedium.nD Cert.AdamMedium.τ).loc Cert.AdamMedium.main_arg5) = m ((c.tc : Thread Cert.AdamMedium.nD Cert.AdamMedium.τ).loc Cert.AdamMedium.main_arg5)
      ∧ r.2.mem ((c.tc : Thread Cert.AdamMedium.nD Cert.AdamMedium.τ).loc Cert.AdamMedium.main_arg6) = m ((c.tc : Thread Cert.AdamMedium.nD Cert.AdamMedium.τ).loc Cert.AdamMedium.main_arg6)
      ∧ r.2.mem ((c.tc : Thread Cert.AdamMedium.nD Cert.AdamMedium.τ).loc Cert.AdamMedium.main_arg7) = m ((c.tc : Thread Cert.AdamMedium.nD Cert.AdamMedium.τ).loc Cert.AdamMedium.main_arg7)
      ∧ r.2.mem ((c.tc : Thread Cert.AdamMedium.nD Cert.AdamMedium.τ).loc Cert.AdamMedium.main_arg8) = m ((c.tc : Thread Cert.AdamMedium.nD Cert.AdamMedium.τ).loc Cert.AdamMedium.main_arg8)
      ∧ r.2.mem ((c.tc : Thread Cert.AdamMedium.nD Cert.AdamMedium.τ).loc Cert.AdamMedium.main_arg9) = m ((c.tc : Thread Cert.AdamMedium.nD Cert.AdamMedium.τ).loc Cert.AdamMedium.main_arg9)
      ∧ r.2.mem ((c.tc : Thread Cert.AdamMedium.nD Cert.AdamMedium.τ).loc Cert.AdamMedium.main_arg10) = m ((c.tc : Thread Cert.AdamMedium.nD Cert.AdamMedium.τ).loc Cert.AdamMedium.main_arg10)
      ∧ r.2.mem ((c.tc : Thread Cert.AdamMedium.nD Cert.AdamMedium.τ).loc Cert.AdamMedium.main_arg11) = m ((c.tc : Thread Cert.AdamMedium.nD Cert.AdamMedium.τ).loc Cert.AdamMedium.main_arg11)
      ∧ r.2.mem ((c.tc : Thread Cert.AdamMedium.nD Cert.AdamMedium.τ).loc Cert.AdamMedium.main_arg12) = m ((c.tc : Thread Cert.AdamMedium.nD Cert.AdamMedium.τ).loc Cert.AdamMedium.main_arg12)
      ∧ r.2.mem ((c.tc : Thread Cert.AdamMedium.nD Cert.AdamMedium.τ).loc Cert.AdamMedium.main_arg13) = m ((c.tc : Thread Cert.AdamMedium.nD Cert.AdamMedium.τ).loc Cert.AdamMedium.main_arg13)
      ∧ r.2.mem ((c.tc : Thread Cert.AdamMedium.nD Cert.AdamMedium.τ).loc Cert.AdamMedium.main_arg14) = m ((c.tc : Thread Cert.AdamMedium.nD Cert.AdamMedium.τ).loc Cert.AdamMedium.main_arg14)
      ∧ r.2.mem ((c.tc : Thread Cert.AdamMedium.nD Cert.AdamMedium.τ).loc Cert.AdamMedium.main_arg15) = m ((c.tc : Thread Cert.AdamMedium.nD Cert.AdamMedium.τ).loc Cert.AdamMedium.main_arg15))
      ∧ r.2.sem = fun _ => 0)

def quiescent_AdamMediumIdeal [hAdamMediumIdeal : Cert.AdamMediumIdeal.Facts] : Prop :=
  ∀ (m : (ℓ : Loc Cert.AdamMediumIdeal.nD Cert.AdamMediumIdeal.τ Cert.AdamMediumIdeal.sig) → Buf (Elt Ideal) ℓ) (g : Dev Cert.AdamMediumIdeal.nD → PrngReg), Pre_AdamMediumIdeal m →
    θ_run (Cert.AdamMediumIdeal.defs (F := Ideal)) (onTc (τ := Cert.AdamMediumIdeal.τ) (Cert.AdamMediumIdeal.main (F := Ideal))) ⟨m, fun _ => 0, g⟩ (fun r => (∀ c : Dev Cert.AdamMediumIdeal.nD,
      r.2.mem ((c.tc : Thread Cert.AdamMediumIdeal.nD Cert.AdamMediumIdeal.τ).loc Cert.AdamMediumIdeal.main_arg0) = m ((c.tc : Thread Cert.AdamMediumIdeal.nD Cert.AdamMediumIdeal.τ).loc Cert.AdamMediumIdeal.main_arg0)
      ∧ r.2.mem ((c.tc : Thread Cert.AdamMediumIdeal.nD Cert.AdamMediumIdeal.τ).loc Cert.AdamMediumIdeal.main_arg1) = m ((c.tc : Thread Cert.AdamMediumIdeal.nD Cert.AdamMediumIdeal.τ).loc Cert.AdamMediumIdeal.main_arg1)
      ∧ r.2.mem ((c.tc : Thread Cert.AdamMediumIdeal.nD Cert.AdamMediumIdeal.τ).loc Cert.AdamMediumIdeal.main_arg2) = m ((c.tc : Thread Cert.AdamMediumIdeal.nD Cert.AdamMediumIdeal.τ).loc Cert.AdamMediumIdeal.main_arg2)
      ∧ r.2.mem ((c.tc : Thread Cert.AdamMediumIdeal.nD Cert.AdamMediumIdeal.τ).loc Cert.AdamMediumIdeal.main_arg3) = m ((c.tc : Thread Cert.AdamMediumIdeal.nD Cert.AdamMediumIdeal.τ).loc Cert.AdamMediumIdeal.main_arg3)
      ∧ r.2.mem ((c.tc : Thread Cert.AdamMediumIdeal.nD Cert.AdamMediumIdeal.τ).loc Cert.AdamMediumIdeal.main_arg4) = m ((c.tc : Thread Cert.AdamMediumIdeal.nD Cert.AdamMediumIdeal.τ).loc Cert.AdamMediumIdeal.main_arg4)
      ∧ r.2.mem ((c.tc : Thread Cert.AdamMediumIdeal.nD Cert.AdamMediumIdeal.τ).loc Cert.AdamMediumIdeal.main_arg5) = m ((c.tc : Thread Cert.AdamMediumIdeal.nD Cert.AdamMediumIdeal.τ).loc Cert.AdamMediumIdeal.main_arg5)
      ∧ r.2.mem ((c.tc : Thread Cert.AdamMediumIdeal.nD Cert.AdamMediumIdeal.τ).loc Cert.AdamMediumIdeal.main_arg6) = m ((c.tc : Thread Cert.AdamMediumIdeal.nD Cert.AdamMediumIdeal.τ).loc Cert.AdamMediumIdeal.main_arg6)
      ∧ r.2.mem ((c.tc : Thread Cert.AdamMediumIdeal.nD Cert.AdamMediumIdeal.τ).loc Cert.AdamMediumIdeal.main_arg7) = m ((c.tc : Thread Cert.AdamMediumIdeal.nD Cert.AdamMediumIdeal.τ).loc Cert.AdamMediumIdeal.main_arg7)
      ∧ r.2.mem ((c.tc : Thread Cert.AdamMediumIdeal.nD Cert.AdamMediumIdeal.τ).loc Cert.AdamMediumIdeal.main_arg8) = m ((c.tc : Thread Cert.AdamMediumIdeal.nD Cert.AdamMediumIdeal.τ).loc Cert.AdamMediumIdeal.main_arg8)
      ∧ r.2.mem ((c.tc : Thread Cert.AdamMediumIdeal.nD Cert.AdamMediumIdeal.τ).loc Cert.AdamMediumIdeal.main_arg9) = m ((c.tc : Thread Cert.AdamMediumIdeal.nD Cert.AdamMediumIdeal.τ).loc Cert.AdamMediumIdeal.main_arg9)
      ∧ r.2.mem ((c.tc : Thread Cert.AdamMediumIdeal.nD Cert.AdamMediumIdeal.τ).loc Cert.AdamMediumIdeal.main_arg10) = m ((c.tc : Thread Cert.AdamMediumIdeal.nD Cert.AdamMediumIdeal.τ).loc Cert.AdamMediumIdeal.main_arg10)
      ∧ r.2.mem ((c.tc : Thread Cert.AdamMediumIdeal.nD Cert.AdamMediumIdeal.τ).loc Cert.AdamMediumIdeal.main_arg11) = m ((c.tc : Thread Cert.AdamMediumIdeal.nD Cert.AdamMediumIdeal.τ).loc Cert.AdamMediumIdeal.main_arg11)
      ∧ r.2.mem ((c.tc : Thread Cert.AdamMediumIdeal.nD Cert.AdamMediumIdeal.τ).loc Cert.AdamMediumIdeal.main_arg12) = m ((c.tc : Thread Cert.AdamMediumIdeal.nD Cert.AdamMediumIdeal.τ).loc Cert.AdamMediumIdeal.main_arg12)
      ∧ r.2.mem ((c.tc : Thread Cert.AdamMediumIdeal.nD Cert.AdamMediumIdeal.τ).loc Cert.AdamMediumIdeal.main_arg13) = m ((c.tc : Thread Cert.AdamMediumIdeal.nD Cert.AdamMediumIdeal.τ).loc Cert.AdamMediumIdeal.main_arg13)
      ∧ r.2.mem ((c.tc : Thread Cert.AdamMediumIdeal.nD Cert.AdamMediumIdeal.τ).loc Cert.AdamMediumIdeal.main_arg14) = m ((c.tc : Thread Cert.AdamMediumIdeal.nD Cert.AdamMediumIdeal.τ).loc Cert.AdamMediumIdeal.main_arg14)
      ∧ r.2.mem ((c.tc : Thread Cert.AdamMediumIdeal.nD Cert.AdamMediumIdeal.τ).loc Cert.AdamMediumIdeal.main_arg15) = m ((c.tc : Thread Cert.AdamMediumIdeal.nD Cert.AdamMediumIdeal.τ).loc Cert.AdamMediumIdeal.main_arg15))
      ∧ r.2.sem = fun _ => 0)

def quiescent_AdamMediumRefIdeal [hAdamMediumRefIdeal : Cert.AdamMediumRefIdeal.Facts] : Prop :=
  ∀ (m : (ℓ : Loc Cert.AdamMediumRefIdeal.nD Cert.AdamMediumRefIdeal.τ Cert.AdamMediumRefIdeal.sig) → Buf (Elt Ideal) ℓ) (g : Dev Cert.AdamMediumRefIdeal.nD → PrngReg), Pre_AdamMediumRefIdeal m →
    θ_run (Cert.AdamMediumRefIdeal.defs (F := Ideal)) (onTc (τ := Cert.AdamMediumRefIdeal.τ) (Cert.AdamMediumRefIdeal.main (F := Ideal))) ⟨m, fun _ => 0, g⟩ (fun r => (∀ c : Dev Cert.AdamMediumRefIdeal.nD,
      r.2.mem ((c.tc : Thread Cert.AdamMediumRefIdeal.nD Cert.AdamMediumRefIdeal.τ).loc Cert.AdamMediumRefIdeal.main_arg0) = m ((c.tc : Thread Cert.AdamMediumRefIdeal.nD Cert.AdamMediumRefIdeal.τ).loc Cert.AdamMediumRefIdeal.main_arg0)
      ∧ r.2.mem ((c.tc : Thread Cert.AdamMediumRefIdeal.nD Cert.AdamMediumRefIdeal.τ).loc Cert.AdamMediumRefIdeal.main_arg1) = m ((c.tc : Thread Cert.AdamMediumRefIdeal.nD Cert.AdamMediumRefIdeal.τ).loc Cert.AdamMediumRefIdeal.main_arg1)
      ∧ r.2.mem ((c.tc : Thread Cert.AdamMediumRefIdeal.nD Cert.AdamMediumRefIdeal.τ).loc Cert.AdamMediumRefIdeal.main_arg2) = m ((c.tc : Thread Cert.AdamMediumRefIdeal.nD Cert.AdamMediumRefIdeal.τ).loc Cert.AdamMediumRefIdeal.main_arg2)
      ∧ r.2.mem ((c.tc : Thread Cert.AdamMediumRefIdeal.nD Cert.AdamMediumRefIdeal.τ).loc Cert.AdamMediumRefIdeal.main_arg3) = m ((c.tc : Thread Cert.AdamMediumRefIdeal.nD Cert.AdamMediumRefIdeal.τ).loc Cert.AdamMediumRefIdeal.main_arg3)
      ∧ r.2.mem ((c.tc : Thread Cert.AdamMediumRefIdeal.nD Cert.AdamMediumRefIdeal.τ).loc Cert.AdamMediumRefIdeal.main_arg4) = m ((c.tc : Thread Cert.AdamMediumRefIdeal.nD Cert.AdamMediumRefIdeal.τ).loc Cert.AdamMediumRefIdeal.main_arg4)
      ∧ r.2.mem ((c.tc : Thread Cert.AdamMediumRefIdeal.nD Cert.AdamMediumRefIdeal.τ).loc Cert.AdamMediumRefIdeal.main_arg5) = m ((c.tc : Thread Cert.AdamMediumRefIdeal.nD Cert.AdamMediumRefIdeal.τ).loc Cert.AdamMediumRefIdeal.main_arg5)
      ∧ r.2.mem ((c.tc : Thread Cert.AdamMediumRefIdeal.nD Cert.AdamMediumRefIdeal.τ).loc Cert.AdamMediumRefIdeal.main_arg6) = m ((c.tc : Thread Cert.AdamMediumRefIdeal.nD Cert.AdamMediumRefIdeal.τ).loc Cert.AdamMediumRefIdeal.main_arg6)
      ∧ r.2.mem ((c.tc : Thread Cert.AdamMediumRefIdeal.nD Cert.AdamMediumRefIdeal.τ).loc Cert.AdamMediumRefIdeal.main_arg7) = m ((c.tc : Thread Cert.AdamMediumRefIdeal.nD Cert.AdamMediumRefIdeal.τ).loc Cert.AdamMediumRefIdeal.main_arg7)
      ∧ r.2.mem ((c.tc : Thread Cert.AdamMediumRefIdeal.nD Cert.AdamMediumRefIdeal.τ).loc Cert.AdamMediumRefIdeal.main_arg8) = m ((c.tc : Thread Cert.AdamMediumRefIdeal.nD Cert.AdamMediumRefIdeal.τ).loc Cert.AdamMediumRefIdeal.main_arg8)
      ∧ r.2.mem ((c.tc : Thread Cert.AdamMediumRefIdeal.nD Cert.AdamMediumRefIdeal.τ).loc Cert.AdamMediumRefIdeal.main_arg9) = m ((c.tc : Thread Cert.AdamMediumRefIdeal.nD Cert.AdamMediumRefIdeal.τ).loc Cert.AdamMediumRefIdeal.main_arg9)
      ∧ r.2.mem ((c.tc : Thread Cert.AdamMediumRefIdeal.nD Cert.AdamMediumRefIdeal.τ).loc Cert.AdamMediumRefIdeal.main_arg10) = m ((c.tc : Thread Cert.AdamMediumRefIdeal.nD Cert.AdamMediumRefIdeal.τ).loc Cert.AdamMediumRefIdeal.main_arg10)
      ∧ r.2.mem ((c.tc : Thread Cert.AdamMediumRefIdeal.nD Cert.AdamMediumRefIdeal.τ).loc Cert.AdamMediumRefIdeal.main_arg11) = m ((c.tc : Thread Cert.AdamMediumRefIdeal.nD Cert.AdamMediumRefIdeal.τ).loc Cert.AdamMediumRefIdeal.main_arg11)
      ∧ r.2.mem ((c.tc : Thread Cert.AdamMediumRefIdeal.nD Cert.AdamMediumRefIdeal.τ).loc Cert.AdamMediumRefIdeal.main_arg12) = m ((c.tc : Thread Cert.AdamMediumRefIdeal.nD Cert.AdamMediumRefIdeal.τ).loc Cert.AdamMediumRefIdeal.main_arg12)
      ∧ r.2.mem ((c.tc : Thread Cert.AdamMediumRefIdeal.nD Cert.AdamMediumRefIdeal.τ).loc Cert.AdamMediumRefIdeal.main_arg13) = m ((c.tc : Thread Cert.AdamMediumRefIdeal.nD Cert.AdamMediumRefIdeal.τ).loc Cert.AdamMediumRefIdeal.main_arg13)
      ∧ r.2.mem ((c.tc : Thread Cert.AdamMediumRefIdeal.nD Cert.AdamMediumRefIdeal.τ).loc Cert.AdamMediumRefIdeal.main_arg14) = m ((c.tc : Thread Cert.AdamMediumRefIdeal.nD Cert.AdamMediumRefIdeal.τ).loc Cert.AdamMediumRefIdeal.main_arg14)
      ∧ r.2.mem ((c.tc : Thread Cert.AdamMediumRefIdeal.nD Cert.AdamMediumRefIdeal.τ).loc Cert.AdamMediumRefIdeal.main_arg15) = m ((c.tc : Thread Cert.AdamMediumRefIdeal.nD Cert.AdamMediumRefIdeal.τ).loc Cert.AdamMediumRefIdeal.main_arg15))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23))
      ∧ r.2.sem = fun _ => 0)

def preserves_MlpBwd_MlpBwdIdeal : Prop :=
  True

def algebraic_MlpBwdIdeal_MlpBwdRefIdeal [hMlpBwdIdeal : Cert.MlpBwdIdeal.Facts] [hMlpBwdRefIdeal : Cert.MlpBwdRefIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg)
    (m' : (ℓ : Loc Cert.MlpBwdRefIdeal.nD Cert.MlpBwdRefIdeal.τ Cert.MlpBwdRefIdeal.sig) → Buf (Elt Ideal) ℓ) (g' : Dev Cert.MlpBwdRefIdeal.nD → PrngReg), Pre_MlpBwdIdeal m →
    (∀ c : Dev Cert.MlpBwdIdeal.nD,
      m' ((c.tc : Thread Cert.MlpBwdRefIdeal.nD Cert.MlpBwdRefIdeal.τ).loc Cert.MlpBwdRefIdeal.main_arg0) = m ((c.tc : Thread Cert.MlpBwdIdeal.nD Cert.MlpBwdIdeal.τ).loc Cert.MlpBwdIdeal.main_arg0)
      ∧ m' ((c.tc : Thread Cert.MlpBwdRefIdeal.nD Cert.MlpBwdRefIdeal.τ).loc Cert.MlpBwdRefIdeal.main_arg1) = m ((c.tc : Thread Cert.MlpBwdIdeal.nD Cert.MlpBwdIdeal.τ).loc Cert.MlpBwdIdeal.main_arg1)
      ∧ m' ((c.tc : Thread Cert.MlpBwdRefIdeal.nD Cert.MlpBwdRefIdeal.τ).loc Cert.MlpBwdRefIdeal.main_arg2) = m ((c.tc : Thread Cert.MlpBwdIdeal.nD Cert.MlpBwdIdeal.τ).loc Cert.MlpBwdIdeal.main_arg2)
      ∧ m' ((c.tc : Thread Cert.MlpBwdRefIdeal.nD Cert.MlpBwdRefIdeal.τ).loc Cert.MlpBwdRefIdeal.main_arg3) = m ((c.tc : Thread Cert.MlpBwdIdeal.nD Cert.MlpBwdIdeal.τ).loc Cert.MlpBwdIdeal.main_arg3)) →
    ∃ (v0 : (c : Dev Cert.MlpBwdIdeal.nD) → Buf (Elt Ideal) ((c.tc : Thread Cert.MlpBwdIdeal.nD Cert.MlpBwdIdeal.τ).loc Cert.MlpBwdIdeal.main_v36_0)) (v1 : (c : Dev Cert.MlpBwdIdeal.nD) → Buf (Elt Ideal) ((c.tc : Thread Cert.MlpBwdIdeal.nD Cert.MlpBwdIdeal.τ).loc Cert.MlpBwdIdeal.main_v36_1)) (v2 : (c : Dev Cert.MlpBwdIdeal.nD) → Buf (Elt Ideal) ((c.tc : Thread Cert.MlpBwdIdeal.nD Cert.MlpBwdIdeal.τ).loc Cert.MlpBwdIdeal.main_v36_2)),
      θ_run (Cert.MlpBwdIdeal.defs (F := Ideal)) (onTc (τ := Cert.MlpBwdIdeal.τ) (Cert.MlpBwdIdeal.main (F := Ideal))) ⟨m, fun _ => 0, g⟩ (fun r => ∀ c : Dev Cert.MlpBwdIdeal.nD,
          r.2.mem ((c.tc : Thread Cert.MlpBwdIdeal.nD Cert.MlpBwdIdeal.τ).loc Cert.MlpBwdIdeal.main_v36_0) = v0 c
          ∧ r.2.mem ((c.tc : Thread Cert.MlpBwdIdeal.nD Cert.MlpBwdIdeal.τ).loc Cert.MlpBwdIdeal.main_v36_1) = v1 c
          ∧ r.2.mem ((c.tc : Thread Cert.MlpBwdIdeal.nD Cert.MlpBwdIdeal.τ).loc Cert.MlpBwdIdeal.main_v36_2) = v2 c
          ∧ r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
          ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
          ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
          ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3))
      ∧ θ_run (Cert.MlpBwdRefIdeal.defs (F := Ideal)) (onTc (τ := Cert.MlpBwdRefIdeal.τ) (Cert.MlpBwdRefIdeal.main (F := Ideal))) ⟨m', fun _ => 0, g'⟩ (fun r => ∀ c : Dev Cert.MlpBwdRefIdeal.nD,
          r.2.mem ((c.tc : Thread Cert.MlpBwdRefIdeal.nD Cert.MlpBwdRefIdeal.τ).loc Cert.MlpBwdRefIdeal.main_v21) = v0 c
          ∧ r.2.mem ((c.tc : Thread Cert.MlpBwdRefIdeal.nD Cert.MlpBwdRefIdeal.τ).loc Cert.MlpBwdRefIdeal.main_v24) = v1 c
          ∧ r.2.mem ((c.tc : Thread Cert.MlpBwdRefIdeal.nD Cert.MlpBwdRefIdeal.τ).loc Cert.MlpBwdRefIdeal.main_v26) = v2 c
          ∧ r.2.mem ((c.tc : Thread Cert.MlpBwdRefIdeal.nD Cert.MlpBwdRefIdeal.τ).loc Cert.MlpBwdRefIdeal.main_arg0) = m' ((c.tc : Thread Cert.MlpBwdRefIdeal.nD Cert.MlpBwdRefIdeal.τ).loc Cert.MlpBwdRefIdeal.main_arg0)
          ∧ r.2.mem ((c.tc : Thread Cert.MlpBwdRefIdeal.nD Cert.MlpBwdRefIdeal.τ).loc Cert.MlpBwdRefIdeal.main_arg1) = m' ((c.tc : Thread Cert.MlpBwdRefIdeal.nD Cert.MlpBwdRefIdeal.τ).loc Cert.MlpBwdRefIdeal.main_arg1)
          ∧ r.2.mem ((c.tc : Thread Cert.MlpBwdRefIdeal.nD Cert.MlpBwdRefIdeal.τ).loc Cert.MlpBwdRefIdeal.main_arg2) = m' ((c.tc : Thread Cert.MlpBwdRefIdeal.nD Cert.MlpBwdRefIdeal.τ).loc Cert.MlpBwdRefIdeal.main_arg2)
          ∧ r.2.mem ((c.tc : Thread Cert.MlpBwdRefIdeal.nD Cert.MlpBwdRefIdeal.τ).loc Cert.MlpBwdRefIdeal.main_arg3) = m' ((c.tc : Thread Cert.MlpBwdRefIdeal.nD Cert.MlpBwdRefIdeal.τ).loc Cert.MlpBwdRefIdeal.main_arg3))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)
      ∧ m' ((c.tc : Thread Cert.PleRefIdeal.nD Cert.PleRefIdeal.τ).loc Cert.PleRefIdeal.main_arg6) = m ((c.tc : Thread Cert.PleIdeal.nD Cert.PleIdeal.τ).loc Cert.PleIdeal.main_arg6)
      ∧ m' ((c.tc : Thread Cert.PleRefIdeal.nD Cert.PleRefIdeal.τ).loc Cert.PleRefIdeal.main_arg7) = m ((c.tc : Thread Cert.PleIdeal.nD Cert.PleIdeal.τ).loc Cert.PleIdeal.main_arg7)) →
    ∃ (v0 : (c : Dev Cert.PleIdeal.nD) → Buf (Elt Ideal) ((c.tc : Thread Cert.PleIdeal.nD Cert.PleIdeal.τ).loc Cert.PleIdeal.main_v2_0)) (v1 : (c : Dev Cert.PleIdeal.nD) → Buf (Elt Ideal) ((c.tc : Thread Cert.PleIdeal.nD Cert.PleIdeal.τ).loc Cert.PleIdeal.main_v2_1)) (v2 : (c : Dev Cert.PleIdeal.nD) → Buf (Elt Ideal) ((c.tc : Thread Cert.PleIdeal.nD Cert.PleIdeal.τ).loc Cert.PleIdeal.main_v2_2)) (v3 : (c : Dev Cert.PleIdeal.nD) → Buf (Elt Ideal) ((c.tc : Thread Cert.PleIdeal.nD Cert.PleIdeal.τ).loc Cert.PleIdeal.main_v2_3)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v2_0) = v0 c
          ∧ r.2.mem ((c.tc : Thread Cert.PleIdeal.nD Cert.PleIdeal.τ).loc Cert.PleIdeal.main_v2_1) = v1 c
          ∧ r.2.mem ((c.tc : Thread Cert.PleIdeal.nD Cert.PleIdeal.τ).loc Cert.PleIdeal.main_v2_2) = v2 c
          ∧ r.2.mem ((c.tc : Thread Cert.PleIdeal.nD Cert.PleIdeal.τ).loc Cert.PleIdeal.main_v2_3) = v3 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
          ∧ r.2.mem ((c.tc : Thread Cert.PleIdeal.nD Cert.PleIdeal.τ).loc Cert.PleIdeal.main_arg7) = m ((c.tc : Thread Cert.PleIdeal.nD Cert.PleIdeal.τ).loc Cert.PleIdeal.main_arg7))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v108) = v0 c
          ∧ r.2.mem ((c.tc : Thread Cert.PleRefIdeal.nD Cert.PleRefIdeal.τ).loc Cert.PleRefIdeal.main_v111) = v1 c
          ∧ r.2.mem ((c.tc : Thread Cert.PleRefIdeal.nD Cert.PleRefIdeal.τ).loc Cert.PleRefIdeal.main_v112) = v2 c
          ∧ r.2.mem ((c.tc : Thread Cert.PleRefIdeal.nD Cert.PleRefIdeal.τ).loc Cert.PleRefIdeal.main_v113) = v3 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5)
          ∧ r.2.mem ((c.tc : Thread Cert.PleRefIdeal.nD Cert.PleRefIdeal.τ).loc Cert.PleRefIdeal.main_arg6) = m' ((c.tc : Thread Cert.PleRefIdeal.nD Cert.PleRefIdeal.τ).loc Cert.PleRefIdeal.main_arg6)
          ∧ r.2.mem ((c.tc : Thread Cert.PleRefIdeal.nD Cert.PleRefIdeal.τ).loc Cert.PleRefIdeal.main_arg7) = m' ((c.tc : Thread Cert.PleRefIdeal.nD Cert.PleRefIdeal.τ).loc Cert.PleRefIdeal.main_arg7))

def preserves_MlpFwd_MlpFwdIdeal : Prop :=
  True

def algebraic_MlpFwdIdeal_MlpFwdRefIdeal [hMlpFwdIdeal : Cert.MlpFwdIdeal.Facts] [hMlpFwdRefIdeal : Cert.MlpFwdRefIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg)
    (m' : (ℓ : Loc Cert.MlpFwdRefIdeal.nD Cert.MlpFwdRefIdeal.τ Cert.MlpFwdRefIdeal.sig) → Buf (Elt Ideal) ℓ) (g' : Dev Cert.MlpFwdRefIdeal.nD → PrngReg), Pre_MlpFwdIdeal m →
    (∀ c : Dev Cert.MlpFwdIdeal.nD,
      m' ((c.tc : Thread Cert.MlpFwdRefIdeal.nD Cert.MlpFwdRefIdeal.τ).loc Cert.MlpFwdRefIdeal.main_arg0) = m ((c.tc : Thread Cert.MlpFwdIdeal.nD Cert.MlpFwdIdeal.τ).loc Cert.MlpFwdIdeal.main_arg0)
      ∧ m' ((c.tc : Thread Cert.MlpFwdRefIdeal.nD Cert.MlpFwdRefIdeal.τ).loc Cert.MlpFwdRefIdeal.main_arg1) = m ((c.tc : Thread Cert.MlpFwdIdeal.nD Cert.MlpFwdIdeal.τ).loc Cert.MlpFwdIdeal.main_arg1)
      ∧ m' ((c.tc : Thread Cert.MlpFwdRefIdeal.nD Cert.MlpFwdRefIdeal.τ).loc Cert.MlpFwdRefIdeal.main_arg2) = m ((c.tc : Thread Cert.MlpFwdIdeal.nD Cert.MlpFwdIdeal.τ).loc Cert.MlpFwdIdeal.main_arg2)
      ∧ m' ((c.tc : Thread Cert.MlpFwdRefIdeal.nD Cert.MlpFwdRefIdeal.τ).loc Cert.MlpFwdRefIdeal.main_arg3) = m ((c.tc : Thread Cert.MlpFwdIdeal.nD Cert.MlpFwdIdeal.τ).loc Cert.MlpFwdIdeal.main_arg3)) →
    ∃ (v0 : (c : Dev Cert.MlpFwdIdeal.nD) → Buf (Elt Ideal) ((c.tc : Thread Cert.MlpFwdIdeal.nD Cert.MlpFwdIdeal.τ).loc Cert.MlpFwdIdeal.main_v2_0)) (v1 : (c : Dev Cert.MlpFwdIdeal.nD) → Buf (Elt Ideal) ((c.tc : Thread Cert.MlpFwdIdeal.nD Cert.MlpFwdIdeal.τ).loc Cert.MlpFwdIdeal.main_v2_1)) (v2 : (c : Dev Cert.MlpFwdIdeal.nD) → Buf (Elt Ideal) ((c.tc : Thread Cert.MlpFwdIdeal.nD Cert.MlpFwdIdeal.τ).loc Cert.MlpFwdIdeal.main_v2_2)),
      θ_run (Cert.MlpFwdIdeal.defs (F := Ideal)) (onTc (τ := Cert.MlpFwdIdeal.τ) (Cert.MlpFwdIdeal.main (F := Ideal))) ⟨m, fun _ => 0, g⟩ (fun r => ∀ c : Dev Cert.MlpFwdIdeal.nD,
          r.2.mem ((c.tc : Thread Cert.MlpFwdIdeal.nD Cert.MlpFwdIdeal.τ).loc Cert.MlpFwdIdeal.main_v2_0) = v0 c
          ∧ r.2.mem ((c.tc : Thread Cert.MlpFwdIdeal.nD Cert.MlpFwdIdeal.τ).loc Cert.MlpFwdIdeal.main_v2_1) = v1 c
          ∧ r.2.mem ((c.tc : Thread Cert.MlpFwdIdeal.nD Cert.MlpFwdIdeal.τ).loc Cert.MlpFwdIdeal.main_v2_2) = v2 c
          ∧ r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
          ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
          ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
          ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3))
      ∧ θ_run (Cert.MlpFwdRefIdeal.defs (F := Ideal)) (onTc (τ := Cert.MlpFwdRefIdeal.τ) (Cert.MlpFwdRefIdeal.main (F := Ideal))) ⟨m', fun _ => 0, g'⟩ (fun r => ∀ c : Dev Cert.MlpFwdRefIdeal.nD,
          r.2.mem ((c.tc : Thread Cert.MlpFwdRefIdeal.nD Cert.MlpFwdRefIdeal.τ).loc Cert.MlpFwdRefIdeal.main_v18) = v0 c
          ∧ r.2.mem ((c.tc : Thread Cert.MlpFwdRefIdeal.nD Cert.MlpFwdRefIdeal.τ).loc Cert.MlpFwdRefIdeal.main_v19) = v1 c
          ∧ r.2.mem ((c.tc : Thread Cert.MlpFwdRefIdeal.nD Cert.MlpFwdRefIdeal.τ).loc Cert.MlpFwdRefIdeal.main_v20) = v2 c
          ∧ r.2.mem ((c.tc : Thread Cert.MlpFwdRefIdeal.nD Cert.MlpFwdRefIdeal.τ).loc Cert.MlpFwdRefIdeal.main_arg0) = m' ((c.tc : Thread Cert.MlpFwdRefIdeal.nD Cert.MlpFwdRefIdeal.τ).loc Cert.MlpFwdRefIdeal.main_arg0)
          ∧ r.2.mem ((c.tc : Thread Cert.MlpFwdRefIdeal.nD Cert.MlpFwdRefIdeal.τ).loc Cert.MlpFwdRefIdeal.main_arg1) = m' ((c.tc : Thread Cert.MlpFwdRefIdeal.nD Cert.MlpFwdRefIdeal.τ).loc Cert.MlpFwdRefIdeal.main_arg1)
          ∧ r.2.mem ((c.tc : Thread Cert.MlpFwdRefIdeal.nD Cert.MlpFwdRefIdeal.τ).loc Cert.MlpFwdRefIdeal.main_arg2) = m' ((c.tc : Thread Cert.MlpFwdRefIdeal.nD Cert.MlpFwdRefIdeal.τ).loc Cert.MlpFwdRefIdeal.main_arg2)
          ∧ r.2.mem ((c.tc : Thread Cert.MlpFwdRefIdeal.nD Cert.MlpFwdRefIdeal.τ).loc Cert.MlpFwdRefIdeal.main_arg3) = m' ((c.tc : Thread Cert.MlpFwdRefIdeal.nD Cert.MlpFwdRefIdeal.τ).loc Cert.MlpFwdRefIdeal.main_arg3))

def preserves_WgradOut_WgradOutIdeal : Prop :=
  True

def algebraic_WgradOutIdeal_WgradOutRefIdeal [hWgradOutIdeal : Cert.WgradOutIdeal.Facts] [hWgradOutRefIdeal : Cert.WgradOutRefIdeal.Facts] : Prop :=
  ∀ (m : (ℓ : Loc Cert.WgradOutIdeal.nD Cert.WgradOutIdeal.τ Cert.WgradOutIdeal.sig) → Buf (Elt Ideal) ℓ) (g : Dev Cert.WgradOutIdeal.nD → PrngReg)
    (m' : (ℓ : Loc Cert.WgradOutRefIdeal.nD Cert.WgradOutRefIdeal.τ Cert.WgradOutRefIdeal.sig) → Buf (Elt Ideal) ℓ) (g' : Dev Cert.WgradOutRefIdeal.nD → PrngReg), Pre_WgradOutIdeal m →
    (∀ c : Dev Cert.WgradOutIdeal.nD,
      m' ((c.tc : Thread Cert.WgradOutRefIdeal.nD Cert.WgradOutRefIdeal.τ).loc Cert.WgradOutRefIdeal.main_arg0) = m ((c.tc : Thread Cert.WgradOutIdeal.nD Cert.WgradOutIdeal.τ).loc Cert.WgradOutIdeal.main_arg0)
      ∧ m' ((c.tc : Thread Cert.WgradOutRefIdeal.nD Cert.WgradOutRefIdeal.τ).loc Cert.WgradOutRefIdeal.main_arg1) = m ((c.tc : Thread Cert.WgradOutIdeal.nD Cert.WgradOutIdeal.τ).loc Cert.WgradOutIdeal.main_arg1)) →
    ∃ (v0 : (c : Dev Cert.WgradOutIdeal.nD) → Buf (Elt Ideal) ((c.tc : Thread Cert.WgradOutIdeal.nD Cert.WgradOutIdeal.τ).loc Cert.WgradOutIdeal.main_v1)),
      θ_run (Cert.WgradOutIdeal.defs (F := Ideal)) (onTc (τ := Cert.WgradOutIdeal.τ) (Cert.WgradOutIdeal.main (F := Ideal))) ⟨m, fun _ => 0, g⟩ (fun r => ∀ c : Dev Cert.WgradOutIdeal.nD,
          r.2.mem ((c.tc : Thread Cert.WgradOutIdeal.nD Cert.WgradOutIdeal.τ).loc Cert.WgradOutIdeal.main_v1) = v0 c
          ∧ r.2.mem ((c.tc : Thread Cert.WgradOutIdeal.nD Cert.WgradOutIdeal.τ).loc Cert.WgradOutIdeal.main_arg0) = m ((c.tc : Thread Cert.WgradOutIdeal.nD Cert.WgradOutIdeal.τ).loc Cert.WgradOutIdeal.main_arg0)
          ∧ r.2.mem ((c.tc : Thread Cert.WgradOutIdeal.nD Cert.WgradOutIdeal.τ).loc Cert.WgradOutIdeal.main_arg1) = m ((c.tc : Thread Cert.WgradOutIdeal.nD Cert.WgradOutIdeal.τ).loc Cert.WgradOutIdeal.main_arg1))
      ∧ θ_run (Cert.WgradOutRefIdeal.defs (F := Ideal)) (onTc (τ := Cert.WgradOutRefIdeal.τ) (Cert.WgradOutRefIdeal.main (F := Ideal))) ⟨m', fun _ => 0, g'⟩ (fun r => ∀ c : Dev Cert.WgradOutRefIdeal.nD,
          r.2.mem ((c.tc : Thread Cert.WgradOutRefIdeal.nD Cert.WgradOutRefIdeal.τ).loc Cert.WgradOutRefIdeal.main_v4) = v0 c
          ∧ r.2.mem ((c.tc : Thread Cert.WgradOutRefIdeal.nD Cert.WgradOutRefIdeal.τ).loc Cert.WgradOutRefIdeal.main_arg0) = m' ((c.tc : Thread Cert.WgradOutRefIdeal.nD Cert.WgradOutRefIdeal.τ).loc Cert.WgradOutRefIdeal.main_arg0)
          ∧ r.2.mem ((c.tc : Thread Cert.WgradOutRefIdeal.nD Cert.WgradOutRefIdeal.τ).loc Cert.WgradOutRefIdeal.main_arg1) = m' ((c.tc : Thread Cert.WgradOutRefIdeal.nD Cert.WgradOutRefIdeal.τ).loc Cert.WgradOutRefIdeal.main_arg1))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v1_0)) (v1 : (c : Dev Cert.AdamUpIdeal.nD) → Buf (Elt Ideal) ((c.tc : Thread Cert.AdamUpIdeal.nD Cert.AdamUpIdeal.τ).loc Cert.AdamUpIdeal.main_v1_1)) (v2 : (c : Dev Cert.AdamUpIdeal.nD) → Buf (Elt Ideal) ((c.tc : Thread Cert.AdamUpIdeal.nD Cert.AdamUpIdeal.τ).loc Cert.AdamUpIdeal.main_v1_2)) (v3 : (c : Dev Cert.AdamUpIdeal.nD) → Buf (Elt Ideal) ((c.tc : Thread Cert.AdamUpIdeal.nD Cert.AdamUpIdeal.τ).loc Cert.AdamUpIdeal.main_v1_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v1_0) = v0 c
          ∧ r.2.mem ((c.tc : Thread Cert.AdamUpIdeal.nD Cert.AdamUpIdeal.τ).loc Cert.AdamUpIdeal.main_v1_1) = v1 c
          ∧ r.2.mem ((c.tc : Thread Cert.AdamUpIdeal.nD Cert.AdamUpIdeal.τ).loc Cert.AdamUpIdeal.main_v1_2) = v2 c
          ∧ r.2.mem ((c.tc : Thread Cert.AdamUpIdeal.nD Cert.AdamUpIdeal.τ).loc Cert.AdamUpIdeal.main_v1_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v0) = v0 c
          ∧ r.2.mem ((c.tc : Thread Cert.AdamUpRefIdeal.nD Cert.AdamUpRefIdeal.τ).loc Cert.AdamUpRefIdeal.main_v24) = v1 c
          ∧ r.2.mem ((c.tc : Thread Cert.AdamUpRefIdeal.nD Cert.AdamUpRefIdeal.τ).loc Cert.AdamUpRefIdeal.main_v5) = v2 c
          ∧ r.2.mem ((c.tc : Thread Cert.AdamUpRefIdeal.nD Cert.AdamUpRefIdeal.τ).loc Cert.AdamUpRefIdeal.main_v11) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v1_0)) (v1 : (c : Dev Cert.AdamDownIdeal.nD) → Buf (Elt Ideal) ((c.tc : Thread Cert.AdamDownIdeal.nD Cert.AdamDownIdeal.τ).loc Cert.AdamDownIdeal.main_v1_1)) (v2 : (c : Dev Cert.AdamDownIdeal.nD) → Buf (Elt Ideal) ((c.tc : Thread Cert.AdamDownIdeal.nD Cert.AdamDownIdeal.τ).loc Cert.AdamDownIdeal.main_v1_2)) (v3 : (c : Dev Cert.AdamDownIdeal.nD) → Buf (Elt Ideal) ((c.tc : Thread Cert.AdamDownIdeal.nD Cert.AdamDownIdeal.τ).loc Cert.AdamDownIdeal.main_v1_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v1_0) = v0 c
          ∧ r.2.mem ((c.tc : Thread Cert.AdamDownIdeal.nD Cert.AdamDownIdeal.τ).loc Cert.AdamDownIdeal.main_v1_1) = v1 c
          ∧ r.2.mem ((c.tc : Thread Cert.AdamDownIdeal.nD Cert.AdamDownIdeal.τ).loc Cert.AdamDownIdeal.main_v1_2) = v2 c
          ∧ r.2.mem ((c.tc : Thread Cert.AdamDownIdeal.nD Cert.AdamDownIdeal.τ).loc Cert.AdamDownIdeal.main_v1_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v0) = v0 c
          ∧ r.2.mem ((c.tc : Thread Cert.AdamDownRefIdeal.nD Cert.AdamDownRefIdeal.τ).loc Cert.AdamDownRefIdeal.main_v24) = v1 c
          ∧ r.2.mem ((c.tc : Thread Cert.AdamDownRefIdeal.nD Cert.AdamDownRefIdeal.τ).loc Cert.AdamDownRefIdeal.main_v5) = v2 c
          ∧ r.2.mem ((c.tc : Thread Cert.AdamDownRefIdeal.nD Cert.AdamDownRefIdeal.τ).loc Cert.AdamDownRefIdeal.main_v11) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamMedium_AdamMediumIdeal : Prop :=
  True

def algebraic_AdamMediumIdeal_AdamMediumRefIdeal [hAdamMediumIdeal : Cert.AdamMediumIdeal.Facts] [hAdamMediumRefIdeal : Cert.AdamMediumRefIdeal.Facts] : Prop :=
  ∀ (m : (ℓ : Loc Cert.AdamMediumIdeal.nD Cert.AdamMediumIdeal.τ Cert.AdamMediumIdeal.sig) → Buf (Elt Ideal) ℓ) (g : Dev Cert.AdamMediumIdeal.nD → PrngReg)
    (m' : (ℓ : Loc Cert.AdamMediumRefIdeal.nD Cert.AdamMediumRefIdeal.τ Cert.AdamMediumRefIdeal.sig) → Buf (Elt Ideal) ℓ) (g' : Dev Cert.AdamMediumRefIdeal.nD → PrngReg), Pre_AdamMediumIdeal m →
    (∀ c : Dev Cert.AdamMediumIdeal.nD,
      m' ((c.tc : Thread Cert.AdamMediumRefIdeal.nD Cert.AdamMediumRefIdeal.τ).loc Cert.AdamMediumRefIdeal.main_arg0) = m ((c.tc : Thread Cert.AdamMediumIdeal.nD Cert.AdamMediumIdeal.τ).loc Cert.AdamMediumIdeal.main_arg0)
      ∧ m' ((c.tc : Thread Cert.AdamMediumRefIdeal.nD Cert.AdamMediumRefIdeal.τ).loc Cert.AdamMediumRefIdeal.main_arg1) = m ((c.tc : Thread Cert.AdamMediumIdeal.nD Cert.AdamMediumIdeal.τ).loc Cert.AdamMediumIdeal.main_arg1)
      ∧ m' ((c.tc : Thread Cert.AdamMediumRefIdeal.nD Cert.AdamMediumRefIdeal.τ).loc Cert.AdamMediumRefIdeal.main_arg2) = m ((c.tc : Thread Cert.AdamMediumIdeal.nD Cert.AdamMediumIdeal.τ).loc Cert.AdamMediumIdeal.main_arg2)
      ∧ m' ((c.tc : Thread Cert.AdamMediumRefIdeal.nD Cert.AdamMediumRefIdeal.τ).loc Cert.AdamMediumRefIdeal.main_arg3) = m ((c.tc : Thread Cert.AdamMediumIdeal.nD Cert.AdamMediumIdeal.τ).loc Cert.AdamMediumIdeal.main_arg3)
      ∧ m' ((c.tc : Thread Cert.AdamMediumRefIdeal.nD Cert.AdamMediumRefIdeal.τ).loc Cert.AdamMediumRefIdeal.main_arg4) = m ((c.tc : Thread Cert.AdamMediumIdeal.nD Cert.AdamMediumIdeal.τ).loc Cert.AdamMediumIdeal.main_arg4)
      ∧ m' ((c.tc : Thread Cert.AdamMediumRefIdeal.nD Cert.AdamMediumRefIdeal.τ).loc Cert.AdamMediumRefIdeal.main_arg5) = m ((c.tc : Thread Cert.AdamMediumIdeal.nD Cert.AdamMediumIdeal.τ).loc Cert.AdamMediumIdeal.main_arg5)
      ∧ m' ((c.tc : Thread Cert.AdamMediumRefIdeal.nD Cert.AdamMediumRefIdeal.τ).loc Cert.AdamMediumRefIdeal.main_arg6) = m ((c.tc : Thread Cert.AdamMediumIdeal.nD Cert.AdamMediumIdeal.τ).loc Cert.AdamMediumIdeal.main_arg6)
      ∧ m' ((c.tc : Thread Cert.AdamMediumRefIdeal.nD Cert.AdamMediumRefIdeal.τ).loc Cert.AdamMediumRefIdeal.main_arg7) = m ((c.tc : Thread Cert.AdamMediumIdeal.nD Cert.AdamMediumIdeal.τ).loc Cert.AdamMediumIdeal.main_arg7)
      ∧ m' ((c.tc : Thread Cert.AdamMediumRefIdeal.nD Cert.AdamMediumRefIdeal.τ).loc Cert.AdamMediumRefIdeal.main_arg8) = m ((c.tc : Thread Cert.AdamMediumIdeal.nD Cert.AdamMediumIdeal.τ).loc Cert.AdamMediumIdeal.main_arg8)
      ∧ m' ((c.tc : Thread Cert.AdamMediumRefIdeal.nD Cert.AdamMediumRefIdeal.τ).loc Cert.AdamMediumRefIdeal.main_arg9) = m ((c.tc : Thread Cert.AdamMediumIdeal.nD Cert.AdamMediumIdeal.τ).loc Cert.AdamMediumIdeal.main_arg9)
      ∧ m' ((c.tc : Thread Cert.AdamMediumRefIdeal.nD Cert.AdamMediumRefIdeal.τ).loc Cert.AdamMediumRefIdeal.main_arg10) = m ((c.tc : Thread Cert.AdamMediumIdeal.nD Cert.AdamMediumIdeal.τ).loc Cert.AdamMediumIdeal.main_arg10)
      ∧ m' ((c.tc : Thread Cert.AdamMediumRefIdeal.nD Cert.AdamMediumRefIdeal.τ).loc Cert.AdamMediumRefIdeal.main_arg11) = m ((c.tc : Thread Cert.AdamMediumIdeal.nD Cert.AdamMediumIdeal.τ).loc Cert.AdamMediumIdeal.main_arg11)
      ∧ m' ((c.tc : Thread Cert.AdamMediumRefIdeal.nD Cert.AdamMediumRefIdeal.τ).loc Cert.AdamMediumRefIdeal.main_arg12) = m ((c.tc : Thread Cert.AdamMediumIdeal.nD Cert.AdamMediumIdeal.τ).loc Cert.AdamMediumIdeal.main_arg12)
      ∧ m' ((c.tc : Thread Cert.AdamMediumRefIdeal.nD Cert.AdamMediumRefIdeal.τ).loc Cert.AdamMediumRefIdeal.main_arg13) = m ((c.tc : Thread Cert.AdamMediumIdeal.nD Cert.AdamMediumIdeal.τ).loc Cert.AdamMediumIdeal.main_arg13)
      ∧ m' ((c.tc : Thread Cert.AdamMediumRefIdeal.nD Cert.AdamMediumRefIdeal.τ).loc Cert.AdamMediumRefIdeal.main_arg14) = m ((c.tc : Thread Cert.AdamMediumIdeal.nD Cert.AdamMediumIdeal.τ).loc Cert.AdamMediumIdeal.main_arg14)
      ∧ m' ((c.tc : Thread Cert.AdamMediumRefIdeal.nD Cert.AdamMediumRefIdeal.τ).loc Cert.AdamMediumRefIdeal.main_arg15) = m ((c.tc : Thread Cert.AdamMediumIdeal.nD Cert.AdamMediumIdeal.τ).loc Cert.AdamMediumIdeal.main_arg15)) →
    ∃ (v0 : (c : Dev Cert.AdamMediumIdeal.nD) → Buf (Elt Ideal) ((c.tc : Thread Cert.AdamMediumIdeal.nD Cert.AdamMediumIdeal.τ).loc Cert.AdamMediumIdeal.main_v4_0)) (v1 : (c : Dev Cert.AdamMediumIdeal.nD) → Buf (Elt Ideal) ((c.tc : Thread Cert.AdamMediumIdeal.nD Cert.AdamMediumIdeal.τ).loc Cert.AdamMediumIdeal.main_v4_1)) (v2 : (c : Dev Cert.AdamMediumIdeal.nD) → Buf (Elt Ideal) ((c.tc : Thread Cert.AdamMediumIdeal.nD Cert.AdamMediumIdeal.τ).loc Cert.AdamMediumIdeal.main_v4_2)) (v3 : (c : Dev Cert.AdamMediumIdeal.nD) → Buf (Elt Ideal) ((c.tc : Thread Cert.AdamMediumIdeal.nD Cert.AdamMediumIdeal.τ).loc Cert.AdamMediumIdeal.main_v4_3)) (v4 : (c : Dev Cert.AdamMediumIdeal.nD) → Buf (Elt Ideal) ((c.tc : Thread Cert.AdamMediumIdeal.nD Cert.AdamMediumIdeal.τ).loc Cert.AdamMediumIdeal.main_v4_4)) (v5 : (c : Dev Cert.AdamMediumIdeal.nD) → Buf (Elt Ideal) ((c.tc : Thread Cert.AdamMediumIdeal.nD Cert.AdamMediumIdeal.τ).loc Cert.AdamMediumIdeal.main_v4_5)) (v6 : (c : Dev Cert.AdamMediumIdeal.nD) → Buf (Elt Ideal) ((c.tc : Thread Cert.AdamMediumIdeal.nD Cert.AdamMediumIdeal.τ).loc Cert.AdamMediumIdeal.main_v4_6)) (v7 : (c : Dev Cert.AdamMediumIdeal.nD) → Buf (Elt Ideal) ((c.tc : Thread Cert.AdamMediumIdeal.nD Cert.AdamMediumIdeal.τ).loc Cert.AdamMediumIdeal.main_v4_7)) (v8 : (c : Dev Cert.AdamMediumIdeal.nD) → Buf (Elt Ideal) ((c.tc : Thread Cert.AdamMediumIdeal.nD Cert.AdamMediumIdeal.τ).loc Cert.AdamMediumIdeal.main_v4_8)) (v9 : (c : Dev Cert.AdamMediumIdeal.nD) → Buf (Elt Ideal) ((c.tc : Thread Cert.AdamMediumIdeal.nD Cert.AdamMediumIdeal.τ).loc Cert.AdamMediumIdeal.main_v4_9)) (v10 : (c : Dev Cert.AdamMediumIdeal.nD) → Buf (Elt Ideal) ((c.tc : Thread Cert.AdamMediumIdeal.nD Cert.AdamMediumIdeal.τ).loc Cert.AdamMediumIdeal.main_v4_10)) (v11 : (c : Dev Cert.AdamMediumIdeal.nD) → Buf (Elt Ideal) ((c.tc : Thread Cert.AdamMediumIdeal.nD Cert.AdamMediumIdeal.τ).loc Cert.AdamMediumIdeal.main_v4_11)) (v12 : (c : Dev Cert.AdamMediumIdeal.nD) → Buf (Elt Ideal) ((c.tc : Thread Cert.AdamMediumIdeal.nD Cert.AdamMediumIdeal.τ).loc Cert.AdamMediumIdeal.main_v4_12)) (v13 : (c : Dev Cert.AdamMediumIdeal.nD) → Buf (Elt Ideal) ((c.tc : Thread Cert.AdamMediumIdeal.nD Cert.AdamMediumIdeal.τ).loc Cert.AdamMediumIdeal.main_v4_13)) (v14 : (c : Dev Cert.AdamMediumIdeal.nD) → Buf (Elt Ideal) ((c.tc : Thread Cert.AdamMediumIdeal.nD Cert.AdamMediumIdeal.τ).loc Cert.AdamMediumIdeal.main_v4_14)) (v15 : (c : Dev Cert.AdamMediumIdeal.nD) → Buf (Elt Ideal) ((c.tc : Thread Cert.AdamMediumIdeal.nD Cert.AdamMediumIdeal.τ).loc Cert.AdamMediumIdeal.main_v4_15)),
      θ_run (Cert.AdamMediumIdeal.defs (F := Ideal)) (onTc (τ := Cert.AdamMediumIdeal.τ) (Cert.AdamMediumIdeal.main (F := Ideal))) ⟨m, fun _ => 0, g⟩ (fun r => ∀ c : Dev Cert.AdamMediumIdeal.nD,
          r.2.mem ((c.tc : Thread Cert.AdamMediumIdeal.nD Cert.AdamMediumIdeal.τ).loc Cert.AdamMediumIdeal.main_v4_0) = v0 c
          ∧ r.2.mem ((c.tc : Thread Cert.AdamMediumIdeal.nD Cert.AdamMediumIdeal.τ).loc Cert.AdamMediumIdeal.main_v4_1) = v1 c
          ∧ r.2.mem ((c.tc : Thread Cert.AdamMediumIdeal.nD Cert.AdamMediumIdeal.τ).loc Cert.AdamMediumIdeal.main_v4_2) = v2 c
          ∧ r.2.mem ((c.tc : Thread Cert.AdamMediumIdeal.nD Cert.AdamMediumIdeal.τ).loc Cert.AdamMediumIdeal.main_v4_3) = v3 c
          ∧ r.2.mem ((c.tc : Thread Cert.AdamMediumIdeal.nD Cert.AdamMediumIdeal.τ).loc Cert.AdamMediumIdeal.main_v4_4) = v4 c
          ∧ r.2.mem ((c.tc : Thread Cert.AdamMediumIdeal.nD Cert.AdamMediumIdeal.τ).loc Cert.AdamMediumIdeal.main_v4_5) = v5 c
          ∧ r.2.mem ((c.tc : Thread Cert.AdamMediumIdeal.nD Cert.AdamMediumIdeal.τ).loc Cert.AdamMediumIdeal.main_v4_6) = v6 c
          ∧ r.2.mem ((c.tc : Thread Cert.AdamMediumIdeal.nD Cert.AdamMediumIdeal.τ).loc Cert.AdamMediumIdeal.main_v4_7) = v7 c
          ∧ r.2.mem ((c.tc : Thread Cert.AdamMediumIdeal.nD Cert.AdamMediumIdeal.τ).loc Cert.AdamMediumIdeal.main_v4_8) = v8 c
          ∧ r.2.mem ((c.tc : Thread Cert.AdamMediumIdeal.nD Cert.AdamMediumIdeal.τ).loc Cert.AdamMediumIdeal.main_v4_9) = v9 c
          ∧ r.2.mem ((c.tc : Thread Cert.AdamMediumIdeal.nD Cert.AdamMediumIdeal.τ).loc Cert.AdamMediumIdeal.main_v4_10) = v10 c
          ∧ r.2.mem ((c.tc : Thread Cert.AdamMediumIdeal.nD Cert.AdamMediumIdeal.τ).loc Cert.AdamMediumIdeal.main_v4_11) = v11 c
          ∧ r.2.mem ((c.tc : Thread Cert.AdamMediumIdeal.nD Cert.AdamMediumIdeal.τ).loc Cert.AdamMediumIdeal.main_v4_12) = v12 c
          ∧ r.2.mem ((c.tc : Thread Cert.AdamMediumIdeal.nD Cert.AdamMediumIdeal.τ).loc Cert.AdamMediumIdeal.main_v4_13) = v13 c
          ∧ r.2.mem ((c.tc : Thread Cert.AdamMediumIdeal.nD Cert.AdamMediumIdeal.τ).loc Cert.AdamMediumIdeal.main_v4_14) = v14 c
          ∧ r.2.mem ((c.tc : Thread Cert.AdamMediumIdeal.nD Cert.AdamMediumIdeal.τ).loc Cert.AdamMediumIdeal.main_v4_15) = v15 c
          ∧ r.2.mem ((c.tc : Thread Cert.AdamMediumIdeal.nD Cert.AdamMediumIdeal.τ).loc Cert.AdamMediumIdeal.main_arg0) = m ((c.tc : Thread Cert.AdamMediumIdeal.nD Cert.AdamMediumIdeal.τ).loc Cert.AdamMediumIdeal.main_arg0)
          ∧ r.2.mem ((c.tc : Thread Cert.AdamMediumIdeal.nD Cert.AdamMediumIdeal.τ).loc Cert.AdamMediumIdeal.main_arg1) = m ((c.tc : Thread Cert.AdamMediumIdeal.nD Cert.AdamMediumIdeal.τ).loc Cert.AdamMediumIdeal.main_arg1)
          ∧ r.2.mem ((c.tc : Thread Cert.AdamMediumIdeal.nD Cert.AdamMediumIdeal.τ).loc Cert.AdamMediumIdeal.main_arg2) = m ((c.tc : Thread Cert.AdamMediumIdeal.nD Cert.AdamMediumIdeal.τ).loc Cert.AdamMediumIdeal.main_arg2)
          ∧ r.2.mem ((c.tc : Thread Cert.AdamMediumIdeal.nD Cert.AdamMediumIdeal.τ).loc Cert.AdamMediumIdeal.main_arg3) = m ((c.tc : Thread Cert.AdamMediumIdeal.nD Cert.AdamMediumIdeal.τ).loc Cert.AdamMediumIdeal.main_arg3)
          ∧ r.2.mem ((c.tc : Thread Cert.AdamMediumIdeal.nD Cert.AdamMediumIdeal.τ).loc Cert.AdamMediumIdeal.main_arg4) = m ((c.tc : Thread Cert.AdamMediumIdeal.nD Cert.AdamMediumIdeal.τ).loc Cert.AdamMediumIdeal.main_arg4)
          ∧ r.2.mem ((c.tc : Thread Cert.AdamMediumIdeal.nD Cert.AdamMediumIdeal.τ).loc Cert.AdamMediumIdeal.main_arg5) = m ((c.tc : Thread Cert.AdamMediumIdeal.nD Cert.AdamMediumIdeal.τ).loc Cert.AdamMediumIdeal.main_arg5)
          ∧ r.2.mem ((c.tc : Thread Cert.AdamMediumIdeal.nD Cert.AdamMediumIdeal.τ).loc Cert.AdamMediumIdeal.main_arg6) = m ((c.tc : Thread Cert.AdamMediumIdeal.nD Cert.AdamMediumIdeal.τ).loc Cert.AdamMediumIdeal.main_arg6)
          ∧ r.2.mem ((c.tc : Thread Cert.AdamMediumIdeal.nD Cert.AdamMediumIdeal.τ).loc Cert.AdamMediumIdeal.main_arg7) = m ((c.tc : Thread Cert.AdamMediumIdeal.nD Cert.AdamMediumIdeal.τ).loc Cert.AdamMediumIdeal.main_arg7)
          ∧ r.2.mem ((c.tc : Thread Cert.AdamMediumIdeal.nD Cert.AdamMediumIdeal.τ).loc Cert.AdamMediumIdeal.main_arg8) = m ((c.tc : Thread Cert.AdamMediumIdeal.nD Cert.AdamMediumIdeal.τ).loc Cert.AdamMediumIdeal.main_arg8)
          ∧ r.2.mem ((c.tc : Thread Cert.AdamMediumIdeal.nD Cert.AdamMediumIdeal.τ).loc Cert.AdamMediumIdeal.main_arg9) = m ((c.tc : Thread Cert.AdamMediumIdeal.nD Cert.AdamMediumIdeal.τ).loc Cert.AdamMediumIdeal.main_arg9)
          ∧ r.2.mem ((c.tc : Thread Cert.AdamMediumIdeal.nD Cert.AdamMediumIdeal.τ).loc Cert.AdamMediumIdeal.main_arg10) = m ((c.tc : Thread Cert.AdamMediumIdeal.nD Cert.AdamMediumIdeal.τ).loc Cert.AdamMediumIdeal.main_arg10)
          ∧ r.2.mem ((c.tc : Thread Cert.AdamMediumIdeal.nD Cert.AdamMediumIdeal.τ).loc Cert.AdamMediumIdeal.main_arg11) = m ((c.tc : Thread Cert.AdamMediumIdeal.nD Cert.AdamMediumIdeal.τ).loc Cert.AdamMediumIdeal.main_arg11)
          ∧ r.2.mem ((c.tc : Thread Cert.AdamMediumIdeal.nD Cert.AdamMediumIdeal.τ).loc Cert.AdamMediumIdeal.main_arg12) = m ((c.tc : Thread Cert.AdamMediumIdeal.nD Cert.AdamMediumIdeal.τ).loc Cert.AdamMediumIdeal.main_arg12)
          ∧ r.2.mem ((c.tc : Thread Cert.AdamMediumIdeal.nD Cert.AdamMediumIdeal.τ).loc Cert.AdamMediumIdeal.main_arg13) = m ((c.tc : Thread Cert.AdamMediumIdeal.nD Cert.AdamMediumIdeal.τ).loc Cert.AdamMediumIdeal.main_arg13)
          ∧ r.2.mem ((c.tc : Thread Cert.AdamMediumIdeal.nD Cert.AdamMediumIdeal.τ).loc Cert.AdamMediumIdeal.main_arg14) = m ((c.tc : Thread Cert.AdamMediumIdeal.nD Cert.AdamMediumIdeal.τ).loc Cert.AdamMediumIdeal.main_arg14)
          ∧ r.2.mem ((c.tc : Thread Cert.AdamMediumIdeal.nD Cert.AdamMediumIdeal.τ).loc Cert.AdamMediumIdeal.main_arg15) = m ((c.tc : Thread Cert.AdamMediumIdeal.nD Cert.AdamMediumIdeal.τ).loc Cert.AdamMediumIdeal.main_arg15))
      ∧ θ_run (Cert.AdamMediumRefIdeal.defs (F := Ideal)) (onTc (τ := Cert.AdamMediumRefIdeal.τ) (Cert.AdamMediumRefIdeal.main (F := Ideal))) ⟨m', fun _ => 0, g'⟩ (fun r => ∀ c : Dev Cert.AdamMediumRefIdeal.nD,
          r.2.mem ((c.tc : Thread Cert.AdamMediumRefIdeal.nD Cert.AdamMediumRefIdeal.τ).loc Cert.AdamMediumRefIdeal.main_v0) = v0 c
          ∧ r.2.mem ((c.tc : Thread Cert.AdamMediumRefIdeal.nD Cert.AdamMediumRefIdeal.τ).loc Cert.AdamMediumRefIdeal.main_v24) = v1 c
          ∧ r.2.mem ((c.tc : Thread Cert.AdamMediumRefIdeal.nD Cert.AdamMediumRefIdeal.τ).loc Cert.AdamMediumRefIdeal.main_v5) = v2 c
          ∧ r.2.mem ((c.tc : Thread Cert.AdamMediumRefIdeal.nD Cert.AdamMediumRefIdeal.τ).loc Cert.AdamMediumRefIdeal.main_v11) = v3 c
          ∧ r.2.mem ((c.tc : Thread Cert.AdamMediumRefIdeal.nD Cert.AdamMediumRefIdeal.τ).loc Cert.AdamMediumRefIdeal.main_v25) = v4 c
          ∧ r.2.mem ((c.tc : Thread Cert.AdamMediumRefIdeal.nD Cert.AdamMediumRefIdeal.τ).loc Cert.AdamMediumRefIdeal.main_v49) = v5 c
          ∧ r.2.mem ((c.tc : Thread Cert.AdamMediumRefIdeal.nD Cert.AdamMediumRefIdeal.τ).loc Cert.AdamMediumRefIdeal.main_v30) = v6 c
          ∧ r.2.mem ((c.tc : Thread Cert.AdamMediumRefIdeal.nD Cert.AdamMediumRefIdeal.τ).loc Cert.AdamMediumRefIdeal.main_v36) = v7 c
          ∧ r.2.mem ((c.tc : Thread Cert.AdamMediumRefIdeal.nD Cert.AdamMediumRefIdeal.τ).loc Cert.AdamMediumRefIdeal.main_v50) = v8 c
          ∧ r.2.mem ((c.tc : Thread Cert.AdamMediumRefIdeal.nD Cert.AdamMediumRefIdeal.τ).loc Cert.AdamMediumRefIdeal.main_v74) = v9 c
          ∧ r.2.mem ((c.tc : Thread Cert.AdamMediumRefIdeal.nD Cert.AdamMediumRefIdeal.τ).loc Cert.AdamMediumRefIdeal.main_v55) = v10 c
          ∧ r.2.mem ((c.tc : Thread Cert.AdamMediumRefIdeal.nD Cert.AdamMediumRefIdeal.τ).loc Cert.AdamMediumRefIdeal.main_v61) = v11 c
          ∧ r.2.mem ((c.tc : Thread Cert.AdamMediumRefIdeal.nD Cert.AdamMediumRefIdeal.τ).loc Cert.AdamMediumRefIdeal.main_v75) = v12 c
          ∧ r.2.mem ((c.tc : Thread Cert.AdamMediumRefIdeal.nD Cert.AdamMediumRefIdeal.τ).loc Cert.AdamMediumRefIdeal.main_v99) = v13 c
          ∧ r.2.mem ((c.tc : Thread Cert.AdamMediumRefIdeal.nD Cert.AdamMediumRefIdeal.τ).loc Cert.AdamMediumRefIdeal.main_v80) = v14 c
          ∧ r.2.mem ((c.tc : Thread Cert.AdamMediumRefIdeal.nD Cert.AdamMediumRefIdeal.τ).loc Cert.AdamMediumRefIdeal.main_v86) = v15 c
          ∧ r.2.mem ((c.tc : Thread Cert.AdamMediumRefIdeal.nD Cert.AdamMediumRefIdeal.τ).loc Cert.AdamMediumRefIdeal.main_arg0) = m' ((c.tc : Thread Cert.AdamMediumRefIdeal.nD Cert.AdamMediumRefIdeal.τ).loc Cert.AdamMediumRefIdeal.main_arg0)
          ∧ r.2.mem ((c.tc : Thread Cert.AdamMediumRefIdeal.nD Cert.AdamMediumRefIdeal.τ).loc Cert.AdamMediumRefIdeal.main_arg1) = m' ((c.tc : Thread Cert.AdamMediumRefIdeal.nD Cert.AdamMediumRefIdeal.τ).loc Cert.AdamMediumRefIdeal.main_arg1)
          ∧ r.2.mem ((c.tc : Thread Cert.AdamMediumRefIdeal.nD Cert.AdamMediumRefIdeal.τ).loc Cert.AdamMediumRefIdeal.main_arg2) = m' ((c.tc : Thread Cert.AdamMediumRefIdeal.nD Cert.AdamMediumRefIdeal.τ).loc Cert.AdamMediumRefIdeal.main_arg2)
          ∧ r.2.mem ((c.tc : Thread Cert.AdamMediumRefIdeal.nD Cert.AdamMediumRefIdeal.τ).loc Cert.AdamMediumRefIdeal.main_arg3) = m' ((c.tc : Thread Cert.AdamMediumRefIdeal.nD Cert.AdamMediumRefIdeal.τ).loc Cert.AdamMediumRefIdeal.main_arg3)
          ∧ r.2.mem ((c.tc : Thread Cert.AdamMediumRefIdeal.nD Cert.AdamMediumRefIdeal.τ).loc Cert.AdamMediumRefIdeal.main_arg4) = m' ((c.tc : Thread Cert.AdamMediumRefIdeal.nD Cert.AdamMediumRefIdeal.τ).loc Cert.AdamMediumRefIdeal.main_arg4)
          ∧ r.2.mem ((c.tc : Thread Cert.AdamMediumRefIdeal.nD Cert.AdamMediumRefIdeal.τ).loc Cert.AdamMediumRefIdeal.main_arg5) = m' ((c.tc : Thread Cert.AdamMediumRefIdeal.nD Cert.AdamMediumRefIdeal.τ).loc Cert.AdamMediumRefIdeal.main_arg5)
          ∧ r.2.mem ((c.tc : Thread Cert.AdamMediumRefIdeal.nD Cert.AdamMediumRefIdeal.τ).loc Cert.AdamMediumRefIdeal.main_arg6) = m' ((c.tc : Thread Cert.AdamMediumRefIdeal.nD Cert.AdamMediumRefIdeal.τ).loc Cert.AdamMediumRefIdeal.main_arg6)
          ∧ r.2.mem ((c.tc : Thread Cert.AdamMediumRefIdeal.nD Cert.AdamMediumRefIdeal.τ).loc Cert.AdamMediumRefIdeal.main_arg7) = m' ((c.tc : Thread Cert.AdamMediumRefIdeal.nD Cert.AdamMediumRefIdeal.τ).loc Cert.AdamMediumRefIdeal.main_arg7)
          ∧ r.2.mem ((c.tc : Thread Cert.AdamMediumRefIdeal.nD Cert.AdamMediumRefIdeal.τ).loc Cert.AdamMediumRefIdeal.main_arg8) = m' ((c.tc : Thread Cert.AdamMediumRefIdeal.nD Cert.AdamMediumRefIdeal.τ).loc Cert.AdamMediumRefIdeal.main_arg8)
          ∧ r.2.mem ((c.tc : Thread Cert.AdamMediumRefIdeal.nD Cert.AdamMediumRefIdeal.τ).loc Cert.AdamMediumRefIdeal.main_arg9) = m' ((c.tc : Thread Cert.AdamMediumRefIdeal.nD Cert.AdamMediumRefIdeal.τ).loc Cert.AdamMediumRefIdeal.main_arg9)
          ∧ r.2.mem ((c.tc : Thread Cert.AdamMediumRefIdeal.nD Cert.AdamMediumRefIdeal.τ).loc Cert.AdamMediumRefIdeal.main_arg10) = m' ((c.tc : Thread Cert.AdamMediumRefIdeal.nD Cert.AdamMediumRefIdeal.τ).loc Cert.AdamMediumRefIdeal.main_arg10)
          ∧ r.2.mem ((c.tc : Thread Cert.AdamMediumRefIdeal.nD Cert.AdamMediumRefIdeal.τ).loc Cert.AdamMediumRefIdeal.main_arg11) = m' ((c.tc : Thread Cert.AdamMediumRefIdeal.nD Cert.AdamMediumRefIdeal.τ).loc Cert.AdamMediumRefIdeal.main_arg11)
          ∧ r.2.mem ((c.tc : Thread Cert.AdamMediumRefIdeal.nD Cert.AdamMediumRefIdeal.τ).loc Cert.AdamMediumRefIdeal.main_arg12) = m' ((c.tc : Thread Cert.AdamMediumRefIdeal.nD Cert.AdamMediumRefIdeal.τ).loc Cert.AdamMediumRefIdeal.main_arg12)
          ∧ r.2.mem ((c.tc : Thread Cert.AdamMediumRefIdeal.nD Cert.AdamMediumRefIdeal.τ).loc Cert.AdamMediumRefIdeal.main_arg13) = m' ((c.tc : Thread Cert.AdamMediumRefIdeal.nD Cert.AdamMediumRefIdeal.τ).loc Cert.AdamMediumRefIdeal.main_arg13)
          ∧ r.2.mem ((c.tc : Thread Cert.AdamMediumRefIdeal.nD Cert.AdamMediumRefIdeal.τ).loc Cert.AdamMediumRefIdeal.main_arg14) = m' ((c.tc : Thread Cert.AdamMediumRefIdeal.nD Cert.AdamMediumRefIdeal.τ).loc Cert.AdamMediumRefIdeal.main_arg14)
          ∧ r.2.mem ((c.tc : Thread Cert.AdamMediumRefIdeal.nD Cert.AdamMediumRefIdeal.τ).loc Cert.AdamMediumRefIdeal.main_arg15) = m' ((c.tc : Thread Cert.AdamMediumRefIdeal.nD Cert.AdamMediumRefIdeal.τ).loc Cert.AdamMediumRefIdeal.main_arg15))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)) (v4 : (c : Dev Cert.AdamSmallIdeal.nD) → Buf (Elt Ideal) ((c.tc : Thread Cert.AdamSmallIdeal.nD Cert.AdamSmallIdeal.τ).loc Cert.AdamSmallIdeal.main_v0_4)) (v5 : (c : Dev Cert.AdamSmallIdeal.nD) → Buf (Elt Ideal) ((c.tc : Thread Cert.AdamSmallIdeal.nD Cert.AdamSmallIdeal.τ).loc Cert.AdamSmallIdeal.main_v0_5)) (v6 : (c : Dev Cert.AdamSmallIdeal.nD) → Buf (Elt Ideal) ((c.tc : Thread Cert.AdamSmallIdeal.nD Cert.AdamSmallIdeal.τ).loc Cert.AdamSmallIdeal.main_v0_6)) (v7 : (c : Dev Cert.AdamSmallIdeal.nD) → Buf (Elt Ideal) ((c.tc : Thread Cert.AdamSmallIdeal.nD Cert.AdamSmallIdeal.τ).loc Cert.AdamSmallIdeal.main_v0_7)) (v8 : (c : Dev Cert.AdamSmallIdeal.nD) → Buf (Elt Ideal) ((c.tc : Thread Cert.AdamSmallIdeal.nD Cert.AdamSmallIdeal.τ).loc Cert.AdamSmallIdeal.main_v0_8)) (v9 : (c : Dev Cert.AdamSmallIdeal.nD) → Buf (Elt Ideal) ((c.tc : Thread Cert.AdamSmallIdeal.nD Cert.AdamSmallIdeal.τ).loc Cert.AdamSmallIdeal.main_v0_9)) (v10 : (c : Dev Cert.AdamSmallIdeal.nD) → Buf (Elt Ideal) ((c.tc : Thread Cert.AdamSmallIdeal.nD Cert.AdamSmallIdeal.τ).loc Cert.AdamSmallIdeal.main_v0_10)) (v11 : (c : Dev Cert.AdamSmallIdeal.nD) → Buf (Elt Ideal) ((c.tc : Thread Cert.AdamSmallIdeal.nD Cert.AdamSmallIdeal.τ).loc Cert.AdamSmallIdeal.main_v0_11)) (v12 : (c : Dev Cert.AdamSmallIdeal.nD) → Buf (Elt Ideal) ((c.tc : Thread Cert.AdamSmallIdeal.nD Cert.AdamSmallIdeal.τ).loc Cert.AdamSmallIdeal.main_v0_12)) (v13 : (c : Dev Cert.AdamSmallIdeal.nD) → Buf (Elt Ideal) ((c.tc : Thread Cert.AdamSmallIdeal.nD Cert.AdamSmallIdeal.τ).loc Cert.AdamSmallIdeal.main_v0_13)) (v14 : (c : Dev Cert.AdamSmallIdeal.nD) → Buf (Elt Ideal) ((c.tc : Thread Cert.AdamSmallIdeal.nD Cert.AdamSmallIdeal.τ).loc Cert.AdamSmallIdeal.main_v0_14)) (v15 : (c : Dev Cert.AdamSmallIdeal.nD) → Buf (Elt Ideal) ((c.tc : Thread Cert.AdamSmallIdeal.nD Cert.AdamSmallIdeal.τ).loc Cert.AdamSmallIdeal.main_v0_15)) (v16 : (c : Dev Cert.AdamSmallIdeal.nD) → Buf (Elt Ideal) ((c.tc : Thread Cert.AdamSmallIdeal.nD Cert.AdamSmallIdeal.τ).loc Cert.AdamSmallIdeal.main_v0_16)) (v17 : (c : Dev Cert.AdamSmallIdeal.nD) → Buf (Elt Ideal) ((c.tc : Thread Cert.AdamSmallIdeal.nD Cert.AdamSmallIdeal.τ).loc Cert.AdamSmallIdeal.main_v0_17)) (v18 : (c : Dev Cert.AdamSmallIdeal.nD) → Buf (Elt Ideal) ((c.tc : Thread Cert.AdamSmallIdeal.nD Cert.AdamSmallIdeal.τ).loc Cert.AdamSmallIdeal.main_v0_18)) (v19 : (c : Dev Cert.AdamSmallIdeal.nD) → Buf (Elt Ideal) ((c.tc : Thread Cert.AdamSmallIdeal.nD Cert.AdamSmallIdeal.τ).loc Cert.AdamSmallIdeal.main_v0_19)) (v20 : (c : Dev Cert.AdamSmallIdeal.nD) → Buf (Elt Ideal) ((c.tc : Thread Cert.AdamSmallIdeal.nD Cert.AdamSmallIdeal.τ).loc Cert.AdamSmallIdeal.main_v0_20)) (v21 : (c : Dev Cert.AdamSmallIdeal.nD) → Buf (Elt Ideal) ((c.tc : Thread Cert.AdamSmallIdeal.nD Cert.AdamSmallIdeal.τ).loc Cert.AdamSmallIdeal.main_v0_21)) (v22 : (c : Dev Cert.AdamSmallIdeal.nD) → Buf (Elt Ideal) ((c.tc : Thread Cert.AdamSmallIdeal.nD Cert.AdamSmallIdeal.τ).loc Cert.AdamSmallIdeal.main_v0_22)) (v23 : (c : Dev Cert.AdamSmallIdeal.nD) → Buf (Elt Ideal) ((c.tc : Thread Cert.AdamSmallIdeal.nD Cert.AdamSmallIdeal.τ).loc Cert.AdamSmallIdeal.main_v0_23)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_v0_4) = v4 c
          ∧ r.2.mem ((c.tc : Thread Cert.AdamSmallIdeal.nD Cert.AdamSmallIdeal.τ).loc Cert.AdamSmallIdeal.main_v0_5) = v5 c
          ∧ r.2.mem ((c.tc : Thread Cert.AdamSmallIdeal.nD Cert.AdamSmallIdeal.τ).loc Cert.AdamSmallIdeal.main_v0_6) = v6 c
          ∧ r.2.mem ((c.tc : Thread Cert.AdamSmallIdeal.nD Cert.AdamSmallIdeal.τ).loc Cert.AdamSmallIdeal.main_v0_7) = v7 c
          ∧ r.2.mem ((c.tc : Thread Cert.AdamSmallIdeal.nD Cert.AdamSmallIdeal.τ).loc Cert.AdamSmallIdeal.main_v0_8) = v8 c
          ∧ r.2.mem ((c.tc : Thread Cert.AdamSmallIdeal.nD Cert.AdamSmallIdeal.τ).loc Cert.AdamSmallIdeal.main_v0_9) = v9 c
          ∧ r.2.mem ((c.tc : Thread Cert.AdamSmallIdeal.nD Cert.AdamSmallIdeal.τ).loc Cert.AdamSmallIdeal.main_v0_10) = v10 c
          ∧ r.2.mem ((c.tc : Thread Cert.AdamSmallIdeal.nD Cert.AdamSmallIdeal.τ).loc Cert.AdamSmallIdeal.main_v0_11) = v11 c
          ∧ r.2.mem ((c.tc : Thread Cert.AdamSmallIdeal.nD Cert.AdamSmallIdeal.τ).loc Cert.AdamSmallIdeal.main_v0_12) = v12 c
          ∧ r.2.mem ((c.tc : Thread Cert.AdamSmallIdeal.nD Cert.AdamSmallIdeal.τ).loc Cert.AdamSmallIdeal.main_v0_13) = v13 c
          ∧ r.2.mem ((c.tc : Thread Cert.AdamSmallIdeal.nD Cert.AdamSmallIdeal.τ).loc Cert.AdamSmallIdeal.main_v0_14) = v14 c
          ∧ r.2.mem ((c.tc : Thread Cert.AdamSmallIdeal.nD Cert.AdamSmallIdeal.τ).loc Cert.AdamSmallIdeal.main_v0_15) = v15 c
          ∧ r.2.mem ((c.tc : Thread Cert.AdamSmallIdeal.nD Cert.AdamSmallIdeal.τ).loc Cert.AdamSmallIdeal.main_v0_16) = v16 c
          ∧ r.2.mem ((c.tc : Thread Cert.AdamSmallIdeal.nD Cert.AdamSmallIdeal.τ).loc Cert.AdamSmallIdeal.main_v0_17) = v17 c
          ∧ r.2.mem ((c.tc : Thread Cert.AdamSmallIdeal.nD Cert.AdamSmallIdeal.τ).loc Cert.AdamSmallIdeal.main_v0_18) = v18 c
          ∧ r.2.mem ((c.tc : Thread Cert.AdamSmallIdeal.nD Cert.AdamSmallIdeal.τ).loc Cert.AdamSmallIdeal.main_v0_19) = v19 c
          ∧ r.2.mem ((c.tc : Thread Cert.AdamSmallIdeal.nD Cert.AdamSmallIdeal.τ).loc Cert.AdamSmallIdeal.main_v0_20) = v20 c
          ∧ r.2.mem ((c.tc : Thread Cert.AdamSmallIdeal.nD Cert.AdamSmallIdeal.τ).loc Cert.AdamSmallIdeal.main_v0_21) = v21 c
          ∧ r.2.mem ((c.tc : Thread Cert.AdamSmallIdeal.nD Cert.AdamSmallIdeal.τ).loc Cert.AdamSmallIdeal.main_v0_22) = v22 c
          ∧ r.2.mem ((c.tc : Thread Cert.AdamSmallIdeal.nD Cert.AdamSmallIdeal.τ).loc Cert.AdamSmallIdeal.main_v0_23) = v23 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_arg0) = v0 c
          ∧ r.2.mem ((c.tc : Thread Cert.AdamSmallRefIdeal.nD Cert.AdamSmallRefIdeal.τ).loc Cert.AdamSmallRefIdeal.main_v23) = v1 c
          ∧ r.2.mem ((c.tc : Thread Cert.AdamSmallRefIdeal.nD Cert.AdamSmallRefIdeal.τ).loc Cert.AdamSmallRefIdeal.main_v4) = v2 c
          ∧ r.2.mem ((c.tc : Thread Cert.AdamSmallRefIdeal.nD Cert.AdamSmallRefIdeal.τ).loc Cert.AdamSmallRefIdeal.main_v10) = v3 c
          ∧ r.2.mem ((c.tc : Thread Cert.AdamSmallRefIdeal.nD Cert.AdamSmallRefIdeal.τ).loc Cert.AdamSmallRefIdeal.main_arg4) = v4 c
          ∧ r.2.mem ((c.tc : Thread Cert.AdamSmallRefIdeal.nD Cert.AdamSmallRefIdeal.τ).loc Cert.AdamSmallRefIdeal.main_v47) = v5 c
          ∧ r.2.mem ((c.tc : Thread Cert.AdamSmallRefIdeal.nD Cert.AdamSmallRefIdeal.τ).loc Cert.AdamSmallRefIdeal.main_v28) = v6 c
          ∧ r.2.mem ((c.tc : Thread Cert.AdamSmallRefIdeal.nD Cert.AdamSmallRefIdeal.τ).loc Cert.AdamSmallRefIdeal.main_v34) = v7 c
          ∧ r.2.mem ((c.tc : Thread Cert.AdamSmallRefIdeal.nD Cert.AdamSmallRefIdeal.τ).loc Cert.AdamSmallRefIdeal.main_arg8) = v8 c
          ∧ r.2.mem ((c.tc : Thread Cert.AdamSmallRefIdeal.nD Cert.AdamSmallRefIdeal.τ).loc Cert.AdamSmallRefIdeal.main_v71) = v9 c
          ∧ r.2.mem ((c.tc : Thread Cert.AdamSmallRefIdeal.nD Cert.AdamSmallRefIdeal.τ).loc Cert.AdamSmallRefIdeal.main_v52) = v10 c
          ∧ r.2.mem ((c.tc : Thread Cert.AdamSmallRefIdeal.nD Cert.AdamSmallRefIdeal.τ).loc Cert.AdamSmallRefIdeal.main_v58) = v11 c
          ∧ r.2.mem ((c.tc : Thread Cert.AdamSmallRefIdeal.nD Cert.AdamSmallRefIdeal.τ).loc Cert.AdamSmallRefIdeal.main_arg12) = v12 c
          ∧ r.2.mem ((c.tc : Thread Cert.AdamSmallRefIdeal.nD Cert.AdamSmallRefIdeal.τ).loc Cert.AdamSmallRefIdeal.main_v95) = v13 c
          ∧ r.2.mem ((c.tc : Thread Cert.AdamSmallRefIdeal.nD Cert.AdamSmallRefIdeal.τ).loc Cert.AdamSmallRefIdeal.main_v76) = v14 c
          ∧ r.2.mem ((c.tc : Thread Cert.AdamSmallRefIdeal.nD Cert.AdamSmallRefIdeal.τ).loc Cert.AdamSmallRefIdeal.main_v82) = v15 c
          ∧ r.2.mem ((c.tc : Thread Cert.AdamSmallRefIdeal.nD Cert.AdamSmallRefIdeal.τ).loc Cert.AdamSmallRefIdeal.main_arg16) = v16 c
          ∧ r.2.mem ((c.tc : Thread Cert.AdamSmallRefIdeal.nD Cert.AdamSmallRefIdeal.τ).loc Cert.AdamSmallRefIdeal.main_v119) = v17 c
          ∧ r.2.mem ((c.tc : Thread Cert.AdamSmallRefIdeal.nD Cert.AdamSmallRefIdeal.τ).loc Cert.AdamSmallRefIdeal.main_v100) = v18 c
          ∧ r.2.mem ((c.tc : Thread Cert.AdamSmallRefIdeal.nD Cert.AdamSmallRefIdeal.τ).loc Cert.AdamSmallRefIdeal.main_v106) = v19 c
          ∧ r.2.mem ((c.tc : Thread Cert.AdamSmallRefIdeal.nD Cert.AdamSmallRefIdeal.τ).loc Cert.AdamSmallRefIdeal.main_arg20) = v20 c
          ∧ r.2.mem ((c.tc : Thread Cert.AdamSmallRefIdeal.nD Cert.AdamSmallRefIdeal.τ).loc Cert.AdamSmallRefIdeal.main_v143) = v21 c
          ∧ r.2.mem ((c.tc : Thread Cert.AdamSmallRefIdeal.nD Cert.AdamSmallRefIdeal.τ).loc Cert.AdamSmallRefIdeal.main_v124) = v22 c
          ∧ r.2.mem ((c.tc : Thread Cert.AdamSmallRefIdeal.nD Cert.AdamSmallRefIdeal.τ).loc Cert.AdamSmallRefIdeal.main_v130) = v23 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23))

def Claim : Prop :=
  ∃ (hMlpBwd : Cert.MlpBwd.Facts) (hMlpBwdIdeal : Cert.MlpBwdIdeal.Facts) (hMlpBwdRefIdeal : Cert.MlpBwdRefIdeal.Facts) (hPle : Cert.Ple.Facts) (hPleIdeal : Cert.PleIdeal.Facts) (hPleRefIdeal : Cert.PleRefIdeal.Facts) (hMlpFwd : Cert.MlpFwd.Facts) (hMlpFwdIdeal : Cert.MlpFwdIdeal.Facts) (hMlpFwdRefIdeal : Cert.MlpFwdRefIdeal.Facts) (hWgradOut : Cert.WgradOut.Facts) (hWgradOutIdeal : Cert.WgradOutIdeal.Facts) (hWgradOutRefIdeal : Cert.WgradOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamMedium : Cert.AdamMedium.Facts) (hAdamMediumIdeal : Cert.AdamMediumIdeal.Facts) (hAdamMediumRefIdeal : Cert.AdamMediumRefIdeal.Facts) (hAdamSmall : Cert.AdamSmall.Facts) (hAdamSmallIdeal : Cert.AdamSmallIdeal.Facts) (hAdamSmallRefIdeal : Cert.AdamSmallRefIdeal.Facts),
    quiescent_MlpBwd (hMlpBwd := hMlpBwd)
    ∧ quiescent_MlpBwdIdeal (hMlpBwdIdeal := hMlpBwdIdeal)
    ∧ quiescent_MlpBwdRefIdeal (hMlpBwdRefIdeal := hMlpBwdRefIdeal)
    ∧ quiescent_Ple (hPle := hPle)
    ∧ quiescent_PleIdeal (hPleIdeal := hPleIdeal)
    ∧ quiescent_PleRefIdeal (hPleRefIdeal := hPleRefIdeal)
    ∧ quiescent_MlpFwd (hMlpFwd := hMlpFwd)
    ∧ quiescent_MlpFwdIdeal (hMlpFwdIdeal := hMlpFwdIdeal)
    ∧ quiescent_MlpFwdRefIdeal (hMlpFwdRefIdeal := hMlpFwdRefIdeal)
    ∧ quiescent_WgradOut (hWgradOut := hWgradOut)
    ∧ quiescent_WgradOutIdeal (hWgradOutIdeal := hWgradOutIdeal)
    ∧ quiescent_WgradOutRefIdeal (hWgradOutRefIdeal := hWgradOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamMedium (hAdamMedium := hAdamMedium)
    ∧ quiescent_AdamMediumIdeal (hAdamMediumIdeal := hAdamMediumIdeal)
    ∧ quiescent_AdamMediumRefIdeal (hAdamMediumRefIdeal := hAdamMediumRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_MlpBwd_MlpBwdIdeal
    ∧ algebraic_MlpBwdIdeal_MlpBwdRefIdeal (hMlpBwdIdeal := hMlpBwdIdeal) (hMlpBwdRefIdeal := hMlpBwdRefIdeal)
    ∧ preserves_Ple_PleIdeal
    ∧ algebraic_PleIdeal_PleRefIdeal (hPleIdeal := hPleIdeal) (hPleRefIdeal := hPleRefIdeal)
    ∧ preserves_MlpFwd_MlpFwdIdeal
    ∧ algebraic_MlpFwdIdeal_MlpFwdRefIdeal (hMlpFwdIdeal := hMlpFwdIdeal) (hMlpFwdRefIdeal := hMlpFwdRefIdeal)
    ∧ preserves_WgradOut_WgradOutIdeal
    ∧ algebraic_WgradOutIdeal_WgradOutRefIdeal (hWgradOutIdeal := hWgradOutIdeal) (hWgradOutRefIdeal := hWgradOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamMedium_AdamMediumIdeal
    ∧ algebraic_AdamMediumIdeal_AdamMediumRefIdeal (hAdamMediumIdeal := hAdamMediumIdeal) (hAdamMediumRefIdeal := hAdamMediumRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== MlpBwd.lean ====
abbrev S8192x1024 : Shape := ⟨2, ![8192, 1024]⟩
abbrev S8x1024x512 : Shape := ⟨3, ![8, 1024, 512]⟩
abbrev S4096x1024 : Shape := ⟨2, ![4096, 1024]⟩
abbrev S1x1024x512 : Shape := ⟨3, ![1, 1024, 512]⟩
abbrev S1024x512 : Shape := ⟨2, ![1024, 512]⟩
abbrev S8192x512 : Shape := ⟨2, ![8192, 512]⟩
abbrev S8192x4096 : Shape := ⟨2, ![8192, 4096]⟩
abbrev S4x1024x512 : Shape := ⟨3, ![4, 1024, 512]⟩
abbrev S4x512x1024 : Shape := ⟨3, ![4, 512, 1024]⟩
abbrev S512x1024 : Shape := ⟨2, ![512, 1024]⟩
abbrev S512x2048 : Shape := ⟨2, ![512, 2048]⟩
abbrev S2048x1024 : Shape := ⟨2, ![2048, 1024]⟩
abbrev S512x512 : Shape := ⟨2, ![512, 512]⟩
abbrev S_ : Shape := ⟨0, ![]⟩
abbrev S1x512x1024 : Shape := ⟨3, ![1, 512, 1024]⟩

abbrev nBuf : Space → Nat
  | .hbm => 43
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8x1024x512, .f32⟩
  | .hbm, ⟨2, _⟩ => ⟨S4096x1024, .f32⟩
  | .hbm, ⟨3, _⟩ => ⟨S8192x1024, .f32⟩
  | .hbm, ⟨4, _⟩ => ⟨S8192x1024, .bf16⟩
  | .hbm, ⟨5, _⟩ => ⟨S8x1024x512, .bf16⟩
  | .hbm, ⟨6, _⟩ => ⟨S4096x1024, .bf16⟩
  | .hbm, ⟨7, _⟩ => ⟨S1x1024x512, .bf16⟩
  | .hbm, ⟨8, _⟩ => ⟨S1024x512, .bf16⟩
  | .hbm, ⟨9, _⟩ => ⟨S8192x512, .f32⟩
  | .hbm, ⟨10, _⟩ => ⟨S8192x512, .bf16⟩
  | .hbm, ⟨11, _⟩ => ⟨S1x1024x512, .bf16⟩
  | .hbm, ⟨12, _⟩ => ⟨S1024x512, .bf16⟩
  | .hbm, ⟨13, _⟩ => ⟨S8192x512, .f32⟩
  | .hbm, ⟨14, _⟩ => ⟨S8192x512, .bf16⟩
  | .hbm, ⟨15, _⟩ => ⟨S1x1024x512, .bf16⟩
  | .hbm, ⟨16, _⟩ => ⟨S1024x512, .bf16⟩
  | .hbm, ⟨17, _⟩ => ⟨S8192x512, .f32⟩
  | .hbm, ⟨18, _⟩ => ⟨S8192x512, .bf16⟩
  | .hbm, ⟨19, _⟩ => ⟨S1x1024x512, .bf16⟩
  | .hbm, ⟨20, _⟩ => ⟨S1024x512, .bf16⟩
  | .hbm, ⟨21, _⟩ => ⟨S8192x512, .f32⟩
  | .hbm, ⟨22, _⟩ => ⟨S8192x512, .bf16⟩
  | .hbm, ⟨23, _⟩ => ⟨S1x1024x512, .bf16⟩
  | .hbm, ⟨24, _⟩ => ⟨S1024x512, .bf16⟩
  | .hbm, ⟨25, _⟩ => ⟨S8192x512, .f32⟩
  | .hbm, ⟨26, _⟩ => ⟨S8192x512, .bf16⟩
  | .hbm, ⟨27, _⟩ => ⟨S1x1024x512, .bf16⟩
  | .hbm, ⟨28, _⟩ => ⟨S1024x512, .bf16⟩
  | .hbm, ⟨29, _⟩ => ⟨S8192x512, .f32⟩
  | .hbm, ⟨30, _⟩ => ⟨S8192x512, .bf16⟩
  | .hbm, ⟨31, _⟩ => ⟨S1x1024x512, .bf16⟩
  | .hbm, ⟨32, _⟩ => ⟨S1024x512, .bf16⟩
  | .hbm, ⟨33, _⟩ => ⟨S8192x512, .f32⟩
  | .hbm, ⟨34, _⟩ => ⟨S8192x512, .bf16⟩
  | .hbm, ⟨35, _⟩ => ⟨S1x1024x512, .bf16⟩
  | .hbm, ⟨36, _⟩ => ⟨S1024x512, .bf16⟩
  | .hbm, ⟨37, _⟩ => ⟨S8192x512, .f32⟩
  | .hbm, ⟨38, _⟩ => ⟨S8192x512, .bf16⟩
  | .hbm, ⟨39, _⟩ => ⟨S8192x4096, .bf16⟩
  | .hbm, ⟨40, _⟩ => ⟨S8192x1024, .f32⟩
  | .hbm, ⟨41, _⟩ => ⟨S4x1024x512, .bf16⟩
  | .hbm, ⟨42, _⟩ => ⟨S4x512x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S4x1024x512, .bf16⟩
  | .local _ .vmem, ⟨7, _⟩ => ⟨S2048x1024, .bf16⟩
  | .local _ .vmem, ⟨8, _⟩ => ⟨S512x1024, .f32⟩
  | .local _ .vmem, ⟨9, _⟩ => ⟨S512x1024, .f32⟩
  | .local _ .vmem, ⟨10, _⟩ => ⟨S4x1024x512, .f32⟩
  | .local _ .vmem, ⟨11, _⟩ => ⟨S2048x1024, .f32⟩
  | .local _ .vmem, ⟨12, _⟩ => ⟨S1024x512, .bf16⟩
  | .local _ .vmem, ⟨13, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36_0 : Ref sig .tc := ⟨.hbm, 40, rfl⟩
abbrev main_v36_1 : Ref sig .tc := ⟨.hbm, 41, rfl⟩
abbrev main_v36_2 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpBwdRefIdeal.lean ====
abbrev S8192x1024 : Shape := ⟨2, ![8192, 1024]⟩
abbrev S8x1024x512 : Shape := ⟨3, ![8, 1024, 512]⟩
abbrev S4096x1024 : Shape := ⟨2, ![4096, 1024]⟩
abbrev S4x1024x512 : Shape := ⟨3, ![4, 1024, 512]⟩
abbrev S1024x4x512 : Shape := ⟨3, ![1024, 4, 512]⟩
abbrev S1024x2048 : Shape := ⟨2, ![1024, 2048]⟩
abbrev S2048x1024 : Shape := ⟨2, ![2048, 1024]⟩
abbrev S8192x2048 : Shape := ⟨2, ![8192, 2048]⟩
abbrev S_ : Shape := ⟨0, ![]⟩
abbrev S4x512x1024 : Shape := ⟨3, ![4, 512, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x1024x512, .f32⟩
  | .hbm, ⟨2, _⟩ => ⟨S4096x1024, .f32⟩
  | .hbm, ⟨3, _⟩ => ⟨S8192x1024, .f32⟩
  | .hbm, ⟨4, _⟩ => ⟨S4x1024x512, .f32⟩
  | .hbm, ⟨5, _⟩ => ⟨S1024x4x512, .f32⟩
  | .hbm, ⟨6, _⟩ => ⟨S1024x2048, .f32⟩
  | .hbm, ⟨7, _⟩ => ⟨S2048x1024, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .i1⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x1024, .f32⟩
  | .hbm, ⟨22, _⟩ => ⟨S1024x2048, .f32⟩
  | .hbm, ⟨23, _⟩ => ⟨S2048x1024, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S2048x1024, .f32⟩
  | .hbm, ⟨30, _⟩ => ⟨S1024x2048, .f32⟩
  | .hbm, ⟨31, _⟩ => ⟨S8192x1024, .f32⟩
  | .hbm, ⟨32, _⟩ => ⟨S1024x4x512, .f32⟩
  | .hbm, ⟨33, _⟩ => ⟨S4x1024x512, .f32⟩
  | .hbm, ⟨34, _⟩ => ⟨S4x1024x512, .bf16⟩
  | .hbm, ⟨35, _⟩ => ⟨S4x512x1024, .f32⟩
  | .hbm, ⟨36, _⟩ => ⟨S4x512x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Ple.lean ====
abbrev S8192x1024 : Shape := ⟨2, ![8192, 1024]⟩
abbrev S8192x256 : Shape := ⟨2, ![8192, 256]⟩
abbrev S1x1024 : Shape := ⟨2, ![1, 1024]⟩
abbrev S1024x1024 : Shape := ⟨2, ![1024, 1024]⟩
abbrev S256x1024 : Shape := ⟨2, ![256, 1024]⟩
abbrev S8x1024 : Shape := ⟨2, ![8, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1024 : Shape := ⟨1, ![1024]⟩
abbrev S1x512x1 : Shape := ⟨3, ![1, 512, 1]⟩
abbrev S1 : Shape := ⟨1, ![1]⟩
abbrev S1x1x1 : Shape := ⟨3, ![1, 1, 1]⟩
abbrev S_ : Shape := ⟨0, ![]⟩

abbrev nBuf : Space → Nat
  | .hbm => 14
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S1x1024, .f32⟩
  | .hbm, ⟨4, _⟩ => ⟨S1024x1024, .f32⟩
  | .hbm, ⟨5, _⟩ => ⟨S1x1024, .f32⟩
  | .hbm, ⟨6, _⟩ => ⟨S256x1024, .f32⟩
  | .hbm, ⟨7, _⟩ => ⟨S1x1024, .f32⟩
  | .hbm, ⟨8, _⟩ => ⟨S1024x1024, .bf16⟩
  | .hbm, ⟨9, _⟩ => ⟨S256x1024, .bf16⟩
  | .hbm, ⟨10, _⟩ => ⟨S8192x1024, .f32⟩
  | .hbm, ⟨11, _⟩ => ⟨S8x1024, .f32⟩
  | .hbm, ⟨12, _⟩ => ⟨S1024x1024, .bf16⟩
  | .hbm, ⟨13, _⟩ => ⟨S256x1024, .bf16⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S256x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S8x1024, .f32⟩
  | .local _ .vmem, ⟨14, _⟩ => ⟨S1024x1024, .f32⟩
  | .local _ .vmem, ⟨15, _⟩ => ⟨S256x1024, .f32⟩
  | .local _ .vmem, ⟨16, _⟩ => ⟨S1024x1024, .bf16⟩
  | .local _ .vmem, ⟨17, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PleRefIdeal.lean ====
abbrev S8192x1024 : Shape := ⟨2, ![8192, 1024]⟩
abbrev S8192x256 : Shape := ⟨2, ![8192, 256]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1024x256 : Shape := ⟨2, ![1024, 256]⟩
abbrev S4x1024 : Shape := ⟨2, ![4, 1024]⟩
abbrev S8x1024 : Shape := ⟨2, ![8, 1024]⟩

abbrev nBuf : Space → Nat
  | .hbm => 151
  | .vmem => 0
  | .smem => 0
  | _ => 0

abbrev hbmTy0_0 (i : Nat) : BufTy := match i % 128 with
  | 0 => ⟨S8192x1024, .f32⟩
  | 1 => ⟨S8192x256, .f32⟩
  | 2 => ⟨S8192x1024, .f32⟩
  | 3 => ⟨S1x1024, .f32⟩
  | 4 => ⟨S1024x1024, .f32⟩
  | 5 => ⟨S1x1024, .f32⟩
  | 6 => ⟨S256x1024, .f32⟩
  | 7 => ⟨S1x1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1024, .f32⟩
  | 24 => ⟨S8192x1024, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S8192x1024, .f32⟩
  | 31 => ⟨S8192x1024, .f32⟩
  | 32 => ⟨S_, .f32⟩
  | 33 => ⟨S8192x1024, .f32⟩
  | 34 => ⟨S8192x1024, .f32⟩
  | 35 => ⟨S_, .f32⟩
  | 36 => ⟨S8192x1024, .f32⟩
  | 37 => ⟨S8192x1024, .f32⟩
  | 38 => ⟨S_, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S8192x1024, .f32⟩
  | 45 => ⟨S8192x1024, .f32⟩
  | 46 => ⟨S_, .f32⟩
  | 47 => ⟨S8192, .f32⟩
  | 48 => ⟨S8192x1, .f32⟩
  | 49 => ⟨S_, .f32⟩
  | 50 => ⟨S8192x1, .f32⟩
  | 51 => ⟨S8192x1, .f32⟩
  | 52 => ⟨S_, .f32⟩
  | 53 => ⟨S8192x1, .f32⟩
  | 54 => ⟨S8192x1, .f32⟩
  | 55 => ⟨S8192x1, .f32⟩
  | 56 => ⟨S8192x1, .f32⟩
  | 57 => ⟨S_, .f32⟩
  | 58 => ⟨S8192x1, .f32⟩
  | 59 => ⟨S8192x1, .f32⟩
  | 60 => ⟨S8192x1024, .f32⟩
  | 61 => ⟨S8192x1024, .f32⟩
  | 62 => ⟨S8192x1024, .f32⟩
  | 63 => ⟨S8192x1024, .f32⟩
  | 64 => ⟨S8192x1024, .f32⟩
  | 65 => ⟨S8192x1024, .f32⟩
  | 66 => ⟨S_, .f32⟩
  | 67 => ⟨S8192x1024, .f32⟩
  | 68 => ⟨S8192x1024, .f32⟩
  | 69 => ⟨S_, .f32⟩
  | 70 => ⟨S8192, .f32⟩
  | 71 => ⟨S_, .f32⟩
  | 72 => ⟨S8192, .f32⟩
  | 73 => ⟨S8192, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S8192, .f32⟩
  | 82 => ⟨S_, .f32⟩
  | 83 => ⟨S8192, .f32⟩
  | 84 => ⟨S8192, .f32⟩
  | 85 => ⟨S8192x1024, .f32⟩
  | 86 => ⟨S8192x1024, .f32⟩
  | 87 => ⟨S8192x1024, .f32⟩
  | 88 => ⟨S_, .f32⟩
  | 89 => ⟨S1024, .f32⟩
  | 90 => ⟨S1x1024, .f32⟩
  | 91 => ⟨S8192x1024, .f32⟩
  | 92 => ⟨S8192x1024, .f32⟩
  | 93 => ⟨S8192x1024, .f32⟩
  | 94 => ⟨S_, .f32⟩
  | 95 => ⟨S8192, .f32⟩
  | 96 => ⟨S8192x1, .f32⟩
  | 97 => ⟨S8192x1024, .f32⟩
  | 98 => ⟨S8192x1024, .f32⟩
  | 99 => ⟨S8192x1, .f32⟩
  | 100 => ⟨S_, .f32⟩
  | 101 => ⟨S8192x1, .f32⟩
  | 102 => ⟨S8192x1, .f32⟩
  | 103 => ⟨S_, .f32⟩
  | 104 => ⟨S8192, .f32⟩
  | 105 => ⟨S8192x1024, .f32⟩
  | 106 => ⟨S8192x1024, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S1024x256, .f32⟩
  | 113 => ⟨S256x1024, .f32⟩
  | 114 => ⟨S8192x1024, .f32⟩
  | 115 => ⟨S_, .f32⟩
  | 116 => ⟨S1024, .f32⟩
  | 117 => ⟨S1x1024, .f32⟩
  | 118 => ⟨S1024x1024, .f32⟩
  | 119 => ⟨S1024x1024, .f32⟩
  | 120 => ⟨S8192x1024, .f32⟩
  | 121 => ⟨S8192x1024, .f32⟩
  | 122 => ⟨S_, .f32⟩
  | 123 => ⟨S1024, .f32⟩
  | 124 => ⟨S1x1024, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S_, .f32⟩
  | 1 => ⟨S8192, .f32⟩
  | 2 => ⟨S8192x1, .f32⟩
  | 3 => ⟨S8192x1024, .f32⟩
  | 4 => ⟨S8192x1024, .f32⟩
  | 5 => ⟨S8192x1024, .f32⟩
  | 6 => ⟨S8192x1, .f32⟩
  | 7 => ⟨S_, .f32⟩
  | 8 => ⟨S8192x1, .f32⟩
  | 9 => ⟨S8192x1, .f32⟩
  | 10 => ⟨S_, .f32⟩
  | 11 => ⟨S8192, .f32⟩
  | 12 => ⟨S8192x1024, .f32⟩
  | 13 => ⟨S8192x1024, .f32⟩
  | 14 => ⟨S8192x1024, .f32⟩
  | 15 => ⟨S8192x1024, .f32⟩
  | 16 => ⟨S8192x1024, .f32⟩
  | 17 => ⟨S1x1024, .f32⟩
  | 18 => ⟨S_, .f32⟩
  | 19 => ⟨S4x1024, .f32⟩
  | 20 => ⟨S8x1024, .f32⟩
  | 21 => ⟨S1024x1024, .bf16⟩
  | 22 => ⟨S256x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_cst_12 : Ref sig .tc := ⟨.hbm, 71, rfl⟩
abbrev main_v50 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_cst_14 : Ref sig .tc := ⟨.hbm, 76, rfl⟩
abbrev main_v53 : Ref sig .tc := ⟨.hbm, 77, rfl⟩
abbrev main_cst_15 : Ref sig .tc := ⟨.hbm, 78, rfl⟩
abbrev main_cst_16 : Ref sig .tc := ⟨.hbm, 79, rfl⟩
abbrev main_v54 : Ref sig .tc := ⟨.hbm, 80, rfl⟩
abbrev main_v55 : Ref sig .tc := ⟨.hbm, 81, rfl⟩
abbrev main_cst_17 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_18 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_19 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_20 : Ref sig .tc := ⟨.hbm, 100, rfl⟩
abbrev main_v71 : Ref sig .tc := ⟨.hbm, 101, rfl⟩
abbrev main_v72 : Ref sig .tc := ⟨.hbm, 102, rfl⟩
abbrev main_cst_21 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_22 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_23 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_24 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_25 : Ref sig .tc := ⟨.hbm, 135, rfl⟩
abbrev main_v101 : Ref sig .tc := ⟨.hbm, 136, rfl⟩
abbrev main_v102 : Ref sig .tc := ⟨.hbm, 137, rfl⟩
abbrev main_cst_26 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_27 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩

abbrev nD : Nat := 1
abbrev τ : Topo := Topo.v7x

variable {F : FTy → Type} [FloatOps F]
-- ==== MlpFwd.lean ====
abbrev S8192x1024 : Shape := ⟨2, ![8192, 1024]⟩
abbrev S1x1024 : Shape := ⟨2, ![1, 1024]⟩
abbrev S8x1024x512 : Shape := ⟨3, ![8, 1024, 512]⟩
abbrev S4096x1024 : Shape := ⟨2, ![4096, 1024]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 9
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1024x512, .f32⟩
  | .hbm, ⟨3, _⟩ => ⟨S4096x1024, .f32⟩
  | .hbm, ⟨4, _⟩ => ⟨S8x1024x512, .bf16⟩
  | .hbm, ⟨5, _⟩ => ⟨S4096x1024, .bf16⟩
  | .hbm, ⟨6, _⟩ => ⟨S8192x1024, .f32⟩
  | .hbm, ⟨7, _⟩ => ⟨S8192x1024, .bf16⟩
  | .hbm, ⟨8, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x512, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x4096, .bf16⟩
  | .local _ .vmem, ⟨10, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MlpFwdRefIdeal.lean ====
abbrev S8192x1024 : Shape := ⟨2, ![8192, 1024]⟩
abbrev S1x1024 : Shape := ⟨2, ![1, 1024]⟩
abbrev S8x1024x512 : Shape := ⟨3, ![8, 1024, 512]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1024x8x512 : Shape := ⟨3, ![1024, 8, 512]⟩
abbrev S1024x4096 : Shape := ⟨2, ![1024, 4096]⟩
abbrev S8192x4096 : Shape := ⟨2, ![8192, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1024x512, .f32⟩
  | .hbm, ⟨3, _⟩ => ⟨S4096x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S1024x8x512, .f32⟩
  | .hbm, ⟨20, _⟩ => ⟨S1024x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x1024, .f32⟩
  | .hbm, ⟨27, _⟩ => ⟨S8192x1024, .f32⟩
  | .hbm, ⟨28, _⟩ => ⟨S8192x1024, .bf16⟩
  | .hbm, ⟨29, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== WgradOut.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== WgradOutRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AdamUp.lean ====
abbrev S8x1024x512 : Shape := ⟨3, ![8, 1024, 512]⟩
abbrev S1024x512 : Shape := ⟨2, ![1024, 512]⟩
abbrev S8x256x512 : Shape := ⟨3, ![8, 256, 512]⟩
abbrev S256x512 : Shape := ⟨2, ![256, 512]⟩
abbrev S1x256x512 : Shape := ⟨3, ![1, 256, 512]⟩

abbrev nBuf : Space → Nat
  | .hbm => 9
  | .vmem => 16
  | .smem => 0
  | _ => 0

abbrev bufTy : (tb : Table) → Fin (tcTables nBuf tb) → BufTy
  | .hbm, ⟨0, _⟩ => ⟨S8x1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S8x1024x512, .bf16⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S8x256x512, .bf16⟩
  | .local _ .vmem, ⟨1, _⟩ => ⟨S8x256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpRefIdeal.lean ====
abbrev S8x1024x512 : Shape := ⟨3, ![8, 1024, 512]⟩
abbrev S1024x512 : Shape := ⟨2, ![1024, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S_, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S_, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S1024x512, .f32⟩
  | .hbm, ⟨36, _⟩ => ⟨S_, .f32⟩
  | .hbm, ⟨37, _⟩ => ⟨S1024x512, .f32⟩
  | .hbm, ⟨38, _⟩ => ⟨S1024x512, .f32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamDown.lean ====
abbrev S8x512x1024 : Shape := ⟨3, ![8, 512, 1024]⟩
abbrev S512x1024 : Shape := ⟨2, ![512, 1024]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S8x512x1024, .bf16⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S8x512x1024 : Shape := ⟨3, ![8, 512, 1024]⟩
abbrev S512x1024 : Shape := ⟨2, ![512, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S_, .f32⟩
  | .hbm, ⟨7, _⟩ => ⟨S512x1024, .f32⟩
  | .hbm, ⟨8, _⟩ => ⟨S512x1024, .f32⟩
  | .hbm, ⟨9, _⟩ => ⟨S_, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S_, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S_, .f32⟩
  | .hbm, ⟨18, _⟩ => ⟨S512x1024, .f32⟩
  | .hbm, ⟨19, _⟩ => ⟨S512x1024, .f32⟩
  | .hbm, ⟨20, _⟩ => ⟨S512x1024, .f32⟩
  | .hbm, ⟨21, _⟩ => ⟨S_, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S512x1024, .f32⟩
  | .hbm, ⟨26, _⟩ => ⟨S512x1024, .f32⟩
  | .hbm, ⟨27, _⟩ => ⟨S512x1024, .f32⟩
  | .hbm, ⟨28, _⟩ => ⟨S_, .f32⟩
  | .hbm, ⟨29, _⟩ => ⟨S512x1024, .f32⟩
  | .hbm, ⟨30, _⟩ => ⟨S512x1024, .f32⟩
  | .hbm, ⟨31, _⟩ => ⟨S512x1024, .f32⟩
  | .hbm, ⟨32, _⟩ => ⟨S_, .f32⟩
  | .hbm, ⟨33, _⟩ => ⟨S512x1024, .f32⟩
  | .hbm, ⟨34, _⟩ => ⟨S512x1024, .f32⟩
  | .hbm, ⟨35, _⟩ => ⟨S512x1024, .f32⟩
  | .hbm, ⟨36, _⟩ => ⟨S_, .f32⟩
  | .hbm, ⟨37, _⟩ => ⟨S512x1024, .f32⟩
  | .hbm, ⟨38, _⟩ => ⟨S512x1024, .f32⟩
  | _, _ => ⟨S8x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamMedium.lean ====
abbrev S8x192x1024 : Shape := ⟨3, ![8, 192, 1024]⟩
abbrev S192x1024 : Shape := ⟨2, ![192, 1024]⟩
abbrev S8x128x1024 : Shape := ⟨3, ![8, 128, 1024]⟩
abbrev S128x1024 : Shape := ⟨2, ![128, 1024]⟩
abbrev S8x256x128 : Shape := ⟨3, ![8, 256, 128]⟩
abbrev S256x128 : Shape := ⟨2, ![256, 128]⟩
abbrev S1x192x1024 : Shape := ⟨3, ![1, 192, 1024]⟩
abbrev S1x128x1024 : Shape := ⟨3, ![1, 128, 1024]⟩
abbrev S1x256x128 : Shape := ⟨3, ![1, 256, 128]⟩

abbrev nBuf : Space → Nat
  | .hbm => 36
  | .vmem => 32
  | .smem => 0
  | _ => 0

abbrev bufTy : (tb : Table) → Fin (tcTables nBuf tb) → BufTy
  | .hbm, ⟨0, _⟩ => ⟨S8x192x1024, .f32⟩
  | .hbm, ⟨1, _⟩ => ⟨S192x1024, .f32⟩
  | .hbm, ⟨2, _⟩ => ⟨S192x1024, .f32⟩
  | .hbm, ⟨3, _⟩ => ⟨S192x1024, .f32⟩
  | .hbm, ⟨4, _⟩ => ⟨S8x128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S8x128x1024, .f32⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S8x256x128, .f32⟩
  | .hbm, ⟨13, _⟩ => ⟨S256x128, .f32⟩
  | .hbm, ⟨14, _⟩ => ⟨S256x128, .f32⟩
  | .hbm, ⟨15, _⟩ => ⟨S256x128, .f32⟩
  | .hbm, ⟨16, _⟩ => ⟨S8x192x1024, .bf16⟩
  | .hbm, ⟨17, _⟩ => ⟨S8x128x1024, .bf16⟩
  | .hbm, ⟨18, _⟩ => ⟨S8x128x1024, .bf16⟩
  | .hbm, ⟨19, _⟩ => ⟨S8x256x128, .bf16⟩
  | .hbm, ⟨20, _⟩ => ⟨S192x1024, .f32⟩
  | .hbm, ⟨21, _⟩ => ⟨S192x1024, .f32⟩
  | .hbm, ⟨22, _⟩ => ⟨S192x1024, .f32⟩
  | .hbm, ⟨23, _⟩ => ⟨S192x1024, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S256x128, .f32⟩
  | .hbm, ⟨33, _⟩ => ⟨S256x128, .f32⟩
  | .hbm, ⟨34, _⟩ => ⟨S256x128, .f32⟩
  | .hbm, ⟨35, _⟩ => ⟨S256x128, .f32⟩
  | .local _ .vmem, ⟨0, _⟩ => ⟨S8x192x1024, .bf16⟩
  | .local _ .vmem, ⟨1, _⟩ => ⟨S192x1024, .f32⟩
  | .local _ .vmem, ⟨2, _⟩ => ⟨S192x1024, .f32⟩
  | .local _ .vmem, ⟨3, _⟩ => ⟨S192x1024, .f32⟩
  | .local _ .vmem, ⟨4, _⟩ => ⟨S8x128x1024, .bf16⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S8x128x1024, .bf16⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S8x256x128, .bf16⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S192x1024, .f32⟩
  | .local _ .vmem, ⟨17, _⟩ => ⟨S192x1024, .f32⟩
  | .local _ .vmem, ⟨18, _⟩ => ⟨S192x1024, .f32⟩
  | .local _ .vmem, ⟨19, _⟩ => ⟨S192x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | .local _ .vmem, ⟨27, _⟩ => ⟨S128x1024, .f32⟩
  | .local _ .vmem, ⟨28, _⟩ => ⟨S256x128, .f32⟩
  | .local _ .vmem, ⟨29, _⟩ => ⟨S256x128, .f32⟩
  | .local _ .vmem, ⟨30, _⟩ => ⟨S256x128, .f32⟩
  | .local _ .vmem, ⟨31, _⟩ => ⟨S256x128, .f32⟩
  | _, _ => ⟨S8x192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4_0 : Ref sig .tc := ⟨.hbm, 20, rfl⟩
abbrev main_v4_1 : Ref sig .tc := ⟨.hbm, 21, rfl⟩
abbrev main_v4_2 : Ref sig .tc := ⟨.hbm, 22, rfl⟩
abbrev main_v4_3 : Ref sig .tc := ⟨.hbm, 23, rfl⟩
abbrev main_v4_4 : Ref sig .tc := ⟨.hbm, 24, rfl⟩
abbrev main_v4_5 : Ref sig .tc := ⟨.hbm, 25, rfl⟩
abbrev main_v4_6 : Ref sig .tc := ⟨.hbm, 26, rfl⟩
abbrev main_v4_7 : Ref sig .tc := ⟨.hbm, 27, rfl⟩
abbrev main_v4_8 : Ref sig .tc := ⟨.hbm, 28, rfl⟩
abbrev main_v4_9 : Ref sig .tc := ⟨.hbm, 29, rfl⟩
abbrev main_v4_10 : Ref sig .tc := ⟨.hbm, 30, rfl⟩
abbrev main_v4_11 : Ref sig .tc := ⟨.hbm, 31, rfl⟩
abbrev main_v4_12 : Ref sig .tc := ⟨.hbm, 32, rfl⟩
abbrev main_v4_13 : Ref sig .tc := ⟨.hbm, 33, rfl⟩
abbrev main_v4_14 : Ref sig .tc := ⟨.hbm, 34, rfl⟩
abbrev main_v4_15 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31

abbrev nD : Nat := 1
abbrev τ : Topo := Topo.v7x

variable {F : FTy → Type} [FloatOps F]

abbrev grid0 : Pipeline.Grid := .none

abbrev stage0_0 : Fin 1 → Memref sig .tc .vmem S8x192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S192x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S192x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x256x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S256x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S256x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S192x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S192x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S192x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S192x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S128x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S128x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S128x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S128x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S128x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S128x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S128x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S128x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S256x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S256x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S256x128 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S256x128 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
-- ==== AdamMediumRefIdeal.lean ====
abbrev S8x192x1024 : Shape := ⟨3, ![8, 192, 1024]⟩
abbrev S192x1024 : Shape := ⟨2, ![192, 1024]⟩
abbrev S8x128x1024 : Shape := ⟨3, ![8, 128, 1024]⟩
abbrev S128x1024 : Shape := ⟨2, ![128, 1024]⟩
abbrev S8x256x128 : Shape := ⟨3, ![8, 256, 128]⟩
abbrev S256x128 : Shape := ⟨2, ![256, 128]⟩
abbrev S_ : Shape := ⟨0, ![]⟩

abbrev nBuf : Space → Nat
  | .hbm => 156
  | .vmem => 0
  | .smem => 0
  | _ => 0

abbrev hbmTy0_0 (i : Nat) : BufTy := match i % 128 with
  | 0 => ⟨S8x192x1024, .f32⟩
  | 1 => ⟨S192x1024, .f32⟩
  | 2 => ⟨S192x1024, .f32⟩
  | 3 => ⟨S192x1024, .f32⟩
  | 4 => ⟨S8x128x1024, .f32⟩
  | 5 => ⟨S128x1024, .f32⟩
  | 6 => ⟨S128x1024, .f32⟩
  | 7 => ⟨S128x1024, .f32⟩
  | 8 => ⟨S8x128x1024, .f32⟩
  | 9 => ⟨S128x1024, .f32⟩
  | 10 => ⟨S128x1024, .f32⟩
  | 11 => ⟨S128x1024, .f32⟩
  | 12 => ⟨S8x256x128, .f32⟩
  | 13 => ⟨S256x128, .f32⟩
  | 14 => ⟨S256x128, .f32⟩
  | 15 => ⟨S256x128, .f32⟩
  | 16 => ⟨S_, .f32⟩
  | 17 => ⟨S192x1024, .f32⟩
  | 18 => ⟨S_, .f32⟩
  | 19 => ⟨S192x1024, .f32⟩
  | 20 => ⟨S192x1024, .f32⟩
  | 21 => ⟨S_, .f32⟩
  | 22 => ⟨S192x1024, .f32⟩
  | 23 => ⟨S192x1024, .f32⟩
  | 24 => ⟨S192x1024, .f32⟩
  | 25 => ⟨S_, .f32⟩
  | 26 => ⟨S192x1024, .f32⟩
  | 27 => ⟨S192x1024, .f32⟩
  | 28 => ⟨S192x1024, .f32⟩
  | 29 => ⟨S_, .f32⟩
  | 30 => ⟨S192x1024, .f32⟩
  | 31 => ⟨S192x1024, .f32⟩
  | 32 => ⟨S192x1024, .f32⟩
  | 33 => ⟨S_, .f32⟩
  | 34 => ⟨S192x1024, .f32⟩
  | 35 => ⟨S192x1024, .f32⟩
  | 36 => ⟨S_, .f32⟩
  | 37 => ⟨S192x1024, .f32⟩
  | 38 => ⟨S192x1024, .f32⟩
  | 39 => ⟨S192x1024, .f32⟩
  | 40 => ⟨S_, .f32⟩
  | 41 => ⟨S192x1024, .f32⟩
  | 42 => ⟨S192x1024, .f32⟩
  | 43 => ⟨S192x1024, .f32⟩
  | 44 => ⟨S_, .f32⟩
  | 45 => ⟨S192x1024, .f32⟩
  | 46 => ⟨S192x1024, .f32⟩
  | 47 => ⟨S192x1024, .f32⟩
  | 48 => ⟨S_, .f32⟩
  | 49 => ⟨S192x1024, .f32⟩
  | 50 => ⟨S192x1024, .f32⟩
  | 51 => ⟨S_, .f32⟩
  | 52 => ⟨S128x1024, .f32⟩
  | 53 => ⟨S_, .f32⟩
  | 54 => ⟨S128x1024, .f32⟩
  | 55 => ⟨S128x1024, .f32⟩
  | 56 => ⟨S_, .f32⟩
  | 57 => ⟨S128x1024, .f32⟩
  | 58 => ⟨S128x1024, .f32⟩
  | 59 => ⟨S128x1024, .f32⟩
  | 60 => ⟨S_, .f32⟩
  | 61 => ⟨S128x1024, .f32⟩
  | 62 => ⟨S128x1024, .f32⟩
  | 63 => ⟨S128x1024, .f32⟩
  | 64 => ⟨S_, .f32⟩
  | 65 => ⟨S128x1024, .f32⟩
  | 66 => ⟨S128x1024, .f32⟩
  | 67 => ⟨S128x1024, .f32⟩
  | 68 => ⟨S_, .f32⟩
  | 69 => ⟨S128x1024, .f32⟩
  | 70 => ⟨S128x1024, .f32⟩
  | 71 => ⟨S_, .f32⟩
  | 72 => ⟨S128x1024, .f32⟩
  | 73 => ⟨S128x1024, .f32⟩
  | 74 => ⟨S128x1024, .f32⟩
  | 75 => ⟨S_, .f32⟩
  | 76 => ⟨S128x1024, .f32⟩
  | 77 => ⟨S128x1024, .f32⟩
  | 78 => ⟨S128x1024, .f32⟩
  | 79 => ⟨S_, .f32⟩
  | 80 => ⟨S128x1024, .f32⟩
  | 81 => ⟨S128x1024, .f32⟩
  | 82 => ⟨S128x1024, .f32⟩
  | 83 => ⟨S_, .f32⟩
  | 84 => ⟨S128x1024, .f32⟩
  | 85 => ⟨S128x1024, .f32⟩
  | 86 => ⟨S_, .f32⟩
  | 87 => ⟨S128x1024, .f32⟩
  | 88 => ⟨S_, .f32⟩
  | 89 => ⟨S128x1024, .f32⟩
  | 90 => ⟨S128x1024, .f32⟩
  | 91 => ⟨S_, .f32⟩
  | 92 => ⟨S128x1024, .f32⟩
  | 93 => ⟨S128x1024, .f32⟩
  | 94 => ⟨S128x1024, .f32⟩
  | 95 => ⟨S_, .f32⟩
  | 96 => ⟨S128x1024, .f32⟩
  | 97 => ⟨S128x1024, .f32⟩
  | 98 => ⟨S128x1024, .f32⟩
  | 99 => ⟨S_, .f32⟩
  | 100 => ⟨S128x1024, .f32⟩
  | 101 => ⟨S128x1024, .f32⟩
  | 102 => ⟨S128x1024, .f32⟩
  | 103 => ⟨S_, .f32⟩
  | 104 => ⟨S128x1024, .f32⟩
  | 105 => ⟨S128x1024, .f32⟩
  | 106 => ⟨S_, .f32⟩
  | 107 => ⟨S128x1024, .f32⟩
  | 108 => ⟨S128x1024, .f32⟩
  | 109 => ⟨S128x1024, .f32⟩
  | 110 => ⟨S_, .f32⟩
  | 111 => ⟨S128x1024, .f32⟩
  | 112 => ⟨S128x1024, .f32⟩
  | 113 => ⟨S128x1024, .f32⟩
  | 114 => ⟨S_, .f32⟩
  | 115 => ⟨S128x1024, .f32⟩
  | 116 => ⟨S128x1024, .f32⟩
  | 117 => ⟨S128x1024, .f32⟩
  | 118 => ⟨S_, .f32⟩
  | 119 => ⟨S128x1024, .f32⟩
  | 120 => ⟨S128x1024, .f32⟩
  | 121 => ⟨S_, .f32⟩
  | 122 => ⟨S256x128, .f32⟩
  | 123 => ⟨S_, .f32⟩
  | 124 => ⟨S256x128, .f32⟩
  | 125 => ⟨S256x128, .f32⟩
  | 126 => ⟨S_, .f32⟩
  | 127 => ⟨S256x128, .f32⟩
  | _ => ⟨S8x192x1024, .f32⟩

abbrev hbmTy0_1 (i : Nat) : BufTy := match i % 128 with
  | 0 => ⟨S256x128, .f32⟩
  | 1 => ⟨S256x128, .f32⟩
  | 2 => ⟨S_, .f32⟩
  | 3 => ⟨S256x128, .f32⟩
  | 4 => ⟨S256x128, .f32⟩
  | 5 => ⟨S256x128, .f32⟩
  | 6 => ⟨S_, .f32⟩
  | 7 => ⟨S256x128, .f32⟩
  | 8 => ⟨S256x128, .f32⟩
  | 9 => ⟨S256x128, .f32⟩
  | 10 => ⟨S_, .f32⟩
  | 11 => ⟨S256x128, .f32⟩
  | 12 => ⟨S256x128, .f32⟩
  | 13 => ⟨S_, .f32⟩
  | 14 => ⟨S256x128, .f32⟩
  | 15 => ⟨S256x128, .f32⟩
  | 16 => ⟨S256x128, .f32⟩
  | 17 => ⟨S_, .f32⟩
  | 18 => ⟨S256x128, .f32⟩
  | 19 => ⟨S256x128, .f32⟩
  | 20 => ⟨S256x128, .f32⟩
  | 21 => ⟨S_, .f32⟩
  | 22 => ⟨S256x128, .f32⟩
  | 23 => ⟨S256x128, .f32⟩
  | 24 => ⟨S256x128, .f32⟩
  | 25 => ⟨S_, .f32⟩
  | 26 => ⟨S256x128, .f32⟩
  | 27 => ⟨S256x128, .f32⟩
  | _ => ⟨S8x192x1024, .f32⟩

abbrev hbmTy (i : Nat) : BufTy := match i / 128 with
  | 0 => hbmTy0_0 i
  | 1 => hbmTy0_1 i
  | _ => ⟨S8x192x1024, .f32⟩

abbrev bufTy : (tb : Table) → Fin (tcTables nBuf tb) → BufTy
  | .hbm, ⟨i, _⟩ => hbmTy i
  | _, _ => ⟨S8x192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_cst_1 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst_2 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_3 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_4 : Ref sig .tc := ⟨.hbm, 33, rfl⟩
abbrev main_v12 : Ref sig .tc := ⟨.hbm, 34, rfl⟩
abbrev main_v13 : Ref sig .tc := ⟨.hbm, 35, rfl⟩
abbrev main_cst_5 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_6 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_7 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_8 : Ref sig .tc := ⟨.hbm, 48, rfl⟩
abbrev main_v23 : Ref sig .tc := ⟨.hbm, 49, rfl⟩
abbrev main_v24 : Ref sig .tc := ⟨.hbm, 50, rfl⟩
abbrev main_cst_9 : Ref sig .tc := ⟨.hbm, 51, rfl⟩
abbrev main_v25 : Ref sig .tc := ⟨.hbm, 52, rfl⟩
abbrev main_cst_10 : Ref sig .tc := ⟨.hbm, 53, rfl⟩
abbrev main_v26 : Ref sig .tc := ⟨.hbm, 54, rfl⟩
abbrev main_v27 : Ref sig .tc := ⟨.hbm, 55, rfl⟩
abbrev main_cst_11 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_12 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_13 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_14 : Ref sig .tc := ⟨.hbm, 68, rfl⟩
abbrev main_v37 : Ref sig .tc := ⟨.hbm, 69, rfl⟩
abbrev main_v38 : Ref sig .tc := ⟨.hbm, 70, rfl⟩
abbrev main_cst_15 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_16 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_17 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_18 : Ref sig .tc := ⟨.hbm, 83, rfl⟩
abbrev main_v48 : Ref sig .tc := ⟨.hbm, 84, rfl⟩
abbrev main_v49 : Ref sig .tc := ⟨.hbm, 85, rfl⟩
abbrev main_cst_19 : Ref sig .tc := ⟨.hbm, 86, rfl⟩
abbrev main_v50 : Ref sig .tc := ⟨.hbm, 87, rfl⟩
abbrev main_cst_20 : Ref sig .tc := ⟨.hbm, 88, rfl⟩
abbrev main_v51 : Ref sig .tc := ⟨.hbm, 89, rfl⟩
abbrev main_v52 : Ref sig .tc := ⟨.hbm, 90, rfl⟩
abbrev main_cst_21 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_22 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_23 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_24 : Ref sig .tc := ⟨.hbm, 103, rfl⟩
abbrev main_v62 : Ref sig .tc := ⟨.hbm, 104, rfl⟩
abbrev main_v63 : Ref sig .tc := ⟨.hbm, 105, rfl⟩
abbrev main_cst_25 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_26 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_cst_27 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_cst_28 : Ref sig .tc := ⟨.hbm, 118, rfl⟩
abbrev main_v73 : Ref sig .tc := ⟨.hbm, 119, rfl⟩
abbrev main_v74 : Ref sig .tc := ⟨.hbm, 120, rfl⟩
abbrev main_cst_29 : Ref sig .tc := ⟨.hbm, 121, rfl⟩
abbrev main_v75 : Ref sig .tc := ⟨.hbm, 122, rfl⟩
abbrev main_cst_30 : Ref sig .tc := ⟨.hbm, 123, rfl⟩
abbrev main_v76 : Ref sig .tc := ⟨.hbm, 124, rfl⟩
abbrev main_v77 : Ref sig .tc := ⟨.hbm, 125, rfl⟩
abbrev main_cst_31 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_cst_32 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_cst_33 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_cst_34 : Ref sig .tc := ⟨.hbm, 138, rfl⟩
abbrev main_v87 : Ref sig .tc := ⟨.hbm, 139, rfl⟩
abbrev main_v88 : Ref sig .tc := ⟨.hbm, 140, rfl⟩
abbrev main_cst_35 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_cst_36 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_cst_37 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_cst_38 : Ref sig .tc := ⟨.hbm, 153, rfl⟩
abbrev main_v98 : Ref sig .tc := ⟨.hbm, 154, rfl⟩
abbrev main_v99 : Ref sig .tc := ⟨.hbm, 155, rfl⟩

abbrev nD : Nat := 1
abbrev τ : Topo := Topo.v7x

variable {F : FTy → Type} [FloatOps F]
-- ==== AdamSmall.lean ====
abbrev S8x1024 : Shape := ⟨2, ![8, 1024]⟩
abbrev S16x512 : Shape := ⟨2, ![16, 512]⟩
abbrev S512x128 : Shape := ⟨2, ![512, 128]⟩
abbrev S512x64 : Shape := ⟨2, ![512, 64]⟩
abbrev S4x64 : Shape := ⟨2, ![4, 64]⟩

abbrev nBuf : Space → Nat
  | .hbm => 48
  | .vmem => 48
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S16x512, .f32⟩
  | .hbm, ⟨5, _⟩ => ⟨S16x512, .f32⟩
  | .hbm, ⟨6, _⟩ => ⟨S16x512, .f32⟩
  | .hbm, ⟨7, _⟩ => ⟨S16x512, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S512x128, .f32⟩
  | .hbm, ⟨12, _⟩ => ⟨S512x64, .f32⟩
  | .hbm, ⟨13, _⟩ => ⟨S512x64, .f32⟩
  | .hbm, ⟨14, _⟩ => ⟨S512x64, .f32⟩
  | .hbm, ⟨15, _⟩ => ⟨S512x64, .f32⟩
  | .hbm, ⟨16, _⟩ => ⟨S512x64, .f32⟩
  | .hbm, ⟨17, _⟩ => ⟨S512x64, .f32⟩
  | .hbm, ⟨18, _⟩ => ⟨S512x64, .f32⟩
  | .hbm, ⟨19, _⟩ => ⟨S512x64, .f32⟩
  | .hbm, ⟨20, _⟩ => ⟨S4x64, .f32⟩
  | .hbm, ⟨21, _⟩ => ⟨S4x64, .f32⟩
  | .hbm, ⟨22, _⟩ => ⟨S4x64, .f32⟩
  | .hbm, ⟨23, _⟩ => ⟨S4x64, .f32⟩
  | .hbm, ⟨24, _⟩ => ⟨S8x1024, .f32⟩
  | .hbm, ⟨25, _⟩ => ⟨S8x1024, .f32⟩
  | .hbm, ⟨26, _⟩ => ⟨S8x1024, .f32⟩
  | .hbm, ⟨27, _⟩ => ⟨S8x1024, .f32⟩
  | .hbm, ⟨28, _⟩ => ⟨S16x512, .f32⟩
  | .hbm, ⟨29, _⟩ => ⟨S16x512, .f32⟩
  | .hbm, ⟨30, _⟩ => ⟨S16x512, .f32⟩
  | .hbm, ⟨31, _⟩ => ⟨S16x512, .f32⟩
  | .hbm, ⟨32, _⟩ => ⟨S512x128, .f32⟩
  | .hbm, ⟨33, _⟩ => ⟨S512x128, .f32⟩
  | .hbm, ⟨34, _⟩ => ⟨S512x128, .f32⟩
  | .hbm, ⟨35, _⟩ => ⟨S512x128, .f32⟩
  | .hbm, ⟨36, _⟩ => ⟨S512x64, .f32⟩
  | .hbm, ⟨37, _⟩ => ⟨S512x64, .f32⟩
  | .hbm, ⟨38, _⟩ => ⟨S512x64, .f32⟩
  | .hbm, ⟨39, _⟩ => ⟨S512x64, .f32⟩
  | .hbm, ⟨40, _⟩ => ⟨S512x64, .f32⟩
  | .hbm, ⟨41, _⟩ => ⟨S512x64, .f32⟩
  | .hbm, ⟨42, _⟩ => ⟨S512x64, .f32⟩
  | .hbm, ⟨43, _⟩ => ⟨S512x64, .f32⟩
  | .hbm, ⟨44, _⟩ => ⟨S4x64, .f32⟩
  | .hbm, ⟨45, _⟩ => ⟨S4x64, .f32⟩
  | .hbm, ⟨46, _⟩ => ⟨S4x64, .f32⟩
  | .hbm, ⟨47, _⟩ => ⟨S4x64, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | .local _ .vmem, ⟨7, _⟩ => ⟨S16x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x64, .f32⟩
  | .local _ .vmem, ⟨13, _⟩ => ⟨S512x64, .f32⟩
  | .local _ .vmem, ⟨14, _⟩ => ⟨S512x64, .f32⟩
  | .local _ .vmem, ⟨15, _⟩ => ⟨S512x64, .f32⟩
  | .local _ .vmem, ⟨16, _⟩ => ⟨S512x64, .f32⟩
  | .local _ .vmem, ⟨17, _⟩ => ⟨S512x64, .f32⟩
  | .local _ .vmem, ⟨18, _⟩ => ⟨S512x64, .f32⟩
  | .local _ .vmem, ⟨19, _⟩ => ⟨S512x64, .f32⟩
  | .local _ .vmem, ⟨20, _⟩ => ⟨S4x64, .f32⟩
  | .local _ .vmem, ⟨21, _⟩ => ⟨S4x64, .f32⟩
  | .local _ .vmem, ⟨22, _⟩ => ⟨S4x64, .f32⟩
  | .local _ .vmem, ⟨23, _⟩ => ⟨S4x64, .f32⟩
  | .local _ .vmem, ⟨24, _⟩ => ⟨S8x1024, .f32⟩
  | .local _ .vmem, ⟨25, _⟩ => ⟨S8x1024, .f32⟩
  | .local _ .vmem, ⟨26, _⟩ => ⟨S8x1024, .f32⟩
  | .local _ .vmem, ⟨27, _⟩ => ⟨S8x1024, .f32⟩
  | .local _ .vmem, ⟨28, _⟩ => ⟨S16x512, .f32⟩
  | .local _ .vmem, ⟨29, _⟩ => ⟨S16x512, .f32⟩
  | .local _ .vmem, ⟨30, _⟩ => ⟨S16x512, .f32⟩
  | .local _ .vmem, ⟨31, _⟩ => ⟨S16x512, .f32⟩
  | .local _ .vmem, ⟨32, _⟩ => ⟨S512x128, .f32⟩
  | .local _ .vmem, ⟨33, _⟩ => ⟨S512x128, .f32⟩
  | .local _ .vmem, ⟨34, _⟩ => ⟨S512x128, .f32⟩
  | .local _ .vmem, ⟨35, _⟩ => ⟨S512x128, .f32⟩
  | .local _ .vmem, ⟨36, _⟩ => ⟨S512x64, .f32⟩
  | .local _ .vmem, ⟨37, _⟩ => ⟨S512x64, .f32⟩
  | .local _ .vmem, ⟨38, _⟩ => ⟨S512x64, .f32⟩
  | .local _ .vmem, ⟨39, _⟩ => ⟨S512x64, .f32⟩
  | .local _ .vmem, ⟨40, _⟩ => ⟨S512x64, .f32⟩
  | .local _ .vmem, ⟨41, _⟩ => ⟨S512x64, .f32⟩
  | .local _ .vmem, ⟨42, _⟩ => ⟨S512x64, .f32⟩
  | .local _ .vmem, ⟨43, _⟩ => ⟨S512x64, .f32⟩
  | .local _ .vmem, ⟨44, _⟩ => ⟨S4x64, .f32⟩
  | .local _ .vmem, ⟨45, _⟩ => ⟨S4x64, .f32⟩
  | .local _ .vmem, ⟨46, _⟩ => ⟨S4x64, .f32⟩
  | .local _ .vmem, ⟨47, _⟩ => ⟨S4x64, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0_0 : Ref sig .tc := ⟨.hbm, 24, rfl⟩
abbrev main_v0_1 : Ref sig .tc := ⟨.hbm, 25, rfl⟩
abbrev main_v0_2 : Ref sig .tc := ⟨.hbm, 26, rfl⟩
abbrev main_v0_3 : Ref sig .tc := ⟨.hbm, 27, rfl⟩
abbrev main_v0_4 : Ref sig .tc := ⟨.hbm, 28, rfl⟩
abbrev main_v0_5 : Ref sig .tc := ⟨.hbm, 29, rfl⟩
abbrev main_v0_6 : Ref sig .tc := ⟨.hbm, 30, rfl⟩
abbrev main_v0_7 : Ref sig .tc := ⟨.hbm, 31, rfl⟩
abbrev main_v0_8 : Ref sig .tc := ⟨.hbm, 32, rfl⟩
abbrev main_v0_9 : Ref sig .tc := ⟨.hbm, 33, rfl⟩
abbrev main_v0_10 : Ref sig .tc := ⟨.hbm, 34, rfl⟩
abbrev main_v0_11 : Ref sig .tc := ⟨.hbm, 35, rfl⟩
abbrev main_v0_12 : Ref sig .tc := ⟨.hbm, 36, rfl⟩
abbrev main_v0_13 : Ref sig .tc := ⟨.hbm, 37, rfl⟩
abbrev main_v0_14 : Ref sig .tc := ⟨.hbm, 38, rfl⟩
abbrev main_v0_15 : Ref sig .tc := ⟨.hbm, 39, rfl⟩
abbrev main_v0_16 : Ref sig .tc := ⟨.hbm, 40, rfl⟩
abbrev main_v0_17 : Ref sig .tc := ⟨.hbm, 41, rfl⟩
abbrev main_v0_18 : Ref sig .tc := ⟨.hbm, 42, rfl⟩
abbrev main_v0_19 : Ref sig .tc := ⟨.hbm, 43, rfl⟩
abbrev main_v0_20 : Ref sig .tc := ⟨.hbm, 44, rfl⟩
abbrev main_v0_21 : Ref sig .tc := ⟨.hbm, 45, rfl⟩
abbrev main_v0_22 : Ref sig .tc := ⟨.hbm, 46, rfl⟩
abbrev main_v0_23 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S512x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S512x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S512x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S512x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S512x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S512x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S512x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S512x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S4x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S4x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S4x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S4x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S8x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S8x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S8x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S8x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S16x512 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S16x512 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S16x512 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S16x512 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S512x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S512x128 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S512x128 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S512x128 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S512x64 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S512x64 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S512x64 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S512x64 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S512x64 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S512x64 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S512x64 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S512x64 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S4x64 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S4x64 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S4x64 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S4x64 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))
-- ==== AdamSmallRefIdeal.lean ====
abbrev S8x1024 : Shape := ⟨2, ![8, 1024]⟩
abbrev S16x512 : Shape := ⟨2, ![16, 512]⟩
abbrev S512x128 : Shape := ⟨2, ![512, 128]⟩
abbrev S512x64 : Shape := ⟨2, ![512, 64]⟩
abbrev S4x64 : Shape := ⟨2, ![4, 64]⟩
abbrev S_ : Shape := ⟨0, ![]⟩

abbrev nBuf : Space → Nat
  | .hbm => 222
  | .vmem => 0
  | .smem => 0
  | _ => 0

abbrev hbmTy0_0 (i : Nat) : BufTy := match i % 128 with
  | 0 => ⟨S8x1024, .f32⟩
  | 1 => ⟨S8x1024, .f32⟩
  | 2 => ⟨S8x1024, .f32⟩
  | 3 => ⟨S8x1024, .f32⟩
  | 4 => ⟨S16x512, .f32⟩
  | 5 => ⟨S16x512, .f32⟩
  | 6 => ⟨S16x512, .f32⟩
  | 7 => ⟨S16x512, .f32⟩
  | 8 => ⟨S512x128, .f32⟩
  | 9 => ⟨S512x128, .f32⟩
  | 10 => ⟨S512x128, .f32⟩
  | 11 => ⟨S512x128, .f32⟩
  | 12 => ⟨S512x64, .f32⟩
  | 13 => ⟨S512x64, .f32⟩
  | 14 => ⟨S512x64, .f32⟩
  | 15 => ⟨S512x64, .f32⟩
  | 16 => ⟨S512x64, .f32⟩
  | 17 => ⟨S512x64, .f32⟩
  | 18 => ⟨S512x64, .f32⟩
  | 19 => ⟨S512x64, .f32⟩
  | 20 => ⟨S4x64, .f32⟩
  | 21 => ⟨S4x64, .f32⟩
  | 22 => ⟨S4x64, .f32⟩
  | 23 => ⟨S4x64, .f32⟩
  | 24 => ⟨S_, .f32⟩
  | 25 => ⟨S8x1024, .f32⟩
  | 26 => ⟨S8x1024, .f32⟩
  | 27 => ⟨S_, .f32⟩
  | 28 => ⟨S8x1024, .f32⟩
  | 29 => ⟨S8x1024, .f32⟩
  | 30 => ⟨S8x1024, .f32⟩
  | 31 => ⟨S_, .f32⟩
  | 32 => ⟨S8x1024, .f32⟩
  | 33 => ⟨S8x1024, .f32⟩
  | 34 => ⟨S8x1024, .f32⟩
  | 35 => ⟨S_, .f32⟩
  | 36 => ⟨S8x1024, .f32⟩
  | 37 => ⟨S8x1024, .f32⟩
  | 38 => ⟨S8x1024, .f32⟩
  | 39 => ⟨S_, .f32⟩
  | 40 => ⟨S8x1024, .f32⟩
  | 41 => ⟨S8x1024, .f32⟩
  | 42 => ⟨S_, .f32⟩
  | 43 => ⟨S8x1024, .f32⟩
  | 44 => ⟨S8x1024, .f32⟩
  | 45 => ⟨S8x1024, .f32⟩
  | 46 => ⟨S_, .f32⟩
  | 47 => ⟨S8x1024, .f32⟩
  | 48 => ⟨S8x1024, .f32⟩
  | 49 => ⟨S8x1024, .f32⟩
  | 50 => ⟨S_, .f32⟩
  | 51 => ⟨S8x1024, .f32⟩
  | 52 => ⟨S8x1024, .f32⟩
  | 53 => ⟨S8x1024, .f32⟩
  | 54 => ⟨S_, .f32⟩
  | 55 => ⟨S8x1024, .f32⟩
  | 56 => ⟨S8x1024, .f32⟩
  | 57 => ⟨S_, .f32⟩
  | 58 => ⟨S16x512, .f32⟩
  | 59 => ⟨S16x512, .f32⟩
  | 60 => ⟨S_, .f32⟩
  | 61 => ⟨S16x512, .f32⟩
  | 62 => ⟨S16x512, .f32⟩
  | 63 => ⟨S16x512, .f32⟩
  | 64 => ⟨S_, .f32⟩
  | 65 => ⟨S16x512, .f32⟩
  | 66 => ⟨S16x512, .f32⟩
  | 67 => ⟨S16x512, .f32⟩
  | 68 => ⟨S_, .f32⟩
  | 69 => ⟨S16x512, .f32⟩
  | 70 => ⟨S16x512, .f32⟩
  | 71 => ⟨S16x512, .f32⟩
  | 72 => ⟨S_, .f32⟩
  | 73 => ⟨S16x512, .f32⟩
  | 74 => ⟨S16x512, .f32⟩
  | 75 => ⟨S_, .f32⟩
  | 76 => ⟨S16x512, .f32⟩
  | 77 => ⟨S16x512, .f32⟩
  | 78 => ⟨S16x512, .f32⟩
  | 79 => ⟨S_, .f32⟩
  | 80 => ⟨S16x512, .f32⟩
  | 81 => ⟨S16x512, .f32⟩
  | 82 => ⟨S16x512, .f32⟩
  | 83 => ⟨S_, .f32⟩
  | 84 => ⟨S16x512, .f32⟩
  | 85 => ⟨S16x512, .f32⟩
  | 86 => ⟨S16x512, .f32⟩
  | 87 => ⟨S_, .f32⟩
  | 88 => ⟨S16x512, .f32⟩
  | 89 => ⟨S16x512, .f32⟩
  | 90 => ⟨S_, .f32⟩
  | 91 => ⟨S512x128, .f32⟩
  | 92 => ⟨S512x128, .f32⟩
  | 93 => ⟨S_, .f32⟩
  | 94 => ⟨S512x128, .f32⟩
  | 95 => ⟨S512x128, .f32⟩
  | 96 => ⟨S512x128, .f32⟩
  | 97 => ⟨S_, .f32⟩
  | 98 => ⟨S512x128, .f32⟩
  | 99 => ⟨S512x128, .f32⟩
  | 100 => ⟨S512x128, .f32⟩
  | 101 => ⟨S_, .f32⟩
  | 102 => ⟨S512x128, .f32⟩
  | 103 => ⟨S512x128, .f32⟩
  | 104 => ⟨S512x128, .f32⟩
  | 105 => ⟨S_, .f32⟩
  | 106 => ⟨S512x128, .f32⟩
  | 107 => ⟨S512x128, .f32⟩
  | 108 => ⟨S_, .f32⟩
  | 109 => ⟨S512x128, .f32⟩
  | 110 => ⟨S512x128, .f32⟩
  | 111 => ⟨S512x128, .f32⟩
  | 112 => ⟨S_, .f32⟩
  | 113 => ⟨S512x128, .f32⟩
  | 114 => ⟨S512x128, .f32⟩
  | 115 => ⟨S512x128, .f32⟩
  | 116 => ⟨S_, .f32⟩
  | 117 => ⟨S512x128, .f32⟩
  | 118 => ⟨S512x128, .f32⟩
  | 119 => ⟨S512x128, .f32⟩
  | 120 => ⟨S_, .f32⟩
  | 121 => ⟨S512x128, .f32⟩
  | 122 => ⟨S512x128, .f32⟩
  | 123 => ⟨S_, .f32⟩
  | 124 => ⟨S512x64, .f32⟩
  | 125 => ⟨S512x64, .f32⟩
  | 126 => ⟨S_, .f32⟩
  | 127 => ⟨S512x64, .f32⟩
  | _ => ⟨S8x1024, .f32⟩

abbrev hbmTy0_1 (i : Nat) : BufTy := match i % 128 with
  | 0 => ⟨S512x64, .f32⟩
  | 1 => ⟨S512x64, .f32⟩
  | 2 => ⟨S_, .f32⟩
  | 3 => ⟨S512x64, .f32⟩
  | 4 => ⟨S512x64, .f32⟩
  | 5 => ⟨S512x64, .f32⟩
  | 6 => ⟨S_, .f32⟩
  | 7 => ⟨S512x64, .f32⟩
  | 8 => ⟨S512x64, .f32⟩
  | 9 => ⟨S512x64, .f32⟩
  | 10 => ⟨S_, .f32⟩
  | 11 => ⟨S512x64, .f32⟩
  | 12 => ⟨S512x64, .f32⟩
  | 13 => ⟨S_, .f32⟩
  | 14 => ⟨S512x64, .f32⟩
  | 15 => ⟨S512x64, .f32⟩
  | 16 => ⟨S512x64, .f32⟩
  | 17 => ⟨S_, .f32⟩
  | 18 => ⟨S512x64, .f32⟩
  | 19 => ⟨S512x64, .f32⟩
  | 20 => ⟨S512x64, .f32⟩
  | 21 => ⟨S_, .f32⟩
  | 22 => ⟨S512x64, .f32⟩
  | 23 => ⟨S512x64, .f32⟩
  | 24 => ⟨S512x64, .f32⟩
  | 25 => ⟨S_, .f32⟩
  | 26 => ⟨S512x64, .f32⟩
  | 27 => ⟨S512x64, .f32⟩
  | 28 => ⟨S_, .f32⟩
  | 29 => ⟨S512x64, .f32⟩
  | 30 => ⟨S512x64, .f32⟩
  | 31 => ⟨S_, .f32⟩
  | 32 => ⟨S512x64, .f32⟩
  | 33 => ⟨S512x64, .f32⟩
  | 34 => ⟨S512x64, .f32⟩
  | 35 => ⟨S_, .f32⟩
  | 36 => ⟨S512x64, .f32⟩
  | 37 => ⟨S512x64, .f32⟩
  | 38 => ⟨S512x64, .f32⟩
  | 39 => ⟨S_, .f32⟩
  | 40 => ⟨S512x64, .f32⟩
  | 41 => ⟨S512x64, .f32⟩
  | 42 => ⟨S512x64, .f32⟩
  | 43 => ⟨S_, .f32⟩
  | 44 => ⟨S512x64, .f32⟩
  | 45 => ⟨S512x64, .f32⟩
  | 46 => ⟨S_, .f32⟩
  | 47 => ⟨S512x64, .f32⟩
  | 48 => ⟨S512x64, .f32⟩
  | 49 => ⟨S512x64, .f32⟩
  | 50 => ⟨S_, .f32⟩
  | 51 => ⟨S512x64, .f32⟩
  | 52 => ⟨S512x64, .f32⟩
  | 53 => ⟨S512x64, .f32⟩
  | 54 => ⟨S_, .f32⟩
  | 55 => ⟨S512x64, .f32⟩
  | 56 => ⟨S512x64, .f32⟩
  | 57 => ⟨S512x64, .f32⟩
  | 58 => ⟨S_, .f32⟩
  | 59 => ⟨S512x64, .f32⟩
  | 60 => ⟨S512x64, .f32⟩
  | 61 => ⟨S_, .f32⟩
  | 62 => ⟨S4x64, .f32⟩
  | 63 => ⟨S4x64, .f32⟩
  | 64 => ⟨S_, .f32⟩
  | 65 => ⟨S4x64, .f32⟩
  | 66 => ⟨S4x64, .f32⟩
  | 67 => ⟨S4x64, .f32⟩
  | 68 => ⟨S_, .f32⟩
  | 69 => ⟨S4x64, .f32⟩
  | 70 => ⟨S4x64, .f32⟩
  | 71 => ⟨S4x64, .f32⟩
  | 72 => ⟨S_, .f32⟩
  | 73 => ⟨S4x64, .f32⟩
  | 74 => ⟨S4x64, .f32⟩
  | 75 => ⟨S4x64, .f32⟩
  | 76 => ⟨S_, .f32⟩
  | 77 => ⟨S4x64, .f32⟩
  | 78 => ⟨S4x64, .f32⟩
  | 79 => ⟨S_, .f32⟩
  | 80 => ⟨S4x64, .f32⟩
  | 81 => ⟨S4x64, .f32⟩
  | 82 => ⟨S4x64, .f32⟩
  | 83 => ⟨S_, .f32⟩
  | 84 => ⟨S4x64, .f32⟩
  | 85 => ⟨S4x64, .f32⟩
  | 86 => ⟨S4x64, .f32⟩
  | 87 => ⟨S_, .f32⟩
  | 88 => ⟨S4x64, .f32⟩
  | 89 => ⟨S4x64, .f32⟩
  | 90 => ⟨S4x64, .f32⟩
  | 91 => ⟨S_, .f32⟩
  | 92 => ⟨S4x64, .f32⟩
  | 93 => ⟨S4x64, .f32⟩
  | _ => ⟨S8x1024, .f32⟩

abbrev hbmTy (i : Nat) : BufTy := match i / 128 with
  | 0 => hbmTy0_0 i
  | 1 => hbmTy0_1 i
  | _ => ⟨S8x1024, .f32⟩

abbrev bufTy : (tb : Table) → Fin (tcTables nBuf tb) → BufTy
  | .hbm, ⟨i, _⟩ => hbmTy i
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_v0 : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_2 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_3 : Ref sig .tc := ⟨.hbm, 39, rfl⟩
abbrev main_v11 : Ref sig .tc := ⟨.hbm, 40, rfl⟩
abbrev main_v12 : Ref sig .tc := ⟨.hbm, 41, rfl⟩
abbrev main_cst_4 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_5 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_6 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_7 : Ref sig .tc := ⟨.hbm, 54, rfl⟩
abbrev main_v22 : Ref sig .tc := ⟨.hbm, 55, rfl⟩
abbrev main_v23 : Ref sig .tc := ⟨.hbm, 56, rfl⟩
abbrev main_cst_8 : Ref sig .tc := ⟨.hbm, 57, rfl⟩
abbrev main_v24 : Ref sig .tc := ⟨.hbm, 58, rfl⟩
abbrev main_v25 : Ref sig .tc := ⟨.hbm, 59, rfl⟩
abbrev main_cst_9 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_10 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_11 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_12 : Ref sig .tc := ⟨.hbm, 72, rfl⟩
abbrev main_v35 : Ref sig .tc := ⟨.hbm, 73, rfl⟩
abbrev main_v36 : Ref sig .tc := ⟨.hbm, 74, rfl⟩
abbrev main_cst_13 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_14 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_15 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_16 : Ref sig .tc := ⟨.hbm, 87, rfl⟩
abbrev main_v46 : Ref sig .tc := ⟨.hbm, 88, rfl⟩
abbrev main_v47 : Ref sig .tc := ⟨.hbm, 89, rfl⟩
abbrev main_cst_17 : Ref sig .tc := ⟨.hbm, 90, rfl⟩
abbrev main_v48 : Ref sig .tc := ⟨.hbm, 91, rfl⟩
abbrev main_v49 : Ref sig .tc := ⟨.hbm, 92, rfl⟩
abbrev main_cst_18 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_cst_19 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_20 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_21 : Ref sig .tc := ⟨.hbm, 105, rfl⟩
abbrev main_v59 : Ref sig .tc := ⟨.hbm, 106, rfl⟩
abbrev main_v60 : Ref sig .tc := ⟨.hbm, 107, rfl⟩
abbrev main_cst_22 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_23 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_24 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_cst_25 : Ref sig .tc := ⟨.hbm, 120, rfl⟩
abbrev main_v70 : Ref sig .tc := ⟨.hbm, 121, rfl⟩
abbrev main_v71 : Ref sig .tc := ⟨.hbm, 122, rfl⟩
abbrev main_cst_26 : Ref sig .tc := ⟨.hbm, 123, rfl⟩
abbrev main_v72 : Ref sig .tc := ⟨.hbm, 124, rfl⟩
abbrev main_v73 : Ref sig .tc := ⟨.hbm, 125, rfl⟩
abbrev main_cst_27 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_28 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_cst_29 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_30 : Ref sig .tc := ⟨.hbm, 138, rfl⟩
abbrev main_v83 : Ref sig .tc := ⟨.hbm, 139, rfl⟩
abbrev main_v84 : Ref sig .tc := ⟨.hbm, 140, rfl⟩
abbrev main_cst_31 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_32 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_33 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_34 : Ref sig .tc := ⟨.hbm, 153, rfl⟩
abbrev main_v94 : Ref sig .tc := ⟨.hbm, 154, rfl⟩
abbrev main_v95 : Ref sig .tc := ⟨.hbm, 155, rfl⟩
abbrev main_cst_35 : Ref sig .tc := ⟨.hbm, 156, rfl⟩
abbrev main_v96 : Ref sig .tc := ⟨.hbm, 157, rfl⟩
abbrev main_v97 : Ref sig .tc := ⟨.hbm, 158, rfl⟩
abbrev main_cst_36 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_cst_37 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_cst_38 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_cst_39 : Ref sig .tc := ⟨.hbm, 171, rfl⟩
abbrev main_v107 : Ref sig .tc := ⟨.hbm, 172, rfl⟩
abbrev main_v108 : Ref sig .tc := ⟨.hbm, 173, rfl⟩
abbrev main_cst_40 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_cst_41 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_cst_42 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_cst_43 : Ref sig .tc := ⟨.hbm, 186, rfl⟩
abbrev main_v118 : Ref sig .tc := ⟨.hbm, 187, rfl⟩
abbrev main_v119 : Ref sig .tc := ⟨.hbm, 188, rfl⟩
abbrev main_cst_44 : Ref sig .tc := ⟨.hbm, 189, rfl⟩
abbrev main_v120 : Ref sig .tc := ⟨.hbm, 190, rfl⟩
abbrev main_v121 : Ref sig .tc := ⟨.hbm, 191, rfl⟩
abbrev main_cst_45 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_cst_46 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_cst_47 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_cst_48 : Ref sig .tc := ⟨.hbm, 204, rfl⟩
abbrev main_v131 : Ref sig .tc := ⟨.hbm, 205, rfl⟩
abbrev main_v132 : Ref sig .tc := ⟨.hbm, 206, rfl⟩
abbrev main_cst_49 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_cst_50 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_cst_51 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_cst_52 : Ref sig .tc := ⟨.hbm, 219, rfl⟩
abbrev main_v142 : Ref sig .tc := ⟨.hbm, 220, rfl⟩
abbrev main_v143 : Ref sig .tc := ⟨.hbm, 221, rfl⟩

abbrev nD : Nat := 1
abbrev τ : Topo := Topo.v7x

variable {F : FTy → Type} [FloatOps F]
-- ==== Proof.MlpBwd.Terms.lean ====
/-
  The MLP gradient's results as sums of products of its arguments' entries: the pre-activation, its gradient, and the terms
  of the three results. The kernel's chunks and the reference's reshaped arrays are both read in these terms.
-/
module

public import Idealize.ShloMosaic.PureOps.Ideal
public import Idealize.ShloMosaic.Lib.ValueLayout

@[expose] public section

noncomputable section

namespace Cert.MlpTerms

open Idealize.ShloMosaic Idealize.ShloMosaic.ValueIdx
open scoped BigOperators

/-- The constant two, as the kernel and the reference both write it. -/
abbrev two : EReal := Ideal.ofBits .f32 0x40000000#32

/-- The chunk of `w_up` that holds hidden unit `k`. -/
def chunk (k : Fin 2048) : Fin 8 := ⟨k.val / 512, by omega⟩
/-- The place of hidden unit `k` in its chunk. -/
def place (k : Fin 2048) : Fin 512 := ⟨k.val % 512, Nat.mod_lt _ (by decide)⟩
/-- Hidden unit `k` among the rows of `w_down`. -/
def wide (k : Fin 2048) : Fin 4096 := ⟨k.val, by omega⟩
/-- Hidden unit `j` of chunk `q`. -/
def unit (q : Fin 4) (j : Fin 512) : Fin 2048 := ⟨512 * q.val + j.val, by omega⟩

theorem chunk_unit (q : Fin 4) (j : Fin 512) : (chunk (unit q j)).val = q.val := by
  show (512 * q.val + j.val) / 512 = q.val; omega
theorem place_unit (q : Fin 4) (j : Fin 512) : place (unit q j) = j := Fin.ext (by
  show (512 * q.val + j.val) % 512 = j.val; omega)

variable (Z : (⟨2, ![8192, 1024]⟩ : Shape).Idx → EReal) (U : (⟨3, ![8, 1024, 512]⟩ : Shape).Idx → EReal)
  (D : (⟨2, ![4096, 1024]⟩ : Shape).Idx → EReal) (G : (⟨2, ![8192, 1024]⟩ : Shape).Idx → EReal)

/-- `w_up`'s entry between input `e` and hidden unit `k`. -/
def wup (e : Fin 1024) (k : Fin 2048) : EReal := U (ix3 (chunk k) e (place k))

/-- The pre-activation. -/
def pre (r : Fin 8192) (k : Fin 2048) : EReal := ∑ e : Fin 1024, Z (ix2 r e) * wup U e k

/-- The rectified pre-activation. -/
def act (r : Fin 8192) (k : Fin 2048) : EReal := max (pre Z U r k) 0

/-- The gradient of the activation. -/
def dact (r : Fin 8192) (k : Fin 2048) : EReal := ∑ d : Fin 1024, G (ix2 r d) * D (ix2 (wide k) d)

/-- The gradient of the pre-activation. -/
def du (r : Fin 8192) (k : Fin 2048) : EReal := dact D G r k * (two * act Z U r k)

/-- The gradient of `z`. -/
def dz (r : Fin 8192) (d : Fin 1024) : EReal := ∑ k : Fin 2048, du Z U D G r k * wup U d k

/-- One row's term of the gradient of `w_up`. -/
def upT (k : Fin 2048) (e : Fin 1024) (r : Fin 8192) : EReal := Z (ix2 r e) * du Z U D G r k

/-- One row's term of the gradient of `w_down`. -/
def dnT (k : Fin 2048) (d : Fin 1024) (r : Fin 8192) : EReal := act Z U r k * act Z U r k * G (ix2 r d)

end Cert.MlpTerms

end
-- ==== Proof.Lib.Products.lean ====
/-
  Products of two matrices at the ideal instance, read entry by entry as a sum over the one contracted coordinate, and
  sums over rows taken block by block. The three layouts are rows by columns (`nn`), rows by rows (`nt`: the right
  operand transposed) and columns by columns (`tn`: the left operand transposed, a weight gradient's product).
-/
module

public import Idealize.ShloMosaic.Lib.MatmulPlain
public import Idealize.ShloMosaic.PureOps.Ideal.Laws

@[expose] public section

namespace Cert.Products

open Idealize.ShloMosaic Idealize.ShloMosaic.ValueIdx
open scoped BigOperators

/-- `[K,M]ᵀ × [K,N]`: both operands contracted on their rows. -/
def tn (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp,
    (by decide : (([] ++ [1] ++ [0] : List (Fin 2))).Perm (List.finRange 2)),
    (by decide : (([] ++ [1] ++ [0] : List (Fin 2))).Perm (List.finRange 2)), rfl, Nat.two_pos, fun b => by fin_cases b <;> rfl⟩

theorem tn_rank (K M N : ℕ) : (tn K M N).contr.rank = 1 := rfl
theorem tn_size (K M N : ℕ) : (tn K M N).contr.size ⟨0, by rw [tn_rank]; exact Nat.one_pos⟩ = K := rfl

variable {M K N : ℕ} {φ₁ φ₂ : FTy}

/-- Columns by columns at (i, j): the accumulator plus `Σ_k lhs[k,i] · rhs[k,j]`. -/
theorem matmul_tn {d : DotDims ⟨2, ![K, M]⟩ ⟨2, ![K, N]⟩ ⟨2, ![M, N]⟩} (hd : d = tn K M N) (prec : Option ContractPrecision)
    (lhs : FVec Ideal ⟨2, ![K, M]⟩ φ₁) (rhs : FVec Ideal ⟨2, ![K, N]⟩ φ₂) (acc : FVec Ideal ⟨2, ![M, N]⟩ .f32) (i : Fin M) (j : Fin N) :
    FloatOps.matmul d prec lhs rhs acc (ix2 i j) = acc (ix2 i j) + ∑ k : Fin K, lhs (ix2 k i) * rhs (ix2 k j) := by
  subst hd
  rw [Ideal.matmul_apply, ← Equiv.sum_comp (contrEquiv1 _ K (tn_rank K M N) (tn_size K M N)).symm]
  refine congrArg (acc (ix2 i j) + ·) (Finset.sum_congr rfl fun k _ => ?_)
  have hk := contrEquiv1_symm_val _ K (tn_rank K M N) (tn_size K M N) k
  have el : (tn K M N).lhsIdx (ix2 i j) ((contrEquiv1 _ K (tn_rank K M N) (tn_size K M N)).symm k) = ix2 k i := by
    funext a; apply Fin.ext
    match a with
    | ⟨0, _⟩ => exact hk
    | ⟨1, _⟩ => rfl
  have er : (tn K M N).rhsIdx (ix2 i j) ((contrEquiv1 _ K (tn_rank K M N) (tn_size K M N)).symm k) = ix2 k j := by
    funext a; apply Fin.ext
    match a with
    | ⟨0, _⟩ => exact hk
    | ⟨1, _⟩ => rfl
  rw [el, er]

/-- Rows by columns at (i, j). -/
theorem matmul_nn {d : DotDims ⟨2, ![M, K]⟩ ⟨2, ![K, N]⟩ ⟨2, ![M, N]⟩} (hd : d = DotDims.plain M K N) (prec : Option ContractPrecision)
    (lhs : FVec Ideal ⟨2, ![M, K]⟩ φ₁) (rhs : FVec Ideal ⟨2, ![K, N]⟩ φ₂) (acc : FVec Ideal ⟨2, ![M, N]⟩ .f32) (i : Fin M) (j : Fin N) :
    FloatOps.matmul d prec lhs rhs acc (ix2 i j) = acc (ix2 i j) + ∑ k : Fin K, lhs (ix2 i k) * rhs (ix2 k j) := by
  subst hd; exact Ideal.matmul_plain_apply ..

/-- Rows by rows at (i, j). -/
theorem matmul_nt {d : DotDims ⟨2, ![M, K]⟩ ⟨2, ![N, K]⟩ ⟨2, ![M, N]⟩} (hd : d = DotDims.transposedRhs M K N) (prec : Option ContractPrecision)
    (lhs : FVec Ideal ⟨2, ![M, K]⟩ φ₁) (rhs : FVec Ideal ⟨2, ![N, K]⟩ φ₂) (acc : FVec Ideal ⟨2, ![M, N]⟩ .f32) (i : Fin M) (j : Fin N) :
    FloatOps.matmul d prec lhs rhs acc (ix2 i j) = acc (ix2 i j) + ∑ k : Fin K, lhs (ix2 i k) * rhs (ix2 j k) := by
  subst hd; exact Ideal.matmul_transposedRhs_apply ..

/-- A host product is the product onto a zero accumulator. -/
theorem dot_eq {sl sr so : Shape} (d : DotDims sl sr so) (prec : Option ContractPrecision) (sched : HostSchedule) (l : FVec Ideal sl φ₁)
    (r : FVec Ideal sr φ₂) (j : so.Idx) :
    FloatOps.dotGeneral d prec sched l r j = FloatOps.matmul (F := Ideal) d prec l r (fun _ => (0 : EReal)) j := by
  rw [Ideal.dotGeneral_apply, Ideal.matmul_apply, zero_add]

/-- The host's columns by columns. -/
theorem dot_tn {d : DotDims ⟨2, ![K, M]⟩ ⟨2, ![K, N]⟩ ⟨2, ![M, N]⟩} (hd : d = tn K M N) (prec : Option ContractPrecision)
    (l : FVec Ideal ⟨2, ![K, M]⟩ φ₁) (r : FVec Ideal ⟨2, ![K, N]⟩ φ₂) (i : Fin M) (j : Fin N) :
    Host.dotGeneral d prec l r (ix2 i j) = ∑ k : Fin K, l (ix2 k i) * r (ix2 k j) := by
  simp only [Host.dotGeneral]
  rw [dot_eq, matmul_tn hd, zero_add]

/-- The host's rows by columns. -/
theorem dot_nn {d : DotDims ⟨2, ![M, K]⟩ ⟨2, ![K, N]⟩ ⟨2, ![M, N]⟩} (hd : d = DotDims.plain M K N) (prec : Option ContractPrecision)
    (l : FVec Ideal ⟨2, ![M, K]⟩ φ₁) (r : FVec Ideal ⟨2, ![K, N]⟩ φ₂) (i : Fin M) (j : Fin N) :
    Host.dotGeneral d prec l r (ix2 i j) = ∑ k : Fin K, l (ix2 i k) * r (ix2 k j) := by
  simp only [Host.dotGeneral]
  rw [dot_eq, matmul_nn hd, zero_add]

/-- The host's rows by rows. -/
theorem dot_nt {d : DotDims ⟨2, ![M, K]⟩ ⟨2, ![N, K]⟩ ⟨2, ![M, N]⟩} (hd : d = DotDims.transposedRhs M K N) (prec : Option ContractPrecision)
    (l : FVec Ideal ⟨2, ![M, K]⟩ φ₁) (r : FVec Ideal ⟨2, ![N, K]⟩ φ₂) (i : Fin M) (j : Fin N) :
    Host.dotGeneral d prec l r (ix2 i j) = ∑ k : Fin K, l (ix2 i k) * r (ix2 j k) := by
  simp only [Host.dotGeneral]
  rw [dot_eq, matmul_nt hd, zero_add]

/-- Two functions on a matrix's indices agree if they agree at every pair of coordinates. -/
theorem ext2 {α : Type*} {a b : ℕ} {f g : (⟨2, ![a, b]⟩ : Shape).Idx → α} (h : ∀ i j, f (ix2 i j) = g (ix2 i j)) : f = g :=
  funext fun j => (congrArg f (eq_ix2 j)).trans ((h (j 0) (j 1)).trans (congrArg g (eq_ix2 j)).symm)

/-- The same for a stack of matrices. -/
theorem ext3 {α : Type*} {a b c : ℕ} {f g : (⟨3, ![a, b, c]⟩ : Shape).Idx → α} (h : ∀ i j k, f (ix3 i j k) = g (ix3 i j k)) : f = g :=
  funext fun j => (congrArg f (eq_ix3 j)).trans ((h (j 0) (j 1) (j 2)).trans (congrArg g (eq_ix3 j)).symm)

/-- The zero word is the number zero. -/
theorem zero_word : (Scalar.ofBits .f32 0x00000000#32 : Ideal .f32) = (0 : EReal) := by
  simp [Scalar.ofBits]

end Cert.Products

namespace Cert.Blocks

open scoped BigOperators

variable {A : Type*} [AddCommMonoid A] {n : ℕ}

/-- The sum of the terms before position `k`. -/
def upTo (f : Fin n → A) (k : ℕ) : A := ∑ r ∈ Finset.univ.filter (fun r : Fin n => r.val < k), f r

/-- Before position 0 there is no term. -/
theorem upTo_zero (f : Fin n → A) : upTo f 0 = 0 := by simp [upTo]

/-- Before the end lie all the terms. -/
theorem upTo_all (f : Fin n → A) : upTo f n = ∑ r, f r := by
  unfold upTo; rw [Finset.filter_true_of_mem fun r _ => r.isLt]

/-- One block more: the terms before `k + b` are those before `k` and the `b` terms from `k` on. -/
theorem upTo_add (f : Fin n → A) (k b : ℕ) (h : k + b ≤ n) :
    upTo f (k + b) = upTo f k + ∑ q : Fin b, f ⟨k + q.val, by omega⟩ := by
  unfold upTo
  let e : Fin b ↪ Fin n := ⟨fun q => ⟨k + q.val, by omega⟩, fun a b hab => Fin.ext (by have := congrArg Fin.val hab; simp at this; omega)⟩
  have hs : (Finset.univ.filter fun r : Fin n => r.val < k + b)
      = (Finset.univ.filter fun r : Fin n => r.val < k) ∪ Finset.univ.map e := by
    ext r
    simp only [Finset.mem_filter, Finset.mem_univ, true_and, Finset.mem_union, Finset.mem_map]
    constructor
    · intro hr
      by_cases hk : r.val < k
      · exact Or.inl hk
      · exact Or.inr ⟨⟨r.val - k, by omega⟩, Fin.ext (by show k + (r.val - k) = r.val; omega)⟩
    · rintro (hr | ⟨q, rfl⟩)
      · omega
      · show k + q.val < k + b; omega
  have hd : Disjoint (Finset.univ.filter fun r : Fin n => r.val < k) (Finset.univ.map e) := by
    rw [Finset.disjoint_left]
    intro r hr hm
    simp only [Finset.mem_filter, Finset.mem_univ, true_and, Finset.mem_map] at hr hm
    obtain ⟨q, rfl⟩ := hm
    have : k + q.val < k := hr
    omega
  rw [hs, Finset.sum_union hd, Finset.sum_map]
  rfl

end Cert.Blocks
-- ==== Proof.MlpBwd.Blocks.lean ====
/-
  The blocks a point of the MLP gradient works on, entry by entry: its rows of the two gradients' factors, its rows of the
  pre-activation computed before the call, and the first halves of the two weights.
-/
module

public import proofs.«01_k».proof.Proof.MlpBwd.Terms
public import proofs.«01_k».proof.Proof.Lib.Products
public import proofs.«01_k».proof.Proof.Gen.MlpBwdIdeal.Frame
public import Idealize.ShloMosaic.Lib.StableHlo.Run

@[expose] public section

set_option maxRecDepth 16384

noncomputable section

namespace Cert.MlpBwdIdeal.Blocks

open Cert.MlpBwdIdeal Cert.MlpBwdIdeal.Gen Cert.MlpTerms
open Idealize.ShloMosaic Idealize.ShloMosaic.TcCoe Idealize.ShloMosaic.ValueIdx Idealize.SL.Sem
open scoped BigOperators

variable (m : (ℓ : Loc nD τ sig) → Buf (Elt Ideal) ℓ)

/-- The MLP's input. -/
abbrev argZ (c : Dev nD) : FVec Ideal S8192x1024 .f32 := m ((c : Thread nD τ).loc main_arg0)
/-- `w_up`. -/
abbrev argU (c : Dev nD) : FVec Ideal S8x1024x512 .f32 := m ((c : Thread nD τ).loc main_arg1)
/-- `w_down`. -/
abbrev argD (c : Dev nD) : FVec Ideal S4096x1024 .f32 := m ((c : Thread nD τ).loc main_arg2)
/-- The incoming gradient. -/
abbrev argG (c : Dev nD) : FVec Ideal S8192x1024 .f32 := m ((c : Thread nD τ).loc main_arg3)

/-- Which block each window takes at a point. -/
theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = 0 ∧ win0_3.index t 1 = 0 ∧ win0_3.index t 2 = 0 := by decide +kernel
theorem idx4 : ∀ t : Fin cfg0.N, win0_4.index t 0 = 0 ∧ win0_4.index t 1 = 0 := by decide +kernel
theorem idx5 : ∀ t : Fin cfg0.N, win0_5.index t 0 = t.val ∧ win0_5.index t 1 = 0 := by decide +kernel

/-- Row `r` of point `t`'s block. -/
def rowOf (t : Fin cfg0.N) (r : Fin 512) : Fin 8192 := ⟨512 * t.val + r.val, by
  have := lt_of_lt_of_eq t.isLt (show cfg0.N = 16 from N_0); omega⟩

/-- The incoming gradient's block: that point's rows. -/
theorem blkG (c : Dev nD) (t : Fin cfg0.N) (r : Fin 512) (d : Fin 1024) : iblk m c 0 t (ix2 r d) = argG m c (ix2 (rowOf t r) d) := by
  unfold iblk
  rw [View.read_apply]
  show V m c main_arg3 _ = _
  rw [V_main_arg3]
  show m ((c : Thread nD τ).loc main_arg3) _ = m ((c : Thread nD τ).loc main_arg3) _
  congr 1
  funext a
  apply Fin.ext
  match a with
  | ⟨0, _⟩ => show win0_0.index t 0 * 512 + 1 * r.val = 512 * t.val + r.val; rw [(idx0 t).1]; omega
  | ⟨1, _⟩ => show win0_0.index t 1 * 1024 + 1 * d.val = d.val; rw [(idx0 t).2]; omega

/-- The input's block. -/
theorem blkZ (c : Dev nD) (t : Fin cfg0.N) (r : Fin 512) (d : Fin 1024) : iblk m c 1 t (ix2 r d) = argZ m c (ix2 (rowOf t r) d) := by
  unfold iblk
  rw [View.read_apply]
  have hV : (V m c main_v0 : FVec Ideal S8192x1024 .bf16) = truncf (F := Ideal) .bf16 (m ((c : Thread nD τ).loc main_arg0)) bitsLt_bf16_f32 := by
    unfold V; after_results
  show (V m c main_v0 : FVec Ideal S8192x1024 .bf16) _ = _
  rw [hV]
  show m ((c : Thread nD τ).loc main_arg0) _ = m ((c : Thread nD τ).loc main_arg0) _
  congr 1
  funext a
  apply Fin.ext
  match a with
  | ⟨0, _⟩ => show win0_1.index t 0 * 512 + 1 * r.val = 512 * t.val + r.val; rw [(idx1 t).1]; omega
  | ⟨1, _⟩ => show win0_1.index t 1 * 1024 + 1 * d.val = d.val; rw [(idx1 t).2]; omega

/-- `w_up`'s block: the first four chunks. -/
theorem blkU (c : Dev nD) (t : Fin cfg0.N) (k : Fin 2048) (e : Fin 1024) (q : Fin 4) (j : Fin 512) (hq : q.val = (chunk k).val) (hj : j = place k) :
    iblk m c 3 t (ix3 q e j) = wup (argU m c) e k := by
  subst hj
  unfold iblk
  rw [View.read_apply]
  have hV : (V m c main_v1 : FVec Ideal S8x1024x512 .bf16) = truncf (F := Ideal) .bf16 (m ((c : Thread nD τ).loc main_arg1)) bitsLt_bf16_f32 := by
    unfold V; after_results
  show (V m c main_v1 : FVec Ideal S8x1024x512 .bf16) _ = _
  rw [hV]
  unfold wup
  show m ((c : Thread nD τ).loc main_arg1) _ = m ((c : Thread nD τ).loc main_arg1) _
  congr 1
  funext a
  apply Fin.ext
  match a with
  | ⟨0, _⟩ => show win0_3.index t 0 * 4 + 1 * q.val = (chunk k).val; rw [(idx3 t).1]; omega
  | ⟨1, _⟩ => show win0_3.index t 1 * 1024 + 1 * e.val = e.val; rw [(idx3 t).2.1]; omega
  | ⟨2, _⟩ => show win0_3.index t 2 * 512 + 1 * (place k).val = (place k).val; rw [(idx3 t).2.2]; omega

/-- `w_down`'s block: the first rows. -/
theorem blkD (c : Dev nD) (t : Fin cfg0.N) (k : Fin 2048) (d : Fin 1024) : iblk m c 4 t (ix2 k d) = argD m c (ix2 (wide k) d) := by
  unfold iblk
  rw [View.read_apply]
  have hV : (V m c main_v2 : FVec Ideal S4096x1024 .bf16) = truncf (F := Ideal) .bf16 (m ((c : Thread nD τ).loc main_arg2)) bitsLt_bf16_f32 := by
    unfold V; after_results
  show (V m c main_v2 : FVec Ideal S4096x1024 .bf16) _ = _
  rw [hV]
  show m ((c : Thread nD τ).loc main_arg2) _ = m ((c : Thread nD τ).loc main_arg2) _
  congr 1
  funext a
  apply Fin.ext
  match a with
  | ⟨0, _⟩ => show win0_4.index t 0 * 2048 + 1 * k.val = k.val; rw [(idx4 t).1]; omega
  | ⟨1, _⟩ => show win0_4.index t 1 * 1024 + 1 * d.val = d.val; rw [(idx4 t).2]; omega

/-- One chunk of the pre-activation, as the program computes it before the call. -/
def piece (A : FVec Ideal S8192x1024 .f32) (U : FVec Ideal S8x1024x512 .f32) (p : ℕ) (h : S8x1024x512.Slices ![p, 0, 0] S1x1024x512) : FVec Ideal S8192x512 .bf16 :=
  truncf .bf16 (Host.dotGeneral dot_S8192x1024_S1024x512_S8192x512_1_0_0_1_n_n none (truncf .bf16 A bitsLt_bf16_f32)
    (shapeCast S1024x512 (extractStridedSlice S1x1024x512 ![p, 0, 0] (truncf .bf16 U bitsLt_bf16_f32) h) shapeCasts_S1x1024x512_S1024x512)) bitsLt_bf16_f32

/-- A chunk's entries. -/
theorem piece_apply (A : FVec Ideal S8192x1024 .f32) (U : FVec Ideal S8x1024x512 .f32) (p : ℕ) (h : S8x1024x512.Slices ![p, 0, 0] S1x1024x512)
    (r : Fin 8192) (j : Fin 512) (k : Fin 2048) (hp : p = (chunk k).val) (hj : j = place k) : piece A U p h (ix2 r j) = pre A U r k := by
  unfold piece pre
  refine (Cert.Products.dot_nn (φ₁ := .bf16) (φ₂ := .bf16) rfl none _ _ r j).trans (Finset.sum_congr rfl fun e _ => ?_)
  refine congrArg (A (ix2 r e) * ·) ((shapeCast_1ab_ab_apply _ _ _ _).trans ?_)
  unfold wup
  subst hj
  exact extractStridedSlice_apply _ _ _ _ _ fun a => match a with
    | ⟨0, _⟩ => by show (chunk k).val = p + 0; omega
    | ⟨1, _⟩ => (Nat.zero_add _).symm
    | ⟨2, _⟩ => (Nat.zero_add _).symm

/-- The eight chunks. -/
def chunks (A : FVec Ideal S8192x1024 .f32) (U : FVec Ideal S8x1024x512 .f32) : List ((s : Shape) × (s.Idx → EReal)) :=
  [⟨S8192x512, piece A U 0 slices_S8x1024x512_S1x1024x512_0_0_0⟩, ⟨S8192x512, piece A U 1 slices_S8x1024x512_S1x1024x512_1_0_0⟩,
    ⟨S8192x512, piece A U 2 slices_S8x1024x512_S1x1024x512_2_0_0⟩, ⟨S8192x512, piece A U 3 slices_S8x1024x512_S1x1024x512_3_0_0⟩,
    ⟨S8192x512, piece A U 4 slices_S8x1024x512_S1x1024x512_4_0_0⟩, ⟨S8192x512, piece A U 5 slices_S8x1024x512_S1x1024x512_5_0_0⟩,
    ⟨S8192x512, piece A U 6 slices_S8x1024x512_S1x1024x512_6_0_0⟩, ⟨S8192x512, piece A U 7 slices_S8x1024x512_S1x1024x512_7_0_0⟩]

/-- The eight chunks side by side. -/
def pieces (A : FVec Ideal S8192x1024 .f32) (U : FVec Ideal S8x1024x512 .f32) : FVec Ideal S8192x4096 .bf16 :=
  concatenate S8192x4096 1 (chunks A U) concatenates_S8192x512_S8192x512_S8192x512_S8192x512_S8192x512_S8192x512_S8192x512_S8192x512_S8192x4096_d1

/-- The first four chunks' columns are the pre-activation. -/
theorem pieces_apply (A : FVec Ideal S8192x1024 .f32) (U : FVec Ideal S8x1024x512 .f32) (r : Fin 8192) (k : Fin 2048) :
    pieces A U (ix2 r (wide k)) = pre A U r k := by
  have hc : (chunk k).val = 0 ∨ (chunk k).val = 1 ∨ (chunk k).val = 2 ∨ (chunk k).val = 3 := by
    show k.val / 512 = 0 ∨ k.val / 512 = 1 ∨ k.val / 512 = 2 ∨ k.val / 512 = 3; omega
  have hs : 512 * (chunk k).val + (place k).val = k.val := by
    show 512 * (k.val / 512) + k.val % 512 = k.val; omega
  have off : ∀ b : Fin S8192x512.rank, b.cast (rfl : S8192x512.rank = S8192x4096.rank) ≠ 1 → ((ix2 r (place k) : S8192x512.Idx) b).val = ((ix2 r (wide k) : S8192x4096.Idx) (b.cast (rfl : S8192x512.rank = S8192x4096.rank))).val :=
    fun b hb => match b with
      | ⟨0, _⟩ => rfl
      | ⟨1, _⟩ => absurd rfl hb
  unfold pieces
  rcases hc with h | h | h | h
  · refine Eq.trans (concatenate_apply_piece (t := S8192x4096) 1 (chunks A U) _ (ix2 r (wide k)) 0 (show 0 < 8 by decide) S8192x512 _ rfl rfl 0 rfl (ix2 r (place k)) off ?_) (piece_apply A U _ _ r _ k h.symm rfl)
    show 0 + (place k).val = k.val; omega
  · refine Eq.trans (concatenate_apply_piece (t := S8192x4096) 1 (chunks A U) _ (ix2 r (wide k)) 1 (show 1 < 8 by decide) S8192x512 _ rfl rfl 512 rfl (ix2 r (place k)) off ?_) (piece_apply A U _ _ r _ k h.symm rfl)
    show 512 + (place k).val = k.val; omega
  · refine Eq.trans (concatenate_apply_piece (t := S8192x4096) 1 (chunks A U) _ (ix2 r (wide k)) 2 (show 2 < 8 by decide) S8192x512 _ rfl rfl 1024 rfl (ix2 r (place k)) off ?_) (piece_apply A U _ _ r _ k h.symm rfl)
    show 1024 + (place k).val = k.val; omega
  · refine Eq.trans (concatenate_apply_piece (t := S8192x4096) 1 (chunks A U) _ (ix2 r (wide k)) 3 (show 3 < 8 by decide) S8192x512 _ rfl rfl 1536 rfl (ix2 r (place k)) off ?_) (piece_apply A U _ _ r _ k h.symm rfl)
    show 1536 + (place k).val = k.val; omega

/-- The pre-activation the region finds. -/
theorem V_pre (c : Dev nD) : (V m c main_v35 : FVec Ideal S8192x4096 .bf16) = pieces (argZ m c) (argU m c) := by
  unfold V
  after_results
  rfl

/-- The pre-activation's block. -/
theorem blkP (c : Dev nD) (t : Fin cfg0.N) (r : Fin 512) (k : Fin 2048) : iblk m c 2 t (ix2 r k) = pre (argZ m c) (argU m c) (rowOf t r) k := by
  unfold iblk
  rw [View.read_apply]
  show (V m c main_v35 : FVec Ideal S8192x4096 .bf16) _ = _
  rw [V_pre, ← pieces_apply]
  congr 1
  funext a
  apply Fin.ext
  match a with
  | ⟨0, _⟩ => show win0_2.index t 0 * 512 + 1 * r.val = 512 * t.val + r.val; rw [(idx2 t).1]; omega
  | ⟨1, _⟩ => show win0_2.index t 1 * 2048 + 1 * k.val = k.val; rw [(idx2 t).2]; omega

end Cert.MlpBwdIdeal.Blocks

end
-- ==== Proof.Lib.Whole.lean ====
module

public import Idealize.ShloMosaic.Lib.Pipeline.Value

/-!
Reading back a buffer after stores through the whole shape: the last such store is what a load sees.
-/

@[expose] public section

noncomputable section

namespace Cert.Whole

open Idealize.ShloMosaic

variable {Val : EltTy → Type} [∀ e, Nonempty (Val e)] {sig : RefSig} {κ : Kind} {sp : Space} {S : Shape} {e : EltTy}

/-- The zero offsets of a rank-2 shape. -/
theorem hz2 : (![0, 0] : Fin 2 → Nat) = fun _ => 0 := funext fun a => by fin_cases a <;> rfl

/-- The zero offsets of a rank-3 shape. -/
theorem hz3 : (![0, 0, 0] : Fin 3 → Nat) = fun _ => 0 := funext fun a => by fin_cases a <;> rfl

/-- After one store through the whole shape, last, the view reads the value stored. -/
theorem read_cons (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w L]

end Cert.Whole

end
-- ==== Proof.Lib.Stores.lean ====
/-
  Stores through unit-stride rectangles read back: at an index, and by a load through a rectangle that meets none or all
  of what a store wrote.
-/
module

public import proofs.«01_k».proof.Proof.Lib.Whole
public import Idealize.ShloMosaic.Lib.Pipeline.ValueKit.Tiles

@[expose] public section

noncomputable section

namespace Cert.Stores

open Idealize.ShloMosaic

variable {Val : EltTy → Type} [∀ e, Nonempty (Val e)] {sig : RefSig} {κ : Kind} {sp : Space} {S : Shape} {e : EltTy}

/-- Pieces that agree with one function and hold an index decide it, whatever was stored before them. -/
theorem canon_append (G : S.Idx → Val e) (L₂ : List (View.Piece Val S e)) :
    ∀ (L : List (View.Piece Val S e)) (_ : ∀ p ∈ L, ∀ x : p.1.shape.Idx, p.2 x = G (p.1.emb x)) (y : S.Idx)
      (_ : ∃ p ∈ L, y ∈ p.1.set), View.canon (L ++ L₂) y = G y
  | [], _, _, hy => by obtain ⟨p, hp, _⟩ := hy; simp at hp
  | p :: L, hL, y, hy => by
    rw [List.cons_append]
    by_cases hm : y ∈ p.1.set
    · obtain ⟨x, rfl⟩ := p.1.exists_idx_of_mem hm
      rw [show p.1.idx x = p.1.emb x from rfl, View.canon_cons_emb]
      exact hL p List.mem_cons_self x
    · rw [View.canon_cons_of_not_mem _ _ hm]
      refine canon_append G L₂ L (fun q hq => hL q (List.mem_cons_of_mem _ hq)) y ?_
      obtain ⟨q, hq, hyq⟩ := hy
      rcases List.mem_cons.mp hq with rfl | hq'
      · exact absurd hyq hm
      · exact ⟨q, hq', hyq⟩

/-- A load through a rectangle apart from the last store's does not see that store. -/
theorem readCov_off (v : View sig κ sp S e) {off size off' size' : Fin S.rank → Nat} (inb : ∀ a, off a + size a ≤ S.size a)
    (inb' : ∀ a, off' a + size' a ≤ S.size a) (w : (Rect.unit off size inb).shape.Idx → Val e) (L : List (View.Piece Val S e))
    (a : Fin S.rank) (h : off' a + size' a ≤ off a ∨ off a + size a ≤ off' a) :
    v.readCov ((⟨Rect.unit off size inb, w⟩ : View.Piece Val S e) :: L) (Rect.unit off' size' inb').toLoadRect
      = v.readCov L (Rect.unit off' size' inb').toLoadRect := by
  rw [View.readCov_eq_canon', View.readCov_eq_canon']
  funext j
  refine View.canon_cons_of_not_mem _ _ fun hm => ?_
  have hm' : (Rect.unit off' size' inb').idx j ∈ (Rect.unit off size inb).set := hm
  have h1 := Rect.mem_set_unit.mp hm' a
  have h2 : (((Rect.unit off' size' inb').toLoadRect.idx j) a : Nat) = off' a + j a := Rect.idx_unit_val off' size' inb' j a
  have h3 : (j a : Nat) < size' a := (j a).isLt
  omega

/-- A load after one store through the whole shape reads what was stored. -/
theorem readCov_whole (v : View sig κ sp S e) {off off' size' : Fin S.rank → Nat} (h : off = fun _ => 0)
    (inb : ∀ a, off a + S.size a ≤ S.size a) (inb' : ∀ a, off' a + size' a ≤ S.size a) (w : S.Idx → Val e)
    (L : List (View.Piece Val S e)) :
    v.readCov ((⟨Rect.unit off S.size inb, w⟩ : View.Piece Val S e) :: L) (Rect.unit off' size' inb').toLoadRect
      = View.ld w (Rect.unit off' size' inb') := by
  rw [View.readCov_eq_canon', View.canon_cons_unit_zero h]

/-- A load through the rectangle just stored through reads what was stored. -/
theorem readCov_same (v : View sig κ sp S e) {off size : Fin S.rank → Nat} (inb inb' : ∀ a, off a + size a ≤ S.size a)
    (w : (Rect.unit off size inb).shape.Idx → Val e) (L : List (View.Piece Val S e)) :
    v.readCov ((⟨Rect.unit off size inb, w⟩ : View.Piece Val S e) :: L) (Rect.unit off size inb').toLoadRect = w := by
  rw [View.readCov_eq_canon']
  funext j
  exact View.canon_cons_emb (Rect.unit off size inb) w L j

/-- Stores over known contents read back as those stores after one that stored the contents. -/
theorem read_writes_onto (v : View sig κ sp S e) (f : v.ty.Contents Val) (x : S.Idx → Val e) (hf : v.read Val f = x)
    {off : Fin S.rank → Nat} (h : off = fun _ => 0) (inb : ∀ a, off a + S.size a ≤ S.size a) :
    ∀ L : List (View.Piece Val S e), v.read Val (v.writes Val f L) = View.canon (L ++ [⟨Rect.unit off S.size inb, x⟩])
  | [] => hf.trans (View.canon_unit_zero h inb x).symm
  | ⟨r, w⟩ :: L => by
    funext y
    by_cases hm : y ∈ r.set
    · obtain ⟨j, rfl⟩ := r.exists_idx_of_mem hm
      rw [show r.idx j = r.emb j from rfl, List.cons_append, View.read_writes_cons_emb, View.canon_cons_emb]
    · rw [List.cons_append, View.read_writes_cons_miss v f _ L y hm, View.canon_cons_of_not_mem _ _ hm]
      exact congrFun (read_writes_onto v f x hf h inb L) y

end Cert.Stores

end
-- ==== Proof.MlpBwd.Entries.lean ====
/-
  The values one point of the MLP gradient computes, entry by entry at the ideal instance. With `u` the saved
  pre-activation, `g` the incoming gradient and `z` the normalised input, a point adds to its accumulators the rows it
  holds: the gradient of the pre-activation is `(g · w_downᵀ) · (2 max(u, 0))`, that of `w_up` is `zᵀ` times it, that of
  `w_down` is `max(u, 0)²ᵀ · g`, and that of `z` is it times `w_upᵀ`. The kernel goes through the 2048 columns in four
  chunks of 512.
-/
module

public import proofs.«01_k».proof.Proof.Gen.MlpBwdIdeal.Skeleton
public import proofs.«01_k».proof.Proof.Lib.Products
public import proofs.«01_k».proof.Proof.Lib.Stores
public import Idealize.ShloMosaic.Lib.ValueLayout

@[expose] public section

set_option maxRecDepth 16384

noncomputable section

namespace Cert.MlpBwdIdeal.Point

open Cert.MlpBwdIdeal Cert.MlpBwdIdeal.Gen
open Idealize.ShloMosaic Idealize.ShloMosaic.ValueIdx
open scoped BigOperators

/-- The constant two, as the kernel and the reference both write it. -/
abbrev two : EReal := Ideal.ofBits .f32 0x40000000#32

/-- Column `j` of chunk `c`. -/
def col (c : Fin 4) (j : Fin 512) : Fin 2048 := ⟨512 * c.val + j.val, by omega⟩

variable (x0 : Vec Ideal S512x1024 .f32) (x1 : Vec Ideal S512x1024 .bf16) (x2 : Vec Ideal S512x2048 .bf16)
  (x3 : Vec Ideal S4x1024x512 .bf16) (x4 : Vec Ideal S2048x1024 .bf16) (xs0 : Vec Ideal S4x1024x512 .f32) (xs1 : Vec Ideal S2048x1024 .f32)

/-- The rectified pre-activation. -/
def relu (r : Fin 512) (k : Fin 2048) : EReal := max (x2 (ix2 r k)) 0

/-- The gradient of the pre-activation. -/
def dup (r : Fin 512) (k : Fin 2048) : EReal :=
  (∑ d : Fin 1024, (x0 (ix2 r d) : EReal) * x4 (ix2 k d)) * (two * relu x2 r k)

/-- The accumulator of the gradient of `w_up` after the point. -/
def upG : Vec Ideal S4x1024x512 .f32 := fun y =>
  (xs0 y : EReal) + ∑ r : Fin 512, (x1 (ix2 r (y 1)) : EReal) * dup x0 x2 x4 r (col (y 0) (y 2))

/-- The accumulator of the gradient of `w_down` after the point. -/
def dnG : Vec Ideal S2048x1024 .f32 := fun y =>
  (xs1 y : EReal) + ∑ r : Fin 512, (relu x2 r (y 0) * relu x2 r (y 0)) * (x0 (ix2 r (y 1)) : EReal)

/-- One term of the gradient of `z`. -/
def dzTerm (r : Fin 512) (d : Fin 1024) (k : Fin 2048) : EReal :=
  dup x0 x2 x4 r k * (x3 (ix3 (⟨k.val / 512, by omega⟩ : Fin 4) d (⟨k.val % 512, Nat.mod_lt _ (by decide)⟩ : Fin 512)) : EReal)

/-- The gradient of `z` the point writes. -/
def dzG : Vec Ideal S512x1024 .f32 := fun y => ∑ k : Fin 2048, dzTerm x0 x2 x3 x4 (y 0) (y 1) k

/-! ## The kernel's pure values -/

theorem pay13_eq (v : Vec Ideal S512x1024 .f32) : k0_pay13 v = v := rfl
theorem pay14_eq (v : Vec Ideal S512x1024 .bf16) : k0_pay14 v = v := shapeCast_self ..

theorem pay23_apply (v4 : Vec Ideal S512x1024 .bf16) (v39 : Vec Ideal S512x512 .bf16) (v44 : Vec Ideal S512x1024 .bf16) (r k : Fin 512) :
    k0_pay23 v4 v39 v44 (ix2 r k) = (∑ d : Fin 1024, (v4 (ix2 r d) : EReal) * v44 (ix2 k d)) * (two * max (v39 (ix2 r k) : EReal) 0) := by
  unfold k0_pay23 k0_pay22
  simp only [shapeCast_self]
  refine congrArg₂ (· * ·) ((Cert.Products.matmul_nt (φ₁ := .bf16) (φ₂ := .bf16) rfl none v4 v44 _ r k).trans ?_)
    (congrArg (two * ·) (congrArg (max (v39 (ix2 r k) : EReal)) Cert.Products.zero_word))
  show Ideal.ofBits .f32 0x00000000#32 + _ = _
  rw [Ideal.ofBits_zero_f32, zero_add]

theorem pay24_apply (v4 : Vec Ideal S512x1024 .bf16) (v39 : Vec Ideal S512x512 .bf16) (v51 : Vec Ideal S512x1024 .f32) (k : Fin 512) (d : Fin 1024) :
    k0_pay24 v4 v39 v51 (ix2 k d) = v51 (ix2 k d) + ∑ r : Fin 512, (max (v39 (ix2 r k) : EReal) 0 * max (v39 (ix2 r k) : EReal) 0) * v4 (ix2 r d) := by
  unfold k0_pay24 k0_pay22
  simp only [shapeCast_self]
  refine congrArg (v51 (ix2 k d) + ·) ((Cert.Products.matmul_tn (φ₁ := .bf16) (φ₂ := .bf16) rfl none _ v4 _ k d).trans ?_)
  show Ideal.ofBits .f32 0x00000000#32 + _ = _
  rw [Ideal.ofBits_zero_f32, zero_add]
  refine Finset.sum_congr rfl fun r _ => congrArg (· * (v4 (ix2 r d) : EReal)) ?_
  exact congrArg₂ (· * ·) (congrArg (max (v39 (ix2 r k) : EReal)) Cert.Products.zero_word) (congrArg (max (v39 (ix2 r k) : EReal)) Cert.Products.zero_word)

theorem pay25_apply (v4 v6 : Vec Ideal S512x1024 .bf16) (v39 : Vec Ideal S512x512 .bf16) (v44 : Vec Ideal S512x1024 .bf16)
    (v59 : Vec Ideal S1x1024x512 .f32) (i : Fin 1024) (j : Fin 512) :
    k0_pay25 v4 v6 v39 v44 v59 (ix3 (0 : Fin 1) i j)
      = v59 (ix3 (0 : Fin 1) i j) + ∑ r : Fin 512, (v6 (ix2 r i) : EReal) * k0_pay23 v4 v39 v44 (ix2 r j) := by
  unfold k0_pay25
  refine (shapeCast_ab_1ab_apply _ _ _ _ _).trans ?_
  refine congrArg₂ (· + ·) (shapeCast_1ab_ab_apply _ _ _ _) ((Cert.Products.matmul_tn (φ₁ := .bf16) (φ₂ := .bf16) rfl none v6 _ _ i j).trans ?_)
  show Ideal.ofBits .f32 0x00000000#32 + _ = _
  rw [Ideal.ofBits_zero_f32, zero_add]

theorem pay21_apply (v7 : Vec Ideal S512x1024 .f32) (v19 : Vec Ideal S512x512 .bf16) (v35 : Vec Ideal S1x1024x512 .bf16) (r : Fin 512) (d : Fin 1024) :
    k0_pay21 v7 v19 v35 (ix2 r d) = v7 (ix2 r d) + ∑ j : Fin 512, (v19 (ix2 r j) : EReal) * v35 (ix3 (0 : Fin 1) d j) := by
  unfold k0_pay21
  refine congrArg (v7 (ix2 r d) + ·) ((Cert.Products.matmul_nt (φ₁ := .bf16) (φ₂ := .bf16) rfl none v19 _ _ r d).trans ?_)
  show Ideal.ofBits .f32 0x00000000#32 + _ = _
  rw [Ideal.ofBits_zero_f32, zero_add]
  exact Finset.sum_congr rfl fun j _ => congrArg ((v19 (ix2 r j) : EReal) * ·) (shapeCast_1ab_ab_apply _ _ _ _)

/-! ## The chunks -/

theorem chunk_dup (c : Fin 4) (o : ℕ) (ho : o = 512 * c.val) (inb2 : ∀ a, (![0, o] : Fin 2 → ℕ) a + (![512, 512] : Fin 2 → ℕ) a ≤ S512x2048.size a)
    (inb4 : ∀ a, (![o, 0] : Fin 2 → ℕ) a + (![512, 1024] : Fin 2 → ℕ) a ≤ S2048x1024.size a) (r j : Fin 512) :
    k0_pay23 x0 (View.ld x2 (Rect.unit ![0, o] ![512, 512] inb2)) (View.ld x4 (Rect.unit ![o, 0] ![512, 1024] inb4)) (ix2 r j)
      = dup x0 x2 x4 r (col c j) := by
  subst ho
  refine (pay23_apply _ _ _ r j).trans ?_
  unfold dup relu
  refine congrArg₂ (· * ·) (Finset.sum_congr rfl fun d _ => congrArg ((x0 (ix2 r d) : EReal) * ·) ?_) (congrArg (fun t => two * max t 0) ?_)
  · refine View.ld_unit_apply_of x4 _ _ _ _ (ix2 (col c j) d) fun a => ?_
    match a with
    | ⟨0, _⟩ => rfl
    | ⟨1, _⟩ => exact (Nat.zero_add _).symm
  · refine View.ld_unit_apply_of x2 _ _ _ _ (ix2 r (col c j)) fun a => ?_
    match a with
    | ⟨0, _⟩ => exact (Nat.zero_add _).symm
    | ⟨1, _⟩ => rfl

theorem chunk_up (c : Fin 4) (o k : ℕ) (ho : o = 512 * c.val) (hk : k = c.val) (inb2 : ∀ a, (![0, o] : Fin 2 → ℕ) a + (![512, 512] : Fin 2 → ℕ) a ≤ S512x2048.size a)
    (inb4 : ∀ a, (![o, 0] : Fin 2 → ℕ) a + (![512, 1024] : Fin 2 → ℕ) a ≤ S2048x1024.size a)
    (inbS : ∀ a, (![k, 0, 0] : Fin 3 → ℕ) a + (![1, 1024, 512] : Fin 3 → ℕ) a ≤ S4x1024x512.size a) (x : S1x1024x512.Idx) :
    k0_pay25 x0 x1 (View.ld x2 (Rect.unit ![0, o] ![512, 512] inb2)) (View.ld x4 (Rect.unit ![o, 0] ![512, 1024] inb4))
        (View.ld xs0 (Rect.unit ![k, 0, 0] ![1, 1024, 512] inbS)) x
      = upG x0 x1 x2 x4 xs0 ((Rect.unit (s := S4x1024x512) ![k, 0, 0] ![1, 1024, 512] inbS).emb x) := by
  subst hk
  have e : (Rect.unit (s := S4x1024x512) ![c.val, 0, 0] ![1, 1024, 512] inbS).emb x = (ix3 c (x 1) (x 2) : S4x1024x512.Idx) := by
    funext a
    apply Fin.ext
    refine (Rect.idx_unit_val _ _ _ x a).trans ?_
    match a with
    | ⟨0, _⟩ => have h0 : (x 0).val < 1 := (x 0).isLt
                show c.val + (x 0).val = c.val; omega
    | ⟨1, _⟩ => exact Nat.zero_add _
    | ⟨2, _⟩ => exact Nat.zero_add _
  rw [e]
  have ex : x = (ix3 (0 : Fin 1) (x 1) (x 2) : S1x1024x512.Idx) := (eq_ix3 x).trans (congrArg (fun t : Fin 1 => (ix3 t (x 1) (x 2) : S1x1024x512.Idx)) (Subsingleton.elim _ _))
  rw [ex]
  refine (pay25_apply _ _ _ _ _ _ _).trans ?_
  refine congrArg₂ (· + ·) ?_ (Finset.sum_congr rfl fun r _ => congrArg ((x1 (ix2 r (x 1)) : EReal) * ·) (chunk_dup x0 x2 x4 c o ho inb2 inb4 r (x 2)))
  refine View.ld_unit_apply_of xs0 _ _ _ _ _ fun a => ?_
  match a with
  | ⟨0, _⟩ => rfl
  | ⟨1, _⟩ => exact (Nat.zero_add _).symm
  | ⟨2, _⟩ => exact (Nat.zero_add _).symm

theorem chunk_dn (c : Fin 4) (o : ℕ) (ho : o = 512 * c.val) (inb2 : ∀ a, (![0, o] : Fin 2 → ℕ) a + (![512, 512] : Fin 2 → ℕ) a ≤ S512x2048.size a)
    (inbS : ∀ a, (![o, 0] : Fin 2 → ℕ) a + (![512, 1024] : Fin 2 → ℕ) a ≤ S2048x1024.size a) (x : S512x1024.Idx) :
    k0_pay24 x0 (View.ld x2 (Rect.unit ![0, o] ![512, 512] inb2)) (View.ld xs1 (Rect.unit ![o, 0] ![512, 1024] inbS)) x
      = dnG x0 x2 xs1 ((Rect.unit (s := S2048x1024) ![o, 0] ![512, 1024] inbS).emb x) := by
  subst ho
  have e : (Rect.unit (s := S2048x1024) ![512 * c.val, 0] ![512, 1024] inbS).emb x = (ix2 (col c (x 0)) (x 1) : S2048x1024.Idx) := by
    funext a
    apply Fin.ext
    refine (Rect.idx_unit_val _ _ _ x a).trans ?_
    match a with
    | ⟨0, _⟩ => rfl
    | ⟨1, _⟩ => exact Nat.zero_add _
  rw [e]
  refine (congrArg _ (eq_ix2 x)).trans ((pay24_apply _ _ _ _ _).trans ?_)
  refine congrArg₂ (· + ·) ?_ (Finset.sum_congr rfl fun r _ => congrArg (fun t : EReal => max t 0 * max t 0 * (x0 (ix2 r (x 1)) : EReal)) ?_)
  · refine View.ld_unit_apply_of xs1 _ _ _ _ _ fun a => ?_
    match a with
    | ⟨0, _⟩ => rfl
    | ⟨1, _⟩ => exact (Nat.zero_add _).symm
  · refine View.ld_unit_apply_of x2 _ _ _ _ _ fun a => ?_
    match a with
    | ⟨0, _⟩ => exact (Nat.zero_add _).symm
    | ⟨1, _⟩ => rfl

theorem chunk_dz (c : Fin 4) (o k : ℕ) (ho : o = 512 * c.val) (hk : k = c.val) (inb2 : ∀ a, (![0, o] : Fin 2 → ℕ) a + (![512, 512] : Fin 2 → ℕ) a ≤ S512x2048.size a)
    (inb4 : ∀ a, (![o, 0] : Fin 2 → ℕ) a + (![512, 1024] : Fin 2 → ℕ) a ≤ S2048x1024.size a)
    (inb3 : ∀ a, (![k, 0, 0] : Fin 3 → ℕ) a + (![1, 1024, 512] : Fin 3 → ℕ) a ≤ S4x1024x512.size a)
    (v : Vec Ideal S512x1024 .f32) (hv : ∀ (r : Fin 512) (d : Fin 1024), v (ix2 r d) = Cert.Blocks.upTo (dzTerm x0 x2 x3 x4 r d) o) (r : Fin 512) (d : Fin 1024) :
    k0_pay21 v (k0_pay23 x0 (View.ld x2 (Rect.unit ![0, o] ![512, 512] inb2)) (View.ld x4 (Rect.unit ![o, 0] ![512, 1024] inb4)))
        (View.ld x3 (Rect.unit ![k, 0, 0] ![1, 1024, 512] inb3)) (ix2 r d)
      = Cert.Blocks.upTo (dzTerm x0 x2 x3 x4 r d) (o + 512) := by
  refine (pay21_apply _ _ _ r d).trans ?_
  rw [hv, Cert.Blocks.upTo_add _ _ _ (by omega)]
  refine congrArg (_ + ·) (Finset.sum_congr rfl fun j _ => ?_)
  rw [chunk_dup x0 x2 x4 c o ho]
  have hc : (⟨o + j.val, by omega⟩ : Fin 2048) = col c j := Fin.ext (by show o + j.val = 512 * c.val + j.val; omega)
  rw [hc]
  unfold dzTerm
  refine congrArg (dup x0 x2 x4 r (col c j) * ·) ?_
  refine View.ld_unit_apply_of x3 _ _ _ _ _ fun a => ?_
  match a with
  | ⟨0, _⟩ => show (512 * c.val + j.val) / 512 = k + 0; omega
  | ⟨1, _⟩ => exact (Nat.zero_add _).symm
  | ⟨2, _⟩ => show (512 * c.val + j.val) % 512 = 0 + j.val; omega

end Cert.MlpBwdIdeal.Point

end
-- ==== Proof.MlpBwd.Point.lean ====
/-
  What one point of the MLP gradient leaves: the block of the gradient of `z` it writes, and the two accumulators, over
  what they held before. The first point starts from zeros it stores itself.
-/
module

public import proofs.«01_k».proof.Proof.Gen.MlpBwdIdeal.Frame
public import proofs.«01_k».proof.Proof.MlpBwd.Entries
public import Idealize.ShloMosaic.Lib.Tactic

@[expose] public section

set_option maxRecDepth 16384

noncomputable section

namespace Cert.MlpBwdIdeal.Point

open Cert.MlpBwdIdeal Cert.MlpBwdIdeal.Gen
open Idealize.ShloMosaic Idealize.ShloMosaic.TcCoe Idealize.ShloMosaic.Tactic Idealize.ShloMosaic.ValueIdx

/-! ## The four chunks' values have the same four forms -/

section Names
variable {F : FTy → Type} [FloatOps F]
theorem pay17_eq (a : Vec F S512x1024 .f32) (b : Vec F S512x512 .bf16) (d : Vec F S512x1024 .bf16) : k0_pay17 a b d = k0_pay23 (k0_pay13 a) b d := rfl
theorem pay28_eq (a : Vec F S512x1024 .bf16) (b : Vec F S512x512 .bf16) (d : Vec F S512x1024 .bf16) : k0_pay28 a b d = k0_pay23 a b d := rfl
theorem pay33_eq (a : Vec F S512x1024 .bf16) (b : Vec F S512x512 .bf16) (d : Vec F S512x1024 .bf16) : k0_pay33 a b d = k0_pay23 a b d := rfl
theorem pay18_eq (a : Vec F S512x1024 .f32) : k0_pay18 a = k0_pay24 (k0_pay13 a) := rfl
theorem pay29_eq : @k0_pay29 F _ = @k0_pay24 F _ := rfl
theorem pay34_eq : @k0_pay34 F _ = @k0_pay24 F _ := rfl
theorem pay20_eq (a : Vec F S512x1024 .f32) (b : Vec F S512x1024 .bf16) (d : Vec F S512x512 .bf16) (e : Vec F S512x1024 .bf16) (g : Vec F S1x1024x512 .f32) :
    k0_pay20 (k0_pay19 a b d e g) = k0_pay25 (k0_pay13 a) (k0_pay14 b) d e g := rfl
theorem pay30_eq : @k0_pay30 F _ = @k0_pay25 F _ := rfl
theorem pay35_eq : @k0_pay35 F _ = @k0_pay25 F _ := rfl
theorem pay26_eq : @k0_pay26 F _ = @k0_pay21 F _ := rfl
theorem pay31_eq : @k0_pay31 F _ = @k0_pay21 F _ := rfl
theorem pay1_eq (v : Vec F S512x1024 .f32) (a : Vec F S512x1024 .bf16) (b : Vec F S512x512 .bf16) (d : Vec F S512x1024 .bf16) (e : Vec F S1x1024x512 .bf16) :
    k0_pay1 v (k0_pay36 a b d e) = k0_pay21 v (k0_pay23 a b d) e := rfl
end Names

variable (x0 : Vec Ideal S512x1024 .f32) (x1 : Vec Ideal S512x1024 .bf16) (x2 : Vec Ideal S512x2048 .bf16)
  (x3 : Vec Ideal S4x1024x512 .bf16) (x4 : Vec Ideal S2048x1024 .bf16) (xs0 : Vec Ideal S4x1024x512 .f32) (xs1 : Vec Ideal S2048x1024 .f32)

/-! ## The pieces, whatever they overwrite -/

/-- The columns of a chunk lie in the block of the pre-activation. -/
abbrev I2 (o : ℕ) : Prop := ∀ a, (![0, o] : Fin 2 → ℕ) a + (![512, 512] : Fin 2 → ℕ) a ≤ S512x2048.size a
/-- The rows of a chunk lie in the block of `w_down`. -/
abbrev I4 (o : ℕ) : Prop := ∀ a, (![o, 0] : Fin 2 → ℕ) a + (![512, 1024] : Fin 2 → ℕ) a ≤ S2048x1024.size a
/-- A slab lies in the block of `w_up`. -/
abbrev I3 (k : ℕ) : Prop := ∀ a, (![k, 0, 0] : Fin 3 → ℕ) a + (![1, 1024, 512] : Fin 3 → ℕ) a ≤ S4x1024x512.size a

/-- The four chunks' products sum to the gradient of `z`. -/
theorem dz_all (i2a : I2 0) (i2b : I2 512) (i2c : I2 1024) (i2d : I2 1536) (i4a : I4 0) (i4b : I4 512) (i4c : I4 1024) (i4d : I4 1536) (i3a : I3 0) (i3b : I3 1) (i3c : I3 2) (i3d : I3 3) :
    k0_pay21 (k0_pay21 (k0_pay21 (k0_pay21 k0_pay15
      (k0_pay23 x0 (View.ld x2 (Rect.unit ![0, 0] ![512, 512] i2a)) (View.ld x4 (Rect.unit ![0, 0] ![512, 1024] i4a))) (View.ld x3 (Rect.unit ![0, 0, 0] ![1, 1024, 512] i3a)))
      (k0_pay23 x0 (View.ld x2 (Rect.unit ![0, 512] ![512, 512] i2b)) (View.ld x4 (Rect.unit ![512, 0] ![512, 1024] i4b))) (View.ld x3 (Rect.unit ![1, 0, 0] ![1, 1024, 512] i3b)))
      (k0_pay23 x0 (View.ld x2 (Rect.unit ![0, 1024] ![512, 512] i2c)) (View.ld x4 (Rect.unit ![1024, 0] ![512, 1024] i4c))) (View.ld x3 (Rect.unit ![2, 0, 0] ![1, 1024, 512] i3c)))
      (k0_pay23 x0 (View.ld x2 (Rect.unit ![0, 1536] ![512, 512] i2d)) (View.ld x4 (Rect.unit ![1536, 0] ![512, 1024] i4d))) (View.ld x3 (Rect.unit ![3, 0, 0] ![1, 1024, 512] i3d))
      = dzG x0 x2 x3 x4 := by
  refine Cert.Products.ext2 fun r d => ?_
  refine (chunk_dz x0 x2 x3 x4 3 1536 3 rfl rfl _ _ _ _ (fun r d => ?_) r d).trans (Cert.Blocks.upTo_all _)
  refine chunk_dz x0 x2 x3 x4 2 1024 2 rfl rfl _ _ _ _ (fun r d => ?_) r d
  refine chunk_dz x0 x2 x3 x4 1 512 1 rfl rfl _ _ _ _ (fun r d => ?_) r d
  refine chunk_dz x0 x2 x3 x4 0 0 0 rfl rfl _ _ _ _ (fun r d => ?_) r d
  exact Cert.Products.zero_word.trans (Cert.Blocks.upTo_zero _).symm

/-- The four slabs of the accumulator of `w_up`'s gradient. -/
def upPieces (i2a : I2 0) (i2b : I2 512) (i2c : I2 1024) (i2d : I2 1536) (i4a : I4 0) (i4b : I4 512) (i4c : I4 1024) (i4d : I4 1536) (isa : I3 0) (isb : I3 1) (isc : I3 2) (isd : I3 3) : List (View.Piece (Elt Ideal) S4x1024x512 .f32) :=
  [⟨Rect.unit ![3, 0, 0] ![1, 1024, 512] isd, k0_pay25 x0 x1 (View.ld x2 (Rect.unit ![0, 1536] ![512, 512] i2d)) (View.ld x4 (Rect.unit ![1536, 0] ![512, 1024] i4d)) (View.ld xs0 (Rect.unit ![3, 0, 0] ![1, 1024, 512] isd))⟩,
   ⟨Rect.unit ![2, 0, 0] ![1, 1024, 512] isc, k0_pay25 x0 x1 (View.ld x2 (Rect.unit ![0, 1024] ![512, 512] i2c)) (View.ld x4 (Rect.unit ![1024, 0] ![512, 1024] i4c)) (View.ld xs0 (Rect.unit ![2, 0, 0] ![1, 1024, 512] isc))⟩,
   ⟨Rect.unit ![1, 0, 0] ![1, 1024, 512] isb, k0_pay25 x0 x1 (View.ld x2 (Rect.unit ![0, 512] ![512, 512] i2b)) (View.ld x4 (Rect.unit ![512, 0] ![512, 1024] i4b)) (View.ld xs0 (Rect.unit ![1, 0, 0] ![1, 1024, 512] isb))⟩,
   ⟨Rect.unit ![0, 0, 0] ![1, 1024, 512] isa, k0_pay25 x0 x1 (View.ld x2 (Rect.unit ![0, 0] ![512, 512] i2a)) (View.ld x4 (Rect.unit ![0, 0] ![512, 1024] i4a)) (View.ld xs0 (Rect.unit ![0, 0, 0] ![1, 1024, 512] isa))⟩]

/-- The four row blocks of the accumulator of `w_down`'s gradient. -/
def dnPieces (i2a : I2 0) (i2b : I2 512) (i2c : I2 1024) (i2d : I2 1536) (isa : I4 0) (isb : I4 512) (isc : I4 1024) (isd : I4 1536) : List (View.Piece (Elt Ideal) S2048x1024 .f32) :=
  [⟨Rect.unit ![1536, 0] ![512, 1024] isd, k0_pay24 x0 (View.ld x2 (Rect.unit ![0, 1536] ![512, 512] i2d)) (View.ld xs1 (Rect.unit ![1536, 0] ![512, 1024] isd))⟩,
   ⟨Rect.unit ![1024, 0] ![512, 1024] isc, k0_pay24 x0 (View.ld x2 (Rect.unit ![0, 1024] ![512, 512] i2c)) (View.ld xs1 (Rect.unit ![1024, 0] ![512, 1024] isc))⟩,
   ⟨Rect.unit ![512, 0] ![512, 1024] isb, k0_pay24 x0 (View.ld x2 (Rect.unit ![0, 512] ![512, 512] i2b)) (View.ld xs1 (Rect.unit ![512, 0] ![512, 1024] isb))⟩,
   ⟨Rect.unit ![0, 0] ![512, 1024] isa, k0_pay24 x0 (View.ld x2 (Rect.unit ![0, 0] ![512, 512] i2a)) (View.ld xs1 (Rect.unit ![0, 0] ![512, 1024] isa))⟩]

/-- The slabs read back are the accumulator after the point. -/
theorem canon_up (i2a : I2 0) (i2b : I2 512) (i2c : I2 1024) (i2d : I2 1536) (i4a : I4 0) (i4b : I4 512) (i4c : I4 1024) (i4d : I4 1536) (isa : I3 0) (isb : I3 1) (isc : I3 2) (isd : I3 3) (L : List (View.Piece (Elt Ideal) S4x1024x512 .f32)) :
    View.canon (upPieces x0 x1 x2 x4 xs0 i2a i2b i2c i2d i4a i4b i4c i4d isa isb isc isd ++ L) = upG x0 x1 x2 x4 xs0 := by
  funext y
  refine Cert.Stores.canon_append _ L _ (fun p hp => ?_) y ?_
  · unfold upPieces at hp
    rcases List.mem_cons.mp hp with rfl | hp
    · exact chunk_up x0 x1 x2 x4 xs0 3 1536 3 rfl rfl _ _ _
    rcases List.mem_cons.mp hp with rfl | hp
    · exact chunk_up x0 x1 x2 x4 xs0 2 1024 2 rfl rfl _ _ _
    rcases List.mem_cons.mp hp with rfl | hp
    · exact chunk_up x0 x1 x2 x4 xs0 1 512 1 rfl rfl _ _ _
    rcases List.mem_cons.mp hp with rfl | hp
    · exact chunk_up x0 x1 x2 x4 xs0 0 0 0 rfl rfl _ _ _
    · exact absurd hp List.not_mem_nil
  · unfold upPieces
    have h0 : (y 0).val < 4 := (y 0).isLt
    have h1 : (y 1).val < 1024 := (y 1).isLt
    have h2 : (y 2).val < 512 := (y 2).isLt
    have key : ∀ (k : ℕ) (inb) (_ : (y 0).val = k), y ∈ (Rect.unit (s := S4x1024x512) ![k, 0, 0] ![1, 1024, 512] inb).set := fun k inb hk =>
      Rect.mem_set_unit.mpr fun a => match a with
        | ⟨0, _⟩ => ⟨hk.ge, by show (y 0).val < k + 1; omega⟩
        | ⟨1, _⟩ => ⟨Nat.zero_le _, by show (y 1).val < 0 + 1024; omega⟩
        | ⟨2, _⟩ => ⟨Nat.zero_le _, by show (y 2).val < 0 + 512; omega⟩
    have hc : (y 0).val = 0 ∨ (y 0).val = 1 ∨ (y 0).val = 2 ∨ (y 0).val = 3 := by omega
    rcases hc with h | h | h | h
    · exact ⟨_, .tail _ (.tail _ (.tail _ (.head _))), key _ isa h⟩
    · exact ⟨_, .tail _ (.tail _ (.head _)), key _ isb h⟩
    · exact ⟨_, .tail _ (.head _), key _ isc h⟩
    · exact ⟨_, .head _, key _ isd h⟩

/-- The row blocks read back are the accumulator after the point. -/
theorem canon_dn (i2a : I2 0) (i2b : I2 512) (i2c : I2 1024) (i2d : I2 1536) (isa : I4 0) (isb : I4 512) (isc : I4 1024) (isd : I4 1536) (L : List (View.Piece (Elt Ideal) S2048x1024 .f32)) :
    View.canon (dnPieces x0 x2 xs1 i2a i2b i2c i2d isa isb isc isd ++ L) = dnG x0 x2 xs1 := by
  funext y
  refine Cert.Stores.canon_append _ L _ (fun p hp => ?_) y ?_
  · unfold dnPieces at hp
    rcases List.mem_cons.mp hp with rfl | hp
    · exact chunk_dn x0 x2 xs1 3 1536 rfl _ _
    rcases List.mem_cons.mp hp with rfl | hp
    · exact chunk_dn x0 x2 xs1 2 1024 rfl _ _
    rcases List.mem_cons.mp hp with rfl | hp
    · exact chunk_dn x0 x2 xs1 1 512 rfl _ _
    rcases List.mem_cons.mp hp with rfl | hp
    · exact chunk_dn x0 x2 xs1 0 0 rfl _ _
    · exact absurd hp List.not_mem_nil
  · unfold dnPieces
    have h0 : (y 0).val < 2048 := (y 0).isLt
    have h1 : (y 1).val < 1024 := (y 1).isLt
    have key : ∀ (k : ℕ) (inb) (_ : k ≤ (y 0).val ∧ (y 0).val < k + 512), y ∈ (Rect.unit (s := S2048x1024) ![k, 0] ![512, 1024] inb).set := fun k inb hk =>
      Rect.mem_set_unit.mpr fun a => match a with
        | ⟨0, _⟩ => hk
        | ⟨1, _⟩ => ⟨Nat.zero_le _, by show (y 1).val < 0 + 1024; omega⟩
    have hc : (0 ≤ (y 0).val ∧ (y 0).val < 0 + 512) ∨ (512 ≤ (y 0).val ∧ (y 0).val < 512 + 512) ∨ (1024 ≤ (y 0).val ∧ (y 0).val < 1024 + 512) ∨ (1536 ≤ (y 0).val ∧ (y 0).val < 1536 + 512) := by omega
    rcases hc with h | h | h | h
    · exact ⟨_, .tail _ (.tail _ (.tail _ (.head _))), key _ isa h⟩
    · exact ⟨_, .tail _ (.tail _ (.head _)), key _ isb h⟩
    · exact ⟨_, .tail _ (.head _), key _ isc h⟩
    · exact ⟨_, .head _, key _ isd h⟩

/-! ## Loads past the stores of the same point -/

theorem rows_off {κ : Kind} {sp : Space} (v : View sig κ sp S2048x1024 .f32) {k k' : ℕ} (inb inb' w) (L : List (View.Piece (Elt Ideal) S2048x1024 .f32))
    (h : k' + 512 ≤ k ∨ k + 512 ≤ k') :
    v.readCov ((⟨Rect.unit ![k, 0] ![512, 1024] inb, w⟩ : View.Piece (Elt Ideal) S2048x1024 .f32) :: L) (Rect.unit ![k', 0] ![512, 1024] inb').toLoadRect
      = v.readCov L (Rect.unit ![k', 0] ![512, 1024] inb').toLoadRect := Cert.Stores.readCov_off v inb inb' w L 0 h

theorem slabs_off {κ : Kind} {sp : Space} (v : View sig κ sp S4x1024x512 .f32) {k k' : ℕ} (inb inb' w) (L : List (View.Piece (Elt Ideal) S4x1024x512 .f32))
    (h : k' + 1 ≤ k ∨ k + 1 ≤ k') :
    v.readCov ((⟨Rect.unit ![k, 0, 0] ![1, 1024, 512] inb, w⟩ : View.Piece (Elt Ideal) S4x1024x512 .f32) :: L) (Rect.unit ![k', 0, 0] ![1, 1024, 512] inb').toLoadRect
      = v.readCov L (Rect.unit ![k', 0, 0] ![1, 1024, 512] inb').toLoadRect := Cert.Stores.readCov_off v inb inb' w L 0 h

theorem rows_whole {κ : Kind} {sp : Space} (v : View sig κ sp S2048x1024 .f32) {k' : ℕ} (inb inb') (w : S2048x1024.Idx → Elt Ideal .f32) :
    v.readCov [(⟨Rect.unit ![0, 0] ![2048, 1024] inb, w⟩ : View.Piece (Elt Ideal) S2048x1024 .f32)] (Rect.unit ![k', 0] ![512, 1024] inb').toLoadRect
      = View.ld w (Rect.unit ![k', 0] ![512, 1024] inb') := Cert.Stores.readCov_whole v Cert.Whole.hz2 inb inb' w []

theorem slabs_whole {κ : Kind} {sp : Space} (v : View sig κ sp S4x1024x512 .f32) {k' : ℕ} (inb inb') (w : S4x1024x512.Idx → Elt Ideal .f32) :
    v.readCov [(⟨Rect.unit ![0, 0, 0] ![4, 1024, 512] inb, w⟩ : View.Piece (Elt Ideal) S4x1024x512 .f32)] (Rect.unit ![k', 0, 0] ![1, 1024, 512] inb').toLoadRect
      = View.ld w (Rect.unit ![k', 0, 0] ![1, 1024, 512] inb') := Cert.Stores.readCov_whole v Cert.Whole.hz3 inb inb' w []

/-! ## The three cases -/

set_option maxHeartbeats 1000000 in
/-- The first point's block of the gradient of `z`. -/
theorem out_A (c : Dev nD) (i : grid0.Coords) (arg1 harg1 arg2 harg2 arg3 harg3 arg4 harg4 arg5 harg5 arg6 harg6 arg9 harg9 arg10 harg10 arg11 harg11 arg12 harg12 hc0 hc1) :
    out0_A_5 c i arg1 harg1 arg2 harg2 arg3 harg3 arg4 harg4 arg5 harg5 arg6 harg6 arg9 harg9 arg10 harg10 arg11 harg11 arg12 harg12 hc0 hc1 x0 x1 x2 x3 x4 = dzG x0 x2 x3 x4 := by
  unfold out0_A_5 kernelRun0_A
  rw [View.read_writes_junk_eq_canon]
  dsimp only
  sl_unfold_words
  simp only [View.readAt_eq_ld, harg1.read_unread, harg2.read_unread, harg3.read_unread, harg4.read_unread, harg5.read_unread, View.ld_unit_zero (S := S512x1024) Whole.hz2,
    pay17_eq, pay28_eq, pay33_eq, pay18_eq, pay29_eq, pay34_eq, pay20_eq, pay30_eq, pay35_eq, pay26_eq, pay31_eq, pay1_eq, pay13_eq, pay14_eq]
  rw [View.canon_unit_zero (S := S512x1024) Whole.hz2]
  exact dz_all x0 x2 x3 x4 _ _ _ _ _ _ _ _ _ _ _ _

set_option maxHeartbeats 1000000 in
/-- The accumulator of `w_up`'s gradient after the first point. -/
theorem sout_A_0 (c : Dev nD) (i : grid0.Coords) (arg1 harg1 arg2 harg2 arg3 harg3 arg4 harg4 arg5 harg5 arg6 harg6 arg9 harg9 arg10 harg10 arg11 harg11 arg12 harg12 hc0 hc1) :
    sout0_A_0 c i arg1 harg1 arg2 harg2 arg3 harg3 arg4 harg4 arg5 harg5 arg6 harg6 arg9 harg9 arg10 harg10 arg11 harg11 arg12 harg12 hc0 hc1 x0 x1 x2 x3 x4 = upG x0 x1 x2 x4 (k0_pay11 (F := Ideal)) := by
  unfold sout0_A_0 kernelRun0_A
  rw [View.read_writes_junk_eq_canon]
  dsimp only
  sl_unfold_words
  simp only [View.readAt_eq_ld, harg1.read_unread, harg2.read_unread, harg3.read_unread, harg4.read_unread, harg5.read_unread, View.ld_unit_zero (S := S512x1024) Whole.hz2,
    pay17_eq, pay28_eq, pay33_eq, pay18_eq, pay29_eq, pay34_eq, pay20_eq, pay30_eq, pay35_eq, pay26_eq, pay31_eq, pay1_eq, pay13_eq, pay14_eq]
  simp (disch := decide) only [slabs_off, slabs_whole]
  exact canon_up x0 x1 x2 x4 (k0_pay11 (F := Ideal)) _ _ _ _ _ _ _ _ _ _ _ _ [_]

set_option maxHeartbeats 1000000 in
/-- The accumulator of `w_down`'s gradient after the first point. -/
theorem sout_A_1 (c : Dev nD) (i : grid0.Coords) (arg1 harg1 arg2 harg2 arg3 harg3 arg4 harg4 arg5 harg5 arg6 harg6 arg9 harg9 arg10 harg10 arg11 harg11 arg12 harg12 hc0 hc1) :
    sout0_A_1 c i arg1 harg1 arg2 harg2 arg3 harg3 arg4 harg4 arg5 harg5 arg6 harg6 arg9 harg9 arg10 harg10 arg11 harg11 arg12 harg12 hc0 hc1 x0 x1 x2 x3 x4 = dnG x0 x2 (k0_pay12 (F := Ideal)) := by
  unfold sout0_A_1 kernelRun0_A
  rw [View.read_writes_junk_eq_canon]
  dsimp only
  sl_unfold_words
  simp only [View.readAt_eq_ld, harg1.read_unread, harg2.read_unread, harg3.read_unread, harg4.read_unread, harg5.read_unread, View.ld_unit_zero (S := S512x1024) Whole.hz2,
    pay17_eq, pay28_eq, pay33_eq, pay18_eq, pay29_eq, pay34_eq, pay20_eq, pay30_eq, pay35_eq, pay26_eq, pay31_eq, pay1_eq, pay13_eq, pay14_eq]
  simp (disch := decide) only [rows_off, rows_whole]
  exact canon_dn x0 x2 (k0_pay12 (F := Ideal)) _ _ _ _ _ _ _ _ [_]

set_option maxHeartbeats 1000000 in
/-- The middle point's block of the gradient of `z`. -/
theorem out_B (c : Dev nD) (i : grid0.Coords) (arg1 harg1 arg2 harg2 arg3 harg3 arg4 harg4 arg5 harg5 arg6 harg6 arg9 harg9 arg10 harg10 arg11 harg11 arg12 harg12 hc0 hc1) :
    out0_B_5 c i arg1 harg1 arg2 harg2 arg3 harg3 arg4 harg4 arg5 harg5 arg6 harg6 arg9 harg9 arg10 harg10 arg11 harg11 arg12 harg12 hc0 hc1 x0 x1 x2 x3 x4 xs0 xs1 = dzG x0 x2 x3 x4 := by
  unfold out0_B_5 kernelRun0_B
  rw [View.read_writes_junk_eq_canon]
  dsimp only
  sl_unfold_words
  simp only [View.readAt_eq_ld, harg1.read_unread, harg2.read_unread, harg3.read_unread, harg4.read_unread, harg5.read_unread, harg9.read_unread, harg10.read_unread, View.ld_unit_zero (S := S512x1024) Whole.hz2,
    pay17_eq, pay28_eq, pay33_eq, pay18_eq, pay29_eq, pay34_eq, pay20_eq, pay30_eq, pay35_eq, pay26_eq, pay31_eq, pay1_eq, pay13_eq, pay14_eq]
  rw [View.canon_unit_zero (S := S512x1024) Whole.hz2]
  exact dz_all x0 x2 x3 x4 _ _ _ _ _ _ _ _ _ _ _ _

set_option maxHeartbeats 1000000 in
/-- The accumulator of `w_up`'s gradient after the middle point. -/
theorem sout_B_0 (c : Dev nD) (i : grid0.Coords) (arg1 harg1 arg2 harg2 arg3 harg3 arg4 harg4 arg5 harg5 arg6 harg6 arg9 harg9 arg10 harg10 arg11 harg11 arg12 harg12 hc0 hc1) :
    sout0_B_0 c i arg1 harg1 arg2 harg2 arg3 harg3 arg4 harg4 arg5 harg5 arg6 harg6 arg9 harg9 arg10 harg10 arg11 harg11 arg12 harg12 hc0 hc1 x0 x1 x2 x3 x4 xs0 xs1 = upG x0 x1 x2 x4 xs0 := by
  unfold sout0_B_0 kernelRun0_B
  rw [View.read_writes_junk_eq_canon]
  dsimp only
  sl_unfold_words
  simp only [View.readAt_eq_ld, harg1.read_unread, harg2.read_unread, harg3.read_unread, harg4.read_unread, harg5.read_unread, harg9.read_unread, harg10.read_unread, View.ld_unit_zero (S := S512x1024) Whole.hz2,
    pay17_eq, pay28_eq, pay33_eq, pay18_eq, pay29_eq, pay34_eq, pay20_eq, pay30_eq, pay35_eq, pay26_eq, pay31_eq, pay1_eq, pay13_eq, pay14_eq]
  exact canon_up x0 x1 x2 x4 xs0 _ _ _ _ _ _ _ _ _ _ _ _ []

set_option maxHeartbeats 1000000 in
/-- The accumulator of `w_down`'s gradient after the middle point. -/
theorem sout_B_1 (c : Dev nD) (i : grid0.Coords) (arg1 harg1 arg2 harg2 arg3 harg3 arg4 harg4 arg5 harg5 arg6 harg6 arg9 harg9 arg10 harg10 arg11 harg11 arg12 harg12 hc0 hc1) :
    sout0_B_1 c i arg1 harg1 arg2 harg2 arg3 harg3 arg4 harg4 arg5 harg5 arg6 harg6 arg9 harg9 arg10 harg10 arg11 harg11 arg12 harg12 hc0 hc1 x0 x1 x2 x3 x4 xs0 xs1 = dnG x0 x2 xs1 := by
  unfold sout0_B_1 kernelRun0_B
  rw [View.read_writes_junk_eq_canon]
  dsimp only
  sl_unfold_words
  simp only [View.readAt_eq_ld, harg1.read_unread, harg2.read_unread, harg3.read_unread, harg4.read_unread, harg5.read_unread, harg9.read_unread, harg10.read_unread, View.ld_unit_zero (S := S512x1024) Whole.hz2,
    pay17_eq, pay28_eq, pay33_eq, pay18_eq, pay29_eq, pay34_eq, pay20_eq, pay30_eq, pay35_eq, pay26_eq, pay31_eq, pay1_eq, pay13_eq, pay14_eq]
  exact canon_dn x0 x2 xs1 _ _ _ _ _ _ _ _ []

set_option maxHeartbeats 1000000 in
/-- The last point's block of the gradient of `z`. -/
theorem out_C (c : Dev nD) (i : grid0.Coords) (arg1 harg1 arg2 harg2 arg3 harg3 arg4 harg4 arg5 harg5 arg6 harg6 arg9 harg9 arg10 harg10 arg11 harg11 arg12 harg12 hc0 hc1) :
    out0_C_5 c i arg1 harg1 arg2 harg2 arg3 harg3 arg4 harg4 arg5 harg5 arg6 harg6 arg9 harg9 arg10 harg10 arg11 harg11 arg12 harg12 hc0 hc1 x0 x1 x2 x3 x4 xs0 xs1 = dzG x0 x2 x3 x4 := by
  unfold out0_C_5 kernelRun0_C
  rw [View.read_writes_junk_eq_canon]
  dsimp only
  sl_unfold_words
  simp only [View.readAt_eq_ld, harg1.read_unread, harg2.read_unread, harg3.read_unread, harg4.read_unread, harg5.read_unread, harg9.read_unread, harg10.read_unread, View.ld_unit_zero (S := S512x1024) Whole.hz2,
    pay17_eq, pay28_eq, pay33_eq, pay18_eq, pay29_eq, pay34_eq, pay20_eq, pay30_eq, pay35_eq, pay26_eq, pay31_eq, pay1_eq, pay13_eq, pay14_eq]
  rw [View.canon_unit_zero (S := S512x1024) Whole.hz2]
  exact dz_all x0 x2 x3 x4 _ _ _ _ _ _ _ _ _ _ _ _

set_option maxHeartbeats 1000000 in
/-- The accumulator of `w_up`'s gradient after the last point. -/
theorem sout_C_0 (c : Dev nD) (i : grid0.Coords) (arg1 harg1 arg2 harg2 arg3 harg3 arg4 harg4 arg5 harg5 arg6 harg6 arg9 harg9 arg10 harg10 arg11 harg11 arg12 harg12 hc0 hc1) :
    sout0_C_0 c i arg1 harg1 arg2 harg2 arg3 harg3 arg4 harg4 arg5 harg5 arg6 harg6 arg9 harg9 arg10 harg10 arg11 harg11 arg12 harg12 hc0 hc1 x0 x1 x2 x3 x4 xs0 xs1 = upG x0 x1 x2 x4 xs0 := by
  unfold sout0_C_0 kernelRun0_C
  rw [View.read_writes_junk_eq_canon]
  dsimp only
  sl_unfold_words
  simp only [View.readAt_eq_ld, harg1.read_unread, harg2.read_unread, harg3.read_unread, harg4.read_unread, harg5.read_unread, harg9.read_unread, harg10.read_unread, View.ld_unit_zero (S := S512x1024) Whole.hz2,
    pay17_eq, pay28_eq, pay33_eq, pay18_eq, pay29_eq, pay34_eq, pay20_eq, pay30_eq, pay35_eq, pay26_eq, pay31_eq, pay1_eq, pay13_eq, pay14_eq]
  exact canon_up x0 x1 x2 x4 xs0 _ _ _ _ _ _ _ _ _ _ _ _ []

set_option maxHeartbeats 1000000 in
/-- The accumulator of `w_down`'s gradient after the last point. -/
theorem sout_C_1 (c : Dev nD) (i : grid0.Coords) (arg1 harg1 arg2 harg2 arg3 harg3 arg4 harg4 arg5 harg5 arg6 harg6 arg9 harg9 arg10 harg10 arg11 harg11 arg12 harg12 hc0 hc1) :
    sout0_C_1 c i arg1 harg1 arg2 harg2 arg3 harg3 arg4 harg4 arg5 harg5 arg6 harg6 arg9 harg9 arg10 harg10 arg11 harg11 arg12 harg12 hc0 hc1 x0 x1 x2 x3 x4 xs0 xs1 = dnG x0 x2 xs1 := by
  unfold sout0_C_1 kernelRun0_C
  rw [View.read_writes_junk_eq_canon]
  dsimp only
  sl_unfold_words
  simp only [View.readAt_eq_ld, harg1.read_unread, harg2.read_unread, harg3.read_unread, harg4.read_unread, harg5.read_unread, harg9.read_unread, harg10.read_unread, View.ld_unit_zero (S := S512x1024) Whole.hz2,
    pay17_eq, pay28_eq, pay33_eq, pay18_eq, pay29_eq, pay34_eq, pay20_eq, pay30_eq, pay35_eq, pay26_eq, pay31_eq, pay1_eq, pay13_eq, pay14_eq]
  exact canon_dn x0 x2 xs1 _ _ _ _ _ _ _ _ []

end Cert.MlpBwdIdeal.Point

end
-- ==== Proof.MlpBwd.Slabs.lean ====
/-
  The two results the MLP gradient leaves in HBM, written slab by slab: four writes, one for each of the four slabs, are
  the whole array.
-/
module

public import proofs.«01_k».proof.Proof.Gen.MlpBwdIdeal.Frame
public import proofs.«01_k».proof.Proof.Lib.Stores
public import Idealize.ShloMosaic.Lib.ValueLayout

@[expose] public section

set_option maxRecDepth 16384

noncomputable section

namespace Cert.MlpBwdIdeal.Last

open Cert.MlpBwdIdeal Cert.MlpBwdIdeal.Gen
open Idealize.ShloMosaic Idealize.ShloMosaic.ValueIdx Idealize.ShloMosaic.TcCoe

variable {F : FTy → Type} [FloatOps F]

/-- The accumulator of `w_up`'s gradient, cast. -/
def castUp (A : Vec F S4x1024x512 .f32) : Vec F S4x1024x512 .bf16 := truncf .bf16 A bitsLt_bf16_f32

/-- Row `j` of slab `c` of the accumulator of `w_down`'s gradient. -/
def row (c : Fin 4) (j : Fin 512) : Fin 2048 := ⟨512 * c.val + j.val, by omega⟩

/-- The accumulator of `w_down`'s gradient, cast, its rows in four slabs. -/
def castDn (A : Vec F S2048x1024 .f32) : Vec F S4x512x1024 .bf16 := fun y => truncf .bf16 A bitsLt_bf16_f32 (ix2 (row (y 0) (y 1)) (y 2))

/-! ## One slab's write -/

theorem slab_emb_up (k : ℕ) (hk : k < 4) (inb hs sq) (i : Fin 1024) (j : Fin 512) :
    (((Memref.whole main_v36_1).slice (Rect.unit ![k, 0, 0] ![1, 1024, 512] inb) hs).squeeze S1024x512 sq).view.emb (ix2 i j)
      = (ix3 (⟨k, hk⟩ : Fin 4) i j : S4x1024x512.Idx) := by
  show (Rect.unit (s := S4x1024x512) ![k, 0, 0] ![1, 1024, 512] inb).emb (Shape.reshapeEquiv _ (ix2 i j)) = _
  rw [reshapeEquiv_ix2_1ab]
  funext a
  apply Fin.ext
  refine (Rect.idx_unit_val _ _ _ _ a).trans ?_
  match a with
  | ⟨0, _⟩ => rfl
  | ⟨1, _⟩ => exact Nat.zero_add _
  | ⟨2, _⟩ => exact Nat.zero_add _

theorem slab_emb_dn (k : ℕ) (hk : k < 4) (inb hs sq) (i : Fin 512) (j : Fin 1024) :
    (((Memref.whole main_v36_2).slice (Rect.unit ![k, 0, 0] ![1, 512, 1024] inb) hs).squeeze S512x1024 sq).view.emb (ix2 i j)
      = (ix3 (⟨k, hk⟩ : Fin 4) i j : S4x512x1024.Idx) := by
  show (Rect.unit (s := S4x512x1024) ![k, 0, 0] ![1, 512, 1024] inb).emb (Shape.reshapeEquiv _ (ix2 i j)) = _
  rw [reshapeEquiv_ix2_1ab]
  funext a
  apply Fin.ext
  refine (Rect.idx_unit_val _ _ _ _ a).trans ?_
  match a with
  | ⟨0, _⟩ => rfl
  | ⟨1, _⟩ => exact Nat.zero_add _
  | ⟨2, _⟩ => exact Nat.zero_add _

theorem slab_up (k : ℕ) (hk : k < 4) (inb hs sq) (f : Vec F S4x1024x512 .bf16) (w : Vec F S1024x512 .bf16) (c : Fin 4) (i : Fin 1024) (j : Fin 512) :
    View.write (Elt F) (((Memref.whole main_v36_1).slice (Rect.unit ![k, 0, 0] ![1, 1024, 512] inb) hs).squeeze S1024x512 sq).view f w Finset.univ (ix3 c i j)
      = if c.val = k then w (ix2 i j) else f (ix3 c i j) := by
  by_cases h : c.val = k
  · subst h
    rw [if_pos rfl]
    refine (congrArg (View.write (Elt F) (((Memref.whole main_v36_1).slice (Rect.unit ![c.val, 0, 0] ![1, 1024, 512] inb) hs).squeeze S1024x512 sq).view f w Finset.univ) (slab_emb_up c.val hk inb hs sq i j).symm).trans ?_
    exact View.write_emb_of_mem _ _ (Finset.mem_univ _)
  · rw [if_neg h]
    refine View.write_of_not_mem _ _ _ fun hm => h ?_
    obtain ⟨x, -, hx⟩ := Finset.mem_map.mp hm
    rw [eq_ix2 x] at hx
    exact (congrArg (fun y : S4x1024x512.Idx => (y 0).val) ((slab_emb_up k hk inb hs sq (x 0) (x 1)).symm.trans hx)).symm

theorem slab_dn (k : ℕ) (hk : k < 4) (inb hs sq) (f : Vec F S4x512x1024 .bf16) (w : Vec F S512x1024 .bf16) (c : Fin 4) (i : Fin 512) (j : Fin 1024) :
    View.write (Elt F) (((Memref.whole main_v36_2).slice (Rect.unit ![k, 0, 0] ![1, 512, 1024] inb) hs).squeeze S512x1024 sq).view f w Finset.univ (ix3 c i j)
      = if c.val = k then w (ix2 i j) else f (ix3 c i j) := by
  by_cases h : c.val = k
  · subst h
    rw [if_pos rfl]
    refine (congrArg (View.write (Elt F) (((Memref.whole main_v36_2).slice (Rect.unit ![c.val, 0, 0] ![1, 512, 1024] inb) hs).squeeze S512x1024 sq).view f w Finset.univ) (slab_emb_dn c.val hk inb hs sq i j).symm).trans ?_
    exact View.write_emb_of_mem _ _ (Finset.mem_univ _)
  · rw [if_neg h]
    refine View.write_of_not_mem _ _ _ fun hm => h ?_
    obtain ⟨x, -, hx⟩ := Finset.mem_map.mp hm
    rw [eq_ix2 x] at hx
    exact (congrArg (fun y : S4x512x1024.Idx => (y 0).val) ((slab_emb_dn k hk inb hs sq (x 0) (x 1)).symm.trans hx)).symm

/-! ## The four slabs' writes -/

theorem write_up (G : Vec F S4x1024x512 .bf16) (f : Vec F S4x1024x512 .bf16) (w0 w1 w2 w3 : Vec F S1024x512 .bf16)
    (inb0 inb1 inb2 inb3) {hs0 hs1 hs2 hs3} {sq0 sq1 sq2 sq3 : S1x1024x512.Squeezes S1024x512}
    (h0 : ∀ i j, w0 (ix2 i j) = G (ix3 (0 : Fin 4) i j)) (h1 : ∀ i j, w1 (ix2 i j) = G (ix3 (1 : Fin 4) i j))
    (h2 : ∀ i j, w2 (ix2 i j) = G (ix3 (2 : Fin 4) i j)) (h3 : ∀ i j, w3 (ix2 i j) = G (ix3 (3 : Fin 4) i j)) :
    View.write (Elt F) (((Memref.whole main_v36_1).slice (Rect.unit ![3, 0, 0] ![1, 1024, 512] inb3) hs3).squeeze S1024x512 sq3).view
      (View.write (Elt F) (((Memref.whole main_v36_1).slice (Rect.unit ![2, 0, 0] ![1, 1024, 512] inb2) hs2).squeeze S1024x512 sq2).view
        (View.write (Elt F) (((Memref.whole main_v36_1).slice (Rect.unit ![1, 0, 0] ![1, 1024, 512] inb1) hs1).squeeze S1024x512 sq1).view
          (View.write (Elt F) (((Memref.whole main_v36_1).slice (Rect.unit ![0, 0, 0] ![1, 1024, 512] inb0) hs0).squeeze S1024x512 sq0).view f w0 Finset.univ)
          w1 Finset.univ) w2 Finset.univ) w3 Finset.univ = G := by
  funext y
  obtain ⟨c, i, j, rfl⟩ : ∃ (c : Fin 4) (i : Fin 1024) (j : Fin 512), y = (ix3 c i j : S4x1024x512.Idx) := ⟨_, _, _, eq_ix3 (n0 := 4) (n1 := 1024) (n2 := 512) y⟩
  refine (slab_up 3 (by decide) _ _ _ _ _ c i j).trans ?_
  split
  · next h => rw [h3]; exact congrArg (fun c => G (ix3 c i j)) (Fin.ext h.symm)
  refine (slab_up 2 (by decide) _ _ _ _ _ c i j).trans ?_
  split
  · next h => rw [h2]; exact congrArg (fun c => G (ix3 c i j)) (Fin.ext h.symm)
  refine (slab_up 1 (by decide) _ _ _ _ _ c i j).trans ?_
  split
  · next h => rw [h1]; exact congrArg (fun c => G (ix3 c i j)) (Fin.ext h.symm)
  refine (slab_up 0 (by decide) _ _ _ _ _ c i j).trans ?_
  rw [if_pos (by omega), h0]
  exact congrArg (fun c => G (ix3 c i j)) (Fin.ext (by show 0 = c.val; omega))

theorem write_dn (G : Vec F S4x512x1024 .bf16) (f : Vec F S4x512x1024 .bf16) (w0 w1 w2 w3 : Vec F S512x1024 .bf16)
    (inb0 inb1 inb2 inb3) {hs0 hs1 hs2 hs3} {sq0 sq1 sq2 sq3 : S1x512x1024.Squeezes S512x1024}
    (h0 : ∀ i j, w0 (ix2 i j) = G (ix3 (0 : Fin 4) i j)) (h1 : ∀ i j, w1 (ix2 i j) = G (ix3 (1 : Fin 4) i j))
    (h2 : ∀ i j, w2 (ix2 i j) = G (ix3 (2 : Fin 4) i j)) (h3 : ∀ i j, w3 (ix2 i j) = G (ix3 (3 : Fin 4) i j)) :
    View.write (Elt F) (((Memref.whole main_v36_2).slice (Rect.unit ![3, 0, 0] ![1, 512, 1024] inb3) hs3).squeeze S512x1024 sq3).view
      (View.write (Elt F) (((Memref.whole main_v36_2).slice (Rect.unit ![2, 0, 0] ![1, 512, 1024] inb2) hs2).squeeze S512x1024 sq2).view
        (View.write (Elt F) (((Memref.whole main_v36_2).slice (Rect.unit ![1, 0, 0] ![1, 512, 1024] inb1) hs1).squeeze S512x1024 sq1).view
          (View.write (Elt F) (((Memref.whole main_v36_2).slice (Rect.unit ![0, 0, 0] ![1, 512, 1024] inb0) hs0).squeeze S512x1024 sq0).view f w0 Finset.univ)
          w1 Finset.univ) w2 Finset.univ) w3 Finset.univ = G := by
  funext y
  obtain ⟨c, i, j, rfl⟩ : ∃ (c : Fin 4) (i : Fin 512) (j : Fin 1024), y = (ix3 c i j : S4x512x1024.Idx) := ⟨_, _, _, eq_ix3 (n0 := 4) (n1 := 512) (n2 := 1024) y⟩
  refine (slab_dn 3 (by decide) _ _ _ _ _ c i j).trans ?_
  split
  · next h => rw [h3]; exact congrArg (fun c => G (ix3 c i j)) (Fin.ext h.symm)
  refine (slab_dn 2 (by decide) _ _ _ _ _ c i j).trans ?_
  split
  · next h => rw [h2]; exact congrArg (fun c => G (ix3 c i j)) (Fin.ext h.symm)
  refine (slab_dn 1 (by decide) _ _ _ _ _ c i j).trans ?_
  split
  · next h => rw [h1]; exact congrArg (fun c => G (ix3 c i j)) (Fin.ext h.symm)
  refine (slab_dn 0 (by decide) _ _ _ _ _ c i j).trans ?_
  rw [if_pos (by omega), h0]
  exact congrArg (fun c => G (ix3 c i j)) (Fin.ext (by show 0 = c.val; omega))

/-! ## The words copied -/

theorem pay4_apply (v : Vec F S1x1024x512 .f32) (i : Fin 1024) (j : Fin 512) : k0_pay4 v (ix2 i j) = FloatOps.truncf .bf16 bitsLt_bf16_f32 (v (ix3 (0 : Fin 1) i j)) := by
  unfold k0_pay4
  simp only [shapeCast_self]
  exact congrArg (FloatOps.truncf .bf16 bitsLt_bf16_f32) (shapeCast_1ab_ab_apply _ _ _ _)

theorem pay6_apply (v : Vec F S1x1024x512 .f32) (i : Fin 1024) (j : Fin 512) : k0_pay6 v (ix2 i j) = FloatOps.truncf .bf16 bitsLt_bf16_f32 (v (ix3 (0 : Fin 1) i j)) := pay4_apply v i j
theorem pay9_apply (v : Vec F S1x1024x512 .f32) (i : Fin 1024) (j : Fin 512) : k0_pay9 v (ix2 i j) = FloatOps.truncf .bf16 bitsLt_bf16_f32 (v (ix3 (0 : Fin 1) i j)) := pay4_apply v i j
theorem pay2_apply (v : Vec F S1x1024x512 .f32) (i : Fin 1024) (j : Fin 512) : k0_pay2 v (ix2 i j) = FloatOps.truncf .bf16 bitsLt_bf16_f32 (v (ix3 (0 : Fin 1) i j)) := pay4_apply v i j

theorem pay5_apply (v : Vec F S512x1024 .f32) (i : Fin 512) (j : Fin 1024) : k0_pay5 v (ix2 i j) = FloatOps.truncf .bf16 bitsLt_bf16_f32 (v (ix2 i j)) := by
  unfold k0_pay5
  simp only [shapeCast_self]
  rfl
theorem pay87_apply (v : Vec F S512x1024 .f32) (i : Fin 512) (j : Fin 1024) : k0_pay8 (k0_pay7 v) (ix2 i j) = FloatOps.truncf .bf16 bitsLt_bf16_f32 (v (ix2 i j)) := pay5_apply v i j
theorem pay10_apply (v : Vec F S512x1024 .f32) (i : Fin 512) (j : Fin 1024) : k0_pay10 v (ix2 i j) = FloatOps.truncf .bf16 bitsLt_bf16_f32 (v (ix2 i j)) := pay5_apply v i j
theorem pay3_apply (v : Vec F S512x1024 .f32) (i : Fin 512) (j : Fin 1024) : k0_pay3 v (ix2 i j) = FloatOps.truncf .bf16 bitsLt_bf16_f32 (v (ix2 i j)) := pay5_apply v i j

theorem up_word (c : Fin 4) {κ : Kind} {sp : Space} (v : View sig κ sp S4x1024x512 .f32) (L : List (View.Piece (Elt F) S4x1024x512 .f32)) (inb)
    (A : Vec F S4x1024x512 .f32) (hA : View.canon L = A) (i : Fin 1024) (j : Fin 512) :
    FloatOps.truncf .bf16 bitsLt_bf16_f32 (v.readCov L (Rect.unit (s := S4x1024x512) ![c.val, 0, 0] ![1, 1024, 512] inb).toLoadRect (ix3 (0 : Fin 1) i j)) = castUp A (ix3 c i j) := by
  subst hA
  rw [View.readCov_eq_canon']
  refine congrArg (fun y => FloatOps.truncf .bf16 bitsLt_bf16_f32 (View.canon L y)) ?_
  funext a
  apply Fin.ext
  refine (Rect.idx_unit_val _ _ _ _ a).trans ?_
  match a with
  | ⟨0, _⟩ => rfl
  | ⟨1, _⟩ => exact Nat.zero_add _
  | ⟨2, _⟩ => exact Nat.zero_add _

theorem dn_word (c : Fin 4) {κ : Kind} {sp : Space} (v : View sig κ sp S2048x1024 .f32) (L : List (View.Piece (Elt F) S2048x1024 .f32)) {o : ℕ} (ho : o = 512 * c.val) (inb)
    (A : Vec F S2048x1024 .f32) (hA : View.canon L = A) (i : Fin 512) (j : Fin 1024) :
    FloatOps.truncf .bf16 bitsLt_bf16_f32 (v.readCov L (Rect.unit (s := S2048x1024) ![o, 0] ![512, 1024] inb).toLoadRect (ix2 i j)) = castDn A (ix3 c i j) := by
  subst hA ho
  rw [View.readCov_eq_canon']
  refine congrArg (fun y => FloatOps.truncf .bf16 bitsLt_bf16_f32 (View.canon L y)) ?_
  funext a
  apply Fin.ext
  refine (Rect.idx_unit_val _ _ _ _ a).trans ?_
  match a with
  | ⟨0, _⟩ => rfl
  | ⟨1, _⟩ => exact Nat.zero_add _

end Cert.MlpBwdIdeal.Last

end
-- ==== Proof.MlpBwd.LastPoint.lean ====
/-
  The last point of the MLP gradient's grid: it adds the last block's products to the two accumulators, and then casts them
  four slabs each through two buffers into the two results in HBM, each slab by a copy that it waits for. The theorem says
  what HBM holds afterwards: the accumulators' casts.
-/
module

public import proofs.«01_k».proof.Proof.Gen.MlpBwdIdeal.Frame
public import proofs.«01_k».proof.Proof.MlpBwd.Slabs

@[expose] public section

set_option maxRecDepth 16384

noncomputable section

namespace Cert.MlpBwdIdeal.Last

open Cert.MlpBwdIdeal Cert.MlpBwdIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The last point, its two results in HBM named. -/
theorem run_last (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x2048 .bf16) (harg3 : arg3.IsWhole) (arg4 : Memref sig .tc .vmem S4x1024x512 .bf16) (harg4 : arg4.IsWhole) (arg5 : Memref sig .tc .vmem S2048x1024 .bf16) (harg5 : arg5.IsWhole) (arg6 : Memref sig .tc .vmem S512x1024 .f32) (harg6 : arg6.IsWhole) (arg9 : Memref sig .tc .vmem S4x1024x512 .f32) (harg9 : arg9.IsWhole) (arg10 : Memref sig .tc .vmem S2048x1024 .f32) (harg10 : arg10.IsWhole) (arg11 : Memref sig .tc .vmem S1024x512 .bf16) (harg11 : arg11.IsWhole) (arg12 : Memref sig .tc .vmem S512x1024 .bf16) (harg12 : arg12.IsWhole) (hc0 : ¬cond0_0 i) (hc1 : cond0_1 i)
    (x0 : Vec F S512x1024 .f32) (x1 : Vec F S512x1024 .bf16) (x2 : Vec F S512x2048 .bf16) (x3 : Vec F S4x1024x512 .bf16) (x4 : Vec F S2048x1024 .bf16) (xs0 : Vec F S4x1024x512 .f32) (xs1 : Vec F S2048x1024 .f32) :
    ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg9 fullShare xs0 ∗ owns (c : Thread nD τ) arg10 fullShare xs1 ∗ (∃ d, owns (c : Thread nD τ) arg11 fullShare d) ∗ (∃ d, owns (c : Thread nD τ) arg12 fullShare d) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ (∃ f, hbPt0 c hbM0_0 f) ∗ (∃ f, hbPt0 c hbM0_1 f) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f (kernelRun0_C c i arg1 harg1 arg2 harg2 arg3 harg3 arg4 harg4 arg5 harg5 arg6 harg6 arg9 harg9 arg10 harg10 arg11 harg11 arg12 harg12 hc0 hc1 x0 x1 x2 x3 x4 xs0 xs1).1) ∗ (∃ f, arg9.view.loc (c : Thread nD τ) ↦[arg9.view.set]{fullShare} arg9.view.writes (Elt F) f (kernelRun0_C c i arg1 harg1 arg2 harg2 arg3 harg3 arg4 harg4 arg5 harg5 arg6 harg6 arg9 harg9 arg10 harg10 arg11 harg11 arg12 harg12 hc0 hc1 x0 x1 x2 x3 x4 xs0 xs1).2.1) ∗ (∃ f, arg10.view.loc (c : Thread nD τ) ↦[arg10.view.set]{fullShare} arg10.view.writes (Elt F) f (kernelRun0_C c i arg1 harg1 arg2 harg2 arg3 harg3 arg4 harg4 arg5 harg5 arg6 harg6 arg9 harg9 arg10 harg10 arg11 harg11 arg12 harg12 hc0 hc1 x0 x1 x2 x3 x4 xs0 xs1).2.2.1) ∗ (∃ d, owns (c : Thread nD τ) arg11 fullShare d) ∗ (∃ d, owns (c : Thread nD τ) arg12 fullShare d) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ hbPt0 c hbM0_0 (castUp (sout0_C_0 c i arg1 harg1 arg2 harg2 arg3 harg3 arg4 harg4 arg5 harg5 arg6 harg6 arg9 harg9 arg10 harg10 arg11 harg11 arg12 harg12 hc0 hc1 x0 x1 x2 x3 x4 xs0 xs1)) ∗ hbPt0 c hbM0_1 (castDn (sout0_C_1 c i arg1 harg1 arg2 harg2 arg3 harg3 arg4 harg4 arg5 harg5 arg6 harg6 arg9 harg9 arg10 harg10 arg11 harg11 arg12 harg12 hc0 hc1 x0 x1 x2 x3 x4 xs0 xs1)) ∗ (∃ W', owes (c : Thread nD τ) 0 W')) -∗ K ⟨⟩))
          ⊢ wp frame (wpE (defs₀ (F := F)) Variants.none c none) Set.univ (cc0_mlp_bwd_0 i arg1 harg1 arg2 harg2 arg3 harg3 arg4 harg4 arg5 harg5 arg6 harg6 (Memref.whole main_v36_1) (Memref.isWhole_whole _) (Memref.whole main_v36_2) (Memref.isWhole_whole _) arg9 harg9 arg10 harg10 arg11 harg11 arg12 harg12 cc0_scoped0 cc0_scoped1 cc0_scoped2 cc0_scoped3 cc0_scoped4 cc0_scoped5 cc0_scoped6 cc0_scoped7) K := by
  intro W K
  simp only [cc0_mlp_bwd_0_eq_skeleton]; unfold cc0_mlp_bwd_0_skel
  simp only [k0_part3_eq_skeleton, k0_part4_eq_skeleton, k0_part5_eq_skeleton, k0_part6_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%ds2, %fs2, -, HS2⟩, ⟨%ds3, %fs3, -, HS3⟩, Hq0, Hq1, Hq2, Hq3, Hq4, Hq5, Hq6, Hq7, ⟨%fw0, Hh0⟩, ⟨%fw1, Hh1⟩, HW, Hk⟩
  obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]; · iexists _; iexact H5
  isplitl [HS0]; · iexists _; iexact HS0
  isplitl [HS1]; · iexists _; iexact HS1
  isplitl [HS2]
  · iexists _, _; isplitr; swap; · iexact HS2
    ipureintro; rfl
  isplitl [HS3]
  · iexists _, _; isplitr; swap; · iexact HS3
    ipureintro; rfl
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh0]
  · rw [write_up (castUp (sout0_C_0 c i arg1 harg1 arg2 harg2 arg3 harg3 arg4 harg4 arg5 harg5 arg6 harg6 arg9 harg9 arg10 harg10 arg11 harg11 arg12 harg12 hc0 hc1 x0 x1 x2 x3 x4 xs0 xs1)) _ _ _ _ _ _ _ _ _ ?_ ?_ ?_ ?_]
    · iexact Hh0
    · intro i' j'
      sl_unfold_words
      refine (congrFun (Whole.read_cons _ _ Whole.hz2 _ _ _) (ix2 i' j')).trans ((pay4_apply _ _ _).trans ?_)
      refine up_word 0 _ _ _ _ ?_ i' j'
      unfold sout0_C_0 kernelRun0_C
      rw [View.read_writes_junk_eq_canon]
      dsimp only
      sl_unfold_words
      simp only [View.readAt_eq_ld, harg1.read_unread, harg2.read_unread, harg3.read_unread, harg4.read_unread, harg5.read_unread, harg9.read_unread, harg10.read_unread]
    · intro i' j'
      sl_unfold_words
      refine (congrFun (Whole.read_cons _ _ Whole.hz2 _ _ _) (ix2 i' j')).trans ((pay6_apply _ _ _).trans ?_)
      refine up_word 1 _ _ _ _ ?_ i' j'
      unfold sout0_C_0 kernelRun0_C
      rw [View.read_writes_junk_eq_canon]
      dsimp only
      sl_unfold_words
      simp only [View.readAt_eq_ld, harg1.read_unread, harg2.read_unread, harg3.read_unread, harg4.read_unread, harg5.read_unread, harg9.read_unread, harg10.read_unread]
    · intro i' j'
      sl_unfold_words
      refine (congrFun (Whole.read_cons _ _ Whole.hz2 _ _ _) (ix2 i' j')).trans ((pay9_apply _ _ _).trans ?_)
      refine up_word 2 _ _ _ _ ?_ i' j'
      unfold sout0_C_0 kernelRun0_C
      rw [View.read_writes_junk_eq_canon]
      dsimp only
      sl_unfold_words
      simp only [View.readAt_eq_ld, harg1.read_unread, harg2.read_unread, harg3.read_unread, harg4.read_unread, harg5.read_unread, harg9.read_unread, harg10.read_unread]
    · intro i' j'
      sl_unfold_words
      refine (congrFun (Whole.read_cons _ _ Whole.hz2 _ _ _) (ix2 i' j')).trans ((pay2_apply _ _ _).trans ?_)
      refine up_word 3 _ _ _ _ ?_ i' j'
      unfold sout0_C_0 kernelRun0_C
      rw [View.read_writes_junk_eq_canon]
      dsimp only
      sl_unfold_words
      simp only [View.readAt_eq_ld, harg1.read_unread, harg2.read_unread, harg3.read_unread, harg4.read_unread, harg5.read_unread, harg9.read_unread, harg10.read_unread]
  isplitl [Hh1]
  · rw [write_dn (castDn (sout0_C_1 c i arg1 harg1 arg2 harg2 arg3 harg3 arg4 harg4 arg5 harg5 arg6 harg6 arg9 harg9 arg10 harg10 arg11 harg11 arg12 harg12 hc0 hc1 x0 x1 x2 x3 x4 xs0 xs1)) _ _ _ _ _ _ _ _ _ ?_ ?_ ?_ ?_]
    · iexact Hh1
    · intro i' j'
      sl_unfold_words
      refine (congrFun (Whole.read_cons _ _ Whole.hz2 _ _ _) (ix2 i' j')).trans ((pay5_apply _ _ _).trans ?_)
      refine dn_word 0 _ _ rfl _ _ ?_ i' j'
      unfold sout0_C_1 kernelRun0_C
      rw [View.read_writes_junk_eq_canon]
      dsimp only
      sl_unfold_words
      simp only [View.readAt_eq_ld, harg1.read_unread, harg2.read_unread, harg3.read_unread, harg4.read_unread, harg5.read_unread, harg9.read_unread, harg10.read_unread]
    · intro i' j'
      sl_unfold_words
      refine (congrFun (Whole.read_cons _ _ Whole.hz2 _ _ _) (ix2 i' j')).trans ((pay87_apply _ _ _).trans ?_)
      refine dn_word 1 _ _ rfl _ _ ?_ i' j'
      unfold sout0_C_1 kernelRun0_C
      rw [View.read_writes_junk_eq_canon]
      dsimp only
      sl_unfold_words
      simp only [View.readAt_eq_ld, harg1.read_unread, harg2.read_unread, harg3.read_unread, harg4.read_unread, harg5.read_unread, harg9.read_unread, harg10.read_unread]
    · intro i' j'
      sl_unfold_words
      refine (congrFun (Whole.read_cons _ _ Whole.hz2 _ _ _) (ix2 i' j')).trans ((pay10_apply _ _ _).trans ?_)
      refine dn_word 2 _ _ rfl _ _ ?_ i' j'
      unfold sout0_C_1 kernelRun0_C
      rw [View.read_writes_junk_eq_canon]
      dsimp only
      sl_unfold_words
      simp only [View.readAt_eq_ld, harg1.read_unread, harg2.read_unread, harg3.read_unread, harg4.read_unread, harg5.read_unread, harg9.read_unread, harg10.read_unread]
    · intro i' j'
      sl_unfold_words
      refine (congrFun (Whole.read_cons _ _ Whole.hz2 _ _ _) (ix2 i' j')).trans ((pay3_apply _ _ _).trans ?_)
      refine dn_word 3 _ _ rfl _ _ ?_ i' j'
      unfold sout0_C_1 kernelRun0_C
      rw [View.read_writes_junk_eq_canon]
      dsimp only
      sl_unfold_words
      simp only [View.readAt_eq_ld, harg1.read_unread, harg2.read_unread, harg3.read_unread, harg4.read_unread, harg5.read_unread, harg9.read_unread, harg10.read_unread]
  iexists _; iexact HW

end Cert.MlpBwdIdeal.Last

end
-- ==== Proof.MlpBwd.Run.lean ====
/-
  A run of the MLP gradient's program with the contents of its two results in HBM named: the last point leaves the two
  accumulators' casts there.
-/
module

public import proofs.«01_k».proof.Proof.MlpBwd.LastPoint
public import Idealize.ShloMosaic.Lib.Pipeline.FrameValue

@[expose] public section

set_option maxRecDepth 16384

noncomputable section

namespace Cert.MlpBwdIdeal.Last

open Cert.MlpBwdIdeal Cert.MlpBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The last point. -/
def tLast : Fin cfg0.N := ⟨15, by rw [show cfg0.N = 16 from N_0]; decide⟩

/-- The gradient of `w_up` left in HBM: the accumulator after the last point, cast. -/
def resUp (c : Dev nD) : Vec F S4x1024x512 .bf16 := castUp (outsAt0 m c 15 tLast.isLt).2.1

/-- The gradient of `w_down` left in HBM: the accumulator after the last point, cast. -/
def resDn (c : Dev nD) : Vec F S4x512x1024 .bf16 := castDn (outsAt0 m c 15 tLast.isLt).2.2

/-- The invariant after the last point: the one of the frame with the two results named. -/
def PhiEnd (c : Dev nD) : sProp 𝕄 :=
  iprop(iprop(owns (c : Thread nD τ) scM0_0 fullShare (outsAt0 m c 15 tLast.isLt).2.1 ∗ owns (c : Thread nD τ) scM0_1 fullShare (outsAt0 m c 15 tLast.isLt).2.2 ∗ (∃ d, owns (c : Thread nD τ) scM0_2 fullShare d) ∗ (∃ d, owns (c : Thread nD τ) scM0_3 fullShare d)) ∗ (∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) ∗ iprop(emp) ∗ iprop(hbPt0 c hbM0_0 (resUp m c) ∗ hbPt0 c hbM0_1 (resDn m c)))

/-- The frame's proof data with the invariant after the last point strengthened. -/
def datsV (p : Fin 1) (c : Dev nD) : Dat τ (Elt F) Unit ℕ (Pipeline.UD sig nD τ) ℕ cfg0 c :=
  { dats m p c with Φ := fun t => if t.val = 16 then PhiEnd m c else PhiS m c t.val (Nat.le_of_lt_succ t.isLt) }

/-- The arrays are the frame's. -/
theorem A_eqV (c : Dev nD) (w : Fin cfg0.W) : (datsV m 0 c).A w = V m c (Pipeline.arrRef spec0 w) := by
  dsimp only [datsV, dats]

/-- The invariant at the end. -/
theorem Phi_end (c : Dev nD) (t : Fin (cfg0.N + 1)) (h : t.val = 16) : (datsV m 0 c).Φ t = PhiEnd m c := if_pos h

/-- The invariant before the end is the frame's. -/
theorem Phi_pre (c : Dev nD) (t : Fin (cfg0.N + 1)) (h : ¬ t.val = 16) : (datsV m 0 c).Φ t = (dats m 0 c).Φ t := if_neg h

set_option maxHeartbeats 4000000 in
/-- The body at any point keeps the strengthened invariant. -/
theorem sound_body (c : Dev nD) (t : Fin cfg0.N) :
    iprop((datsV m 0 c).Φ t.castSucc ∗ (datsV m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d))
      ∗ (∃ d, owns (c : Thread nD τ) (ms0_4 t) fullShare ((dats m 0 c).before 4 t d))
      ∗ (∃ d, owns (c : Thread nD τ) (ms0_5 t) fullShare ((dats m 0 c).before 5 t d)))
    ⊢ wp frame (wpE (defs₀ (F := F)) Variants.none c none) Set.univ (bodyAt0 t) (fun _ =>
      iprop((datsV m 0 c).Φ t.succ ∗ (datsV m 0 c).owesAt () t.succ
        ∗ owns (c : Thread nD τ) (ms0_0 t) fullShare ((dats m 0 c).after 0 t)
        ∗ owns (c : Thread nD τ) (ms0_1 t) fullShare ((dats m 0 c).after 1 t)
        ∗ owns (c : Thread nD τ) (ms0_2 t) fullShare ((dats m 0 c).after 2 t)
        ∗ owns (c : Thread nD τ) (ms0_3 t) fullShare ((dats m 0 c).after 3 t)
        ∗ owns (c : Thread nD τ) (ms0_4 t) fullShare ((dats m 0 c).after 4 t)
        ∗ owns (c : Thread nD τ) (ms0_5 t) fullShare ((dats m 0 c).after 5 t))) := by
  have hN : t.val < 16 := lt_of_lt_of_eq t.isLt (show cfg0.N = 16 from N_0)
  have e0 : (datsV m 0 c).Φ t.castSucc = (dats m 0 c).Φ t.castSucc := Phi_pre m c _ (by rw [Fin.val_castSucc]; omega)
  by_cases h1 : t.val = 15
  · obtain rfl : t = tLast := Fin.ext h1
    have e1 : (datsV m 0 c).Φ tLast.succ = PhiEnd m c := Phi_end m c _ rfl
    rw [e0, e1]
    have h0 : ¬ tLast.val % 16 = 0 := by show ¬ 15 % 16 = 0; decide
    have h1 : tLast.val % 16 = 15 := by show 15 % 16 = 15; decide
    simp only [before0_0, before0_1, before0_2, before0_3, before0_4]
    rw [after0_0, after0_1, after0_2, after0_3, after0_4, after0_5]
    unfold Dat.owesAt Pipeline.owesWithin
    rw [show (datsV m 0 c).owed tLast.castSucc = 0 from rfl, show (datsV m 0 c).owed tLast.succ = 0 from rfl]
    rw [PhiS_castSucc m c tLast, PhiS_pos m c _ _ (show tLast.val ≠ 0 by decide)]
    unfold PhiEnd resUp resDn bodyAt0
    rw [show outsAt0 m c 15 tLast.isLt = _ from outsAt0_C m c tLast h0 h1, show outsAt0 m c tLast.val tLast.isLt = _ from outsAt0_C m c tLast h0 h1]
    dsimp only
    iintro ⟨⟨⟨HS0, HS1, HS2, HS3⟩, Hg, ⟨Hq0, Hq1, Hq2, Hq3, Hq4, Hq5, Hq6, Hq7⟩, -, ⟨Hh0, Hh1⟩⟩, ⟨%W, -, HW⟩, ⟨%d0, H0⟩, ⟨%d1, H1⟩, ⟨%d2, H2⟩, ⟨%d3, H3⟩, ⟨%d4, H4⟩, ⟨%d5, H5⟩⟩
    iapply (run_last c (grid0.coords tLast) _ _ _ _ _ _ _ _ _ _ _ _ _ _ _ _ _ _ _ _ (fun h => h0 ((hcond0_0 tLast).mp h)) ((hcond0_1 tLast).mpr h1) (iblk m c 0 tLast) (iblk m c 1 tLast) (iblk m c 2 tLast) (iblk m c 3 tLast) (iblk m c 4 tLast) _ _ W _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [HS3]; · iexact HS3
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [Hh1]; · iexact Hh1
    isplitl [HW]; · iexact HW
    unfold out0_C_5 sout0_C_0 sout0_C_1
    iintro ⟨H0, H1, H2, H3, H4, ⟨%e5, H5⟩, ⟨%es0, HS0⟩, ⟨%es1, HS1⟩, HS2, HS3, Hq0, Hq1, Hq2, Hq3, Hq4, Hq5, Hq6, Hq7, Hh0, Hh1, ⟨%W', HW'⟩⟩
    isplitl [HS0 HS1 HS2 HS3 Hg Hq0 Hq1 Hq2 Hq3 Hq4 Hq5 Hq6 Hq7 Hh0 Hh1]
    · isplitl [HS0 HS1 HS2 HS3]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_C_1 c _ _ _ _ _ _ _ _ _ _ _ _ _ _ _ _ _ _ _ _ _ _ _ _ _ _ _ _ _ _)
        isplitl [HS2]; · iexact HS2
        iexact HS3
      isplitl [Hg]
      · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      isplitr; · iempintro
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_C_5 c _ _ _ _ _ _ _ _ _ _ _ _ _ _ _ _ _ _ _ _ _ _ _ _ _ _ _ _ _ _)
  · have e1 : (datsV m 0 c).Φ t.succ = (dats m 0 c).Φ t.succ := Phi_pre m c _ (by rw [Fin.val_succ]; omega)
    rw [e0, e1]
    exact Gen.sound_body m c t

set_option maxHeartbeats 4000000 in
/-- The obligation on the body, at every point. -/
theorem body_obligation (c : Dev nD) : BodyObligation (datsV (F := F) m 0 c) (defs₀ (F := F)) Variants.none () Set.univ := fun t => by
  rw [bigSep_W0, bigSep_W0, defs₀_row]
  exact triple_restated (sound_body m c t) rfl .rfl fun _ => .rfl

/-- What the buffers the body writes hold at the end. -/
def G (c : Dev nD) (b : Ref sig .tc) : Buf (Elt F) ((c : Thread nD τ).loc b) :=
  if h : b = main_v36_1 then h ▸ resUp m c else if h : b = main_v36_2 then h ▸ resDn m c else V m c b

/-- The launch's resources give the invariant at the start. -/
theorem hin (c : Dev nD) : Pipeline.ΦDRG osem0 spec0 H0 R0 (V m) (V m) c ⊢ (datsV m 0 c).Φ 0 :=
  (Pipeline.ΦDRG_ΦDR osem0 spec0 H0 R0 (V m) (V m) c).trans
    (by rw [Phi_pre m c 0 (by show ¬ 0 = 16; decide)]; exact Gen.hin m c)

/-- The buffers the body writes, one by one. -/
theorem routed_eq (c : Dev nD) : (Pipeline.routed R0 c (G m c) : sProp 𝕄) = iprop(hbPt0 c hbM0_0 (resUp m c) ∗ hbPt0 c hbM0_1 (resDn m c)) := by
  unfold Pipeline.routed; rw [BI.bigSep_eq_bigSepL_of_eq [main_v36_1, main_v36_2] (by decide) (by decide)]; rfl

/-- The invariant at the end gives the launch's resources back. -/
theorem hout (c : Dev nD) : (datsV m 0 c).Φ (Fin.last cfg0.N) ⊢ Pipeline.ΦDRG osem0 spec0 H0 R0 (V m) (G m) c := by
  rw [Phi_end m c _ (by rw [Fin.val_last]; exact N_0), Pipeline.ΦDRG_eq, scopedRest0_eq, ownSems00_eq, hbmPts0_eq, routed_eq]
  unfold PhiEnd
  simp only [scM0_0, scM0_1, scM0_2, scM0_3, ← owns_whole]
  iintro ⟨⟨HS0, HS1, HS2, HS3⟩, Hg, Hq, Hh, Hh0, Hh1⟩
  isplitl [HS0 HS1 HS2 HS3]
  · isplitl [HS0]
    · iexists _; iexact HS0
    isplitl [HS1]
    · iexists _; iexact HS1
    isplitl [HS2]; · iexact HS2
    iexact HS3
  isplitl [Hg]; · iexact Hg
  isplitl [Hq]; · iexact Hq
  isplitl [Hh]; · iexact Hh
  isplitl [Hh0]; · iexact Hh0
  iexact Hh1

set_option backward.isDefEq.respectTransparency.types false in
/-- The run with the results left in HBM named. -/
theorem run : θ_run defs (onTc (τ := τ) (main (F := F))) (s₀ m ρ) (Pipeline.FramePostRG cfgs (datsV m) 0 R0 (V m) (G m)) :=
  Pipeline.θ_run_frame_dmaRG (Q' := _) cfgs (datsV m) (0 : Fin 1) launch0 osem0 defs₀ Variants.none ownSemFacts0 H0 R0 H0_sub R0_sub m ρ main
    (hbody := fun c => (body_obligation m c).loose) (hshare := fun c => (datsV m 0 c).share_full fun _ => rfl)
    (howed := fun _ _ => rfl) (V := V m) (hmain := hmain m Variants.none) (hA := A_eqV m)
    (G := G m) (hin := hin m) (hout := hout m)

/-- The two result arrays after the run. -/
theorem run_res : θ_run defs (onTc (τ := τ) (main (F := F))) ⟨m, fun _ => 0, ρ⟩ (fun r => ∀ c : Dev nD,
    r.2.mem ((c : Thread nD τ).loc main_v36_1) = resUp m c ∧ r.2.mem ((c : Thread nD τ).loc main_v36_2) = resDn m c) :=
  (θ_run defs _ _).mono (fun _ h c => ⟨h.2 c main_v36_1 (by decide), h.2 c main_v36_2 (by decide)⟩) (run m ρ)

end Cert.MlpBwdIdeal.Last

end
-- ==== Proof.MlpBwd.Value.lean ====
/-
  The MLP gradient's three results over the reals: the accumulators' sums over all rows, and each block of the gradient of
  `z` at its rows.
-/
module

public import proofs.«01_k».proof.Proof.MlpBwd.Blocks
public import proofs.«01_k».proof.Proof.MlpBwd.Point
public import proofs.«01_k».proof.Proof.MlpBwd.Run
public import proofs.«01_k».proof.Proof.Gen.MlpBwdIdeal.Value

@[expose] public section

set_option maxRecDepth 16384

noncomputable section

namespace Cert.MlpBwdIdeal.Last

open Cert.MlpBwdIdeal Cert.MlpBwdIdeal.Gen Cert.MlpBwdIdeal.Blocks Cert.MlpTerms
open Idealize.ShloMosaic Idealize.ShloMosaic.TcCoe Idealize.ShloMosaic.ValueIdx Idealize.SL.Sem
open scoped BigOperators

variable (m : (ℓ : Loc nD τ sig) → Buf (Elt Ideal) ℓ)

/-- The activation's root on a block. -/
theorem relu_eq (c : Dev nD) (t : Fin cfg0.N) (r : Fin 512) (k : Fin 2048) :
    Point.relu (iblk m c 2 t) r k = act (argZ m c) (argU m c) (rowOf t r) k := by
  unfold Point.relu act
  rw [blkP]

/-- The pre-activation's gradient on a block. -/
theorem dup_eq (c : Dev nD) (t : Fin cfg0.N) (r : Fin 512) (k : Fin 2048) :
    Point.dup (iblk m c 0 t) (iblk m c 2 t) (iblk m c 4 t) r k = du (argZ m c) (argU m c) (argD m c) (argG m c) (rowOf t r) k := by
  unfold Point.dup du dact
  rw [relu_eq]
  congr 1
  exact Finset.sum_congr rfl fun d _ => by rw [blkG, blkD]

/-- One point's step of the accumulator of `w_up`'s gradient. -/
theorem step_up (c : Dev nD) (t : Fin cfg0.N) (a : Vec Ideal S4x1024x512 .f32) (q : Fin 4) (e : Fin 1024) (j : Fin 512)
    (h : a (ix3 q e j) = Cert.Blocks.upTo (upT (argZ m c) (argU m c) (argD m c) (argG m c) (unit q j) e) (512 * t.val)) :
    Point.upG (iblk m c 0 t) (iblk m c 1 t) (iblk m c 2 t) (iblk m c 4 t) a (ix3 q e j)
      = Cert.Blocks.upTo (upT (argZ m c) (argU m c) (argD m c) (argG m c) (unit q j) e) (512 * (t.val + 1)) := by
  have hN : t.val < 16 := lt_of_lt_of_eq t.isLt (show cfg0.N = 16 from N_0)
  rw [Nat.mul_add, Nat.mul_one, Cert.Blocks.upTo_add _ _ _ (by omega), ← h]
  refine congrArg (a (ix3 q e j) + ·) (Finset.sum_congr rfl fun r _ => ?_)
  exact congrArg₂ (fun x y : EReal => x * y) (blkZ m c t r e) (dup_eq m c t r (unit q j))

/-- One point's step of the accumulator of `w_down`'s gradient. -/
theorem step_dn (c : Dev nD) (t : Fin cfg0.N) (a : Vec Ideal S2048x1024 .f32) (k : Fin 2048) (d : Fin 1024)
    (h : a (ix2 k d) = Cert.Blocks.upTo (dnT (argZ m c) (argU m c) (argG m c) k d) (512 * t.val)) :
    Point.dnG (iblk m c 0 t) (iblk m c 2 t) a (ix2 k d) = Cert.Blocks.upTo (dnT (argZ m c) (argU m c) (argG m c) k d) (512 * (t.val + 1)) := by
  have hN : t.val < 16 := lt_of_lt_of_eq t.isLt (show cfg0.N = 16 from N_0)
  rw [Nat.mul_add, Nat.mul_one, Cert.Blocks.upTo_add _ _ _ (by omega), ← h]
  refine congrArg (a (ix2 k d) + ·) (Finset.sum_congr rfl fun r _ => ?_)
  show Point.relu (iblk m c 2 t) r k * Point.relu (iblk m c 2 t) r k * iblk m c 0 t (ix2 r d) = _
  rw [relu_eq, blkG]
  rfl

/-- The zeros the first point stores. -/
theorem zero_up (q : Fin 4) (e : Fin 1024) (j : Fin 512) : (k0_pay11 (F := Ideal)) (ix3 q e j) = (0 : EReal) := by
  unfold k0_pay11
  simp only [shapeCast_self]
  exact Cert.Products.zero_word

/-- The zeros the first point stores. -/
theorem zero_dn (k : Fin 2048) (d : Fin 1024) : (k0_pay12 (F := Ideal)) (ix2 k d) = (0 : EReal) := by
  unfold k0_pay12
  simp only [shapeCast_self]
  exact Cert.Products.zero_word

/-- After a point the accumulator of `w_up`'s gradient holds the terms of the rows met so far. -/
theorem acc_up (c : Dev nD) (q : Fin 4) (e : Fin 1024) (j : Fin 512) : ∀ (n : ℕ) (hn : n < cfg0.N),
    (outsAt0 m c n hn).2.1 (ix3 q e j) = Cert.Blocks.upTo (upT (argZ m c) (argU m c) (argD m c) (argG m c) (unit q j) e) (512 * (n + 1))
  | 0, hn => by
    rw [show outsAt0 m c 0 hn = _ from outsAt0_A m c ⟨0, hn⟩ (Nat.zero_mod _) (by show ¬ 0 % 16 = 15; decide)]
    dsimp only
    rw [Point.sout_A_0]
    exact step_up m c ⟨0, hn⟩ _ q e j (by rw [zero_up]; exact (Cert.Blocks.upTo_zero _).symm)
  | n + 1, hn => by
    have hN : n + 1 < 16 := lt_of_lt_of_eq hn (show cfg0.N = 16 from N_0)
    by_cases h1 : (n + 1) % 16 = 15
    · rw [show outsAt0 m c (n + 1) hn = _ from outsAt0_C m c ⟨n + 1, hn⟩ (by show ¬ (n + 1) % 16 = 0; omega) h1]
      dsimp only
      rw [Point.sout_C_0]
      exact step_up m c ⟨n + 1, hn⟩ _ q e j (acc_up c q e j n _)
    · rw [show outsAt0 m c (n + 1) hn = _ from outsAt0_B m c ⟨n + 1, hn⟩ (by show ¬ (n + 1) % 16 = 0; omega) h1]
      dsimp only
      rw [Point.sout_B_0]
      exact step_up m c ⟨n + 1, hn⟩ _ q e j (acc_up c q e j n _)

/-- After a point the accumulator of `w_down`'s gradient holds the terms of the rows met so far. -/
theorem acc_dn (c : Dev nD) (k : Fin 2048) (d : Fin 1024) : ∀ (n : ℕ) (hn : n < cfg0.N),
    (outsAt0 m c n hn).2.2 (ix2 k d) = Cert.Blocks.upTo (dnT (argZ m c) (argU m c) (argG m c) k d) (512 * (n + 1))
  | 0, hn => by
    rw [show outsAt0 m c 0 hn = _ from outsAt0_A m c ⟨0, hn⟩ (Nat.zero_mod _) (by show ¬ 0 % 16 = 15; decide)]
    dsimp only
    rw [Point.sout_A_1]
    exact step_dn m c ⟨0, hn⟩ _ k d (by rw [zero_dn]; exact (Cert.Blocks.upTo_zero _).symm)
  | n + 1, hn => by
    have hN : n + 1 < 16 := lt_of_lt_of_eq hn (show cfg0.N = 16 from N_0)
    by_cases h1 : (n + 1) % 16 = 15
    · rw [show outsAt0 m c (n + 1) hn = _ from outsAt0_C m c ⟨n + 1, hn⟩ (by show ¬ (n + 1) % 16 = 0; omega) h1]
      dsimp only
      rw [Point.sout_C_1]
      exact step_dn m c ⟨n + 1, hn⟩ _ k d (acc_dn c k d n _)
    · rw [show outsAt0 m c (n + 1) hn = _ from outsAt0_B m c ⟨n + 1, hn⟩ (by show ¬ (n + 1) % 16 = 0; omega) h1]
      dsimp only
      rw [Point.sout_B_1]
      exact step_dn m c ⟨n + 1, hn⟩ _ k d (acc_dn c k d n _)

/-- The gradient of `w_up`: the sum over all rows. -/
theorem resUp_apply (c : Dev nD) (q : Fin 4) (e : Fin 1024) (j : Fin 512) :
    resUp m c (ix3 q e j) = ∑ r, upT (argZ m c) (argU m c) (argD m c) (argG m c) (unit q j) e r :=
  (acc_up m c q e j 15 tLast.isLt).trans (Cert.Blocks.upTo_all _)

/-- The gradient of `w_down`: the sum over all rows. -/
theorem resDn_apply (c : Dev nD) (q : Fin 4) (j : Fin 512) (d : Fin 1024) :
    resDn m c (ix3 q j d) = ∑ r, dnT (argZ m c) (argU m c) (argG m c) (unit q j) d r :=
  (acc_dn m c (unit q j) d 15 tLast.isLt).trans (Cert.Blocks.upTo_all _)

/-- The block of the gradient of `z` a point leaves. -/
theorem out_eq (c : Dev nD) (t : Fin cfg0.N) : (outsAt0 m c t.val t.isLt).1 = Point.dzG (iblk m c 0 t) (iblk m c 2 t) (iblk m c 3 t) (iblk m c 4 t) := by
  have hN : t.val < 16 := lt_of_lt_of_eq t.isLt (show cfg0.N = 16 from N_0)
  by_cases h0 : t.val % 16 = 0
  · rw [outsAt0_A m c t h0 (by omega)]
    dsimp only
    rw [Point.out_A]
  · by_cases h1 : t.val % 16 = 15
    · rw [outsAt0_C m c t h0 h1]
      dsimp only
      rw [Point.out_C]
    · rw [outsAt0_B m c t h0 h1]
      dsimp only
      rw [Point.out_B]

/-- Its entries. -/
theorem out_apply (c : Dev nD) (t : Fin cfg0.N) (r : Fin 512) (d : Fin 1024) :
    (outsAt0 m c t.val t.isLt).1 (ix2 r d) = dz (argZ m c) (argU m c) (argD m c) (argG m c) (rowOf t r) d := by
  rw [out_eq]
  refine Finset.sum_congr rfl fun k _ => ?_
  show Point.dup (iblk m c 0 t) (iblk m c 2 t) (iblk m c 4 t) r k * iblk m c 3 t (ix3 _ d _) = _
  rw [dup_eq]
  exact congrArg (du (argZ m c) (argU m c) (argD m c) (argG m c) (rowOf t r) k * ·) (blkU m c t k d _ _ rfl rfl)

/-- Every point writes its block back. -/
theorem flush5 : ∀ t : Fin cfg0.N, (cfg0.win 5).flush t = true := by decide +kernel

/-- The gradient of `z` after the run. -/
theorem arr_apply (c : Dev nD) (R : Fin 8192) (d : Fin 1024) :
    ((dats m 0 c).arrAt 5 cfg0.N : S8192x1024.Idx → EReal) (ix2 R d) = dz (argZ m c) (argU m c) (argD m c) (argG m c) R d := by
  have ht : R.val / 512 < cfg0.N := by rw [show cfg0.N = 16 from N_0]; omega
  let t : Fin cfg0.N := ⟨R.val / 512, ht⟩
  let r : Fin 512 := ⟨R.val % 512, Nat.mod_lt _ (by decide)⟩
  have hR : rowOf t r = R := Fin.ext (by show 512 * (R.val / 512) + R.val % 512 = R.val; omega)
  have hb := congrFun (Value.blocks5 m c t (flush5 t)) (ix2 r d)
  rw [View.read_apply, Value.flushed5] at hb
  have he : ((cfg0.win 5).blk t).view.emb (ix2 r d) = (ix2 R d : S8192x1024.Idx) := by
    funext a
    apply Fin.ext
    match a with
    | ⟨0, _⟩ => show win0_5.index t 0 * 512 + 1 * r.val = R.val; rw [(idx5 t).1, ← hR]; show t.val * 512 + 1 * r.val = 512 * t.val + r.val; omega
    | ⟨1, _⟩ => show win0_5.index t 1 * 1024 + 1 * d.val = d.val; rw [(idx5 t).2]; omega
  rw [he] at hb
  exact hb.trans ((out_apply m c t r d).trans (by rw [hR]))

end Cert.MlpBwdIdeal.Last

end
-- ==== Proof.MlpBwd.Ref.lean ====
/-
  The reference's MLP gradient, entry by entry.
-/
module

public import proofs.«01_k».proof.Proof.MlpBwd.Terms
public import proofs.«01_k».proof.Proof.Lib.Products
public import proofs.«01_k».proof.Proof.Gen.MlpBwdRefIdeal.Run
public import Idealize.ShloMosaic.Lib.WordCmp

@[expose] public section

set_option maxRecDepth 16384

noncomputable section

namespace Cert.MlpBwdRefIdeal.Entries

open Cert.MlpBwdRefIdeal Cert.MlpBwdRefIdeal.Gen Cert.MlpTerms
open Idealize.ShloMosaic Idealize.ShloMosaic.ValueIdx
open scoped BigOperators

variable (Z : FVec Ideal S8192x1024 .f32) (U : FVec Ideal S8x1024x512 .f32) (D : FVec Ideal S4096x1024 .f32) (G : FVec Ideal S8192x1024 .f32)

/-- `w_up`'s first four chunks as one matrix. -/
def wu : FVec Ideal S1024x2048 .f32 :=
  shapeCast _ (transpose S1024x4x512 [1, 0, 2] (extractStridedSlice S4x1024x512 ![0, 0, 0] U slices_S8x1024x512_S4x1024x512_0_0_0) transposes_S4x1024x512_S1024x4x512_1_0_2) shapeCasts_S1024x4x512_S1024x2048

/-- `w_down`'s first rows. -/
def wd : FVec Ideal S2048x1024 .f32 := extractStridedSlice S2048x1024 ![0, 0] D slices_S4096x1024_S2048x1024_0_0

/-- The pre-activation. -/
def u : FVec Ideal S8192x2048 .f32 := Host.dotGeneral dot_S8192x1024_S1024x2048_S8192x2048_1_0_0_1_n_n none Z (wu U)

/-- A word everywhere. -/
def splat (w : BitVec 32) : FVec Ideal S8192x2048 .f32 := broadcastInDim S8192x2048 ![] bcast_S_S8192x2048 (constant S_ .f32 w)

/-- The rectified pre-activation. -/
def relu : FVec Ideal S8192x2048 .f32 := maximumf (u Z U) (splat 0x00000000#32)

/-- The gradient of the pre-activation. -/
def gu : FVec Ideal S8192x2048 .f32 :=
  select (cmpf .ogt (u Z U) (splat 0x00000000#32)) (mulf (Host.dotGeneral dot_S8192x1024_S2048x1024_S8192x2048_1_1_0_0_n_n none G (wd D)) (mulf (splat 0x40000000#32) (relu Z U))) (splat 0x00000000#32)

/-- The gradient of `z`. -/
def outZ : FVec Ideal S8192x1024 .f32 := Host.dotGeneral dot_S8192x2048_S1024x2048_S8192x1024_1_1_0_0_n_n none (gu Z U D G) (wu U)

/-- The gradient of `w_up` before the cast. -/
def outU32 : FVec Ideal S4x1024x512 .f32 :=
  transpose S4x1024x512 [1, 0, 2] (shapeCast S1024x4x512 (transpose S1024x2048 [1, 0] (Host.dotGeneral dot_S8192x2048_S8192x1024_S2048x1024_0_0_1_1_n_n none (gu Z U D G) Z) transposes_S2048x1024_S1024x2048_1_0) shapeCasts_S1024x2048_S1024x4x512) transposes_S1024x4x512_S4x1024x512_1_0_2

/-- The gradient of `w_up`. -/
def outU : FVec Ideal S4x1024x512 .bf16 := truncf .bf16 (outU32 Z U D G) bitsLt_bf16_f32

/-- The gradient of `w_down` before the cast. -/
def outD32 : FVec Ideal S4x512x1024 .f32 :=
  shapeCast S4x512x1024 (transpose S2048x1024 [1, 0] (Host.dotGeneral dot_S8192x1024_S8192x2048_S1024x2048_0_0_1_1_n_n none G (mulf (relu Z U) (relu Z U))) transposes_S1024x2048_S2048x1024_1_0) shapeCasts_S2048x1024_S4x512x1024

/-- The gradient of `w_down`. -/
def outD : FVec Ideal S4x512x1024 .bf16 := truncf .bf16 (outD32 Z U G) bitsLt_bf16_f32

/-- `w_up`'s matrix, entry by entry. -/
theorem wu_apply (e : Fin 1024) (k : Fin 2048) : wu U (ix2 e k) = wup U e k := by
  unfold wu wup
  refine (shapeCast_apply _ _ _ (ix3 e (⟨k.val / 512, by omega⟩ : Fin 4) (place k)) ?_).trans ?_
  · rw [Shape.rowMajor_val_three, Shape.rowMajor_val_two]
    show (e.val * 4 + k.val / 512) * 512 + k.val % 512 = e.val * 2048 + k.val
    omega
  refine (transpose_apply _ _ _ _ (ix3 (⟨k.val / 512, by omega⟩ : Fin 4) e (place k)) fun b => match b with | ⟨0, _⟩ => rfl | ⟨1, _⟩ => rfl | ⟨2, _⟩ => rfl).trans ?_
  exact extractStridedSlice_apply _ _ _ _ _ fun a => match a with
    | ⟨0, _⟩ => (Nat.zero_add _).symm
    | ⟨1, _⟩ => (Nat.zero_add _).symm
    | ⟨2, _⟩ => (Nat.zero_add _).symm

/-- `w_down`'s rows, entry by entry. -/
theorem wd_apply (k : Fin 2048) (d : Fin 1024) : wd D (ix2 k d) = D (ix2 (wide k) d) :=
  extractStridedSlice_apply _ _ _ _ _ fun a => match a with
    | ⟨0, _⟩ => (Nat.zero_add _).symm
    | ⟨1, _⟩ => (Nat.zero_add _).symm

/-- The pre-activation, entry by entry. -/
theorem u_apply (r : Fin 8192) (k : Fin 2048) : u Z U (ix2 r k) = pre Z U r k := by
  unfold u
  refine (Cert.Products.dot_nn rfl none Z (wu U) r k).trans (Finset.sum_congr rfl fun e _ => ?_)
  rw [wu_apply]

/-- The activation's root, entry by entry. -/
theorem relu_apply (r : Fin 8192) (k : Fin 2048) : relu Z U (ix2 r k) = act Z U r k := by
  show max (u Z U (ix2 r k)) (Ideal.ofBits .f32 0x00000000#32) = _
  rw [u_apply, Ideal.ofBits_zero_f32]
  rfl

/-- The pre-activation's gradient: where the reference selects zero the rectified value is zero. -/
theorem gu_apply (r : Fin 8192) (k : Fin 2048) : gu Z U D G (ix2 r k) = du Z U D G r k := by
  show Scalar.select (Ideal.cmp .ogt (u Z U (ix2 r k)) (Ideal.ofBits .f32 0x00000000#32))
    (Host.dotGeneral dot_S8192x1024_S2048x1024_S8192x2048_1_1_0_0_n_n none G (wd D) (ix2 r k) * (two * relu Z U (ix2 r k))) (Ideal.ofBits .f32 0x00000000#32) = _
  have hd : Host.dotGeneral dot_S8192x1024_S2048x1024_S8192x2048_1_1_0_0_n_n none G (wd D) (ix2 r k) = dact D G r k :=
    (Cert.Products.dot_nt rfl none G (wd D) r k).trans (Finset.sum_congr rfl fun d _ => by rw [wd_apply])
  rw [hd, relu_apply, u_apply, Ideal.ofBits_zero_f32]
  unfold du
  by_cases h : (0 : EReal) < pre Z U r k
  · have hc : Ideal.cmp .ogt (pre Z U r k) 0 = 1#1 := by simp [Ideal.cmp, h]
    rw [hc]; rfl
  · have hc : Ideal.cmp .ogt (pre Z U r k) 0 = 0#1 := by simp [Ideal.cmp, h]
    have ha : act Z U r k = 0 := max_eq_right (not_lt.mp h)
    rw [hc, ha, mul_zero, mul_zero]; rfl

/-- The gradient of `z`, entry by entry. -/
theorem outZ_apply (r : Fin 8192) (d : Fin 1024) : outZ Z U D G (ix2 r d) = dz Z U D G r d := by
  unfold outZ
  refine (Cert.Products.dot_nt rfl none (gu Z U D G) (wu U) r d).trans (Finset.sum_congr rfl fun k _ => ?_)
  rw [gu_apply, wu_apply]

/-- The gradient of `w_up`, entry by entry. -/
theorem outU_apply (q : Fin 4) (e : Fin 1024) (j : Fin 512) : outU Z U D G (ix3 q e j) = ∑ r : Fin 8192, upT Z U D G (Cert.MlpTerms.unit q j) e r := by
  show outU32 Z U D G (ix3 q e j) = _
  unfold outU32
  refine (transpose_apply _ _ _ _ (ix3 e q j) fun b => match b with | ⟨0, _⟩ => rfl | ⟨1, _⟩ => rfl | ⟨2, _⟩ => rfl).trans ?_
  refine (shapeCast_apply _ _ _ (ix2 e (Cert.MlpTerms.unit q j)) ?_).trans ?_
  · rw [Shape.rowMajor_val_three, Shape.rowMajor_val_two]
    show e.val * 2048 + (512 * q.val + j.val) = (e.val * 4 + q.val) * 512 + j.val
    omega
  refine (transpose_ix2_apply _ _ _ _).trans ((Cert.Products.dot_tn rfl none (gu Z U D G) Z _ _).trans ?_)
  refine Finset.sum_congr rfl fun r _ => ?_
  rw [gu_apply, mul_comm]
  rfl

/-- The gradient of `w_down`, entry by entry. -/
theorem outD_apply (q : Fin 4) (j : Fin 512) (d : Fin 1024) : outD Z U G (ix3 q j d) = ∑ r : Fin 8192, dnT Z U G (Cert.MlpTerms.unit q j) d r := by
  show outD32 Z U G (ix3 q j d) = _
  unfold outD32
  refine (shapeCast_apply _ _ _ (ix2 (Cert.MlpTerms.unit q j) d) ?_).trans ?_
  · rw [Shape.rowMajor_val_three, Shape.rowMajor_val_two]
    show (512 * q.val + j.val) * 1024 + d.val = (q.val * 512 + j.val) * 1024 + d.val
    omega
  refine (transpose_ix2_apply _ _ _ _).trans ((Cert.Products.dot_tn rfl none G (mulf (relu Z U) (relu Z U)) _ _).trans ?_)
  refine Finset.sum_congr rfl fun r _ => ?_
  show G (ix2 r d) * (relu Z U (ix2 r _) * relu Z U (ix2 r _)) = _
  rw [relu_apply, mul_comm]
  rfl

end Cert.MlpBwdRefIdeal.Entries

end
-- ==== Proof.MlpBwd.Claim.lean ====
/-
  The first half of the MLP's backward pass equals the reference's over the reals: each of the three gradients is, entry
  by entry, the same sum of the same products.
-/
module

public import proofs.«01_k».proof.Proof.MlpBwd.Value
public import proofs.«01_k».proof.Proof.MlpBwd.Ref
public import proofs.«01_k».proof.Defs

@[expose] public section

set_option maxRecDepth 16384

noncomputable section

namespace Cert.MlpBwdIdeal.Last

open Idealize.ShloMosaic Idealize.ShloMosaic.TcCoe Idealize.ShloMosaic.ValueIdx Idealize.SL.Sem
open Cert.MlpBwdIdeal.Blocks Cert.MlpBwdRefIdeal.Entries
open scoped BigOperators

variable (m : (ℓ : Loc nD τ sig) → Buf (Elt Ideal) ℓ)

/-- The reference's input gradient is the kernel's. -/
theorem ref_z (c : Dev nD) : outZ (argZ m c) (argU m c) (argD m c) (argG m c) = (Gen.dats m 0 c).arrAt 5 cfg0.N :=
  Cert.Products.ext2 fun i j => (outZ_apply (argZ m c) (argU m c) (argD m c) (argG m c) i j).trans (arr_apply m c i j).symm

/-- The reference's gradient of `w_up` is the kernel's. -/
theorem ref_up (c : Dev nD) : outU (argZ m c) (argU m c) (argD m c) (argG m c) = resUp m c :=
  Cert.Products.ext3 fun i j k => (outU_apply (argZ m c) (argU m c) (argD m c) (argG m c) i j k).trans (resUp_apply m c i j k).symm

/-- The reference's gradient of `w_down` is the kernel's. -/
theorem ref_dn (c : Dev nD) : outD (argZ m c) (argU m c) (argG m c) = resDn m c :=
  Cert.Products.ext3 fun i j k => (outD_apply (argZ m c) (argU m c) (argG m c) i j k).trans (resDn_apply m c i j k).symm

/-- The kernel and the reference end with the same three gradients, and neither writes an argument. -/
theorem algebraic : Cert.algebraic_MlpBwdIdeal_MlpBwdRefIdeal (hMlpBwdIdeal := Cert.MlpBwdIdeal.Gen.facts)
    (hMlpBwdRefIdeal := Cert.MlpBwdRefIdeal.Gen.facts) := by
  intro m g m' g' _ hargs
  refine ⟨fun c => (Gen.dats m 0 c).arrAt 5 cfg0.N, fun c => resUp m c, fun c => resDn m c, ?_, ?_⟩
  · exact (θ_run _ _ _).mono (fun _ h c => ⟨(h.1 c).1, (h.2 c).1, (h.2 c).2, (h.1 c).2⟩)
      (θ_run_and (Value.run_blocks m g) (run_res m g))
  · refine (θ_run _ _ _).mono (fun _ h c => ⟨(h c).1.trans ?_, (h c).2.1.trans ?_, (h c).2.2.1.trans ?_, (h c).2.2.2⟩)
      (Cert.MlpBwdRefIdeal.Value.run m' g')
    · rw [(hargs c).1, (hargs c).2.1, (hargs c).2.2.1, (hargs c).2.2.2]
      exact ref_z m c
    · rw [(hargs c).1, (hargs c).2.1, (hargs c).2.2.1, (hargs c).2.2.2]
      exact ref_up m c
    · rw [(hargs c).1, (hargs c).2.1, (hargs c).2.2.2]
      exact ref_dn m c

end Cert.MlpBwdIdeal.Last

end
-- ==== Proof.Lib.Norms.lean ====
/-
  The root-mean-square normalisation at the ideal instance, row by row, and the layout steps a kernel and the host take
  around a row's sum: the sum as a column, the column spread over the row, and a row of gains spread over all rows.
-/
module

public import Idealize.ShloMosaic.PureOps.Ideal.Laws
public import Idealize.ShloMosaic.Lib.ValueLayout
public import Idealize.ShloMosaic.Lib.Pipeline.Value

@[expose] public section

noncomputable section

namespace Cert.Norms

open Idealize.ShloMosaic Idealize.ShloMosaic.ValueIdx
open scoped BigOperators

/-- The width of a row. -/
abbrev width : EReal := Ideal.ofBits .f32 0x44800000#32
/-- The small number added to a row's mean square. -/
abbrev eps : EReal := Ideal.ofBits .f32 0x358637BD#32

/-- The reciprocal root of a row's mean square. -/
def inv (x : Fin 1024 → EReal) : EReal := Ideal.rsqrt (Ideal.div (∑ k : Fin 1024, x k * x k) width + eps)

/-- A normalised row, times the gains. -/
def rms (x g : Fin 1024 → EReal) (d : Fin 1024) : EReal := x d * inv x * g d

/-- Row `r` of a matrix. -/
abbrev row {a b : ℕ} (X : (⟨2, ![a, b]⟩ : Shape).Idx → EReal) (r : Fin a) : Fin b → EReal := fun d => X (ix2 r d)

variable {a b : ℕ} {α : Type}

/-- A column spread over the rows. -/
theorem broadcastTo_a1_ab_apply (v : (⟨2, ![a, 1]⟩ : Shape).Idx → α) (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's spread of a column over the rows. -/
theorem broadcastInDim_a1_ab_apply (v : (⟨2, ![a, 1]⟩ : Shape).Idx → α) (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's spread of one row over all rows. -/
theorem broadcastInDim_1b_ab_apply (v : (⟨2, ![1, b]⟩ : Shape).Idx → α) (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's vector as a column. -/
theorem broadcastInDim_a_a1_apply (v : (⟨1, ![a]⟩ : Shape).Idx → α) (h : (⟨1, ![a]⟩ : Shape).BroadcastsInDim ⟨2, ![a, 1]⟩ ![0]) (p : Fin a) (c : Fin 1) :
    broadcastInDim ⟨2, ![a, 1]⟩ ![0] h v (ix2 p c) = v (ix1 p) := by
  refine broadcastInDim_apply ![0] h v (ix2 p c) (ix1 p) fun ax => ?_
  match ax with
  | ⟨0, _⟩ =>
    show p.val = if a = 1 then 0 else p.val
    split
    · have := p.isLt; omega
    · rfl

/-- A vector as a column. -/
theorem shapeCast_a_a1_apply (v : (⟨1, ![a]⟩ : Shape).Idx → α) (h : (⟨1, ![a]⟩ : Shape).ShapeCasts ⟨2, ![a, 1]⟩) (p : Fin a) (c : Fin 1) :
    shapeCast ⟨2, ![a, 1]⟩ v h (ix2 p c) = v (ix1 p) :=
  shapeCast_apply v h _ _ (by
    have hc : c.val = 0 := by omega
    rw [Shape.rowMajor_val_one, Shape.rowMajor_val_two]
    show p.val = p.val * 1 + c.val
    omega)

/-- A kernel's sum over the rows' entries. -/
theorem sum_row (v : FVec Ideal ⟨2, ![a, b]⟩ .f32) (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ v 0x00000000#32 h hφ hacc (ix1 p) = ∑ k : Fin b, v (ix2 p k) := by
  refine (Ideal.multiReduction_add_single v _ h hφ hacc (ix1 p)).trans ?_
  refine Finset.sum_congr rfl fun k _ => congrArg v (funext fun ax => Fin.ext ?_)
  match ax with
  | ⟨0, _⟩ => rfl
  | ⟨1, _⟩ => rfl

/-- The host's sum over the rows' entries, from zero. -/
theorem host_sum_row {u : Shape} (v : FVec Ideal ⟨2, ![a, b]⟩ .f32) (h' : (⟨2, ![a, b]⟩ : Shape).ReducesTo [1] ⟨1, ![a]⟩)
    (h : (⟨2, ![a, b]⟩ : Shape).Reduces [1] ⟨1, ![a]⟩) (hu : 0 < u.numel) (p : Fin a) :
    Host.reduceAdd v (constant (F := Ideal) u .f32 0x00000000#32) h' hu (ix1 p) = ∑ k : Fin b, v (ix2 p k) := by
  show Ideal.hostReduceAdd _ _ _ (ix1 p) = _
  refine (Ideal.hostReduceAdd_single h' h v _ (ix1 p)).trans ?_
  rw [show (constant (F := Ideal) u .f32 0x00000000#32 (Shape.Idx.first hu) : EReal) = 0 from Ideal.ofBits_zero_f32, zero_add]
  refine Finset.sum_congr rfl fun k _ => congrArg v (funext fun ax => Fin.ext ?_)
  match ax with
  | ⟨0, _⟩ => rfl
  | ⟨1, _⟩ => rfl

/-- The host's vector spread along the rows. -/
theorem broadcastInDim_a_ab_apply (v : (⟨1, ![a]⟩ : Shape).Idx → α) (h : (⟨1, ![a]⟩ : Shape).BroadcastsInDim ⟨2, ![a, b]⟩ ![0]) (p : Fin a) (c : Fin b) :
    broadcastInDim ⟨2, ![a, b]⟩ ![0] h v (ix2 p c) = v (ix1 p) := by
  refine broadcastInDim_apply ![0] h v (ix2 p c) (ix1 p) fun ax => ?_
  match ax with
  | ⟨0, _⟩ =>
    show p.val = if a = 1 then 0 else p.val
    split
    · have := p.isLt; omega
    · rfl

/-- A vector as a row. -/
theorem shapeCast_b_1b_apply (v : (⟨1, ![b]⟩ : Shape).Idx → α) (h : (⟨1, ![b]⟩ : Shape).ShapeCasts ⟨2, ![1, b]⟩) (p : Fin 1) (c : Fin b) :
    shapeCast ⟨2, ![1, b]⟩ v h (ix2 p c) = v (ix1 c) :=
  shapeCast_apply v h _ _ (by
    have hp : p.val = 0 := by omega
    rw [Shape.rowMajor_val_one, Shape.rowMajor_val_two]
    show c.val = p.val * b + c.val
    rw [hp, Nat.zero_mul, Nat.zero_add])

/-- A kernel's sum over the columns' entries. -/
theorem sum_col (v : FVec Ideal ⟨2, ![a, b]⟩ .f32) (h : (⟨2, ![a, b]⟩ : Shape).Reduces [0] ⟨1, ![b]⟩) (hφ : FKind.Formats .f32)
    (hacc : (0x00000000#32 : BitVec 32) = FKind.add.neutral .f32 hφ) (p : Fin b) :
    multiReduction .add [0] ⟨1, ![b]⟩ v 0x00000000#32 h hφ hacc (ix1 p) = ∑ k : Fin a, v (ix2 k p) := by
  refine (Ideal.multiReduction_add_single v _ h hφ hacc (ix1 p)).trans ?_
  refine Finset.sum_congr rfl fun k _ => congrArg v (funext fun ax => Fin.ext ?_)
  match ax with
  | ⟨0, _⟩ => rfl
  | ⟨1, _⟩ => rfl

/-- The host's sum over the columns' entries, from zero. -/
theorem host_sum_col {u : Shape} (v : FVec Ideal ⟨2, ![a, b]⟩ .f32) (h' : (⟨2, ![a, b]⟩ : Shape).ReducesTo [0] ⟨1, ![b]⟩)
    (h : (⟨2, ![a, b]⟩ : Shape).Reduces [0] ⟨1, ![b]⟩) (hu : 0 < u.numel) (p : Fin b) :
    Host.reduceAdd v (constant (F := Ideal) u .f32 0x00000000#32) h' hu (ix1 p) = ∑ k : Fin a, v (ix2 k p) := by
  show Ideal.hostReduceAdd _ _ _ (ix1 p) = _
  refine (Ideal.hostReduceAdd_single h' h v _ (ix1 p)).trans ?_
  rw [show (constant (F := Ideal) u .f32 0x00000000#32 (Shape.Idx.first hu) : EReal) = 0 from Ideal.ofBits_zero_f32, zero_add]
  refine Finset.sum_congr rfl fun k _ => congrArg v (funext fun ax => Fin.ext ?_)
  match ax with
  | ⟨0, _⟩ => rfl
  | ⟨1, _⟩ => rfl

/-- A sum over a vector's indices. -/
theorem sum_vec (f : (⟨1, ![a]⟩ : Shape).Idx → EReal) : ∑ i, f i = ∑ k : Fin a, f (ix1 k) :=
  Fintype.sum_equiv ⟨fun i => i 0, ix1, fun i => funext fun ax => match ax with | ⟨0, _⟩ => rfl, fun _ => rfl⟩ f _
    fun i => congrArg f (funext fun ax => match ax with | ⟨0, _⟩ => rfl)

/-- A sum over a column's indices, the column in a block of one. -/
theorem sum_1a1 (f : (⟨3, ![1, a, 1]⟩ : Shape).Idx → EReal) : ∑ i, f i = ∑ k : Fin a, f (ix3 (0 : Fin 1) k (0 : Fin 1)) := by
  have e : ∀ i : (⟨3, ![1, a, 1]⟩ : Shape).Idx, ix3 (0 : Fin 1) (i 1) (0 : Fin 1) = i := fun i => by
    refine (congrArg₂ (fun (x y : Fin 1) => (ix3 x (i 1) y : (⟨3, ![1, a, 1]⟩ : Shape).Idx)) ?_ ?_).trans (eq_ix3 i).symm
    · exact Subsingleton.elim (α := Fin 1) _ _
    · exact Subsingleton.elim (α := Fin 1) _ _
  let E : (⟨3, ![1, a, 1]⟩ : Shape).Idx ≃ Fin a := { toFun := fun i => i 1, invFun := fun k => ix3 (0 : Fin 1) k (0 : Fin 1), left_inv := e, right_inv := fun _ => rfl }
  exact Fintype.sum_equiv E f _ fun i => (congrArg f (e i)).symm

/-- The host's sum of a vector, from zero. -/
theorem host_sum_vec {u t : Shape} (v : FVec Ideal ⟨1, ![a]⟩ .f32) (h' : (⟨1, ![a]⟩ : Shape).ReducesTo [0] t)
    (ht : ∀ b, t.size b = 1) (hu : 0 < u.numel) (j : t.Idx) :
    Host.reduceAdd v (constant (F := Ideal) u .f32 0x00000000#32) h' hu j = ∑ k : Fin a, v (ix1 k) := by
  show Ideal.hostReduceAdd _ _ _ j = _
  refine (Ideal.hostReduceAdd_total h' ht v _ j).trans ?_
  rw [show (constant (F := Ideal) u .f32 0x00000000#32 (Shape.Idx.first hu) : EReal) = 0 from Ideal.ofBits_zero_f32, zero_add]
  exact sum_vec v

/-- A kernel's sum over a column, the column in a block of one. -/
theorem sum_all_1a1 (v : FVec Ideal ⟨3, ![1, a, 1]⟩ .f32) {t : Shape} (h : (⟨3, ![1, a, 1]⟩ : Shape).Reduces [1, 2] t) (ht : ∀ b, t.size b = 1) (hφ : FKind.Formats .f32)
    (hacc : (0x00000000#32 : BitVec 32) = FKind.add.neutral .f32 hφ) (j : t.Idx) :
    multiReduction .add [1, 2] t v 0x00000000#32 h hφ hacc j = ∑ k : Fin a, v (ix3 (0 : Fin 1) k (0 : Fin 1)) :=
  (Ideal.multiReduction_add_total v _ h ht hφ hacc j).trans (sum_1a1 v)

end Cert.Norms

end
-- ==== Proof.MlpFwd.Terms.lean ====
/-
  The MLP's forward pass on one row, as sums of products: the normalised row, the hidden units, and the row it leaves. The
  kernel's chunks and the reference's reshaped arrays are both read in these terms.
-/
module

public import proofs.«01_k».proof.Proof.Lib.Norms

@[expose] public section

noncomputable section

namespace Cert.MlpFwdTerms

open Idealize.ShloMosaic Idealize.ShloMosaic.ValueIdx
open scoped BigOperators

variable (z : Fin 1024 → EReal) (U : (⟨3, ![8, 1024, 512]⟩ : Shape).Idx → EReal) (D : (⟨2, ![4096, 1024]⟩ : Shape).Idx → EReal)

/-- The chunk of `w_up` that holds hidden unit `k`. -/
def chunk (k : Fin 4096) : Fin 8 := ⟨k.val / 512, by omega⟩
/-- The place of hidden unit `k` in its chunk. -/
def place (k : Fin 4096) : Fin 512 := ⟨k.val % 512, Nat.mod_lt _ (by decide)⟩
/-- Hidden unit `j` of chunk `q`. -/
def unit (q : Fin 8) (j : Fin 512) : Fin 4096 := ⟨512 * q.val + j.val, by omega⟩

theorem chunk_unit (q : Fin 8) (j : Fin 512) : chunk (unit q j) = q := Fin.ext (by
  show (512 * q.val + j.val) / 512 = q.val; omega)
theorem place_unit (q : Fin 8) (j : Fin 512) : place (unit q j) = j := Fin.ext (by
  show (512 * q.val + j.val) % 512 = j.val; omega)

/-- `w_up`'s entry between input `e` and hidden unit `k`. -/
def wup (e : Fin 1024) (k : Fin 4096) : EReal := U (ix3 (chunk k) e (place k))

/-- A hidden unit before the activation. -/
def pre (k : Fin 4096) : EReal := ∑ e : Fin 1024, z e * wup U e k

/-- A hidden unit's part of the row's output: its squared rectified value times its row of `w_down`. -/
def term (d : Fin 1024) (k : Fin 4096) : EReal := max (pre z U k) 0 * max (pre z U k) 0 * D (ix2 k d)

/-- The row the MLP leaves, over the row `x` it is added to. -/
def out (x : Fin 1024 → EReal) (d : Fin 1024) : EReal := x d + ∑ k : Fin 4096, term z U D d k

end Cert.MlpFwdTerms

end
-- ==== Proof.MlpFwd.Entries.lean ====
/-
  The values one point of the MLP's forward pass computes, entry by entry at the ideal instance. The kernel normalises its
  rows and goes through the 4096 hidden units in eight chunks of 512, storing each chunk's pre-activation and adding its
  product with `w_down` to the rows.
-/
module

public import proofs.«01_k».proof.Proof.Gen.MlpFwdIdeal.Frame
public import proofs.«01_k».proof.Proof.MlpFwd.Terms
public import proofs.«01_k».proof.Proof.Lib.Products
public import proofs.«01_k».proof.Proof.Lib.Stores

@[expose] public section

set_option maxRecDepth 16384

noncomputable section

namespace Cert.MlpFwdIdeal.Point

open Cert.MlpFwdIdeal Cert.MlpFwdIdeal.Gen Cert.MlpFwdTerms Cert.Norms
open Idealize.ShloMosaic Idealize.ShloMosaic.ValueIdx
open scoped BigOperators

/-! ## The kernel's pure values -/

/-- The normalised rows. -/
theorem pay4_apply (v0 : Vec Ideal S512x1024 .f32) (v1 : Vec Ideal S1x1024 .f32) (r : Fin 512) (d : Fin 1024) :
    k0_pay4 v0 v1 (ix2 r d) = rms (row v0 r) (row v1 0) d := by
  unfold k0_pay4
  refine congrArg₂ (fun x y : EReal => x * y) (congrArg (v0 (ix2 r d) * ·) ((broadcastTo_a1_ab_apply _ _ r d).trans ?_)) (broadcastTo_1b_ab_apply v1 _ r d)
  refine congrArg (fun s : EReal => Ideal.rsqrt (Ideal.div s width + eps)) ((shapeCast_a_a1_apply _ _ r 0).trans ?_)
  exact sum_row _ _ _ _ r

/-- A chunk's pre-activation. -/
theorem pay1_apply (z : FVec Ideal S512x1024 .bf16) (u : Vec Ideal S1x1024x512 .bf16) (r j : Fin 512) :
    k0_pay1 z u (ix2 r j) = ∑ e : Fin 1024, (z (ix2 r e) : EReal) * u (ix3 (0 : Fin 1) e j) := by
  unfold k0_pay1
  refine (Cert.Products.matmul_nn (φ₁ := .bf16) (φ₂ := .bf16) rfl none z _ _ r j).trans ?_
  show Ideal.ofBits .f32 0x00000000#32 + _ = _
  rw [Ideal.ofBits_zero_f32, zero_add]
  exact Finset.sum_congr rfl fun e _ => congrArg ((z (ix2 r e) : EReal) * ·) (shapeCast_1ab_ab_apply _ _ _ _)

/-- One chunk's step of the output rows. -/
def step (acc : FVec Ideal S512x1024 .f32) (u : FVec Ideal S512x512 .f32) (d : FVec Ideal S512x1024 .bf16) : FVec Ideal S512x1024 .f32 :=
  let v : FVec Ideal S512x512 .f32 := maximumf u (broadcast S512x512 (Scalar.ofBits .f32 0x00000000#32))
  let a : FVec Ideal S512x512 .bf16 := truncf .bf16 (mulf v v) bitsLt_bf16_f32
  let w : FVec Ideal S512x1024 .bf16 := shapeCast S512x1024 d shapeCasts_S512x1024_S512x1024
  addf acc (matmul dot_S512x512_S512x1024_S512x1024_1_0_0_1_n_n none a w (constant S512x1024 .f32 0x00000000#32))

/-- Its entries. -/
theorem step_apply (acc : FVec Ideal S512x1024 .f32) (u : FVec Ideal S512x512 .f32) (w : Vec Ideal S512x1024 .bf16) (r : Fin 512) (d : Fin 1024) :
    step acc u w (ix2 r d) = acc (ix2 r d) + ∑ j : Fin 512, max (u (ix2 r j)) (0 : EReal) * max (u (ix2 r j)) (0 : EReal) * w (ix2 j d) := by
  unfold step
  simp only [shapeCast_self]
  refine congrArg (acc (ix2 r d) + ·) ((Cert.Products.matmul_nn (φ₁ := .bf16) (φ₂ := .bf16) rfl none _ w _ r d).trans ?_)
  show Ideal.ofBits .f32 0x00000000#32 + _ = _
  rw [Ideal.ofBits_zero_f32, zero_add]
  refine Finset.sum_congr rfl fun j _ => congrArg (· * (w (ix2 j d) : EReal)) ?_
  exact congrArg₂ (fun x y : EReal => x * y) (congrArg (max (u (ix2 r j) : EReal)) Cert.Products.zero_word) (congrArg (max (u (ix2 r j) : EReal)) Cert.Products.zero_word)

/-! ## The chunks' values have the same two forms -/

theorem pay3_eq (z : FVec Ideal S512x1024 .bf16) (a : FVec Ideal S512x1024 .f32) (u : FVec Ideal S512x512 .f32) (d : Vec Ideal S512x1024 .bf16) (U : Vec Ideal S1x1024x512 .bf16) (D : Vec Ideal S512x1024 .bf16) :
    k0_pay3 z a u d U D = step (step a u d) (k0_pay1 z U) D := rfl
theorem pay7_eq (v0 : Vec Ideal S512x1024 .f32) (v1 : Vec Ideal S1x1024 .f32) (U : Vec Ideal S1x1024x512 .bf16) (D : Vec Ideal S512x1024 .bf16) :
    k0_pay7 v0 v1 U D = step v0 (k0_pay1 (k0_pay4 v0 v1) U) D := rfl
theorem pay8_eq (v0 : Vec Ideal S512x1024 .f32) (v1 : Vec Ideal S1x1024 .f32) (U : Vec Ideal S1x1024x512 .bf16) :
    k0_pay8 v0 v1 U = k0_pay1 (k0_pay4 v0 v1) U := rfl
theorem pay12_eq (z : FVec Ideal S512x1024 .bf16) (a : FVec Ideal S512x1024 .f32) (u : FVec Ideal S512x512 .f32) (d : Vec Ideal S512x1024 .bf16) (U : Vec Ideal S1x1024x512 .bf16) (D : Vec Ideal S512x1024 .bf16) :
    k0_pay12 z a u d U D = step (step a u d) (k0_pay1 z U) D := rfl
theorem pay21_eq (z : FVec Ideal S512x1024 .bf16) (a : FVec Ideal S512x1024 .f32) (U0 : Vec Ideal S1x1024x512 .bf16) (D0 : Vec Ideal S512x1024 .bf16) (U : Vec Ideal S1x1024x512 .bf16) (D : Vec Ideal S512x1024 .bf16) (U' : Vec Ideal S1x1024x512 .bf16) (D' : Vec Ideal S512x1024 .bf16) :
    k0_pay21 z a (k0_pay15 z U0) (k0_pay16 D0) U D U' D' = step (step (step a (k0_pay1 z U0) D0) (k0_pay1 z U) D) (k0_pay1 z U') D' := rfl
theorem pay22_eq : @k0_pay22 Ideal _ = @k0_pay1 Ideal _ := rfl

variable (x0 : Vec Ideal S512x1024 .f32) (x1 : Vec Ideal S1x1024 .f32) (x2 : Vec Ideal S8x1024x512 .bf16) (x3 : Vec Ideal S4096x1024 .bf16)

/-- The normalised row. -/
abbrev zr (r : Fin 512) : Fin 1024 → EReal := rms (row x0 r) (row x1 0)

/-- A chunk lies in the block of `w_up`. -/
abbrev IU (k : ℕ) : Prop := ∀ a, (![k, 0, 0] : Fin 3 → ℕ) a + (![1, 1024, 512] : Fin 3 → ℕ) a ≤ S8x1024x512.size a
/-- A chunk's rows lie in the block of `w_down`. -/
abbrev ID (o : ℕ) : Prop := ∀ a, (![o, 0] : Fin 2 → ℕ) a + (![512, 1024] : Fin 2 → ℕ) a ≤ S4096x1024.size a

/-- A chunk's pre-activation is the hidden units' of that chunk. -/
theorem chunk_pre (c : Fin 8) (k : ℕ) (hk : k = c.val) (iu : IU k) (r j : Fin 512) :
    k0_pay1 (k0_pay4 x0 x1) (View.ld x2 (Rect.unit ![k, 0, 0] ![1, 1024, 512] iu)) (ix2 r j) = pre (zr x0 x1 r) x2 (unit c j) := by
  subst hk
  refine (pay1_apply _ _ r j).trans (Finset.sum_congr rfl fun e _ => ?_)
  refine congrArg₂ (fun x y : EReal => x * y) (pay4_apply x0 x1 r e) ?_
  unfold wup
  rw [chunk_unit, place_unit]
  refine View.ld_unit_apply_of x2 _ _ _ _ _ fun a => ?_
  match a with
  | ⟨0, _⟩ => rfl
  | ⟨1, _⟩ => exact (Nat.zero_add _).symm
  | ⟨2, _⟩ => exact (Nat.zero_add _).symm

/-- A chunk's step takes in that chunk's terms. -/
theorem chunk_out (c : Fin 8) (o k : ℕ) (ho : o = 512 * c.val) (hk : k = c.val) (iu : IU k) (id : ID o) (a : FVec Ideal S512x1024 .f32)
    (ha : ∀ (r : Fin 512) (d : Fin 1024), a (ix2 r d) = x0 (ix2 r d) + Cert.Blocks.upTo (term (zr x0 x1 r) x2 x3 d) o) (r : Fin 512) (d : Fin 1024) :
    step a (k0_pay1 (k0_pay4 x0 x1) (View.ld x2 (Rect.unit ![k, 0, 0] ![1, 1024, 512] iu))) (View.ld x3 (Rect.unit ![o, 0] ![512, 1024] id)) (ix2 r d)
      = x0 (ix2 r d) + Cert.Blocks.upTo (term (zr x0 x1 r) x2 x3 d) (o + 512) := by
  subst ho
  refine (step_apply _ _ _ r d).trans ?_
  rw [ha, Cert.Blocks.upTo_add _ _ _ (by omega), ← add_assoc]
  refine congrArg (x0 (ix2 r d) + Cert.Blocks.upTo (term (zr x0 x1 r) x2 x3 d) (512 * c.val) + ·) (Finset.sum_congr rfl fun j _ => ?_)
  rw [chunk_pre x0 x1 x2 c k hk iu r j]
  have hc : (⟨512 * c.val + j.val, by omega⟩ : Fin 4096) = unit c j := rfl
  rw [hc]
  unfold term
  refine congrArg (max (pre (zr x0 x1 r) x2 (unit c j)) 0 * max (pre (zr x0 x1 r) x2 (unit c j)) 0 * ·) ?_
  refine View.ld_unit_apply_of x3 _ _ _ _ _ fun b => ?_
  match b with
  | ⟨0, _⟩ => rfl
  | ⟨1, _⟩ => exact (Nat.zero_add _).symm

/-! ## What a point writes -/

/-- The rows the point writes. -/
theorem out4_apply (r : Fin 512) (d : Fin 1024) : out0_4 x0 x1 x2 x3 (ix2 r d) = out (zr x0 x1 r) x2 x3 (row x0 r) d := by
  unfold out0_4 k0_pay24
  rw [View.canon_unit_zero (S := S512x1024) Whole.hz2]
  simp only [View.ld_unit_zero (S := S512x1024) Whole.hz2, View.ld_unit_zero (S := S1x1024) Whole.hz2, pay3_eq, pay7_eq, pay8_eq, pay12_eq, pay21_eq, pay22_eq]
  refine (chunk_out x0 x1 x2 x3 7 3584 7 rfl rfl _ _ _ (fun r d => ?_) r d).trans (congrArg (x0 (ix2 r d) + ·) (Cert.Blocks.upTo_all _))
  refine chunk_out x0 x1 x2 x3 6 3072 6 rfl rfl _ _ _ (fun r d => ?_) r d
  refine chunk_out x0 x1 x2 x3 5 2560 5 rfl rfl _ _ _ (fun r d => ?_) r d
  refine chunk_out x0 x1 x2 x3 4 2048 4 rfl rfl _ _ _ (fun r d => ?_) r d
  refine chunk_out x0 x1 x2 x3 3 1536 3 rfl rfl _ _ _ (fun r d => ?_) r d
  refine chunk_out x0 x1 x2 x3 2 1024 2 rfl rfl _ _ _ (fun r d => ?_) r d
  refine chunk_out x0 x1 x2 x3 1 512 1 rfl rfl _ _ _ (fun r d => ?_) r d
  refine chunk_out x0 x1 x2 x3 0 0 0 rfl rfl _ _ _ (fun r d => ?_) r d
  rw [Cert.Blocks.upTo_zero, add_zero]

/-- The normalised rows the point writes. -/
theorem out5_apply (r : Fin 512) (d : Fin 1024) : out0_5 x0 x1 x2 x3 (ix2 r d) = zr x0 x1 r d := by
  unfold out0_5
  rw [View.canon_unit_zero (S := S512x1024) Whole.hz2]
  simp only [View.ld_unit_zero (S := S512x1024) Whole.hz2, View.ld_unit_zero (S := S1x1024) Whole.hz2]
  exact pay4_apply x0 x1 r d

/-- The pre-activations of a block. -/
def upG : Vec Ideal S512x4096 .bf16 := fun y => pre (zr x0 x1 (y 0)) x2 (y 1)

/-- A chunk's stored columns are the block's pre-activations there. -/
theorem chunk_up (c : Fin 8) (o k : ℕ) (ho : o = 512 * c.val) (hk : k = c.val) (iu : IU k)
    (io : ∀ a, (![0, o] : Fin 2 → ℕ) a + (![512, 512] : Fin 2 → ℕ) a ≤ S512x4096.size a) (x : S512x512.Idx) :
    truncf (F := Ideal) .bf16 (k0_pay1 (k0_pay4 x0 x1) (View.ld x2 (Rect.unit ![k, 0, 0] ![1, 1024, 512] iu))) bitsLt_bf16_f32 x
      = upG x0 x1 x2 ((Rect.unit (s := S512x4096) ![0, o] ![512, 512] io).emb x) := by
  subst ho
  have e : (Rect.unit (s := S512x4096) ![0, 512 * c.val] ![512, 512] io).emb x = (ix2 (x 0) (unit c (x 1)) : S512x4096.Idx) := by
    funext a
    apply Fin.ext
    refine (Rect.idx_unit_val _ _ _ x a).trans ?_
    match a with
    | ⟨0, _⟩ => exact Nat.zero_add _
    | ⟨1, _⟩ => rfl
  rw [e]
  exact (congrArg _ (eq_ix2 x)).trans (chunk_pre x0 x1 x2 c k hk iu (x 0) (x 1))

/-- The pre-activations the point writes. -/
theorem out6_apply (r : Fin 512) (k : Fin 4096) : out0_6 x0 x1 x2 x3 (ix2 r k) = pre (zr x0 x1 r) x2 k := by
  unfold out0_6 k0_pay24
  simp only [View.ld_unit_zero (S := S512x1024) Whole.hz2, View.ld_unit_zero (S := S1x1024) Whole.hz2]
  refine View.canon_apply_of_pieces (upG x0 x1 x2) _ (fun p hp => ?_) (ix2 r k) (cover0_6 _ _ _ _ _ _ _ _ _)
  rcases List.mem_cons.mp hp with rfl | hp
  · exact chunk_up x0 x1 x2 7 3584 7 rfl rfl _ (by decide)
  rcases List.mem_cons.mp hp with rfl | hp
  · exact chunk_up x0 x1 x2 6 3072 6 rfl rfl _ (by decide)
  rcases List.mem_cons.mp hp with rfl | hp
  · exact chunk_up x0 x1 x2 5 2560 5 rfl rfl _ (by decide)
  rcases List.mem_cons.mp hp with rfl | hp
  · exact chunk_up x0 x1 x2 4 2048 4 rfl rfl _ (by decide)
  rcases List.mem_cons.mp hp with rfl | hp
  · exact chunk_up x0 x1 x2 3 1536 3 rfl rfl _ (by decide)
  rcases List.mem_cons.mp hp with rfl | hp
  · exact chunk_up x0 x1 x2 2 1024 2 rfl rfl _ (by decide)
  rcases List.mem_cons.mp hp with rfl | hp
  · exact chunk_up x0 x1 x2 1 512 1 rfl rfl _ (by decide)
  rcases List.mem_cons.mp hp with rfl | hp
  · exact chunk_up x0 x1 x2 0 0 0 rfl rfl _ (by decide)
  · exact absurd hp List.not_mem_nil

end Cert.MlpFwdIdeal.Point

end
-- ==== Proof.MlpFwd.Value.lean ====
/-
  The MLP's forward pass over the reals: the three arrays after the run, row by row of the arguments.
-/
module

public import proofs.«01_k».proof.Proof.MlpFwd.Entries
public import proofs.«01_k».proof.Proof.Gen.MlpFwdIdeal.Value
public import Idealize.ShloMosaic.Lib.StableHlo.Run

@[expose] public section

set_option maxRecDepth 16384

noncomputable section

namespace Cert.MlpFwdIdeal.Rows

open Cert.MlpFwdIdeal Cert.MlpFwdIdeal.Gen Cert.MlpFwdTerms Cert.Norms
open Idealize.ShloMosaic Idealize.ShloMosaic.TcCoe Idealize.ShloMosaic.ValueIdx Idealize.SL.Sem
open scoped BigOperators

variable (m : (ℓ : Loc nD τ sig) → Buf (Elt Ideal) ℓ)

/-- The residual stream the MLP reads and adds to. -/
abbrev argX (c : Dev nD) : FVec Ideal S8192x1024 .f32 := m ((c : Thread nD τ).loc main_arg0)
/-- The normalisation's gains. -/
abbrev argG (c : Dev nD) : FVec Ideal S1x1024 .f32 := m ((c : Thread nD τ).loc main_arg1)
/-- `w_up`. -/
abbrev argU (c : Dev nD) : FVec Ideal S8x1024x512 .f32 := m ((c : Thread nD τ).loc main_arg2)
/-- `w_down`. -/
abbrev argD (c : Dev nD) : FVec Ideal S4096x1024 .f32 := m ((c : Thread nD τ).loc main_arg3)

/-- Which block each window takes at a point: the rows' windows move with the point, -/
theorem idxR : ∀ t : Fin cfg0.N, (win0_0.index t 0 = t.val ∧ win0_0.index t 1 = 0) ∧ (win0_4.index t 0 = t.val ∧ win0_4.index t 1 = 0)
    ∧ (win0_5.index t 0 = t.val ∧ win0_5.index t 1 = 0) ∧ (win0_6.index t 0 = t.val ∧ win0_6.index t 1 = 0) := by decide +kernel
/-- and the others stay. -/
theorem idxW : ∀ t : Fin cfg0.N, (win0_1.index t 0 = 0 ∧ win0_1.index t 1 = 0) ∧ (win0_2.index t 0 = 0 ∧ win0_2.index t 1 = 0 ∧ win0_2.index t 2 = 0)
    ∧ (win0_3.index t 0 = 0 ∧ win0_3.index t 1 = 0) := by decide +kernel

/-- Row `r` of point `t`'s block. -/
def rowOf (t : Fin cfg0.N) (r : Fin 512) : Fin 8192 := ⟨512 * t.val + r.val, by
  have := lt_of_lt_of_eq t.isLt (show cfg0.N = 16 from N_0); omega⟩

/-- The point of row `R`'s block. -/
def pt (R : Fin 8192) : Fin cfg0.N := ⟨R.val / 512, by rw [show cfg0.N = 16 from N_0]; omega⟩
/-- The place of row `R` in its block. -/
def off (R : Fin 8192) : Fin 512 := ⟨R.val % 512, Nat.mod_lt _ (by decide)⟩
theorem rowOf_pt (R : Fin 8192) : rowOf (pt R) (off R) = R := Fin.ext (by show 512 * (R.val / 512) + R.val % 512 = R.val; omega)

/-- The block of rows. -/
theorem blkX (c : Dev nD) (t : Fin cfg0.N) (r : Fin 512) (d : Fin 1024) : iblk m c 0 t (ix2 r d) = argX m c (ix2 (rowOf t r) d) := by
  unfold iblk
  rw [View.read_apply]
  show V m c main_arg0 _ = _
  rw [V_main_arg0]
  show m ((c : Thread nD τ).loc main_arg0) _ = m ((c : Thread nD τ).loc main_arg0) _
  congr 1
  funext a
  apply Fin.ext
  match a with
  | ⟨0, _⟩ => show win0_0.index t 0 * 512 + 1 * r.val = 512 * t.val + r.val; rw [(idxR t).1.1]; omega
  | ⟨1, _⟩ => show win0_0.index t 1 * 1024 + 1 * d.val = d.val; rw [(idxR t).1.2]; omega

/-- The gains' block: all of them. -/
theorem blkG (c : Dev nD) (t : Fin cfg0.N) : iblk m c 1 t = argG m c := by
  refine Cert.Products.ext2 fun r d => ?_
  unfold iblk
  rw [View.read_apply]
  show V m c main_arg1 _ = _
  rw [V_main_arg1]
  show m ((c : Thread nD τ).loc main_arg1) _ = m ((c : Thread nD τ).loc main_arg1) _
  congr 1
  funext a
  apply Fin.ext
  match a with
  | ⟨0, _⟩ => show win0_1.index t 0 * 1 + 1 * r.val = r.val; rw [(idxW t).1.1]; omega
  | ⟨1, _⟩ => show win0_1.index t 1 * 1024 + 1 * d.val = d.val; rw [(idxW t).1.2]; omega

/-- `w_up`'s block: all of it. -/
theorem blkU (c : Dev nD) (t : Fin cfg0.N) : (iblk m c 2 t : S8x1024x512.Idx → EReal) = argU m c := by
  refine Cert.Products.ext3 fun q e j => ?_
  unfold iblk
  rw [View.read_apply]
  have hV : (V m c main_v0 : FVec Ideal S8x1024x512 .bf16) = truncf (F := Ideal) .bf16 (m ((c : Thread nD τ).loc main_arg2)) bitsLt_bf16_f32 := by
    unfold V; after_results
  show (V m c main_v0 : FVec Ideal S8x1024x512 .bf16) _ = _
  rw [hV]
  show m ((c : Thread nD τ).loc main_arg2) _ = m ((c : Thread nD τ).loc main_arg2) _
  congr 1
  funext a
  apply Fin.ext
  match a with
  | ⟨0, _⟩ => show win0_2.index t 0 * 8 + 1 * q.val = q.val; rw [(idxW t).2.1.1]; omega
  | ⟨1, _⟩ => show win0_2.index t 1 * 1024 + 1 * e.val = e.val; rw [(idxW t).2.1.2.1]; omega
  | ⟨2, _⟩ => show win0_2.index t 2 * 512 + 1 * j.val = j.val; rw [(idxW t).2.1.2.2]; omega

/-- `w_down`'s block: all of it. -/
theorem blkD (c : Dev nD) (t : Fin cfg0.N) : (iblk m c 3 t : S4096x1024.Idx → EReal) = argD m c := by
  refine Cert.Products.ext2 fun k d => ?_
  unfold iblk
  rw [View.read_apply]
  have hV : (V m c main_v1 : FVec Ideal S4096x1024 .bf16) = truncf (F := Ideal) .bf16 (m ((c : Thread nD τ).loc main_arg3)) bitsLt_bf16_f32 := by
    unfold V; after_results
  show (V m c main_v1 : FVec Ideal S4096x1024 .bf16) _ = _
  rw [hV]
  show m ((c : Thread nD τ).loc main_arg3) _ = m ((c : Thread nD τ).loc main_arg3) _
  congr 1
  funext a
  apply Fin.ext
  match a with
  | ⟨0, _⟩ => show win0_3.index t 0 * 4096 + 1 * k.val = k.val; rw [(idxW t).2.2.1]; omega
  | ⟨1, _⟩ => show win0_3.index t 1 * 1024 + 1 * d.val = d.val; rw [(idxW t).2.2.2]; omega

/-- A block's row is the argument's. -/
theorem row_eq (c : Dev nD) (t : Fin cfg0.N) (r : Fin 512) : row (iblk m c 0 t : S512x1024.Idx → EReal) r = row (argX m c) (rowOf t r) :=
  funext fun d => blkX m c t r d

/-- The normalised row of the arguments. -/
abbrev zRow (c : Dev nD) (R : Fin 8192) : Fin 1024 → EReal := rms (row (argX m c) R) (row (argG m c) 0)

/-- A block's normalised row. -/
theorem zr_eq (c : Dev nD) (t : Fin cfg0.N) (r : Fin 512) : Point.zr (iblk m c 0 t) (iblk m c 1 t) r = zRow m c (rowOf t r) := by
  unfold Point.zr
  rw [blkG]
  exact congrArg (fun x => rms x (row (argG m c) 0)) (row_eq m c t r)

/-- Every point writes its blocks back. -/
theorem flushes : ∀ t : Fin cfg0.N, (cfg0.win 4).flush t = true ∧ (cfg0.win 5).flush t = true ∧ (cfg0.win 6).flush t = true := by decide +kernel

/-- The rows the MLP leaves. -/
theorem arr4_apply (c : Dev nD) (R : Fin 8192) (d : Fin 1024) :
    ((dats m 0 c).arrAt 4 cfg0.N : S8192x1024.Idx → EReal) (ix2 R d) = out (zRow m c R) (argU m c) (argD m c) (row (argX m c) R) d := by
  have hb := congrFun (Value.blocks4 m c (pt R) (flushes _).1) (ix2 (off R) d)
  rw [View.read_apply, Value.flushed4] at hb
  have he : ((cfg0.win 4).blk (pt R)).view.emb (ix2 (off R) d) = (ix2 R d : S8192x1024.Idx) := by
    funext a
    apply Fin.ext
    match a with
    | ⟨0, _⟩ => show win0_4.index (pt R) 0 * 512 + 1 * (off R).val = R.val; rw [(idxR _).2.1.1]; show R.val / 512 * 512 + 1 * (R.val % 512) = R.val; omega
    | ⟨1, _⟩ => show win0_4.index (pt R) 1 * 1024 + 1 * d.val = d.val; rw [(idxR _).2.1.2]; omega
  rw [he] at hb
  refine hb.trans ((Point.out4_apply _ _ _ _ (off R) d).trans ?_)
  rw [zr_eq, blkU, blkD, row_eq, rowOf_pt]

/-- The normalised rows. -/
theorem arr5_apply (c : Dev nD) (R : Fin 8192) (d : Fin 1024) :
    ((dats m 0 c).arrAt 5 cfg0.N : S8192x1024.Idx → EReal) (ix2 R d) = zRow m c R d := by
  have hb := congrFun (Value.blocks5 m c (pt R) (flushes _).2.1) (ix2 (off R) d)
  rw [View.read_apply, Value.flushed5] at hb
  have he : ((cfg0.win 5).blk (pt R)).view.emb (ix2 (off R) d) = (ix2 R d : S8192x1024.Idx) := by
    funext a
    apply Fin.ext
    match a with
    | ⟨0, _⟩ => show win0_5.index (pt R) 0 * 512 + 1 * (off R).val = R.val; rw [(idxR _).2.2.1.1]; show R.val / 512 * 512 + 1 * (R.val % 512) = R.val; omega
    | ⟨1, _⟩ => show win0_5.index (pt R) 1 * 1024 + 1 * d.val = d.val; rw [(idxR _).2.2.1.2]; omega
  rw [he] at hb
  refine hb.trans ((Point.out5_apply _ _ _ _ (off R) d).trans ?_)
  rw [zr_eq, rowOf_pt]

/-- The pre-activations. -/
theorem arr6_apply (c : Dev nD) (R : Fin 8192) (k : Fin 4096) :
    ((dats m 0 c).arrAt 6 cfg0.N : S8192x4096.Idx → EReal) (ix2 R k) = pre (zRow m c R) (argU m c) k := by
  have hb := congrFun (Value.blocks6 m c (pt R) (flushes _).2.2) (ix2 (off R) k)
  rw [View.read_apply, Value.flushed6] at hb
  have he : ((cfg0.win 6).blk (pt R)).view.emb (ix2 (off R) k) = (ix2 R k : S8192x4096.Idx) := by
    funext a
    apply Fin.ext
    match a with
    | ⟨0, _⟩ => show win0_6.index (pt R) 0 * 512 + 1 * (off R).val = R.val; rw [(idxR _).2.2.2.1]; show R.val / 512 * 512 + 1 * (R.val % 512) = R.val; omega
    | ⟨1, _⟩ => show win0_6.index (pt R) 1 * 4096 + 1 * k.val = k.val; rw [(idxR _).2.2.2.2]; omega
  rw [he] at hb
  refine hb.trans ((Point.out6_apply _ _ _ _ (off R) k).trans ?_)
  rw [zr_eq, blkU, rowOf_pt]

end Cert.MlpFwdIdeal.Rows

end
-- ==== Proof.MlpFwd.Ref.lean ====
/-
  The reference's forward pass of the MLP, entry by entry.
-/
module

public import proofs.«01_k».proof.Proof.MlpFwd.Terms
public import proofs.«01_k».proof.Proof.Lib.Products
public import proofs.«01_k».proof.Proof.Gen.MlpFwdRefIdeal.Run

@[expose] public section

set_option maxRecDepth 16384

noncomputable section

namespace Cert.MlpFwdRefIdeal.Entries

open Cert.MlpFwdRefIdeal Cert.MlpFwdRefIdeal.Gen Cert.MlpFwdTerms Cert.Norms
open Idealize.ShloMosaic Idealize.ShloMosaic.ValueIdx
open scoped BigOperators

variable (X : FVec Ideal S8192x1024 .f32) (g : FVec Ideal S1x1024 .f32) (U : FVec Ideal S8x1024x512 .f32) (D : FVec Ideal S4096x1024 .f32)

/-- The rows' reciprocal roots, as a column. -/
def invs : FVec Ideal S8192x1 .f32 :=
  Host.rsqrt (addf (Host.divf (broadcastInDim S8192x1 ![0] bcast_S8192_S8192x1_0 (Host.reduceAdd (mulf X X) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))

/-- The normalised rows. -/
def z : FVec Ideal S8192x1024 .f32 :=
  mulf (mulf X (broadcastInDim S8192x1024 ![0, 1] bcast_S8192x1_S8192x1024_0_1 (invs X))) (broadcastInDim S8192x1024 ![0, 1] bcast_S1x1024_S8192x1024_0_1 g)

/-- `w_up` as one matrix. -/
def wu : FVec Ideal S1024x4096 .f32 :=
  shapeCast _ (transpose S1024x8x512 [1, 0, 2] U transposes_S8x1024x512_S1024x8x512_1_0_2) shapeCasts_S1024x8x512_S1024x4096

/-- The pre-activation. -/
def u : FVec Ideal S8192x4096 .f32 := Host.dotGeneral dot_S8192x1024_S1024x4096_S8192x4096_1_0_0_1_n_n none (z X g) (wu U)

/-- The rectified pre-activation. -/
def relu : FVec Ideal S8192x4096 .f32 := maximumf (u X g U) (broadcastInDim S8192x4096 ![] bcast_S_S8192x4096 (constant S_ .f32 0x00000000#32))

/-- The rows the MLP leaves. -/
def outX : FVec Ideal S8192x1024 .f32 :=
  addf X (Host.dotGeneral dot_S8192x4096_S4096x1024_S8192x1024_1_0_0_1_n_n none (mulf (relu X g U) (relu X g U)) D)

/-- The normalised rows, cast. -/
def outZ : FVec Ideal S8192x1024 .bf16 := truncf .bf16 (z X g) bitsLt_bf16_f32
/-- The pre-activation, cast. -/
def outU : FVec Ideal S8192x4096 .bf16 := truncf .bf16 (u X g U) bitsLt_bf16_f32

/-- The reciprocal roots, row by row. -/
theorem invs_apply (r : Fin 8192) (c : Fin 1) : invs X (ix2 r c) = inv (row X r) := by
  unfold invs
  refine congrArg (fun s : EReal => Ideal.rsqrt (Ideal.div s width + eps)) ((broadcastInDim_a_a1_apply _ _ r c).trans ?_)
  exact host_sum_row _ _ (by decide) _ r

/-- The normalised rows, entry by entry. -/
theorem z_apply (r : Fin 8192) (d : Fin 1024) : z X g (ix2 r d) = rms (row X r) (row g 0) d := by
  unfold z
  refine congrArg₂ (fun x y : EReal => x * y) (congrArg (X (ix2 r d) * ·) ((broadcastInDim_a1_ab_apply _ _ r d).trans (invs_apply X r 0))) (broadcastInDim_1b_ab_apply g _ r d)

/-- `w_up`'s matrix, entry by entry. -/
theorem wu_apply (e : Fin 1024) (k : Fin 4096) : wu U (ix2 e k) = wup U e k := by
  unfold wu wup
  refine (shapeCast_apply _ _ _ (ix3 e (chunk k) (place k)) ?_).trans ?_
  · rw [Shape.rowMajor_val_three, Shape.rowMajor_val_two]
    show (e.val * 8 + k.val / 512) * 512 + k.val % 512 = e.val * 4096 + k.val
    omega
  exact transpose_apply _ _ _ _ (ix3 (chunk k) e (place k)) fun b => match b with | ⟨0, _⟩ => rfl | ⟨1, _⟩ => rfl | ⟨2, _⟩ => rfl

/-- The pre-activation, entry by entry. -/
theorem u_apply (r : Fin 8192) (k : Fin 4096) : u X g U (ix2 r k) = pre (rms (row X r) (row g 0)) U k := by
  unfold u
  refine (Cert.Products.dot_nn rfl none (z X g) (wu U) r k).trans (Finset.sum_congr rfl fun e _ => ?_)
  rw [wu_apply, z_apply]

/-- The rectified pre-activation, entry by entry. -/
theorem relu_apply (r : Fin 8192) (k : Fin 4096) : relu X g U (ix2 r k) = max (pre (rms (row X r) (row g 0)) U k) 0 := by
  show max (u X g U (ix2 r k)) (Ideal.ofBits .f32 0x00000000#32) = _
  rw [u_apply, Ideal.ofBits_zero_f32]

/-- The rows the MLP leaves, entry by entry. -/
theorem outX_apply (r : Fin 8192) (d : Fin 1024) : outX X g U D (ix2 r d) = out (rms (row X r) (row g 0)) U D (row X r) d := by
  unfold outX out
  refine congrArg (X (ix2 r d) + ·) ((Cert.Products.dot_nn rfl none (mulf (relu X g U) (relu X g U)) D r d).trans (Finset.sum_congr rfl fun k _ => ?_))
  show relu X g U (ix2 r k) * relu X g U (ix2 r k) * D (ix2 k d) = _
  rw [relu_apply]
  rfl

end Cert.MlpFwdRefIdeal.Entries

end
-- ==== Proof.MlpFwd.Claim.lean ====
/-
  The MLP's forward pass equals the reference's over the reals: the normalisation is the same expression of a row's sum of
  squares, and each hidden unit and each output entry is the same sum of the same products.
-/
module

public import proofs.«01_k».proof.Proof.MlpFwd.Value
public import proofs.«01_k».proof.Proof.MlpFwd.Ref
public import proofs.«01_k».proof.Defs

@[expose] public section

set_option maxRecDepth 16384

noncomputable section

namespace Cert.MlpFwdIdeal.Rows

open Idealize.ShloMosaic Idealize.ShloMosaic.TcCoe Idealize.ShloMosaic.ValueIdx Idealize.SL.Sem
open Cert.MlpFwdRefIdeal.Entries

variable (m : (ℓ : Loc nD τ sig) → Buf (Elt Ideal) ℓ)

/-- The reference's rows are the kernel's. -/
theorem ref_x (c : Dev nD) : outX (argX m c) (argG m c) (argU m c) (argD m c) = (Gen.dats m 0 c).arrAt 4 cfg0.N :=
  Cert.Products.ext2 fun i j => (outX_apply (argX m c) (argG m c) (argU m c) (argD m c) i j).trans (arr4_apply m c i j).symm

/-- The reference's normalised rows are the kernel's. -/
theorem ref_z (c : Dev nD) : outZ (argX m c) (argG m c) = (Gen.dats m 0 c).arrAt 5 cfg0.N :=
  Cert.Products.ext2 fun i j => (z_apply (argX m c) (argG m c) i j).trans (arr5_apply m c i j).symm

/-- The reference's pre-activations are the kernel's. -/
theorem ref_u (c : Dev nD) : outU (argX m c) (argG m c) (argU m c) = (Gen.dats m 0 c).arrAt 6 cfg0.N :=
  Cert.Products.ext2 fun i j => (u_apply (argX m c) (argG m c) (argU m c) i j).trans (arr6_apply m c i j).symm

/-- The kernel and the reference end with the same three results, and neither writes an argument. -/
theorem algebraic : Cert.algebraic_MlpFwdIdeal_MlpFwdRefIdeal (hMlpFwdIdeal := Cert.MlpFwdIdeal.Gen.facts)
    (hMlpFwdRefIdeal := Cert.MlpFwdRefIdeal.Gen.facts) := by
  intro m g m' g' _ hargs
  refine ⟨fun c => (Gen.dats m 0 c).arrAt 4 cfg0.N, fun c => (Gen.dats m 0 c).arrAt 5 cfg0.N, fun c => (Gen.dats m 0 c).arrAt 6 cfg0.N,
    Value.run_blocks m g, ?_⟩
  refine (θ_run _ _ _).mono (fun _ h c => ⟨(h c).1.trans ?_, (h c).2.1.trans ?_, (h c).2.2.1.trans ?_, (h c).2.2.2⟩)
    (Cert.MlpFwdRefIdeal.Value.run m' g')
  · rw [(hargs c).1, (hargs c).2.1, (hargs c).2.2.1, (hargs c).2.2.2]
    exact ref_x m c
  · rw [(hargs c).1, (hargs c).2.1]
    exact ref_z m c
  · rw [(hargs c).1, (hargs c).2.1, (hargs c).2.2.1]
    exact ref_u m c

end Cert.MlpFwdIdeal.Rows

end
-- ==== Proof.Lib.NormGrad.lean ====
/-
  Identities over the extended reals that hold with no condition on their arguments: a positive real factor passes into
  a sum or a difference, the gradient of a root-mean-square normalisation has two forms, and so has the logistic function.
-/
module

public import proofs.«01_k».proof.Proof.Lib.Norms
public import Idealize.ShloMosaic.Lib.IdealHost
public import Mathlib.Data.EReal.Inv

@[expose] public section

noncomputable section

namespace Cert.Norms

open Idealize.ShloMosaic Idealize.ShloMosaic.ValueIdx
open scoped BigOperators

/-! ## The constants -/

/-- One half. -/
abbrev half : EReal := Ideal.ofBits .f32 0x3F000000#32
/-- Minus one half. -/
abbrev mhalf : EReal := Ideal.ofBits .f32 0xBF000000#32
/-- Two. -/
abbrev two : EReal := Ideal.ofBits .f32 0x40000000#32
/-- One over the width. -/
abbrev perWidth : EReal := Ideal.ofBits .f32 0x3A800000#32

theorem half_eq : half = ((1 / 2 : ℝ) : EReal) := by
  simp [half, Ideal.ofBits, Ideal.ieee, -EReal.coe_mul]; norm_num
theorem mhalf_eq : mhalf = ((-(1 / 2) : ℝ) : EReal) := by
  simp [mhalf, Ideal.ofBits, Ideal.ieee, -EReal.coe_mul, -EReal.coe_neg]; norm_num
theorem two_eq : two = ((2 : ℝ) : EReal) := by
  simp [two, Ideal.ofBits, Ideal.ieee, -EReal.coe_mul]; norm_num
theorem perWidth_eq : perWidth = ((1 / 1024 : ℝ) : EReal) := by
  simp [perWidth, Ideal.ofBits, Ideal.ieee, -EReal.coe_mul]; norm_num
theorem width_eq : width = ((1024 : ℝ) : EReal) := by
  simp [width, Ideal.ofBits, Ideal.ieee, -EReal.coe_mul]; norm_num
theorem eps_pos : ∃ e : ℝ, 0 < e ∧ eps = (e : EReal) := by
  refine ⟨8796093 * 2 ^ (-43 : ℤ), by positivity, ?_⟩
  simp [eps, Ideal.ofBits, Ideal.ieee, -EReal.coe_mul]

/-- A quotient by a real that is not zero is a product with its inverse. -/
theorem div_coe (x : EReal) {r : ℝ} (h : r ≠ 0) : Ideal.div x (r : EReal) = x * ((r⁻¹ : ℝ) : EReal) := by
  unfold Ideal.div
  rw [if_neg (by exact_mod_cast h), EReal.coe_inv]

/-- The mean over a row's width, as a product. -/
theorem div_width (x : EReal) : Ideal.div x width = x * ((1 / 1024 : ℝ) : EReal) := by
  rw [width_eq, div_coe x (by norm_num)]; norm_num

/-! ## A nonnegative real factor -/

theorem coe_mul_add {c : ℝ} (hc : 0 ≤ c) (y z : EReal) : (c : EReal) * (y + z) = c * y + c * z :=
  EReal.left_distrib_of_nonneg_of_ne_top (by exact_mod_cast hc) (EReal.coe_ne_top c) y z

theorem coe_mul_sub {c : ℝ} (hc : 0 ≤ c) (y z : EReal) : (c : EReal) * (y - z) = c * y - c * z := by
  rw [sub_eq_add_neg, coe_mul_add hc, mul_neg, ← sub_eq_add_neg]

theorem coe_mul_sum {ι : Type} {c : ℝ} (hc : 0 ≤ c) (s : Finset ι) (f : ι → EReal) : (c : EReal) * ∑ k ∈ s, f k = ∑ k ∈ s, c * f k := by
  classical
  induction s using Finset.induction_on with
  | empty => simp
  | insert a s ha ih => rw [Finset.sum_insert ha, Finset.sum_insert ha, coe_mul_add hc, ih]

theorem add_self_eq (y : EReal) : y + y = ((2 : ℝ) : EReal) * y := by
  have h : y * (1 + 1) = y * 1 + y * 1 := EReal.left_distrib_of_nonneg zero_le_one zero_le_one
  rw [mul_one] at h
  rw [← h, mul_comm]
  norm_num
  rfl

/-! ## The mean square -/

/-- A row's mean square, and the small number. -/
def meanSq (x : Fin 1024 → EReal) : EReal := Ideal.div (∑ k : Fin 1024, x k * x k) width + eps

theorem mul_self_nonneg' (y : EReal) : 0 ≤ y * y := by
  induction y with
  | bot => simp
  | top => simp
  | coe r => exact_mod_cast mul_self_nonneg r

/-- The mean square is infinite or a positive real. -/
theorem meanSq_cases (x : Fin 1024 → EReal) : meanSq x = ⊤ ∨ ∃ q : ℝ, 0 < q ∧ meanSq x = (q : EReal) := by
  have hs : 0 ≤ Ideal.div (∑ k : Fin 1024, x k * x k) width := by
    rw [div_width]
    exact mul_nonneg (Finset.sum_nonneg fun k _ => mul_self_nonneg' (x k)) (by exact_mod_cast (by norm_num : (0 : ℝ) ≤ 1 / 1024))
  obtain ⟨e, he, hee⟩ := eps_pos
  unfold meanSq
  rw [hee]
  generalize Ideal.div (∑ k : Fin 1024, x k * x k) width = s at hs ⊢
  induction s with
  | bot => exact absurd hs (by decide)
  | top => exact Or.inl (EReal.top_add_coe e)
  | coe s => exact Or.inr ⟨s + e, add_pos_of_nonneg_of_pos (by exact_mod_cast hs) he, by norm_cast⟩

/-! ## The normalisation's gradient -/

/-- The gradient of a normalised row, for the gradient `w` of its output: the kernels' form. -/
def grad (x w : Fin 1024 → EReal) (d : Fin 1024) : EReal :=
  inv x * (w d - x d * inv x * Ideal.div (∑ k : Fin 1024, w k * (x k * inv x)) width)

/-- The coefficient of the row itself in the gradient, halved: the reference's form. -/
def coef (x w : Fin 1024 → EReal) : EReal :=
  Ideal.div ((∑ k : Fin 1024, x k * w k) * (mhalf * Ideal.div (inv x) (meanSq x))) width

/-- The two forms agree. -/
theorem grad_eq (x w : Fin 1024 → EReal) (d : Fin 1024) : w d * inv x + x d * coef x w + coef x w * x d = grad x w d := by
  unfold grad coef
  have hi : inv x = Ideal.rsqrt (meanSq x) := rfl
  rcases meanSq_cases x with h | ⟨q, hq, h⟩
  · have h0 : inv x = 0 := by rw [hi, h]; rfl
    have hd : Ideal.div 0 ⊤ = 0 := by unfold Ideal.div; rw [if_neg (by simp), zero_mul]
    rw [h0, h, hd, div_width]
    simp
  · obtain ⟨r, hr, hrr, h0⟩ : ∃ r : ℝ, 0 < r ∧ r * r = q⁻¹ ∧ inv x = (r : EReal) := by
      refine ⟨(Real.sqrt q)⁻¹, inv_pos.mpr (Real.sqrt_pos.mpr hq), ?_, ?_⟩
      · rw [← mul_inv, Real.mul_self_sqrt hq.le]
      · rw [hi, h]
        show (if q < 0 then ⊥ else if q = 0 then ⊤ else (((Real.sqrt q)⁻¹ : ℝ) : EReal)) = _
        rw [if_neg (not_lt.mpr hq.le), if_neg hq.ne']
    rw [h0, h, div_coe _ hq.ne', div_width, div_width, mhalf_eq]
    have hS : ∑ k : Fin 1024, w k * (x k * (r : EReal)) = (r : EReal) * ∑ k : Fin 1024, x k * w k := by
      rw [coe_mul_sum hr.le]
      exact Finset.sum_congr rfl fun k _ => by ac_rfl
    rw [hS, coe_mul_sub hr.le]
    generalize (∑ k : Fin 1024, x k * w k) = S
    rw [mul_comm _ (x d), add_assoc, add_self_eq, mul_comm (w d) (r : EReal), sub_eq_add_neg]
    refine congrArg ((r : EReal) * w d + ·) ?_
    have h1 : ((2 : ℝ) : EReal) * (x d * (S * (((-(1 / 2) : ℝ) : EReal) * ((r : EReal) * ((q⁻¹ : ℝ) : EReal))) * ((1 / 1024 : ℝ) : EReal)))
        = x d * S * ((2 * (-(1 / 2) * (r * q⁻¹)) * (1 / 1024) : ℝ) : EReal) := by
      simp only [EReal.coe_mul]; ac_rfl
    have h2 : -((r : EReal) * (x d * (r : EReal) * ((r : EReal) * S * ((1 / 1024 : ℝ) : EReal))))
        = x d * S * ((-(r * (r * r) * (1 / 1024)) : ℝ) : EReal) := by
      rw [EReal.coe_neg, mul_neg]
      refine congrArg Neg.neg ?_
      simp only [EReal.coe_mul]; ac_rfl
    rw [h1, h2, hrr]
    congr 2
    ring

/-! ## The logistic function -/

/-- The logistic function by the hyperbolic tangent: the kernels' form. -/
def logistic (a : EReal) : EReal := half * Ideal.tanh (half * a) + half

/-- On the reals the two forms agree. -/
theorem real_logistic (a : ℝ) : 1 / 2 * Real.tanh (1 / 2 * a) + 1 / 2 = (1 + Real.exp (-a))⁻¹ := by
  rw [Real.tanh_eq]
  have e : Real.exp (-a) = Real.exp (-(1 / 2 * a)) * Real.exp (-(1 / 2 * a)) := by rw [← Real.exp_add]; ring_nf
  have e' : Real.exp (1 / 2 * a) * Real.exp (-(1 / 2 * a)) = 1 := by rw [← Real.exp_add]; simp
  have p := Real.exp_pos (1 / 2 * a)
  have p' := Real.exp_pos (-(1 / 2 * a))
  rw [e]
  generalize Real.exp (1 / 2 * a) = u at *
  generalize Real.exp (-(1 / 2 * a)) = v at *
  have hv : u = 1 / v := by field_simp; exact e'
  subst hv
  field_simp
  ring

/-- The two forms agree, at the infinities too. -/
theorem logistic_eq (a : EReal) : Ideal.div 1 (1 + Ideal.exp (-a)) = logistic a := by
  unfold logistic
  rw [half_eq]
  have hp : (0 : ℝ) < 1 / 2 := by norm_num
  induction a with
  | bot =>
    rw [EReal.coe_mul_bot_of_pos hp]
    show Ideal.div 1 (1 + (⊤ : EReal)) = ((1 / 2 : ℝ) : EReal) * (-1) + ((1 / 2 : ℝ) : EReal)
    rw [EReal.add_top_of_ne_bot (show (1 : EReal) ≠ ⊥ from EReal.coe_ne_bot 1)]
    unfold Ideal.div
    rw [mul_neg, mul_one, if_neg EReal.top_ne_zero, EReal.inv_top, mul_zero]
    norm_cast; norm_num
  | top =>
    rw [EReal.coe_mul_top_of_pos hp]
    show Ideal.div 1 (1 + 0) = ((1 / 2 : ℝ) : EReal) * 1 + ((1 / 2 : ℝ) : EReal)
    unfold Ideal.div
    rw [add_zero, if_neg one_ne_zero, mul_one, inv_one, mul_one]
    norm_cast; norm_num
  | coe a =>
    have e1 : (1 + Ideal.exp (-(a : EReal))) = ((1 + Real.exp (-a) : ℝ) : EReal) := rfl
    have e2 : Ideal.tanh (((1 / 2 : ℝ) : EReal) * (a : EReal)) = ((Real.tanh (1 / 2 * a) : ℝ) : EReal) := rfl
    rw [e1, e2, div_coe _ (by positivity), one_mul, ← real_logistic]
    norm_cast

/-- The error's gradient: the reference's constant and its doubled error are the kernels' scaled error. -/
theorem scaled (y : EReal) : Ideal.div (half * 1) width * (two * y) = y * perWidth := by
  rw [half_eq, two_eq, perWidth_eq, div_width, mul_one, ← mul_assoc, ← EReal.coe_mul, ← EReal.coe_mul, mul_comm]
  norm_num

end Cert.Norms

end
-- ==== Proof.Ple.Terms.lean ====
/-
  The terms of the per-layer embedding's results, row by row: the gate and the gated projection, the final error and its
  gradient through the two normalisations and the gate. The kernel's blocks and the reference's arrays are both read in
  these terms.
-/
module

public import proofs.«01_k».proof.Proof.Lib.NormGrad

@[expose] public section

noncomputable section

namespace Cert.PleTerms

open Idealize.ShloMosaic Idealize.ShloMosaic.ValueIdx Cert.Norms
open scoped BigOperators

/-- The layer's parameters: the gains, the gate's weights and bias, the projection's weights and the final gains. -/
structure Params where
  g : Fin 1024 → EReal
  wg : Fin 1024 → Fin 1024 → EReal
  b : Fin 1024 → EReal
  wp : Fin 256 → Fin 1024 → EReal
  gf : Fin 1024 → EReal

/-- One row of the inputs: the hidden state, the embedding and the target. -/
structure Input where
  x : Fin 1024 → EReal
  p : Fin 256 → EReal
  t : Fin 1024 → EReal

variable (P : Params) (R : Input)

/-- The normalised row. -/
def zin (d : Fin 1024) : EReal := rms R.x P.g d
/-- The row divided by its root mean square. -/
def xh (d : Fin 1024) : EReal := R.x d * inv R.x
/-- The gate's argument. -/
def logit (d : Fin 1024) : EReal := (∑ e : Fin 1024, zin P R e * P.wg e d) + P.b d
/-- The gate. -/
def gate (d : Fin 1024) : EReal := logistic (logit P R d)
/-- The projected embedding. -/
def pp (d : Fin 1024) : EReal := ∑ e : Fin 256, R.p e * P.wp e d
/-- The row the layer leaves. -/
def h3 (d : Fin 1024) : EReal := R.x d + gate P R d * pp P R d
/-- That row divided by its root mean square. -/
def hh (d : Fin 1024) : EReal := h3 P R d * inv (h3 P R)
/-- The final error. -/
def err (d : Fin 1024) : EReal := hh P R d * P.gf d - R.t d
/-- The mean squared error. -/
def loss : EReal := Ideal.div (∑ d : Fin 1024, err P R d * err P R d) width
/-- The gradient of the output. -/
def dy (d : Fin 1024) : EReal := err P R d * perWidth
/-- The gradient of the row the layer leaves. -/
def dh3 (d : Fin 1024) : EReal := grad (h3 P R) (fun k => dy P R k * P.gf k) d
/-- The gradient of the gate's argument. -/
def dgl (d : Fin 1024) : EReal := dh3 P R d * pp P R d * (gate P R d * (1 - gate P R d))
/-- The gradient of the gated projection. -/
def dgp (d : Fin 1024) : EReal := dh3 P R d * gate P R d
/-- The gradient of the normalised row. -/
def dz3 (d : Fin 1024) : EReal := ∑ k : Fin 1024, dgl P R k * P.wg d k
/-- The gradient of the row. -/
def dh2 (d : Fin 1024) : EReal := dh3 P R d + grad R.x (fun k => dz3 P R k * P.g k) d

/-- The row's term of the gradient of the gate's weights. -/
def gateT (e d : Fin 1024) : EReal := zin P R e * dgl P R d
/-- The row's term of the gradient of the projection's weights. -/
def projT (e : Fin 256) (d : Fin 1024) : EReal := R.p e * dgp P R d
/-- The row's term of the gradient of the gains. -/
def gainT (d : Fin 1024) : EReal := dz3 P R d * xh R d
/-- The row's term of the gradient of the final gains. -/
def lastT (d : Fin 1024) : EReal := dy P R d * hh P R d

variable {n : ℕ} (Q : Fin n → Input)

/-- The gradients of the bias and of the two gains, and half the summed loss, as the rows of one array; its other rows are zero. -/
def vec (k : Fin 8) (d : Fin 1024) : EReal :=
  if k.val = 0 then ∑ r : Fin n, dgl P (Q r) d
  else if k.val = 1 then ∑ r : Fin n, gainT P (Q r) d
  else if k.val = 2 then ∑ r : Fin n, lastT P (Q r) d
  else if k.val = 3 then ∑ r : Fin n, half * loss P (Q r)
  else 0

/-- One row's share of the array. -/
def vecT (k : Fin 8) (d : Fin 1024) : EReal :=
  if k.val = 0 then dgl P R d else if k.val = 1 then gainT P R d else if k.val = 2 then lastT P R d else if k.val = 3 then half * loss P R else 0

/-- The array sums the rows' shares. -/
theorem vec_eq_sum (k : Fin 8) (d : Fin 1024) : vec P Q k d = ∑ r : Fin n, vecT P (Q r) k d := by
  unfold vec vecT
  by_cases h0 : k.val = 0
  · simp only [if_pos h0]
  by_cases h1 : k.val = 1
  · simp only [if_neg h0, if_pos h1]
  by_cases h2 : k.val = 2
  · simp only [if_neg h0, if_neg h1, if_pos h2]
  by_cases h3 : k.val = 3
  · simp only [if_neg h0, if_neg h1, if_neg h2, if_pos h3]
  · simp only [if_neg h0, if_neg h1, if_neg h2, if_neg h3, Finset.sum_const_zero]

end Cert.PleTerms

end
-- ==== Proof.Ple.Entries.lean ====
/-
  The values one point of the per-layer embedding computes, entry by entry: each is a term of one row of its blocks, and
  the accumulators take in such terms summed over the block's rows.
-/
module

public import proofs.«01_k».proof.Proof.Gen.PleIdeal.Frame
public import proofs.«01_k».proof.Proof.Ple.Terms
public import proofs.«01_k».proof.Proof.Lib.Products
public import proofs.«01_k».proof.Proof.Lib.Stores

@[expose] public section

set_option maxRecDepth 16384

noncomputable section

namespace Cert.PleIdeal.Point

open Cert.PleIdeal Cert.PleIdeal.Gen Cert.PleTerms Cert.Norms
open Idealize.ShloMosaic Idealize.ShloMosaic.ValueIdx
open scoped BigOperators

/-- The blocks a point reads: the rows, the embeddings, the targets, the gains, the gate's weights and bias, the
    projection's weights and the final gains. -/
structure Blk where
  x0 : Vec Ideal S512x1024 .f32
  x1 : Vec Ideal S512x256 .f32
  x2 : Vec Ideal S512x1024 .f32
  x3 : Vec Ideal S1x1024 .f32
  x4 : Vec Ideal S1024x1024 .bf16
  x5 : Vec Ideal S1x1024 .f32
  x6 : Vec Ideal S256x1024 .bf16
  x7 : Vec Ideal S1x1024 .f32

variable (B : Blk)

/-- The parameters, from their blocks. -/
def par : Params := ⟨row B.x3 0, fun e d => B.x4 (ix2 e d), row B.x5 0, fun e d => B.x6 (ix2 e d), row B.x7 0⟩
/-- A row of the inputs, from their blocks. -/
def inp (r : Fin 512) : Input := ⟨row B.x0 r, row B.x1 r, row B.x2 r⟩

/-! ## The values -/

/-- The reciprocal roots. -/
abbrev kInv : FVec Ideal S512x1 .f32 := k0_pay9 B.x0
/-- The rows divided by their roots. -/
abbrev kXh : FVec Ideal S512x1024 .f32 := k0_pay10 B.x0
/-- The normalised rows. -/
abbrev kZin : FVec Ideal S512x1024 .bf16 := k0_pay11 B.x0 B.x3
/-- The gates. -/
abbrev kGate : FVec Ideal S512x1024 .f32 := k0_pay12 B.x0 B.x3 B.x4 B.x5
/-- The embeddings, cast. -/
abbrev kP : FVec Ideal S512x256 .bf16 := k0_pay13 B.x1
/-- The projected embeddings. -/
abbrev kPp : FVec Ideal S512x1024 .f32 := k0_pay14 B.x1 B.x6
/-- The rows the layer leaves. -/
abbrev kH3 : FVec Ideal S512x1024 .f32 := k0_pay15 B.x0 (kGate B) (kPp B)
/-- Their reciprocal roots. -/
abbrev kInv3 : FVec Ideal S512x1 .f32 := k0_pay16 B.x0 (kGate B) (kPp B)
/-- Those rows divided by their roots. -/
abbrev kHh : FVec Ideal S512x1024 .f32 := k0_pay17 B.x0 (kGate B) (kPp B)
/-- The errors. -/
abbrev kErr : FVec Ideal S512x1024 .f32 := k0_pay18 B.x0 (kGate B) (kPp B) B.x7 B.x2
/-- The losses. -/
abbrev kLoss : FVec Ideal S512x1 .f32 := k0_pay19 B.x0 (kGate B) (kPp B) B.x7 B.x2
/-- The gradient of the output. -/
abbrev kDy : FVec Ideal S512x1024 .f32 := k0_pay20 B.x0 (kGate B) (kPp B) B.x7 B.x2
/-- The gradient of the rows the layer leaves. -/
abbrev kDh3 : FVec Ideal S512x1024 .f32 := k0_pay21 B.x0 (kGate B) (kPp B) B.x7 B.x2
/-- The gradient of the gates' arguments. -/
abbrev kDgl : FVec Ideal S512x1024 .f32 := k0_pay22 B.x0 (kGate B) (kPp B) B.x7 B.x2
/-- The gradient of the gated projections. -/
abbrev kDgp : FVec Ideal S512x1024 .f32 := k0_pay23 B.x0 (kGate B) (kPp B) B.x7 B.x2
/-- The gradient of the gates' arguments, cast. -/
abbrev kDglC : FVec Ideal S512x1024 .bf16 := k0_pay24 B.x0 (kGate B) (kPp B) B.x7 B.x2
/-- The gradient of the normalised rows. -/
abbrev kDz3 : FVec Ideal S512x1024 .f32 := k0_pay27 (kDglC B) B.x4
/-- The gradient of the rows. -/
abbrev kDh2 : FVec Ideal S512x1024 .f32 := k0_pay28 B.x3 (kInv B) (kXh B) (kDh3 B) (kDglC B) B.x4

variable (r : Fin 512) (d : Fin 1024)

theorem inv_apply (c : Fin 1) : kInv B (ix2 r c) = inv (inp B r).x := by
  unfold kInv k0_pay9
  refine congrArg (fun s : EReal => Ideal.rsqrt (Ideal.div s width + eps)) ((shapeCast_a_a1_apply _ _ r c).trans ?_)
  exact sum_row _ _ _ _ r

theorem xh_apply : kXh B (ix2 r d) = xh (inp B r) d := by
  unfold kXh k0_pay10
  exact congrArg (fun s : EReal => B.x0 (ix2 r d) * s) ((broadcastTo_a1_ab_apply _ _ r d).trans (inv_apply B r 0))

theorem zin_apply : kZin B (ix2 r d) = zin (par B) (inp B r) d := by
  unfold kZin k0_pay11
  exact congrArg₂ (fun x y : EReal => x * y) (xh_apply B r d) (broadcastTo_1b_ab_apply B.x3 _ r d)

theorem logit_apply : (addf (matmul dot_S512x1024_S1024x1024_S512x1024_1_0_0_1_n_n none (kZin B) (shapeCast S1024x1024 B.x4 shapeCasts_S1024x1024_S1024x1024 : FVec Ideal S1024x1024 .bf16) (constant S512x1024 .f32 0x00000000#32)) (broadcastTo S512x1024 B.x5 broadcasts_S1x1024_S512x1024) : FVec Ideal S512x1024 .f32) (ix2 r d) = logit (par B) (inp B r) d := by
  rw [shapeCast_self]
  refine congrArg₂ (fun x y : EReal => x + y) ((Cert.Products.matmul_nn (φ₁ := .bf16) (φ₂ := .bf16) rfl none (kZin B) B.x4 _ r d).trans ?_) (broadcastTo_1b_ab_apply B.x5 _ r d)
  show Ideal.ofBits .f32 0x00000000#32 + _ = _
  rw [Ideal.ofBits_zero_f32, zero_add]
  exact Finset.sum_congr rfl fun e _ => congrArg (fun s : EReal => s * B.x4 (ix2 e d)) (zin_apply B r e)

theorem gate_apply : kGate B (ix2 r d) = gate (par B) (inp B r) d := by
  unfold kGate k0_pay12
  exact congrArg (fun s : EReal => half * Ideal.tanh (half * s) + half) (logit_apply B r d)

theorem pp_apply : kPp B (ix2 r d) = pp (par B) (inp B r) d := by
  unfold kPp k0_pay14
  simp only [shapeCast_self]
  refine (Cert.Products.matmul_nn (φ₁ := .bf16) (φ₂ := .bf16) rfl none (kP B) B.x6 _ r d).trans ?_
  show Ideal.ofBits .f32 0x00000000#32 + _ = _
  rw [Ideal.ofBits_zero_f32, zero_add]
  rfl

theorem h3_apply : kH3 B (ix2 r d) = h3 (par B) (inp B r) d := by
  unfold kH3 k0_pay15
  exact congrArg (fun s : EReal => B.x0 (ix2 r d) + s) (congrArg₂ (fun x y : EReal => x * y) (gate_apply B r d) (pp_apply B r d))

theorem inv3_apply (c : Fin 1) : kInv3 B (ix2 r c) = inv (h3 (par B) (inp B r)) := by
  unfold kInv3 k0_pay16
  refine congrArg (fun s : EReal => Ideal.rsqrt (Ideal.div s width + eps)) ((shapeCast_a_a1_apply _ _ r c).trans ((sum_row _ _ _ _ r).trans ?_))
  exact Finset.sum_congr rfl fun k _ => congrArg₂ (fun x y : EReal => x * y) (h3_apply B r k) (h3_apply B r k)

theorem hh_apply : kHh B (ix2 r d) = hh (par B) (inp B r) d := by
  unfold kHh k0_pay17
  exact congrArg₂ (fun x y : EReal => x * y) (h3_apply B r d) ((broadcastTo_a1_ab_apply _ _ r d).trans (inv3_apply B r 0))

theorem err_apply : kErr B (ix2 r d) = err (par B) (inp B r) d := by
  unfold kErr k0_pay18
  exact congrArg (fun s : EReal => s - B.x2 (ix2 r d)) (congrArg₂ (fun x y : EReal => x * y) (hh_apply B r d) (broadcastTo_1b_ab_apply B.x7 _ r d))

theorem loss_apply (c : Fin 1) : kLoss B (ix2 r c) = loss (par B) (inp B r) := by
  unfold kLoss k0_pay19
  refine congrArg (fun s : EReal => Ideal.div s width) ((shapeCast_a_a1_apply _ _ r c).trans ((sum_row _ _ _ _ r).trans ?_))
  exact Finset.sum_congr rfl fun k _ => congrArg₂ (fun x y : EReal => x * y) (err_apply B r k) (err_apply B r k)

theorem dy_apply : kDy B (ix2 r d) = dy (par B) (inp B r) d := by
  unfold kDy k0_pay20
  exact congrArg (fun s : EReal => s * perWidth) (err_apply B r d)

/-- The gradient of normalised rows, from the gradients of their outputs, the rows over their roots and the roots. -/
def back (w h : FVec Ideal S512x1024 .f32) (i : FVec Ideal S512x1 .f32) : FVec Ideal S512x1024 .f32 :=
  mulf (broadcastTo S512x1024 i broadcasts_S512x1_S512x1024) (subf w (mulf h (broadcastTo S512x1024
    (divf (shapeCast S512x1 (multiReduction .add [1] S512 (mulf w h) 0x00000000#32 reduces_S512x1024_S512 (.inl rfl) rfl) shapeCasts_S512_S512x1)
      (broadcast S512x1 (Scalar.ofBits .f32 0x44800000#32))) broadcasts_S512x1_S512x1024)))

theorem back_apply (w h : FVec Ideal S512x1024 .f32) (i : FVec Ideal S512x1 .f32) (X U : Fin 1024 → EReal)
    (hw : ∀ k, w (ix2 r k) = U k) (hh : ∀ k, h (ix2 r k) = X k * inv X) (hi : i (ix2 r 0) = inv X) : back w h i (ix2 r d) = grad X U d := by
  unfold back grad
  refine congrArg₂ (fun x y : EReal => x * y) ((broadcastTo_a1_ab_apply _ _ r d).trans hi) (congrArg₂ (fun x y : EReal => x - y) (hw d)
    (congrArg₂ (fun x y : EReal => x * y) (hh d) ((broadcastTo_a1_ab_apply _ _ r d).trans ?_)))
  refine congrArg (fun s : EReal => Ideal.div s width) ((shapeCast_a_a1_apply _ _ r 0).trans ((sum_row _ _ _ _ r).trans ?_))
  exact Finset.sum_congr rfl fun k _ => congrArg₂ (fun x y : EReal => x * y) (hw k) (hh k)

theorem dh3_eq : kDh3 B = back (mulf (kDy B) (broadcastTo S512x1024 B.x7 broadcasts_S1x1024_S512x1024)) (kHh B) (kInv3 B) := rfl

theorem dh3_apply : kDh3 B (ix2 r d) = dh3 (par B) (inp B r) d := by
  rw [dh3_eq]
  refine back_apply r d _ _ _ _ _ (fun k => ?_) (fun k => hh_apply B r k) (inv3_apply B r 0)
  exact congrArg₂ (fun x y : EReal => x * y) (dy_apply B r k) (broadcastTo_1b_ab_apply B.x7 _ r k)

theorem dgl_apply : kDgl B (ix2 r d) = dgl (par B) (inp B r) d := by
  unfold kDgl k0_pay22
  exact congrArg₂ (fun x y : EReal => x * y) (congrArg₂ (fun x y : EReal => x * y) (dh3_apply B r d) (pp_apply B r d))
    (congrArg₂ (fun x y : EReal => x * y) (gate_apply B r d) (congrArg₂ (fun x y : EReal => x - y) Ideal.ofBits_one_f32 (gate_apply B r d)))

theorem dgp_apply : kDgp B (ix2 r d) = dgp (par B) (inp B r) d := by
  unfold kDgp k0_pay23
  exact congrArg₂ (fun x y : EReal => x * y) (dh3_apply B r d) (gate_apply B r d)

theorem dz3_apply : kDz3 B (ix2 r d) = dz3 (par B) (inp B r) d := by
  unfold kDz3 k0_pay27
  simp only [shapeCast_self]
  refine (Cert.Products.matmul_nt (φ₁ := .bf16) (φ₂ := .bf16) rfl none (kDglC B) B.x4 _ r d).trans ?_
  show Ideal.ofBits .f32 0x00000000#32 + _ = _
  rw [Ideal.ofBits_zero_f32, zero_add]
  exact Finset.sum_congr rfl fun k _ => congrArg (fun s : EReal => s * B.x4 (ix2 d k)) (dgl_apply B r k)

theorem dh2_eq : kDh2 B = addf (kDh3 B) (back (mulf (kDz3 B) (broadcastTo S512x1024 B.x3 broadcasts_S1x1024_S512x1024)) (kXh B) (kInv B)) := rfl

theorem dh2_apply : kDh2 B (ix2 r d) = dh2 (par B) (inp B r) d := by
  rw [dh2_eq]
  refine congrArg₂ (fun x y : EReal => x + y) (dh3_apply B r d) (back_apply r d _ _ _ _ _ (fun k => ?_) (fun k => xh_apply B r k) (inv_apply B r 0))
  exact congrArg₂ (fun x y : EReal => x * y) (dz3_apply B r k) (broadcastTo_1b_ab_apply B.x3 _ r k)

/-! ## The accumulators -/

/-- The accumulator of the gate's weights' gradient takes in the block's terms. -/
theorem accGate_apply (a : Vec Ideal S1024x1024 .f32) (e : Fin 1024) :
    k0_pay25 (kZin B) (kDglC B) a (constant S1024x1024 .f32 0x00000000#32) (ix2 e d) = a (ix2 e d) + ∑ r : Fin 512, gateT (par B) (inp B r) e d := by
  unfold k0_pay25
  simp only [shapeCast_self]
  refine congrArg (fun s : EReal => a (ix2 e d) + s) ((Cert.Products.matmul_tn (φ₁ := .bf16) (φ₂ := .bf16) rfl none (kZin B) (kDglC B) _ e d).trans ?_)
  show Ideal.ofBits .f32 0x00000000#32 + _ = _
  rw [Ideal.ofBits_zero_f32, zero_add]
  exact Finset.sum_congr rfl fun r _ => congrArg₂ (fun x y : EReal => x * y) (zin_apply B r e) (dgl_apply B r d)

/-- The accumulator of the projection's weights' gradient takes in the block's terms. -/
theorem accProj_apply (a : Vec Ideal S256x1024 .f32) (e : Fin 256) :
    k0_pay26 (kP B) (kDgp B) a (ix2 e d) = a (ix2 e d) + ∑ r : Fin 512, projT (par B) (inp B r) e d := by
  unfold k0_pay26
  simp only [shapeCast_self]
  refine congrArg (fun s : EReal => a (ix2 e d) + s) ((Cert.Products.matmul_tn (φ₁ := .bf16) (φ₂ := .bf16) rfl none (kP B) _ _ e d).trans ?_)
  show Ideal.ofBits .f32 0x00000000#32 + _ = _
  rw [Ideal.ofBits_zero_f32, zero_add]
  exact Finset.sum_congr rfl fun r _ => congrArg (fun s : EReal => B.x1 (ix2 r e) * s) (dgp_apply B r d)

variable (v : Vec Ideal S1x1024 .f32) (z : Fin 1)

/-- The bias's row takes in the block's terms. -/
theorem rowBias_apply : k0_pay29 (kDgl B) v (ix2 z d) = v (ix2 z d) + ∑ r : Fin 512, dgl (par B) (inp B r) d := by
  unfold k0_pay29
  simp only [shapeCast_self]
  refine congrArg (fun s : EReal => v (ix2 z d) + s) ((shapeCast_b_1b_apply _ _ z d).trans ((sum_col _ _ _ _ d).trans ?_))
  exact Finset.sum_congr rfl fun r _ => dgl_apply B r d

/-- The gains' row takes in the block's terms. -/
theorem rowGain_apply : k0_pay1 (kXh B) (kDz3 B) v (ix2 z d) = v (ix2 z d) + ∑ r : Fin 512, gainT (par B) (inp B r) d := by
  unfold k0_pay1
  simp only [shapeCast_self]
  refine congrArg (fun s : EReal => v (ix2 z d) + s) ((shapeCast_b_1b_apply _ _ z d).trans ((sum_col _ _ _ _ d).trans ?_))
  exact Finset.sum_congr rfl fun r _ => congrArg₂ (fun x y : EReal => x * y) (dz3_apply B r d) (xh_apply B r d)

/-- The final gains' row takes in the block's terms. -/
theorem rowLast_apply : k0_pay2 (kHh B) (kDy B) v (ix2 z d) = v (ix2 z d) + ∑ r : Fin 512, lastT (par B) (inp B r) d := by
  unfold k0_pay2
  simp only [shapeCast_self]
  refine congrArg (fun s : EReal => v (ix2 z d) + s) ((shapeCast_b_1b_apply _ _ z d).trans ((sum_col _ _ _ _ d).trans ?_))
  exact Finset.sum_congr rfl fun r _ => congrArg₂ (fun x y : EReal => x * y) (dy_apply B r d) (hh_apply B r d)

/-- The loss's row takes in half the block's losses. -/
theorem rowLoss_apply : k0_pay3 (kLoss B) v (ix2 z d) = v (ix2 z d) + ∑ r : Fin 512, half * loss (par B) (inp B r) := by
  unfold k0_pay3
  simp only [shapeCast_self]
  refine congrArg (fun s : EReal => v (ix2 z d) + s) ?_
  rw [half_eq, ← coe_mul_sum (by norm_num), ← half_eq]
  refine congrArg (fun s : EReal => half * s) ?_
  unfold extractAt
  refine (shapeCast_apply _ _ _ (ix1 (0 : Fin 1)) (by rw [Shape.rowMajor_val_one, Shape.rowMajor_val_three]; rfl)).trans ((sum_all_1a1 _ _ (fun b => match b with | ⟨0, _⟩ => rfl) _ _ _).trans ?_)
  refine Finset.sum_congr rfl fun r _ => (shapeCast_apply _ _ _ (ix2 r (0 : Fin 1)) ?_).trans (loss_apply B r 0)
  rw [Shape.rowMajor_val_two, Shape.rowMajor_val_three]
  show r.val * 1 + 0 = (0 * 512 + r.val) * 1 + 0
  omega

end Cert.PleIdeal.Point

end
-- ==== Proof.Ple.Blocks.lean ====
/-
  The blocks a point of the per-layer embedding works on: its rows of the inputs, and the parameters whole.
-/
module

public import proofs.«01_k».proof.Proof.Ple.Entries
public import Idealize.ShloMosaic.Lib.StableHlo.Run

@[expose] public section

set_option maxRecDepth 16384

noncomputable section

namespace Cert.PleIdeal.Blocks

open Cert.PleIdeal Cert.PleIdeal.Gen Cert.PleTerms Cert.Norms
open Idealize.ShloMosaic Idealize.ShloMosaic.TcCoe Idealize.ShloMosaic.ValueIdx Idealize.SL.Sem
open scoped BigOperators

variable (m : (ℓ : Loc nD τ sig) → Buf (Elt Ideal) ℓ)

/-- The rows. -/
abbrev argX (c : Dev nD) : FVec Ideal S8192x1024 .f32 := m ((c : Thread nD τ).loc main_arg0)
/-- The embeddings. -/
abbrev argP (c : Dev nD) : FVec Ideal S8192x256 .f32 := m ((c : Thread nD τ).loc main_arg1)
/-- The targets. -/
abbrev argT (c : Dev nD) : FVec Ideal S8192x1024 .f32 := m ((c : Thread nD τ).loc main_arg2)
/-- The gains. -/
abbrev argG (c : Dev nD) : FVec Ideal S1x1024 .f32 := m ((c : Thread nD τ).loc main_arg3)
/-- The gate's weights. -/
abbrev argWg (c : Dev nD) : FVec Ideal S1024x1024 .f32 := m ((c : Thread nD τ).loc main_arg4)
/-- The gate's bias. -/
abbrev argB (c : Dev nD) : FVec Ideal S1x1024 .f32 := m ((c : Thread nD τ).loc main_arg5)
/-- The projection's weights. -/
abbrev argWp (c : Dev nD) : FVec Ideal S256x1024 .f32 := m ((c : Thread nD τ).loc main_arg6)
/-- The final gains. -/
abbrev argGf (c : Dev nD) : FVec Ideal S1x1024 .f32 := m ((c : Thread nD τ).loc main_arg7)

/-- The parameters, from the arguments. -/
def par (c : Dev nD) : Params :=
  ⟨row (argG m c) 0, fun e d => argWg m c (ix2 e d), row (argB m c) 0, fun e d => argWp m c (ix2 e d), row (argGf m c) 0⟩
/-- A row of the inputs, from the arguments. -/
def inp (c : Dev nD) (r : Fin 8192) : Input := ⟨row (argX m c) r, row (argP m c) r, row (argT m c) r⟩

/-- A point's blocks. -/
def blk (c : Dev nD) (t : Fin cfg0.N) : Point.Blk :=
  ⟨iblk m c 0 t, iblk m c 1 t, iblk m c 2 t, iblk m c 3 t, iblk m c 4 t, iblk m c 5 t, iblk m c 6 t, iblk m c 7 t⟩

/-- Which block each window takes at a point. -/
theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 := by decide +kernel
theorem idx6 : ∀ t : Fin cfg0.N, win0_6.index t 0 = 0 ∧ win0_6.index t 1 = 0 := by decide +kernel
theorem idx7 : ∀ t : Fin cfg0.N, win0_7.index t 0 = 0 ∧ win0_7.index t 1 = 0 := by decide +kernel
theorem idx8 : ∀ t : Fin cfg0.N, win0_8.index t 0 = t.val ∧ win0_8.index t 1 = 0 := by decide +kernel
theorem idx9 : ∀ t : Fin cfg0.N, win0_9.index t 0 = 0 ∧ win0_9.index t 1 = 0 := by decide +kernel

/-- Row `r` of point `t`'s block. -/
def rowOf (t : Fin cfg0.N) (r : Fin 512) : Fin 8192 := ⟨512 * t.val + r.val, by
  have := lt_of_lt_of_eq t.isLt (show cfg0.N = 16 from N_0); omega⟩

/-- The rows' block. -/
theorem blkX (c : Dev nD) (t : Fin cfg0.N) (r : Fin 512) (d : Fin 1024) : iblk m c 0 t (ix2 r d) = argX m c (ix2 (rowOf t r) d) := by
  unfold iblk
  rw [View.read_apply]
  show V m c main_arg0 _ = _
  rw [V_main_arg0]
  show m ((c : Thread nD τ).loc main_arg0) _ = m ((c : Thread nD τ).loc main_arg0) _
  congr 1
  funext a
  apply Fin.ext
  match a with
  | ⟨0, _⟩ => show win0_0.index t 0 * 512 + 1 * r.val = 512 * t.val + r.val; rw [(idx0 t).1]; omega
  | ⟨1, _⟩ => show win0_0.index t 1 * 1024 + 1 * d.val = d.val; rw [(idx0 t).2]; omega

/-- The embeddings' block. -/
theorem blkP (c : Dev nD) (t : Fin cfg0.N) (r : Fin 512) (d : Fin 256) : iblk m c 1 t (ix2 r d) = argP m c (ix2 (rowOf t r) d) := by
  unfold iblk
  rw [View.read_apply]
  show V m c main_arg1 _ = _
  rw [V_main_arg1]
  show m ((c : Thread nD τ).loc main_arg1) _ = m ((c : Thread nD τ).loc main_arg1) _
  congr 1
  funext a
  apply Fin.ext
  match a with
  | ⟨0, _⟩ => show win0_1.index t 0 * 512 + 1 * r.val = 512 * t.val + r.val; rw [(idx1 t).1]; omega
  | ⟨1, _⟩ => show win0_1.index t 1 * 256 + 1 * d.val = d.val; rw [(idx1 t).2]; omega

/-- The targets' block. -/
theorem blkT (c : Dev nD) (t : Fin cfg0.N) (r : Fin 512) (d : Fin 1024) : iblk m c 2 t (ix2 r d) = argT m c (ix2 (rowOf t r) d) := by
  unfold iblk
  rw [View.read_apply]
  show V m c main_arg2 _ = _
  rw [V_main_arg2]
  show m ((c : Thread nD τ).loc main_arg2) _ = m ((c : Thread nD τ).loc main_arg2) _
  congr 1
  funext a
  apply Fin.ext
  match a with
  | ⟨0, _⟩ => show win0_2.index t 0 * 512 + 1 * r.val = 512 * t.val + r.val; rw [(idx2 t).1]; omega
  | ⟨1, _⟩ => show win0_2.index t 1 * 1024 + 1 * d.val = d.val; rw [(idx2 t).2]; omega

/-- The gains. -/
theorem blkG (c : Dev nD) (t : Fin cfg0.N) (e : Fin 1) (d : Fin 1024) : iblk m c 3 t (ix2 e d) = argG m c (ix2 e d) := by
  unfold iblk
  rw [View.read_apply]
  show V m c main_arg3 _ = _
  rw [V_main_arg3]
  show m ((c : Thread nD τ).loc main_arg3) _ = m ((c : Thread nD τ).loc main_arg3) _
  congr 1
  funext a
  apply Fin.ext
  match a with
  | ⟨0, _⟩ => show win0_3.index t 0 * 1 + 1 * e.val = e.val; rw [(idx3 t).1]; omega
  | ⟨1, _⟩ => show win0_3.index t 1 * 1024 + 1 * d.val = d.val; rw [(idx3 t).2]; omega

/-- The gate's weights. -/
theorem blkWg (c : Dev nD) (t : Fin cfg0.N) (e : Fin 1024) (d : Fin 1024) : iblk m c 4 t (ix2 e d) = argWg m c (ix2 e d) := by
  unfold iblk
  rw [View.read_apply]
  have hV : (V m c main_v0 : FVec Ideal S1024x1024 .bf16) = truncf (F := Ideal) .bf16 (m ((c : Thread nD τ).loc main_arg4)) bitsLt_bf16_f32 := by
    unfold V; after_results
  show (V m c main_v0 : FVec Ideal S1024x1024 .bf16) _ = _
  rw [hV]
  show m ((c : Thread nD τ).loc main_arg4) _ = m ((c : Thread nD τ).loc main_arg4) _
  congr 1
  funext a
  apply Fin.ext
  match a with
  | ⟨0, _⟩ => show win0_4.index t 0 * 1024 + 1 * e.val = e.val; rw [(idx4 t).1]; omega
  | ⟨1, _⟩ => show win0_4.index t 1 * 1024 + 1 * d.val = d.val; rw [(idx4 t).2]; omega

/-- The gate's bias. -/
theorem blkB (c : Dev nD) (t : Fin cfg0.N) (e : Fin 1) (d : Fin 1024) : iblk m c 5 t (ix2 e d) = argB m c (ix2 e d) := by
  unfold iblk
  rw [View.read_apply]
  show V m c main_arg5 _ = _
  rw [V_main_arg5]
  show m ((c : Thread nD τ).loc main_arg5) _ = m ((c : Thread nD τ).loc main_arg5) _
  congr 1
  funext a
  apply Fin.ext
  match a with
  | ⟨0, _⟩ => show win0_5.index t 0 * 1 + 1 * e.val = e.val; rw [(idx5 t).1]; omega
  | ⟨1, _⟩ => show win0_5.index t 1 * 1024 + 1 * d.val = d.val; rw [(idx5 t).2]; omega

/-- The projection's weights. -/
theorem blkWp (c : Dev nD) (t : Fin cfg0.N) (e : Fin 256) (d : Fin 1024) : iblk m c 6 t (ix2 e d) = argWp m c (ix2 e d) := by
  unfold iblk
  rw [View.read_apply]
  have hV : (V m c main_v1 : FVec Ideal S256x1024 .bf16) = truncf (F := Ideal) .bf16 (m ((c : Thread nD τ).loc main_arg6)) bitsLt_bf16_f32 := by
    unfold V; after_results
  show (V m c main_v1 : FVec Ideal S256x1024 .bf16) _ = _
  rw [hV]
  show m ((c : Thread nD τ).loc main_arg6) _ = m ((c : Thread nD τ).loc main_arg6) _
  congr 1
  funext a
  apply Fin.ext
  match a with
  | ⟨0, _⟩ => show win0_6.index t 0 * 256 + 1 * e.val = e.val; rw [(idx6 t).1]; omega
  | ⟨1, _⟩ => show win0_6.index t 1 * 1024 + 1 * d.val = d.val; rw [(idx6 t).2]; omega

/-- The final gains. -/
theorem blkGf (c : Dev nD) (t : Fin cfg0.N) (e : Fin 1) (d : Fin 1024) : iblk m c 7 t (ix2 e d) = argGf m c (ix2 e d) := by
  unfold iblk
  rw [View.read_apply]
  show V m c main_arg7 _ = _
  rw [V_main_arg7]
  show m ((c : Thread nD τ).loc main_arg7) _ = m ((c : Thread nD τ).loc main_arg7) _
  congr 1
  funext a
  apply Fin.ext
  match a with
  | ⟨0, _⟩ => show win0_7.index t 0 * 1 + 1 * e.val = e.val; rw [(idx7 t).1]; omega
  | ⟨1, _⟩ => show win0_7.index t 1 * 1024 + 1 * d.val = d.val; rw [(idx7 t).2]; omega

/-- A point's parameters are the call's. -/
theorem par_blk (c : Dev nD) (t : Fin cfg0.N) : Point.par (blk m c t) = par m c := by
  unfold Point.par par
  congr 1
  · exact funext fun d => blkG m c t 0 d
  · exact funext fun e => funext fun d => blkWg m c t e d
  · exact funext fun d => blkB m c t 0 d
  · exact funext fun e => funext fun d => blkWp m c t e d
  · exact funext fun d => blkGf m c t 0 d

/-- A point's rows are the call's at its offset. -/
theorem inp_blk (c : Dev nD) (t : Fin cfg0.N) (r : Fin 512) : Point.inp (blk m c t) r = inp m c (rowOf t r) := by
  unfold Point.inp inp
  congr 1
  · exact funext fun d => blkX m c t r d
  · exact funext fun d => blkP m c t r d
  · exact funext fun d => blkT m c t r d

end Cert.PleIdeal.Blocks

end
-- ==== Proof.Ple.Point.lean ====
/-
  What one point of the per-layer embedding leaves: the block of the rows' gradient it writes, the eight sums over the
  rows, and the two accumulators, over what they held before. The first point starts from zeros it stores itself.
-/
module

public import proofs.«01_k».proof.Proof.Ple.Entries
public import Idealize.ShloMosaic.Lib.Tactic

@[expose] public section

set_option maxRecDepth 16384

noncomputable section

namespace Cert.PleIdeal.Point

open Cert.PleIdeal Cert.PleIdeal.Gen Cert.PleTerms
open Idealize.ShloMosaic Idealize.ShloMosaic.TcCoe Idealize.ShloMosaic.Tactic Idealize.ShloMosaic.ValueIdx
open scoped BigOperators

variable (B : Blk) (xo9 : Vec Ideal S8x1024 .f32) (xs0 : Vec Ideal S1024x1024 .f32) (xs1 : Vec Ideal S256x1024 .f32)

/-! ## What a point leaves -/

/-- The block of the rows' gradient. -/
def dhG : Vec Ideal S512x1024 .f32 := fun y => dh2 (par B) (inp B (y 0)) (y 1)
/-- The eight sums, over what they held. -/
def vecG : Vec Ideal S8x1024 .f32 := fun y => xo9 y + vec (par B) (inp B) (y 0) (y 1)
/-- The accumulator of the gate's weights' gradient, over what it held. -/
def gateG : Vec Ideal S1024x1024 .f32 := fun y => xs0 y + ∑ r : Fin 512, gateT (par B) (inp B r) (y 0) (y 1)
/-- The accumulator of the projection's weights' gradient, over what it held. -/
def projG : Vec Ideal S256x1024 .f32 := fun y => xs1 y + ∑ r : Fin 512, projT (par B) (inp B r) (y 0) (y 1)

theorem dhG_eq : kDh2 B = dhG B := Cert.Products.ext2 fun r d => dh2_apply B r d
theorem gateG_eq : k0_pay25 (kZin B) (kDglC B) xs0 (constant S1024x1024 .f32 0x00000000#32) = gateG B xs0 :=
  Cert.Products.ext2 fun e d => accGate_apply B d xs0 e
theorem projG_eq : k0_pay26 (kP B) (kDgp B) xs1 = projG B xs1 := Cert.Products.ext2 fun e d => accProj_apply B d xs1 e

/-! ## The eight sums' rows -/

/-- A row lies in the eight. -/
abbrev I8 (k : ℕ) : Prop := ∀ a, (![k, 0] : Fin 2 → ℕ) a + (![1, 1024] : Fin 2 → ℕ) a ≤ S8x1024.size a

theorem row_emb (k : Fin 8) (inb : I8 k.val) (z : Fin 1) (d : Fin 1024) :
    (Rect.unit (s := S8x1024) ![k.val, 0] ![1, 1024] inb).emb (ix2 z d) = ix2 k d := by
  refine funext fun a => Fin.ext ?_
  match a with
  | ⟨0, _⟩ =>
    have hz : z.val = 0 := by omega
    show k.val + 1 * z.val = k.val
    omega
  | ⟨1, _⟩ =>
    show 0 + 1 * d.val = d.val
    omega

/-- A row's store agrees with what the point leaves, if it adds the sum of that row. -/
theorem row_piece (k : Fin 8) (inb : I8 k.val) (w : S1x1024.Idx → Elt Ideal .f32)
    (hw : ∀ z d, w (ix2 z d) = View.ld xo9 (Rect.unit ![k.val, 0] ![1, 1024] inb) (ix2 z d) + vec (par B) (inp B) k d) (j : S1x1024.Idx) :
    w j = vecG B xo9 ((Rect.unit (s := S8x1024) ![k.val, 0] ![1, 1024] inb).emb j) := by
  obtain ⟨z, d, rfl⟩ : ∃ (z : Fin 1) (d : Fin 1024), j = ix2 z d := ⟨j 0, j 1, eq_ix2 j⟩
  have h1 : View.ld xo9 (Rect.unit ![k.val, 0] ![1, 1024] inb) (ix2 z d) = xo9 (ix2 k d) := congrArg xo9 (row_emb k inb z d)
  have h2 : vecG B xo9 ((Rect.unit (s := S8x1024) ![k.val, 0] ![1, 1024] inb).emb (ix2 z d)) = vecG B xo9 (ix2 k d) := congrArg (vecG B xo9) (row_emb k inb z d)
  exact (hw z d).trans ((congrArg (fun s : EReal => s + vec (par B) (inp B) k d) h1).trans h2.symm)

/-- The stores of the four rows. -/
def vecPieces (i0 : I8 0) (i1 : I8 1) (i2 : I8 2) (i3 : I8 3) : List (View.Piece (Elt Ideal) S8x1024 .f32) :=
  [⟨Rect.unit ![3, 0] ![1, 1024] i3, k0_pay3 (kLoss B) (View.ld xo9 (Rect.unit ![3, 0] ![1, 1024] i3))⟩,
   ⟨Rect.unit ![2, 0] ![1, 1024] i2, k0_pay2 (kHh B) (kDy B) (View.ld xo9 (Rect.unit ![2, 0] ![1, 1024] i2))⟩,
   ⟨Rect.unit ![1, 0] ![1, 1024] i1, k0_pay1 (kXh B) (kDz3 B) (View.ld xo9 (Rect.unit ![1, 0] ![1, 1024] i1))⟩,
   ⟨Rect.unit ![0, 0] ![1, 1024] i0, k0_pay29 (kDgl B) (View.ld xo9 (Rect.unit ![0, 0] ![1, 1024] i0))⟩]

/-- The rows read back, over what they held, are the eight sums after the point. -/
theorem canon_vec (i0 : I8 0) (i1 : I8 1) (i2 : I8 2) (i3 : I8 3) (i8) :
    View.canon (vecPieces B xo9 i0 i1 i2 i3 ++ [⟨Rect.unit ![0, 0] ![8, 1024] i8, xo9⟩]) = vecG B xo9 := by
  funext y
  have h0 : (y 0).val < 8 := (y 0).isLt
  have h1 : (y 1).val < 1024 := (y 1).isLt
  by_cases hy : (y 0).val < 4
  · refine Cert.Stores.canon_append _ _ _ (fun p hp => ?_) y ?_
    · unfold vecPieces at hp
      rcases List.mem_cons.mp hp with rfl | hp
      · exact row_piece B xo9 3 i3 _ fun z d => rowLoss_apply B d _ z
      rcases List.mem_cons.mp hp with rfl | hp
      · exact row_piece B xo9 2 i2 _ fun z d => rowLast_apply B d _ z
      rcases List.mem_cons.mp hp with rfl | hp
      · exact row_piece B xo9 1 i1 _ fun z d => rowGain_apply B d _ z
      rcases List.mem_cons.mp hp with rfl | hp
      · exact row_piece B xo9 0 i0 _ fun z d => rowBias_apply B d _ z
      · exact absurd hp List.not_mem_nil
    · unfold vecPieces
      have key : ∀ (k : ℕ) (inb : I8 k) (_ : (y 0).val = k), y ∈ (Rect.unit (s := S8x1024) ![k, 0] ![1, 1024] inb).set := fun k inb hk =>
        Rect.mem_set_unit.mpr fun a => match a with
          | ⟨0, _⟩ => ⟨hk.ge, by show (y 0).val < k + 1; omega⟩
          | ⟨1, _⟩ => ⟨Nat.zero_le _, by show (y 1).val < 0 + 1024; omega⟩
      have hc : (y 0).val = 0 ∨ (y 0).val = 1 ∨ (y 0).val = 2 ∨ (y 0).val = 3 := by omega
      rcases hc with h | h | h | h
      · exact ⟨_, .tail _ (.tail _ (.tail _ (.head _))), key _ i0 h⟩
      · exact ⟨_, .tail _ (.tail _ (.head _)), key _ i1 h⟩
      · exact ⟨_, .tail _ (.head _), key _ i2 h⟩
      · exact ⟨_, .head _, key _ i3 h⟩
  · have key : ∀ (k : ℕ) (inb : I8 k) (_ : k < 4), y ∉ (Rect.unit (s := S8x1024) ![k, 0] ![1, 1024] inb).set := fun k inb hk hm => by
      have := (Rect.mem_set_unit.mp hm 0).2
      have h' : (y 0).val < k + 1 := this
      omega
    have step : ∀ (k : ℕ) (inb : I8 k) (_ : k < 4) (w : S1x1024.Idx → Elt Ideal .f32) (L : List (View.Piece (Elt Ideal) S8x1024 .f32)),
        View.canon ((⟨Rect.unit ![k, 0] ![1, 1024] inb, w⟩ : View.Piece (Elt Ideal) S8x1024 .f32) :: L) y = View.canon L y :=
      fun k inb hk w L => View.canon_cons_of_not_mem _ L (key k inb hk)
    unfold vecPieces
    refine (step 3 i3 (by decide) _ _).trans ((step 2 i2 (by decide) _ _).trans ((step 1 i1 (by decide) _ _).trans ((step 0 i0 (by decide) _ _).trans ?_)))
    refine (congrFun (View.canon_unit_zero (S := S8x1024) Whole.hz2 i8 xo9) y).trans ?_
    unfold vecG vec
    rw [if_neg (show ¬ (y 0).val = 0 by omega), if_neg (show ¬ (y 0).val = 1 by omega), if_neg (show ¬ (y 0).val = 2 by omega), if_neg (show ¬ (y 0).val = 3 by omega)]
    exact (add_zero _).symm

/-! ## Loads past the stores of the same point -/

theorem row_off {κ : Kind} {sp : Space} (v : View sig κ sp S8x1024 .f32) {k k' : ℕ} (inb inb' w) (L : List (View.Piece (Elt Ideal) S8x1024 .f32))
    (h : k' + 1 ≤ k ∨ k + 1 ≤ k') :
    v.readCov ((⟨Rect.unit ![k, 0] ![1, 1024] inb, w⟩ : View.Piece (Elt Ideal) S8x1024 .f32) :: L) (Rect.unit ![k', 0] ![1, 1024] inb').toLoadRect
      = v.readCov L (Rect.unit ![k', 0] ![1, 1024] inb').toLoadRect := Cert.Stores.readCov_off v inb inb' w L 0 h

theorem row_whole {κ : Kind} {sp : Space} (v : View sig κ sp S8x1024 .f32) {k' : ℕ} (inb inb') (w : S8x1024.Idx → Elt Ideal .f32) :
    v.readCov [(⟨Rect.unit ![0, 0] ![8, 1024] inb, w⟩ : View.Piece (Elt Ideal) S8x1024 .f32)] (Rect.unit ![k', 0] ![1, 1024] inb').toLoadRect
      = View.ld w (Rect.unit ![k', 0] ![1, 1024] inb') := Cert.Stores.readCov_whole v Cert.Whole.hz2 inb inb' w []

/-! ## The three cases -/

set_option maxHeartbeats 1000000 in
/-- The block of the rows' gradient from the first point. -/
theorem out_A_8 (c : Dev nD) (i : grid0.Coords) (arg1 harg1 arg2 harg2 arg3 harg3 arg4 harg4 arg5 harg5 arg6 harg6 arg7 harg7 arg8 harg8 arg9 harg9 arg10 harg10 arg13 harg13 arg14 harg14 arg15 harg15 arg16 harg16 hc0 hc1) :
    out0_A_8 c i arg1 harg1 arg2 harg2 arg3 harg3 arg4 harg4 arg5 harg5 arg6 harg6 arg7 harg7 arg8 harg8 arg9 harg9 arg10 harg10 arg13 harg13 arg14 harg14 arg15 harg15 arg16 harg16 hc0 hc1 B.x0 B.x1 B.x2 B.x3 B.x4 B.x5 B.x6 B.x7 = dhG B := by
  unfold out0_A_8 kernelRun0_A
  rw [View.read_writes_junk_eq_canon]
  dsimp only
  sl_unfold_words
  simp only [View.readAt_eq_ld, harg1.read_unread, harg2.read_unread, harg3.read_unread, harg4.read_unread, harg5.read_unread, harg6.read_unread, harg7.read_unread, harg8.read_unread,
    View.ld_unit_zero (S := S512x1024) Whole.hz2, View.ld_unit_zero (S := S512x256) Whole.hz2, View.ld_unit_zero (S := S1x1024) Whole.hz2, View.ld_unit_zero (S := S1024x1024) Whole.hz2, View.ld_unit_zero (S := S256x1024) Whole.hz2]
  rw [View.canon_unit_zero (S := S512x1024) Whole.hz2]
  exact dhG_eq B

set_option maxHeartbeats 1000000 in
/-- The eight sums after the first point. -/
theorem out_A_9 (c : Dev nD) (i : grid0.Coords) (arg1 harg1 arg2 harg2 arg3 harg3 arg4 harg4 arg5 harg5 arg6 harg6 arg7 harg7 arg8 harg8 arg9 harg9 arg10 harg10 arg13 harg13 arg14 harg14 arg15 harg15 arg16 harg16 hc0 hc1) :
    out0_A_9 c i arg1 harg1 arg2 harg2 arg3 harg3 arg4 harg4 arg5 harg5 arg6 harg6 arg7 harg7 arg8 harg8 arg9 harg9 arg10 harg10 arg13 harg13 arg14 harg14 arg15 harg15 arg16 harg16 hc0 hc1 B.x0 B.x1 B.x2 B.x3 B.x4 B.x5 B.x6 B.x7 = vecG B (k0_pay6 (F := Ideal)) := by
  unfold out0_A_9 kernelRun0_A
  rw [View.read_writes_junk_eq_canon]
  dsimp only
  sl_unfold_words
  simp only [View.readAt_eq_ld, harg1.read_unread, harg2.read_unread, harg3.read_unread, harg4.read_unread, harg5.read_unread, harg6.read_unread, harg7.read_unread, harg8.read_unread,
    View.ld_unit_zero (S := S512x1024) Whole.hz2, View.ld_unit_zero (S := S512x256) Whole.hz2, View.ld_unit_zero (S := S1x1024) Whole.hz2, View.ld_unit_zero (S := S1024x1024) Whole.hz2, View.ld_unit_zero (S := S256x1024) Whole.hz2]
  simp (disch := decide) only [row_off, row_whole]
  exact canon_vec B (k0_pay6 (F := Ideal)) _ _ _ _ _

set_option maxHeartbeats 1000000 in
/-- The accumulator of the gate's weights' gradient after the first point. -/
theorem sout_A_0 (c : Dev nD) (i : grid0.Coords) (arg1 harg1 arg2 harg2 arg3 harg3 arg4 harg4 arg5 harg5 arg6 harg6 arg7 harg7 arg8 harg8 arg9 harg9 arg10 harg10 arg13 harg13 arg14 harg14 arg15 harg15 arg16 harg16 hc0 hc1) :
    sout0_A_0 c i arg1 harg1 arg2 harg2 arg3 harg3 arg4 harg4 arg5 harg5 arg6 harg6 arg7 harg7 arg8 harg8 arg9 harg9 arg10 harg10 arg13 harg13 arg14 harg14 arg15 harg15 arg16 harg16 hc0 hc1 B.x0 B.x1 B.x2 B.x3 B.x4 B.x5 B.x6 B.x7 = gateG B (k0_pay7 (F := Ideal)) := by
  unfold sout0_A_0 kernelRun0_A
  rw [View.read_writes_junk_eq_canon]
  dsimp only
  sl_unfold_words
  simp only [View.readAt_eq_ld, harg1.read_unread, harg2.read_unread, harg3.read_unread, harg4.read_unread, harg5.read_unread, harg6.read_unread, harg7.read_unread, harg8.read_unread,
    View.ld_unit_zero (S := S512x1024) Whole.hz2, View.ld_unit_zero (S := S512x256) Whole.hz2, View.ld_unit_zero (S := S1x1024) Whole.hz2, View.ld_unit_zero (S := S1024x1024) Whole.hz2, View.ld_unit_zero (S := S256x1024) Whole.hz2]
  rw [View.readCov_unit_zero (S := S1024x1024) _ Whole.hz2, View.canon_cons_unit_zero (S := S1024x1024) Whole.hz2]
  exact gateG_eq B _

set_option maxHeartbeats 1000000 in
/-- The accumulator of the projection's weights' gradient after the first point. -/
theorem sout_A_1 (c : Dev nD) (i : grid0.Coords) (arg1 harg1 arg2 harg2 arg3 harg3 arg4 harg4 arg5 harg5 arg6 harg6 arg7 harg7 arg8 harg8 arg9 harg9 arg10 harg10 arg13 harg13 arg14 harg14 arg15 harg15 arg16 harg16 hc0 hc1) :
    sout0_A_1 c i arg1 harg1 arg2 harg2 arg3 harg3 arg4 harg4 arg5 harg5 arg6 harg6 arg7 harg7 arg8 harg8 arg9 harg9 arg10 harg10 arg13 harg13 arg14 harg14 arg15 harg15 arg16 harg16 hc0 hc1 B.x0 B.x1 B.x2 B.x3 B.x4 B.x5 B.x6 B.x7 = projG B (k0_pay8 (F := Ideal)) := by
  unfold sout0_A_1 kernelRun0_A
  rw [View.read_writes_junk_eq_canon]
  dsimp only
  sl_unfold_words
  simp only [View.readAt_eq_ld, harg1.read_unread, harg2.read_unread, harg3.read_unread, harg4.read_unread, harg5.read_unread, harg6.read_unread, harg7.read_unread, harg8.read_unread,
    View.ld_unit_zero (S := S512x1024) Whole.hz2, View.ld_unit_zero (S := S512x256) Whole.hz2, View.ld_unit_zero (S := S1x1024) Whole.hz2, View.ld_unit_zero (S := S1024x1024) Whole.hz2, View.ld_unit_zero (S := S256x1024) Whole.hz2]
  rw [View.readCov_unit_zero (S := S256x1024) _ Whole.hz2, View.canon_cons_unit_zero (S := S256x1024) Whole.hz2]
  exact projG_eq B _

set_option maxHeartbeats 1000000 in
/-- The block of the rows' gradient from the middle point. -/
theorem out_B_8 (c : Dev nD) (i : grid0.Coords) (arg1 harg1 arg2 harg2 arg3 harg3 arg4 harg4 arg5 harg5 arg6 harg6 arg7 harg7 arg8 harg8 arg9 harg9 arg10 harg10 arg13 harg13 arg14 harg14 arg15 harg15 arg16 harg16 hc0 hc1) :
    out0_B_8 c i arg1 harg1 arg2 harg2 arg3 harg3 arg4 harg4 arg5 harg5 arg6 harg6 arg7 harg7 arg8 harg8 arg9 harg9 arg10 harg10 arg13 harg13 arg14 harg14 arg15 harg15 arg16 harg16 hc0 hc1 B.x0 B.x1 B.x2 B.x3 B.x4 B.x5 B.x6 B.x7 xo9 xs0 xs1 = dhG B := by
  unfold out0_B_8 kernelRun0_B
  rw [View.read_writes_junk_eq_canon]
  dsimp only
  sl_unfold_words
  simp only [View.readAt_eq_ld, harg1.read_unread, harg2.read_unread, harg3.read_unread, harg4.read_unread, harg5.read_unread, harg6.read_unread, harg7.read_unread, harg8.read_unread, harg10.read_unread, harg13.read_unread, harg14.read_unread,
    View.ld_unit_zero (S := S512x1024) Whole.hz2, View.ld_unit_zero (S := S512x256) Whole.hz2, View.ld_unit_zero (S := S1x1024) Whole.hz2, View.ld_unit_zero (S := S1024x1024) Whole.hz2, View.ld_unit_zero (S := S256x1024) Whole.hz2]
  rw [View.canon_unit_zero (S := S512x1024) Whole.hz2]
  exact dhG_eq B

set_option maxHeartbeats 1000000 in
/-- The eight sums after the middle point. -/
theorem out_B_9 (c : Dev nD) (i : grid0.Coords) (arg1 harg1 arg2 harg2 arg3 harg3 arg4 harg4 arg5 harg5 arg6 harg6 arg7 harg7 arg8 harg8 arg9 harg9 arg10 harg10 arg13 harg13 arg14 harg14 arg15 harg15 arg16 harg16 hc0 hc1) :
    out0_B_9 c i arg1 harg1 arg2 harg2 arg3 harg3 arg4 harg4 arg5 harg5 arg6 harg6 arg7 harg7 arg8 harg8 arg9 harg9 arg10 harg10 arg13 harg13 arg14 harg14 arg15 harg15 arg16 harg16 hc0 hc1 B.x0 B.x1 B.x2 B.x3 B.x4 B.x5 B.x6 B.x7 xo9 xs0 xs1 = vecG B xo9 := by
  unfold out0_B_9 kernelRun0_B
  dsimp only
  sl_unfold_words
  simp only [View.readAt_eq_ld, harg1.read_unread, harg2.read_unread, harg3.read_unread, harg4.read_unread, harg5.read_unread, harg6.read_unread, harg7.read_unread, harg8.read_unread, harg10.read_unread, harg13.read_unread, harg14.read_unread,
    View.ld_unit_zero (S := S512x1024) Whole.hz2, View.ld_unit_zero (S := S512x256) Whole.hz2, View.ld_unit_zero (S := S1x1024) Whole.hz2, View.ld_unit_zero (S := S1024x1024) Whole.hz2, View.ld_unit_zero (S := S256x1024) Whole.hz2]
  refine (Cert.Stores.read_writes_onto _ _ xo9 (harg10.read_unread _) Whole.hz2 inb_S8x1024_S8x1024_0_0 _).trans ?_
  exact canon_vec B xo9 _ _ _ _ _

set_option maxHeartbeats 1000000 in
/-- The accumulator of the gate's weights' gradient after the middle point. -/
theorem sout_B_0 (c : Dev nD) (i : grid0.Coords) (arg1 harg1 arg2 harg2 arg3 harg3 arg4 harg4 arg5 harg5 arg6 harg6 arg7 harg7 arg8 harg8 arg9 harg9 arg10 harg10 arg13 harg13 arg14 harg14 arg15 harg15 arg16 harg16 hc0 hc1) :
    sout0_B_0 c i arg1 harg1 arg2 harg2 arg3 harg3 arg4 harg4 arg5 harg5 arg6 harg6 arg7 harg7 arg8 harg8 arg9 harg9 arg10 harg10 arg13 harg13 arg14 harg14 arg15 harg15 arg16 harg16 hc0 hc1 B.x0 B.x1 B.x2 B.x3 B.x4 B.x5 B.x6 B.x7 xo9 xs0 xs1 = gateG B xs0 := by
  unfold sout0_B_0 kernelRun0_B
  rw [View.read_writes_junk_eq_canon]
  dsimp only
  sl_unfold_words
  simp only [View.readAt_eq_ld, harg1.read_unread, harg2.read_unread, harg3.read_unread, harg4.read_unread, harg5.read_unread, harg6.read_unread, harg7.read_unread, harg8.read_unread, harg10.read_unread, harg13.read_unread, harg14.read_unread,
    View.ld_unit_zero (S := S512x1024) Whole.hz2, View.ld_unit_zero (S := S512x256) Whole.hz2, View.ld_unit_zero (S := S1x1024) Whole.hz2, View.ld_unit_zero (S := S1024x1024) Whole.hz2, View.ld_unit_zero (S := S256x1024) Whole.hz2]
  rw [View.canon_unit_zero (S := S1024x1024) Whole.hz2]
  exact gateG_eq B _

set_option maxHeartbeats 1000000 in
/-- The accumulator of the projection's weights' gradient after the middle point. -/
theorem sout_B_1 (c : Dev nD) (i : grid0.Coords) (arg1 harg1 arg2 harg2 arg3 harg3 arg4 harg4 arg5 harg5 arg6 harg6 arg7 harg7 arg8 harg8 arg9 harg9 arg10 harg10 arg13 harg13 arg14 harg14 arg15 harg15 arg16 harg16 hc0 hc1) :
    sout0_B_1 c i arg1 harg1 arg2 harg2 arg3 harg3 arg4 harg4 arg5 harg5 arg6 harg6 arg7 harg7 arg8 harg8 arg9 harg9 arg10 harg10 arg13 harg13 arg14 harg14 arg15 harg15 arg16 harg16 hc0 hc1 B.x0 B.x1 B.x2 B.x3 B.x4 B.x5 B.x6 B.x7 xo9 xs0 xs1 = projG B xs1 := by
  unfold sout0_B_1 kernelRun0_B
  rw [View.read_writes_junk_eq_canon]
  dsimp only
  sl_unfold_words
  simp only [View.readAt_eq_ld, harg1.read_unread, harg2.read_unread, harg3.read_unread, harg4.read_unread, harg5.read_unread, harg6.read_unread, harg7.read_unread, harg8.read_unread, harg10.read_unread, harg13.read_unread, harg14.read_unread,
    View.ld_unit_zero (S := S512x1024) Whole.hz2, View.ld_unit_zero (S := S512x256) Whole.hz2, View.ld_unit_zero (S := S1x1024) Whole.hz2, View.ld_unit_zero (S := S1024x1024) Whole.hz2, View.ld_unit_zero (S := S256x1024) Whole.hz2]
  rw [View.canon_unit_zero (S := S256x1024) Whole.hz2]
  exact projG_eq B _

set_option maxHeartbeats 1000000 in
/-- The block of the rows' gradient from the last point. -/
theorem out_C_8 (c : Dev nD) (i : grid0.Coords) (arg1 harg1 arg2 harg2 arg3 harg3 arg4 harg4 arg5 harg5 arg6 harg6 arg7 harg7 arg8 harg8 arg9 harg9 arg10 harg10 arg13 harg13 arg14 harg14 arg15 harg15 arg16 harg16 hc0 hc1) :
    out0_C_8 c i arg1 harg1 arg2 harg2 arg3 harg3 arg4 harg4 arg5 harg5 arg6 harg6 arg7 harg7 arg8 harg8 arg9 harg9 arg10 harg10 arg13 harg13 arg14 harg14 arg15 harg15 arg16 harg16 hc0 hc1 B.x0 B.x1 B.x2 B.x3 B.x4 B.x5 B.x6 B.x7 xo9 xs0 xs1 = dhG B := by
  unfold out0_C_8 kernelRun0_C
  rw [View.read_writes_junk_eq_canon]
  dsimp only
  sl_unfold_words
  simp only [View.readAt_eq_ld, harg1.read_unread, harg2.read_unread, harg3.read_unread, harg4.read_unread, harg5.read_unread, harg6.read_unread, harg7.read_unread, harg8.read_unread, harg10.read_unread, harg13.read_unread, harg14.read_unread,
    View.ld_unit_zero (S := S512x1024) Whole.hz2, View.ld_unit_zero (S := S512x256) Whole.hz2, View.ld_unit_zero (S := S1x1024) Whole.hz2, View.ld_unit_zero (S := S1024x1024) Whole.hz2, View.ld_unit_zero (S := S256x1024) Whole.hz2]
  rw [View.canon_unit_zero (S := S512x1024) Whole.hz2]
  exact dhG_eq B

set_option maxHeartbeats 1000000 in
/-- The eight sums after the last point. -/
theorem out_C_9 (c : Dev nD) (i : grid0.Coords) (arg1 harg1 arg2 harg2 arg3 harg3 arg4 harg4 arg5 harg5 arg6 harg6 arg7 harg7 arg8 harg8 arg9 harg9 arg10 harg10 arg13 harg13 arg14 harg14 arg15 harg15 arg16 harg16 hc0 hc1) :
    out0_C_9 c i arg1 harg1 arg2 harg2 arg3 harg3 arg4 harg4 arg5 harg5 arg6 harg6 arg7 harg7 arg8 harg8 arg9 harg9 arg10 harg10 arg13 harg13 arg14 harg14 arg15 harg15 arg16 harg16 hc0 hc1 B.x0 B.x1 B.x2 B.x3 B.x4 B.x5 B.x6 B.x7 xo9 xs0 xs1 = vecG B xo9 := by
  unfold out0_C_9 kernelRun0_C
  dsimp only
  sl_unfold_words
  simp only [View.readAt_eq_ld, harg1.read_unread, harg2.read_unread, harg3.read_unread, harg4.read_unread, harg5.read_unread, harg6.read_unread, harg7.read_unread, harg8.read_unread, harg10.read_unread, harg13.read_unread, harg14.read_unread,
    View.ld_unit_zero (S := S512x1024) Whole.hz2, View.ld_unit_zero (S := S512x256) Whole.hz2, View.ld_unit_zero (S := S1x1024) Whole.hz2, View.ld_unit_zero (S := S1024x1024) Whole.hz2, View.ld_unit_zero (S := S256x1024) Whole.hz2]
  refine (Cert.Stores.read_writes_onto _ _ xo9 (harg10.read_unread _) Whole.hz2 inb_S8x1024_S8x1024_0_0 _).trans ?_
  exact canon_vec B xo9 _ _ _ _ _

set_option maxHeartbeats 1000000 in
/-- The accumulator of the gate's weights' gradient after the last point. -/
theorem sout_C_0 (c : Dev nD) (i : grid0.Coords) (arg1 harg1 arg2 harg2 arg3 harg3 arg4 harg4 arg5 harg5 arg6 harg6 arg7 harg7 arg8 harg8 arg9 harg9 arg10 harg10 arg13 harg13 arg14 harg14 arg15 harg15 arg16 harg16 hc0 hc1) :
    sout0_C_0 c i arg1 harg1 arg2 harg2 arg3 harg3 arg4 harg4 arg5 harg5 arg6 harg6 arg7 harg7 arg8 harg8 arg9 harg9 arg10 harg10 arg13 harg13 arg14 harg14 arg15 harg15 arg16 harg16 hc0 hc1 B.x0 B.x1 B.x2 B.x3 B.x4 B.x5 B.x6 B.x7 xo9 xs0 xs1 = gateG B xs0 := by
  unfold sout0_C_0 kernelRun0_C
  rw [View.read_writes_junk_eq_canon]
  dsimp only
  sl_unfold_words
  simp only [View.readAt_eq_ld, harg1.read_unread, harg2.read_unread, harg3.read_unread, harg4.read_unread, harg5.read_unread, harg6.read_unread, harg7.read_unread, harg8.read_unread, harg10.read_unread, harg13.read_unread, harg14.read_unread,
    View.ld_unit_zero (S := S512x1024) Whole.hz2, View.ld_unit_zero (S := S512x256) Whole.hz2, View.ld_unit_zero (S := S1x1024) Whole.hz2, View.ld_unit_zero (S := S1024x1024) Whole.hz2, View.ld_unit_zero (S := S256x1024) Whole.hz2]
  rw [View.canon_unit_zero (S := S1024x1024) Whole.hz2]
  exact gateG_eq B _

set_option maxHeartbeats 1000000 in
/-- The accumulator of the projection's weights' gradient after the last point. -/
theorem sout_C_1 (c : Dev nD) (i : grid0.Coords) (arg1 harg1 arg2 harg2 arg3 harg3 arg4 harg4 arg5 harg5 arg6 harg6 arg7 harg7 arg8 harg8 arg9 harg9 arg10 harg10 arg13 harg13 arg14 harg14 arg15 harg15 arg16 harg16 hc0 hc1) :
    sout0_C_1 c i arg1 harg1 arg2 harg2 arg3 harg3 arg4 harg4 arg5 harg5 arg6 harg6 arg7 harg7 arg8 harg8 arg9 harg9 arg10 harg10 arg13 harg13 arg14 harg14 arg15 harg15 arg16 harg16 hc0 hc1 B.x0 B.x1 B.x2 B.x3 B.x4 B.x5 B.x6 B.x7 xo9 xs0 xs1 = projG B xs1 := by
  unfold sout0_C_1 kernelRun0_C
  rw [View.read_writes_junk_eq_canon]
  dsimp only
  sl_unfold_words
  simp only [View.readAt_eq_ld, harg1.read_unread, harg2.read_unread, harg3.read_unread, harg4.read_unread, harg5.read_unread, harg6.read_unread, harg7.read_unread, harg8.read_unread, harg10.read_unread, harg13.read_unread, harg14.read_unread,
    View.ld_unit_zero (S := S512x1024) Whole.hz2, View.ld_unit_zero (S := S512x256) Whole.hz2, View.ld_unit_zero (S := S1x1024) Whole.hz2, View.ld_unit_zero (S := S1024x1024) Whole.hz2, View.ld_unit_zero (S := S256x1024) Whole.hz2]
  rw [View.canon_unit_zero (S := S256x1024) Whole.hz2]
  exact projG_eq B _

end Cert.PleIdeal.Point

end
-- ==== Proof.Ple.LastPoint.lean ====
/-
  The last point of the gated embedding's grid: it adds the last block's products to the two accumulators, and then casts
  each through a buffer into its result in HBM by a copy that it waits for. The theorem says what HBM holds afterwards: the
  accumulators' casts.
-/
module

public import proofs.«01_k».proof.Proof.Gen.PleIdeal.Frame
public import proofs.«01_k».proof.Proof.Lib.Stores

@[expose] public section

set_option maxRecDepth 16384

noncomputable section

namespace Cert.PleIdeal.Last

open Cert.PleIdeal Cert.PleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The accumulator of `w_gate`'s gradient, cast. -/
def castGate (A : Vec F S1024x1024 .f32) : Vec F S1024x1024 .bf16 := truncf .bf16 A bitsLt_bf16_f32

/-- The accumulator of `w_proj`'s gradient, cast. -/
def castProj (A : Vec F S256x1024 .f32) : Vec F S256x1024 .bf16 := truncf .bf16 A bitsLt_bf16_f32

/-- The value stored for `w_gate`'s gradient is the cast. -/
theorem pay4_eq (A : Vec F S1024x1024 .f32) : k0_pay4 A = castGate A := by
  unfold k0_pay4 castGate
  exact shapeCast_self _ _

/-- The value stored for `w_proj`'s gradient is the cast. -/
theorem pay5_eq (A : Vec F S256x1024 .f32) : k0_pay5 A = castProj A := by
  unfold k0_pay5 castProj
  exact shapeCast_self _ _

set_option maxHeartbeats 4000000 in
/-- The last point, its two results in HBM named. -/
theorem run_last (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x1024 .f32) (harg10 : arg10.IsWhole) (arg13 : Memref sig .tc .vmem S1024x1024 .f32) (harg13 : arg13.IsWhole) (arg14 : Memref sig .tc .vmem S256x1024 .f32) (harg14 : arg14.IsWhole) (arg15 : Memref sig .tc .vmem S1024x1024 .bf16) (harg15 : arg15.IsWhole) (arg16 : Memref sig .tc .vmem S256x1024 .bf16) (harg16 : arg16.IsWhole) (hc0 : ¬cond0_0 i) (hc1 : cond0_1 i)
    (x0 : Vec F S512x1024 .f32) (x1 : Vec F S512x256 .f32) (x2 : Vec F S512x1024 .f32) (x3 : Vec F S1x1024 .f32) (x4 : Vec F S1024x1024 .bf16) (x5 : Vec F S1x1024 .f32) (x6 : Vec F S256x1024 .bf16) (x7 : Vec F S1x1024 .f32) (xo9 : Vec F S8x1024 .f32) (xs0 : Vec F S1024x1024 .f32) (xs1 : Vec F S256x1024 .f32) :
    ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xo9 ∗ owns (c : Thread nD τ) arg13 fullShare xs0 ∗ owns (c : Thread nD τ) arg14 fullShare xs1 ∗ (∃ d, owns (c : Thread nD τ) arg15 fullShare d) ∗ (∃ d, owns (c : Thread nD τ) arg16 fullShare d) ∗ semVal ((c : Thread nD τ), SemLoc.dma 14) 0 ∗ semVal ((c : Thread nD τ), SemLoc.dma 15) 0 ∗ (∃ f, hbPt0 c hbM0_0 f) ∗ (∃ f, hbPt0 c hbM0_1 f) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f (kernelRun0_C c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1).1) ∗ (arg10.view.loc (c : Thread nD τ) ↦[arg10.view.set]{fullShare} arg10.view.writes (Elt F) (harg10.unread xo9) (kernelRun0_C c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1).2.1) ∗ (∃ f, arg13.view.loc (c : Thread nD τ) ↦[arg13.view.set]{fullShare} arg13.view.writes (Elt F) f (kernelRun0_C c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1).2.2.1) ∗ (∃ f, arg14.view.loc (c : Thread nD τ) ↦[arg14.view.set]{fullShare} arg14.view.writes (Elt F) f (kernelRun0_C c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1).2.2.2.1) ∗ (∃ d, owns (c : Thread nD τ) arg15 fullShare d) ∗ (∃ d, owns (c : Thread nD τ) arg16 fullShare d) ∗ semVal ((c : Thread nD τ), SemLoc.dma 14) 0 ∗ semVal ((c : Thread nD τ), SemLoc.dma 15) 0 ∗ hbPt0 c hbM0_0 (castGate (sout0_C_0 c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1)) ∗ hbPt0 c hbM0_1 (castProj (sout0_C_1 c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1)) ∗ (∃ W', owes (c : Thread nD τ) 0 W')) -∗ K ⟨⟩))
          ⊢ wp frame (wpE (defs₀ (F := F)) Variants.none c none) Set.univ (cc0_ple_fwd_bwd i arg1 harg1 arg2 harg2 arg3 harg3 arg4 harg4 arg5 harg5 arg6 harg6 arg7 harg7 arg8 harg8 arg9 harg9 arg10 harg10 (Memref.whole main_v2_2) (Memref.isWhole_whole _) (Memref.whole main_v2_3) (Memref.isWhole_whole _) arg13 harg13 arg14 harg14 arg15 harg15 arg16 harg16 cc0_scoped0 cc0_scoped1) K := by
  intro W K
  simp only [cc0_ple_fwd_bwd_eq_skeleton]; unfold cc0_ple_fwd_bwd_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs0, %hfs0, HS0⟩, ⟨%fs1, %hfs1, HS1⟩, ⟨%ds2, %fs2, -, HS2⟩, ⟨%ds3, %fs3, -, HS3⟩, Hq0, Hq1, ⟨%fw0, Hh0⟩, ⟨%fw1, Hh1⟩, HW, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg13.eq_unread hfs0; obtain rfl := harg14.eq_unread hfs1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]; · iexists _; iexact H8
  isplitl [H9]; · iexact H9
  isplitl [HS0]; · iexists _; iexact HS0
  isplitl [HS1]; · iexists _; iexact HS1
  isplitl [HS2]
  · iexists _, _; isplitr; swap; · iexact HS2
    ipureintro; rfl
  isplitl [HS3]
  · iexists _, _; isplitr; swap; · iexact HS3
    ipureintro; rfl
  isplitl [Hq0]; · iexact Hq0
  isplitl [Hq1]; · iexact Hq1
  isplitl [Hh0]
  · have e : ∀ w, w = castGate (sout0_C_0 c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1) → View.write (Elt F) (Memref.whole main_v2_2).view fw0 w Finset.univ = castGate (sout0_C_0 c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1) := by
      intro w hw; rw [hw]; exact View.write_whole_univ _ _ _
    rw [e _ ?_]
    · iexact Hh0
    sl_unfold_words
    refine (Whole.read_cons _ _ Whole.hz2 _ _ []).trans ?_
    rw [pay4_eq]
    refine congrArg castGate ?_
    unfold sout0_C_0 kernelRun0_C
    rw [View.read_writes_junk_eq_canon]
    dsimp only
    sl_unfold_words
    rw [View.readCov_unit_zero (S := S1024x1024) _ Whole.hz2, View.canon_unit_zero (S := S1024x1024) Whole.hz2]
  isplitl [Hh1]
  · have e : ∀ w, w = castProj (sout0_C_1 c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1) → View.write (Elt F) (Memref.whole main_v2_3).view fw1 w Finset.univ = castProj (sout0_C_1 c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1) := by
      intro w hw; rw [hw]; exact View.write_whole_univ _ _ _
    rw [e _ ?_]
    · iexact Hh1
    sl_unfold_words
    refine (Whole.read_cons _ _ Whole.hz2 _ _ []).trans ?_
    rw [pay5_eq]
    refine congrArg castProj ?_
    unfold sout0_C_1 kernelRun0_C
    rw [View.read_writes_junk_eq_canon]
    dsimp only
    sl_unfold_words
    rw [View.readCov_unit_zero (S := S256x1024) _ Whole.hz2, View.canon_unit_zero (S := S256x1024) Whole.hz2]
  iexists _; iexact HW

end Cert.PleIdeal.Last

end
-- ==== Proof.Ple.Run.lean ====
/-
  A run of the gated embedding's program with the contents of its two results in HBM named: the last point leaves the two
  accumulators' casts there.
-/
module

public import proofs.«01_k».proof.Proof.Ple.LastPoint
public import Idealize.ShloMosaic.Lib.Pipeline.FrameValue

@[expose] public section

set_option maxRecDepth 16384

noncomputable section

namespace Cert.PleIdeal.Last

open Cert.PleIdeal Cert.PleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The last point. -/
def tLast : Fin cfg0.N := ⟨15, by rw [show cfg0.N = 16 from N_0]; decide⟩

/-- The gradient of `w_gate` left in HBM: the accumulator after the last point, cast. -/
def resGate (c : Dev nD) : Vec F S1024x1024 .bf16 := castGate (outsAt0 m c 15 tLast.isLt).2.2.1

/-- The gradient of `w_proj` left in HBM: the accumulator after the last point, cast. -/
def resProj (c : Dev nD) : Vec F S256x1024 .bf16 := castProj (outsAt0 m c 15 tLast.isLt).2.2.2

/-- The invariant after the last point: the one of the frame with the two results named. -/
def PhiEnd (c : Dev nD) : sProp 𝕄 :=
  iprop(iprop(owns (c : Thread nD τ) scM0_0 fullShare ((outsAt0 m c 15 tLast.isLt).2.2.1) ∗ owns (c : Thread nD τ) scM0_1 fullShare ((outsAt0 m c 15 tLast.isLt).2.2.2) ∗ (∃ d, owns (c : Thread nD τ) scM0_2 fullShare d) ∗ (∃ d, owns (c : Thread nD τ) scM0_3 fullShare d)) ∗ (∃ r, prngReg c r) ∗ iprop(semVal ((c : Thread nD τ), SemLoc.dma 14) 0 ∗ semVal ((c : Thread nD τ), SemLoc.dma 15) 0) ∗ iprop(emp) ∗ iprop(hbPt0 c hbM0_0 (resGate m c) ∗ hbPt0 c hbM0_1 (resProj m c)))

/-- The frame's proof data with the invariant after the last point strengthened. -/
def datsV (p : Fin 1) (c : Dev nD) : Dat τ (Elt F) Unit ℕ (Pipeline.UD sig nD τ) ℕ cfg0 c :=
  { dats m p c with Φ := fun t => if t.val = 16 then PhiEnd m c else PhiS m c t.val (Nat.le_of_lt_succ t.isLt) }

/-- The arrays are the frame's. -/
theorem A_eqV (c : Dev nD) (w : Fin cfg0.W) : (datsV m 0 c).A w = V m c (Pipeline.arrRef spec0 w) := by
  dsimp only [datsV, dats]

/-- The invariant at the end. -/
theorem Phi_end (c : Dev nD) (t : Fin (cfg0.N + 1)) (h : t.val = 16) : (datsV m 0 c).Φ t = PhiEnd m c := if_pos h

/-- The invariant before the end is the frame's. -/
theorem Phi_pre (c : Dev nD) (t : Fin (cfg0.N + 1)) (h : ¬ t.val = 16) : (datsV m 0 c).Φ t = (dats m 0 c).Φ t := if_neg h

set_option maxHeartbeats 4000000 in
/-- The body at any point keeps the strengthened invariant. -/
theorem sound_body (c : Dev nD) (t : Fin cfg0.N) :
    iprop((datsV m 0 c).Φ t.castSucc ∗ (datsV m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d))
      ∗ (∃ d, owns (c : Thread nD τ) (ms0_4 t) fullShare ((dats m 0 c).before 4 t d))
      ∗ (∃ d, owns (c : Thread nD τ) (ms0_5 t) fullShare ((dats m 0 c).before 5 t d))
      ∗ (∃ d, owns (c : Thread nD τ) (ms0_6 t) fullShare ((dats m 0 c).before 6 t d))
      ∗ (∃ d, owns (c : Thread nD τ) (ms0_7 t) fullShare ((dats m 0 c).before 7 t d))
      ∗ (∃ d, owns (c : Thread nD τ) (ms0_8 t) fullShare ((dats m 0 c).before 8 t d))
      ∗ (∃ d, owns (c : Thread nD τ) (ms0_9 t) fullShare ((dats m 0 c).before 9 t d)))
    ⊢ wp frame (wpE (defs₀ (F := F)) Variants.none c none) Set.univ (bodyAt0 t) (fun _ =>
      iprop((datsV m 0 c).Φ t.succ ∗ (datsV m 0 c).owesAt () t.succ
        ∗ owns (c : Thread nD τ) (ms0_0 t) fullShare ((dats m 0 c).after 0 t)
        ∗ owns (c : Thread nD τ) (ms0_1 t) fullShare ((dats m 0 c).after 1 t)
        ∗ owns (c : Thread nD τ) (ms0_2 t) fullShare ((dats m 0 c).after 2 t)
        ∗ owns (c : Thread nD τ) (ms0_3 t) fullShare ((dats m 0 c).after 3 t)
        ∗ owns (c : Thread nD τ) (ms0_4 t) fullShare ((dats m 0 c).after 4 t)
        ∗ owns (c : Thread nD τ) (ms0_5 t) fullShare ((dats m 0 c).after 5 t)
        ∗ owns (c : Thread nD τ) (ms0_6 t) fullShare ((dats m 0 c).after 6 t)
        ∗ owns (c : Thread nD τ) (ms0_7 t) fullShare ((dats m 0 c).after 7 t)
        ∗ owns (c : Thread nD τ) (ms0_8 t) fullShare ((dats m 0 c).after 8 t)
        ∗ owns (c : Thread nD τ) (ms0_9 t) fullShare ((dats m 0 c).after 9 t))) := by
  have hN : t.val < 16 := lt_of_lt_of_eq t.isLt (show cfg0.N = 16 from N_0)
  have e0 : (datsV m 0 c).Φ t.castSucc = (dats m 0 c).Φ t.castSucc := Phi_pre m c _ (by rw [Fin.val_castSucc]; omega)
  by_cases h1 : t.val = 15
  · obtain rfl : t = tLast := Fin.ext h1
    have e1 : (datsV m 0 c).Φ tLast.succ = PhiEnd m c := Phi_end m c _ rfl
    rw [e0, e1]
    have h0 : ¬ tLast.val % 16 = 0 := by show ¬ 15 % 16 = 0; decide
    have h1 : tLast.val % 16 = 15 := by show 15 % 16 = 15; decide
    simp only [before0_0, before0_1, before0_2, before0_3, before0_4, before0_5, before0_6, before0_7, before0_9_C m c tLast h0 h1]
    rw [after0_0, after0_1, after0_2, after0_3, after0_4, after0_5, after0_6, after0_7, after0_8, after0_9]
    unfold Dat.owesAt Pipeline.owesWithin
    rw [show (datsV m 0 c).owed tLast.castSucc = 0 from rfl, show (datsV m 0 c).owed tLast.succ = 0 from rfl]
    rw [PhiS_castSucc m c tLast, PhiS_pos m c _ _ (show tLast.val ≠ 0 by decide)]
    unfold PhiEnd resGate resProj bodyAt0
    rw [show outsAt0 m c 15 tLast.isLt = _ from outsAt0_C m c tLast h0 h1, show outsAt0 m c tLast.val tLast.isLt = _ from outsAt0_C m c tLast h0 h1]
    dsimp only
    iintro ⟨⟨⟨HS0, HS1, HS2, HS3⟩, Hg, ⟨Hq0, Hq1⟩, -, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_last c (grid0.coords tLast) _ _ _ _ _ _ _ _ _ _ _ _ _ _ _ _ _ _ _ _ _ _ _ _ _ _ _ _ (fun h => h0 ((hcond0_0 tLast).mp h)) ((hcond0_1 tLast).mpr h1) (iblk m c 0 tLast) (iblk m c 1 tLast) (iblk m c 2 tLast) (iblk m c 3 tLast) (iblk m c 4 tLast) (iblk m c 5 tLast) (iblk m c 6 tLast) (iblk m c 7 tLast) _ _ _ W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [HS0]; · iexact HS0
    isplitl [HS1]; · iexact HS1
    isplitl [HS2]; · iexact HS2
    isplitl [HS3]; · iexact HS3
    isplitl [Hq0]; · iexact Hq0
    isplitl [Hq1]; · iexact Hq1
    isplitl [Hh0]; · iexact Hh0
    isplitl [Hh1]; · iexact Hh1
    isplitl [HW]; · iexact HW
    unfold out0_C_8 out0_C_9 sout0_C_0 sout0_C_1
    iintro ⟨H0, H1, H2, H3, H4, H5, H6, H7, ⟨%e8, H8⟩, H9, ⟨%es0, HS0⟩, ⟨%es1, HS1⟩, HS2, HS3, Hq0, Hq1, Hh0, Hh1, ⟨%W', HW'⟩⟩
    isplitl [HS0 HS1 HS2 HS3 Hg Hq0 Hq1 Hh0 Hh1]
    · isplitl [HS0 HS1 HS2 HS3]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_C_1 c _ _ _ _ _ _ _ _ _ _ _ _ _ _ _ _ _ _ _ _ _ _ _ _ _ _ _ _ _ _ _ _ _ _ _ _ _ _ _ _ _ _)
        isplitl [HS2]; · iexact HS2
        iexact HS3
      isplitl [Hg]
      · iexact Hg
      isplitl [Hq0 Hq1]
      · isplitl [Hq0]; · iexact Hq0
        iexact Hq1
      isplitr; · iempintro
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _ _ _ _ _ _ _ _ _ _ _)
    unfold owns; iexists _; isplitr
    swap; · iexact H9
    ipureintro; rfl
  · have e1 : (datsV m 0 c).Φ t.succ = (dats m 0 c).Φ t.succ := Phi_pre m c _ (by rw [Fin.val_succ]; omega)
    rw [e0, e1]
    exact Gen.sound_body m c t

set_option maxHeartbeats 4000000 in
/-- The obligation on the body, at every point. -/
theorem body_obligation (c : Dev nD) : BodyObligation (datsV (F := F) m 0 c) (defs₀ (F := F)) Variants.none () Set.univ := fun t => by
  rw [bigSep_W0, bigSep_W0, defs₀_row]
  exact triple_restated (sound_body m c t) rfl .rfl fun _ => .rfl

/-- What the buffers the body writes hold at the end. -/
def G (c : Dev nD) (b : Ref sig .tc) : Buf (Elt F) ((c : Thread nD τ).loc b) :=
  if h : b = main_v2_2 then h ▸ resGate m c else if h : b = main_v2_3 then h ▸ resProj m c else V m c b

/-- The launch's resources give the invariant at the start. -/
theorem hin (c : Dev nD) : Pipeline.ΦDRG osem0 spec0 H0 R0 (V m) (V m) c ⊢ (datsV m 0 c).Φ 0 :=
  (Pipeline.ΦDRG_ΦDR osem0 spec0 H0 R0 (V m) (V m) c).trans
    (by rw [Phi_pre m c 0 (by show ¬ 0 = 16; decide)]; exact Gen.hin m c)

/-- The buffers the body writes, one by one. -/
theorem routed_eq (c : Dev nD) : (Pipeline.routed R0 c (G m c) : sProp 𝕄) = iprop(hbPt0 c hbM0_0 (resGate m c) ∗ hbPt0 c hbM0_1 (resProj m c)) := by
  unfold Pipeline.routed; rw [BI.bigSep_eq_bigSepL_of_eq [main_v2_2, main_v2_3] (by decide) (by decide)]; rfl

/-- The invariant at the end gives the launch's resources back. -/
theorem hout (c : Dev nD) : (datsV m 0 c).Φ (Fin.last cfg0.N) ⊢ Pipeline.ΦDRG osem0 spec0 H0 R0 (V m) (G m) c := by
  rw [Phi_end m c _ (by rw [Fin.val_last]; exact N_0), Pipeline.ΦDRG_eq, scopedRest0_eq, ownSems00_eq, hbmPts0_eq, routed_eq]
  unfold PhiEnd
  simp only [scM0_0, scM0_1, scM0_2, scM0_3, ← owns_whole]
  iintro ⟨⟨HS0, HS1, HS2, HS3⟩, Hg, Hq, Hh, Hh0, Hh1⟩
  isplitl [HS0 HS1 HS2 HS3]
  · isplitl [HS0]
    · iexists _; iexact HS0
    isplitl [HS1]
    · iexists _; iexact HS1
    isplitl [HS2]; · iexact HS2
    iexact HS3
  isplitl [Hg]; · iexact Hg
  isplitl [Hq]; · iexact Hq
  isplitl [Hh]; · iexact Hh
  isplitl [Hh0]; · iexact Hh0
  iexact Hh1

set_option backward.isDefEq.respectTransparency.types false in
/-- The run with the results left in HBM named. -/
theorem run : θ_run defs (onTc (τ := τ) (main (F := F))) (s₀ m ρ) (Pipeline.FramePostRG cfgs (datsV m) 0 R0 (V m) (G m)) :=
  Pipeline.θ_run_frame_dmaRG (Q' := _) cfgs (datsV m) (0 : Fin 1) launch0 osem0 defs₀ Variants.none ownSemFacts0 H0 R0 H0_sub R0_sub m ρ main
    (hbody := fun c => (body_obligation m c).loose) (hshare := fun c => (datsV m 0 c).share_full fun _ => rfl)
    (howed := fun _ _ => rfl) (V := V m) (hmain := hmain m Variants.none) (hA := A_eqV m)
    (G := G m) (hin := hin m) (hout := hout m)

/-- The two result arrays after the run. -/
theorem run_res : θ_run defs (onTc (τ := τ) (main (F := F))) ⟨m, fun _ => 0, ρ⟩ (fun r => ∀ c : Dev nD,
    r.2.mem ((c : Thread nD τ).loc main_v2_2) = resGate m c ∧ r.2.mem ((c : Thread nD τ).loc main_v2_3) = resProj m c) :=
  (θ_run defs _ _).mono (fun _ h c => ⟨h.2 c main_v2_2 (by decide), h.2 c main_v2_3 (by decide)⟩) (run m ρ)

end Cert.PleIdeal.Last

end
-- ==== Proof.Ple.Value.lean ====
/-
  The per-layer embedding's four results over the reals: each block of the rows' gradient at its rows, and the sums over
  all rows.
-/
module

public import proofs.«01_k».proof.Proof.Ple.Blocks
public import proofs.«01_k».proof.Proof.Ple.Point
public import proofs.«01_k».proof.Proof.Ple.Run
public import proofs.«01_k».proof.Proof.Gen.PleIdeal.Value

@[expose] public section

set_option maxRecDepth 16384

noncomputable section

namespace Cert.PleIdeal.Last

open Cert.PleIdeal Cert.PleIdeal.Gen Cert.PleIdeal.Blocks Cert.PleTerms
open Idealize.ShloMosaic Idealize.ShloMosaic.TcCoe Idealize.ShloMosaic.ValueIdx Idealize.SL.Sem
open scoped BigOperators

variable (m : (ℓ : Loc nD τ sig) → Buf (Elt Ideal) ℓ)

/-- One point's step of a sum over the rows. -/
theorem step (f : Fin 8192 → EReal) (g : Fin 512 → EReal) (t : Fin cfg0.N) (a : EReal) (h : a = Cert.Blocks.upTo f (512 * t.val))
    (hg : ∀ r, g r = f (rowOf t r)) : a + ∑ r, g r = Cert.Blocks.upTo f (512 * (t.val + 1)) := by
  have hN : t.val < 16 := lt_of_lt_of_eq t.isLt (show cfg0.N = 16 from N_0)
  rw [Nat.mul_add, Nat.mul_one, Cert.Blocks.upTo_add _ _ _ (by omega), ← h]
  exact congrArg (a + ·) (Finset.sum_congr rfl fun r _ => hg r)

/-- One point's step of the eight sums. -/
theorem step_vec (c : Dev nD) (t : Fin cfg0.N) (a : Vec Ideal S8x1024 .f32) (k : Fin 8) (d : Fin 1024)
    (h : a (ix2 k d) = Cert.Blocks.upTo (fun r => vecT (par m c) (inp m c r) k d) (512 * t.val)) :
    Point.vecG (blk m c t) a (ix2 k d) = Cert.Blocks.upTo (fun r => vecT (par m c) (inp m c r) k d) (512 * (t.val + 1)) := by
  show a (ix2 k d) + vec (Point.par (blk m c t)) (Point.inp (blk m c t)) k d = _
  rw [vec_eq_sum, par_blk]
  exact step _ _ t _ h fun r => by rw [inp_blk]

/-- One point's step of the accumulator of the gate's weights' gradient. -/
theorem step_gate (c : Dev nD) (t : Fin cfg0.N) (a : Vec Ideal S1024x1024 .f32) (e d : Fin 1024)
    (h : a (ix2 e d) = Cert.Blocks.upTo (fun r => gateT (par m c) (inp m c r) e d) (512 * t.val)) :
    Point.gateG (blk m c t) a (ix2 e d) = Cert.Blocks.upTo (fun r => gateT (par m c) (inp m c r) e d) (512 * (t.val + 1)) := by
  show a (ix2 e d) + ∑ r : Fin 512, gateT (Point.par (blk m c t)) (Point.inp (blk m c t) r) e d = _
  rw [par_blk]
  exact step _ _ t _ h fun r => by rw [inp_blk]

/-- One point's step of the accumulator of the projection's weights' gradient. -/
theorem step_proj (c : Dev nD) (t : Fin cfg0.N) (a : Vec Ideal S256x1024 .f32) (e : Fin 256) (d : Fin 1024)
    (h : a (ix2 e d) = Cert.Blocks.upTo (fun r => projT (par m c) (inp m c r) e d) (512 * t.val)) :
    Point.projG (blk m c t) a (ix2 e d) = Cert.Blocks.upTo (fun r => projT (par m c) (inp m c r) e d) (512 * (t.val + 1)) := by
  show a (ix2 e d) + ∑ r : Fin 512, projT (Point.par (blk m c t)) (Point.inp (blk m c t) r) e d = _
  rw [par_blk]
  exact step _ _ t _ h fun r => by rw [inp_blk]

/-- The zeros the first point stores. -/
theorem zero_vec (k : Fin 8) (d : Fin 1024) : (k0_pay6 (F := Ideal)) (ix2 k d) = (0 : EReal) := by
  unfold k0_pay6
  exact Cert.Products.zero_word

/-- The zeros the first point stores. -/
theorem zero_gate (e d : Fin 1024) : (k0_pay7 (F := Ideal)) (ix2 e d) = (0 : EReal) := by
  unfold k0_pay7
  simp only [shapeCast_self]
  exact Cert.Products.zero_word

/-- The zeros the first point stores. -/
theorem zero_proj (e : Fin 256) (d : Fin 1024) : (k0_pay8 (F := Ideal)) (ix2 e d) = (0 : EReal) := by
  unfold k0_pay8
  simp only [shapeCast_self]
  exact Cert.Products.zero_word

/-- After a point the eight sums hold the terms of the rows met so far. -/
theorem acc_vec (c : Dev nD) (k : Fin 8) (d : Fin 1024) : ∀ (n : ℕ) (hn : n < cfg0.N),
    (outsAt0 m c n hn).2.1 (ix2 k d) = Cert.Blocks.upTo (fun r => vecT (par m c) (inp m c r) k d) (512 * (n + 1))
  | 0, hn => by
    rw [show outsAt0 m c 0 hn = _ from outsAt0_A m c ⟨0, hn⟩ (Nat.zero_mod _) (by show ¬ 0 % 16 = 15; decide)]
    dsimp only
    exact (congrFun (Point.out_A_9 (blk m c ⟨0, hn⟩) c _ _ _ _ _ _ _ _ _ _ _ _ _ _ _ _ _ _ _ _ _ _ _ _ _ _ _ _ _ _ _) _).trans
      (step_vec m c ⟨0, hn⟩ _ k d (by rw [zero_vec]; exact (Cert.Blocks.upTo_zero _).symm))
  | n + 1, hn => by
    have hN : n + 1 < 16 := lt_of_lt_of_eq hn (show cfg0.N = 16 from N_0)
    by_cases h1 : (n + 1) % 16 = 15
    · rw [show outsAt0 m c (n + 1) hn = _ from outsAt0_C m c ⟨n + 1, hn⟩ (by show ¬ (n + 1) % 16 = 0; omega) h1]
      dsimp only
      exact (congrFun (Point.out_C_9 (blk m c ⟨n + 1, hn⟩) _ _ _ c _ _ _ _ _ _ _ _ _ _ _ _ _ _ _ _ _ _ _ _ _ _ _ _ _ _ _ _ _ _ _) _).trans
        (step_vec m c ⟨n + 1, hn⟩ _ k d (acc_vec c k d n _))
    · rw [show outsAt0 m c (n + 1) hn = _ from outsAt0_B m c ⟨n + 1, hn⟩ (by show ¬ (n + 1) % 16 = 0; omega) h1]
      dsimp only
      exact (congrFun (Point.out_B_9 (blk m c ⟨n + 1, hn⟩) _ _ _ c _ _ _ _ _ _ _ _ _ _ _ _ _ _ _ _ _ _ _ _ _ _ _ _ _ _ _ _ _ _ _) _).trans
        (step_vec m c ⟨n + 1, hn⟩ _ k d (acc_vec c k d n _))

/-- After a point the entries of the accumulator of the gate's weights' gradient hold the terms of the rows met so far. -/
theorem acc_gate (c : Dev nD) (e d : Fin 1024) : ∀ (n : ℕ) (hn : n < cfg0.N),
    (outsAt0 m c n hn).2.2.1 (ix2 e d) = Cert.Blocks.upTo (fun r => gateT (par m c) (inp m c r) e d) (512 * (n + 1))
  | 0, hn => by
    rw [show outsAt0 m c 0 hn = _ from outsAt0_A m c ⟨0, hn⟩ (Nat.zero_mod _) (by show ¬ 0 % 16 = 15; decide)]
    dsimp only
    exact (congrFun (Point.sout_A_0 (blk m c ⟨0, hn⟩) c _ _ _ _ _ _ _ _ _ _ _ _ _ _ _ _ _ _ _ _ _ _ _ _ _ _ _ _ _ _ _) _).trans
      (step_gate m c ⟨0, hn⟩ _ e d (by rw [zero_gate]; exact (Cert.Blocks.upTo_zero _).symm))
  | n + 1, hn => by
    have hN : n + 1 < 16 := lt_of_lt_of_eq hn (show cfg0.N = 16 from N_0)
    by_cases h1 : (n + 1) % 16 = 15
    · rw [show outsAt0 m c (n + 1) hn = _ from outsAt0_C m c ⟨n + 1, hn⟩ (by show ¬ (n + 1) % 16 = 0; omega) h1]
      dsimp only
      exact (congrFun (Point.sout_C_0 (blk m c ⟨n + 1, hn⟩) _ _ _ c _ _ _ _ _ _ _ _ _ _ _ _ _ _ _ _ _ _ _ _ _ _ _ _ _ _ _ _ _ _ _) _).trans
        (step_gate m c ⟨n + 1, hn⟩ _ e d (acc_gate c e d n _))
    · rw [show outsAt0 m c (n + 1) hn = _ from outsAt0_B m c ⟨n + 1, hn⟩ (by show ¬ (n + 1) % 16 = 0; omega) h1]
      dsimp only
      exact (congrFun (Point.sout_B_0 (blk m c ⟨n + 1, hn⟩) _ _ _ c _ _ _ _ _ _ _ _ _ _ _ _ _ _ _ _ _ _ _ _ _ _ _ _ _ _ _ _ _ _ _) _).trans
        (step_gate m c ⟨n + 1, hn⟩ _ e d (acc_gate c e d n _))

/-- After a point the entries of the accumulator of the projection's weights' gradient hold the terms of the rows met so far. -/
theorem acc_proj (c : Dev nD) (e : Fin 256) (d : Fin 1024) : ∀ (n : ℕ) (hn : n < cfg0.N),
    (outsAt0 m c n hn).2.2.2 (ix2 e d) = Cert.Blocks.upTo (fun r => projT (par m c) (inp m c r) e d) (512 * (n + 1))
  | 0, hn => by
    rw [show outsAt0 m c 0 hn = _ from outsAt0_A m c ⟨0, hn⟩ (Nat.zero_mod _) (by show ¬ 0 % 16 = 15; decide)]
    dsimp only
    exact (congrFun (Point.sout_A_1 (blk m c ⟨0, hn⟩) c _ _ _ _ _ _ _ _ _ _ _ _ _ _ _ _ _ _ _ _ _ _ _ _ _ _ _ _ _ _ _) _).trans
      (step_proj m c ⟨0, hn⟩ _ e d (by rw [zero_proj]; exact (Cert.Blocks.upTo_zero _).symm))
  | n + 1, hn => by
    have hN : n + 1 < 16 := lt_of_lt_of_eq hn (show cfg0.N = 16 from N_0)
    by_cases h1 : (n + 1) % 16 = 15
    · rw [show outsAt0 m c (n + 1) hn = _ from outsAt0_C m c ⟨n + 1, hn⟩ (by show ¬ (n + 1) % 16 = 0; omega) h1]
      dsimp only
      exact (congrFun (Point.sout_C_1 (blk m c ⟨n + 1, hn⟩) _ _ _ c _ _ _ _ _ _ _ _ _ _ _ _ _ _ _ _ _ _ _ _ _ _ _ _ _ _ _ _ _ _ _) _).trans
        (step_proj m c ⟨n + 1, hn⟩ _ e d (acc_proj c e d n _))
    · rw [show outsAt0 m c (n + 1) hn = _ from outsAt0_B m c ⟨n + 1, hn⟩ (by show ¬ (n + 1) % 16 = 0; omega) h1]
      dsimp only
      exact (congrFun (Point.sout_B_1 (blk m c ⟨n + 1, hn⟩) _ _ _ c _ _ _ _ _ _ _ _ _ _ _ _ _ _ _ _ _ _ _ _ _ _ _ _ _ _ _ _ _ _ _) _).trans
        (step_proj m c ⟨n + 1, hn⟩ _ e d (acc_proj c e d n _))

/-- The gradient of the gate's weights: the sum over all rows. -/
theorem resGate_apply (c : Dev nD) (e d : Fin 1024) : resGate m c (ix2 e d) = ∑ r, gateT (par m c) (inp m c r) e d :=
  (acc_gate m c e d 15 tLast.isLt).trans (Cert.Blocks.upTo_all _)

/-- The gradient of the projection's weights: the sum over all rows. -/
theorem resProj_apply (c : Dev nD) (e : Fin 256) (d : Fin 1024) : resProj m c (ix2 e d) = ∑ r, projT (par m c) (inp m c r) e d :=
  (acc_proj m c e d 15 tLast.isLt).trans (Cert.Blocks.upTo_all _)

/-- The block of the rows' gradient a point leaves. -/
theorem out_eq (c : Dev nD) (t : Fin cfg0.N) : (outsAt0 m c t.val t.isLt).1 = Point.dhG (blk m c t) := by
  have hN : t.val < 16 := lt_of_lt_of_eq t.isLt (show cfg0.N = 16 from N_0)
  by_cases h0 : t.val % 16 = 0
  · rw [outsAt0_A m c t h0 (by omega)]
    dsimp only
    exact Point.out_A_8 (blk m c t) c _ _ _ _ _ _ _ _ _ _ _ _ _ _ _ _ _ _ _ _ _ _ _ _ _ _ _ _ _ _ _
  · by_cases h1 : t.val % 16 = 15
    · rw [outsAt0_C m c t h0 h1]
      dsimp only
      exact Point.out_C_8 (blk m c t) _ _ _ c _ _ _ _ _ _ _ _ _ _ _ _ _ _ _ _ _ _ _ _ _ _ _ _ _ _ _ _ _ _ _
    · rw [outsAt0_B m c t h0 h1]
      dsimp only
      exact Point.out_B_8 (blk m c t) _ _ _ c _ _ _ _ _ _ _ _ _ _ _ _ _ _ _ _ _ _ _ _ _ _ _ _ _ _ _ _ _ _ _

/-- Its entries. -/
theorem out_apply (c : Dev nD) (t : Fin cfg0.N) (r : Fin 512) (d : Fin 1024) :
    (outsAt0 m c t.val t.isLt).1 (ix2 r d) = dh2 (par m c) (inp m c (rowOf t r)) d := by
  rw [out_eq]
  show dh2 (Point.par (blk m c t)) (Point.inp (blk m c t) r) d = _
  rw [par_blk, inp_blk]

/-- Every point writes its block back. -/
theorem flush8 : ∀ t : Fin cfg0.N, (cfg0.win 8).flush t = true := by decide +kernel

/-- The rows' gradient after the run. -/
theorem arr8_apply (c : Dev nD) (R : Fin 8192) (d : Fin 1024) :
    ((dats m 0 c).arrAt 8 cfg0.N : S8192x1024.Idx → EReal) (ix2 R d) = dh2 (par m c) (inp m c R) d := by
  have ht : R.val / 512 < cfg0.N := by rw [show cfg0.N = 16 from N_0]; omega
  let t : Fin cfg0.N := ⟨R.val / 512, ht⟩
  let r : Fin 512 := ⟨R.val % 512, Nat.mod_lt _ (by decide)⟩
  have hR : rowOf t r = R := Fin.ext (by show 512 * (R.val / 512) + R.val % 512 = R.val; omega)
  have hb := congrFun (Value.blocks8 m c t (flush8 t)) (ix2 r d)
  rw [View.read_apply, Value.flushed8] at hb
  have he : ((cfg0.win 8).blk t).view.emb (ix2 r d) = (ix2 R d : S8192x1024.Idx) := by
    funext a
    apply Fin.ext
    match a with
    | ⟨0, _⟩ => show win0_8.index t 0 * 512 + 1 * r.val = R.val; rw [(idx8 t).1, ← hR]; show t.val * 512 + 1 * r.val = 512 * t.val + r.val; omega
    | ⟨1, _⟩ => show win0_8.index t 1 * 1024 + 1 * d.val = d.val; rw [(idx8 t).2]; omega
  rw [he] at hb
  exact hb.trans ((out_apply m c t r d).trans (by rw [hR]))

/-- Only the last point writes the eight sums back. -/
theorem only9 : ∀ t t' : Fin cfg0.N, (cfg0.win 9).flush t = true → (cfg0.win 9).flush t' = true → t ≠ t' →
    Disjoint ((cfg0.win 9).blk t).view.set ((cfg0.win 9).blk t').view.set := fun t t' h h' hne => by
  have h1 := (flush0_9 t).mp h
  have h2 := (flush0_9 t').mp h'
  have h3 : t.val < 16 := lt_of_lt_of_eq t.isLt (show cfg0.N = 16 from N_0)
  have h4 : t'.val < 16 := lt_of_lt_of_eq t'.isLt (show cfg0.N = 16 from N_0)
  exact absurd (Fin.ext (by omega)) hne

/-- The eight sums after the run. -/
theorem arr9_apply (c : Dev nD) (k : Fin 8) (d : Fin 1024) :
    ((dats m 0 c).arrAt 9 cfg0.N : S8x1024.Idx → EReal) (ix2 k d) = vec (par m c) (inp m c) k d := by
  have hb := congrFun ((dats m 0 c).read_blk_arrAt_eq_flushed 9 only9 cfg0.N tLast tLast.isLt ((flush0_9 tLast).mpr (by decide))) (ix2 k d)
  rw [View.read_apply, Value.flushed9] at hb
  have he : ((cfg0.win 9).blk tLast).view.emb (ix2 k d) = (ix2 k d : S8x1024.Idx) := by
    funext a
    apply Fin.ext
    match a with
    | ⟨0, _⟩ => show win0_9.index tLast 0 * 8 + 1 * k.val = k.val; rw [(idx9 tLast).1]; omega
    | ⟨1, _⟩ => show win0_9.index tLast 1 * 1024 + 1 * d.val = d.val; rw [(idx9 tLast).2]; omega
  rw [he] at hb
  exact hb.trans ((acc_vec m c k d 15 tLast.isLt).trans ((Cert.Blocks.upTo_all _).trans (vec_eq_sum _ _ k d).symm))

end Cert.PleIdeal.Last

end
-- ==== Proof.Ple.Ref.lean ====
/-
  The reference's per-layer embedding, entry by entry: each of its arrays is a term of one row of the arguments, and its
  results are sums of such terms over the rows.
-/
module

public import proofs.«01_k».proof.Proof.Ple.Terms
public import proofs.«01_k».proof.Proof.Lib.Products
public import proofs.«01_k».proof.Proof.Gen.PleRefIdeal.Run

@[expose] public section

set_option maxRecDepth 16384

noncomputable section

namespace Cert.PleRefIdeal.Entries

open Cert.PleRefIdeal Cert.PleRefIdeal.Gen Cert.PleRefIdeal.Value Cert.PleTerms Cert.Norms
open Idealize.ShloMosaic Idealize.ShloMosaic.ValueIdx
open scoped BigOperators

variable (W : Valuation τ sig (Elt Ideal))

/-- The hidden states. -/
abbrev aX : FVec Ideal S8192x1024 .f32 := W (Proc.devRef .tc main_arg0)
/-- The embeddings. -/
abbrev aP : FVec Ideal S8192x256 .f32 := W (Proc.devRef .tc main_arg1)
/-- The targets. -/
abbrev aT : FVec Ideal S8192x1024 .f32 := W (Proc.devRef .tc main_arg2)
/-- The gains. -/
abbrev aG : FVec Ideal S1x1024 .f32 := W (Proc.devRef .tc main_arg3)
/-- The gate's weights. -/
abbrev aWg : FVec Ideal S1024x1024 .f32 := W (Proc.devRef .tc main_arg4)
/-- The gate's bias. -/
abbrev aB : FVec Ideal S1x1024 .f32 := W (Proc.devRef .tc main_arg5)
/-- The projection's weights. -/
abbrev aWp : FVec Ideal S256x1024 .f32 := W (Proc.devRef .tc main_arg6)
/-- The final gains. -/
abbrev aGf : FVec Ideal S1x1024 .f32 := W (Proc.devRef .tc main_arg7)

/-- The parameters. -/
abbrev par : Params := ⟨row (aG W) 0, fun e d => aWg W (ix2 e d), row (aB W) 0, fun e d => aWp W (ix2 e d), row (aGf W) 0⟩
/-- A row of the inputs. -/
abbrev inp (r : Fin 8192) : Input := ⟨row (aX W) r, row (aP W) r, row (aT W) r⟩

/-! ## The arrays, entry by entry -/

/-- A column of mean squares. -/
theorem mean_apply (X : FVec Ideal S8192x1024 .f32) (r : Fin 8192) (c : Fin 1) :
    addf (Host.divf (broadcastInDim S8192x1 ![0] bcast_S8192_S8192x1_0 (Host.reduceAdd (mulf X X) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)) (ix2 r c) = meanSq (row X r) := by
  refine congrArg (fun s : EReal => Ideal.div s width + eps) ((broadcastInDim_a_a1_apply _ _ r c).trans ?_)
  exact host_sum_row _ _ (by decide) _ r

theorem v6_apply (r : Fin 8192) (c : Fin 1) : res_main_v6 (F := Ideal) W (ix2 r c) = meanSq (inp W r).x := by
  unfold res_main_v6; exact mean_apply (aX W) r c

theorem v7_apply (r : Fin 8192) (c : Fin 1) : res_main_v7 (F := Ideal) W (ix2 r c) = inv (inp W r).x := by
  unfold res_main_v7; exact congrArg Ideal.rsqrt (v6_apply W r c)

theorem v12_apply (r : Fin 8192) (d : Fin 1024) : res_main_v12 (F := Ideal) W (ix2 r d) = xh (inp W r) d := by
  unfold res_main_v12
  exact congrArg (aX W (ix2 r d) * ·) ((broadcastInDim_a1_ab_apply _ _ r d).trans (v7_apply W r 0))

theorem v14_apply (r : Fin 8192) (d : Fin 1024) : res_main_v14 (F := Ideal) W (ix2 r d) = zin (par W) (inp W r) d := by
  unfold res_main_v14
  exact congrArg₂ (fun x y : EReal => x * y) (v12_apply W r d) (broadcastInDim_1b_ab_apply (aG W) _ r d)

theorem v23_apply (r : Fin 8192) (d : Fin 1024) : res_main_v23 (F := Ideal) W (ix2 r d) = gate (par W) (inp W r) d := by
  unfold res_main_v23 gate
  rw [← logistic_eq]
  have h1 : Ideal.ofBits .f32 0x3F800000#32 = 1 := Ideal.ofBits_one_f32
  show Ideal.div (Ideal.ofBits .f32 0x3F800000#32) (Ideal.ofBits .f32 0x3F800000#32 + Ideal.exp (-(_ + _))) = _
  rw [h1]
  refine congrArg (fun s : EReal => Ideal.div 1 (1 + Ideal.exp (-s))) (congrArg₂ (fun x y : EReal => x + y) ?_ (broadcastInDim_1b_ab_apply (aB W) _ r d))
  refine (Cert.Products.dot_nn rfl none (res_main_v14 W) (aWg W) r d).trans (Finset.sum_congr rfl fun e _ => ?_)
  rw [v14_apply]

theorem v27_apply (r : Fin 8192) (d : Fin 1024) : res_main_v27 (F := Ideal) W (ix2 r d) = pp (par W) (inp W r) d := by
  unfold res_main_v27
  exact Cert.Products.dot_nn rfl none (aP W) (aWp W) r d

theorem v29_apply (r : Fin 8192) (d : Fin 1024) : res_main_v29 (F := Ideal) W (ix2 r d) = h3 (par W) (inp W r) d := by
  unfold res_main_v29
  exact congrArg (aX W (ix2 r d) + ·) (congrArg₂ (fun x y : EReal => x * y) (v23_apply W r d) (v27_apply W r d))

theorem v29_row (r : Fin 8192) : row (res_main_v29 (F := Ideal) W) r = h3 (par W) (inp W r) := funext fun d => v29_apply W r d

theorem v36_apply (r : Fin 8192) (c : Fin 1) : res_main_v36 (F := Ideal) W (ix2 r c) = meanSq (h3 (par W) (inp W r)) := by
  unfold res_main_v36; exact (mean_apply (res_main_v29 W) r c).trans (congrArg meanSq (v29_row W r))

theorem v37_apply (r : Fin 8192) (c : Fin 1) : res_main_v37 (F := Ideal) W (ix2 r c) = inv (h3 (par W) (inp W r)) := by
  unfold res_main_v37; exact congrArg Ideal.rsqrt (v36_apply W r c)

theorem v42_apply (r : Fin 8192) (d : Fin 1024) : res_main_v42 (F := Ideal) W (ix2 r d) = hh (par W) (inp W r) d := by
  unfold res_main_v42
  exact congrArg₂ (fun x y : EReal => x * y) (v29_apply W r d) ((broadcastInDim_a1_ab_apply _ _ r d).trans (v37_apply W r 0))

theorem v45_apply (r : Fin 8192) (d : Fin 1024) : res_main_v45 (F := Ideal) W (ix2 r d) = err (par W) (inp W r) d := by
  unfold res_main_v45
  exact congrArg (· - aT W (ix2 r d)) (congrArg₂ (fun x y : EReal => x * y) (v42_apply W r d) (broadcastInDim_1b_ab_apply (aGf W) _ r d))

theorem v59_apply (r : Fin 8192) (d : Fin 1024) : res_main_v59 (F := Ideal) W (ix2 r d) = dy (par W) (inp W r) d := by
  unfold res_main_v59 dy
  rw [← scaled]
  refine congrArg₂ (fun x y : EReal => x * y) ((broadcastInDim_a_ab_apply _ _ r d).trans ?_) (congrArg (fun x : EReal => two * x) (v45_apply W r d))
  show Ideal.div (half * Ideal.ofBits .f32 0x3F800000#32) width = _
  rw [show Ideal.ofBits .f32 0x3F800000#32 = 1 from Ideal.ofBits_one_f32]

theorem v64_apply (r : Fin 8192) (d : Fin 1024) : res_main_v64 (F := Ideal) W (ix2 r d) = dy (par W) (inp W r) d * (par W).gf d := by
  unfold res_main_v64
  exact congrArg₂ (fun x y : EReal => x * y) (v59_apply W r d) (broadcastInDim_1b_ab_apply (aGf W) _ r d)

/-- The coefficient of the row in a gradient, spread over the row. -/
theorem coef_apply (X Y : FVec Ideal S8192x1024 .f32) (I Q : FVec Ideal S8192x1 .f32) (r : Fin 8192) (d : Fin 1024) (x w : Fin 1024 → EReal)
    (hx : ∀ k, X (ix2 r k) = x k) (hw : ∀ k, Y (ix2 r k) = w k) (hI : I (ix2 r 0) = inv x) (hQ : Q (ix2 r 0) = meanSq x) :
    broadcastInDim S8192x1024 ![0] bcast_S8192_S8192x1024_0 (Host.reduceAdd (Host.divf (mulf (shapeCast _ (Host.reduceAdd (mulf X Y) (constant S_ .f32 0x00000000#32) reducesTo_S8192x1024_S8192_d1 h_S_) shapeCasts_S8192_S8192x1) (mulf (broadcastInDim S8192x1 ![] bcast_S_S8192x1 (constant S_ .f32 0xBF000000#32)) (Host.divf I Q))) (broadcastInDim S8192x1 ![] bcast_S_S8192x1 (constant S_ .f32 0x44800000#32))) (constant S_ .f32 0x00000000#32) reducesTo_S8192x1_S8192_d1 h_S_) (ix2 r d) = coef x w := by
  refine (broadcastInDim_a_ab_apply _ _ r d).trans ((host_sum_row _ _ (by decide) _ r).trans ((Fin.sum_univ_one _).trans ?_))
  unfold coef
  refine congrArg (fun s : EReal => Ideal.div s width) (congrArg₂ (fun x y : EReal => x * y) ((shapeCast_a_a1_apply _ _ r 0).trans ((host_sum_row _ _ (by decide) _ r).trans ?_))
    (congrArg (fun s : EReal => mhalf * s) (congrArg₂ Ideal.div hI hQ)))
  exact Finset.sum_congr rfl fun k _ => congrArg₂ (fun x y : EReal => x * y) (hx k) (hw k)

theorem v74_apply (r : Fin 8192) (d : Fin 1024) : res_main_v74 (F := Ideal) W (ix2 r d) = coef (h3 (par W) (inp W r)) (fun k => dy (par W) (inp W r) k * (par W).gf k) := by
  unfold res_main_v74
  exact coef_apply _ _ _ _ r d _ _ (v29_apply W r) (v64_apply W r) (v37_apply W r 0) (v36_apply W r 0)

theorem v78_apply (r : Fin 8192) (d : Fin 1024) : res_main_v78 (F := Ideal) W (ix2 r d) = dh3 (par W) (inp W r) d := by
  unfold res_main_v78 dh3
  refine Eq.trans ?_ (grad_eq _ _ d)
  exact congrArg₂ (fun x y : EReal => x + y) (congrArg₂ (fun x y : EReal => x + y)
    (congrArg₂ (fun x y : EReal => x * y) (v64_apply W r d) ((broadcastInDim_a1_ab_apply _ _ r d).trans (v37_apply W r 0)))
    (congrArg₂ (fun x y : EReal => x * y) (v29_apply W r d) (v74_apply W r d)))
    (congrArg₂ (fun x y : EReal => x * y) (v74_apply W r d) (v29_apply W r d))

theorem v83_apply (r : Fin 8192) (d : Fin 1024) : res_main_v83 (F := Ideal) W (ix2 r d) = dgl (par W) (inp W r) d := by
  unfold res_main_v83 dgl
  refine congrArg₂ (fun x y : EReal => x * y) (congrArg₂ (fun x y : EReal => x * y) (v78_apply W r d) (v27_apply W r d))
    (congrArg₂ (fun x y : EReal => x * y) (v23_apply W r d) (congrArg₂ (fun x y : EReal => x - y) Ideal.ofBits_one_f32 (v23_apply W r d)))

theorem v88_apply (r : Fin 8192) (d : Fin 1024) : res_main_v88 (F := Ideal) W (ix2 r d) = dz3 (par W) (inp W r) d := by
  unfold res_main_v88 dz3
  refine (Cert.Products.dot_nt rfl none (res_main_v83 W) (aWg W) r d).trans (Finset.sum_congr rfl fun e _ => ?_)
  rw [v83_apply]

theorem v93_apply (r : Fin 8192) (d : Fin 1024) : res_main_v93 (F := Ideal) W (ix2 r d) = dz3 (par W) (inp W r) d * (par W).g d := by
  unfold res_main_v93
  exact congrArg₂ (fun x y : EReal => x * y) (v88_apply W r d) (broadcastInDim_1b_ab_apply (aG W) _ r d)

theorem v104_apply (r : Fin 8192) (d : Fin 1024) : res_main_v104 (F := Ideal) W (ix2 r d) = coef (inp W r).x (fun k => dz3 (par W) (inp W r) k * (par W).g k) := by
  unfold res_main_v104
  exact coef_apply _ _ _ _ r d _ _ (fun _ => rfl) (v93_apply W r) (v7_apply W r 0) (v6_apply W r 0)

/-! ## The results -/

/-- The gradient of the rows. -/
def outH : FVec Ideal S8192x1024 .f32 :=
  addf (addf (addf (res_main_v78 W) (mulf (res_main_v93 W) (broadcastInDim S8192x1024 ![0, 1] bcast_S8192x1_S8192x1024_0_1 (res_main_v7 W)))) (mulf (aX W) (res_main_v104 W))) (mulf (res_main_v104 W) (aX W))

theorem outH_apply (r : Fin 8192) (d : Fin 1024) : outH W (ix2 r d) = dh2 (par W) (inp W r) d := by
  unfold outH dh2
  rw [← grad_eq, ← add_assoc, ← add_assoc]
  exact congrArg₂ (fun x y : EReal => x + y) (congrArg₂ (fun x y : EReal => x + y) (congrArg₂ (fun x y : EReal => x + y) (v78_apply W r d)
    (congrArg₂ (fun x y : EReal => x * y) (v93_apply W r d) ((broadcastInDim_a1_ab_apply _ _ r d).trans (v7_apply W r 0))))
    (congrArg (fun s : EReal => aX W (ix2 r d) * s) (v104_apply W r d)))
    (congrArg (fun s : EReal => s * aX W (ix2 r d)) (v104_apply W r d))

/-- The gradient of the gate's weights. -/
def outGate : FVec Ideal S1024x1024 .bf16 :=
  truncf .bf16 (transpose S1024x1024 [1, 0] (Host.dotGeneral (φ₁ := .f32) (φ₂ := .f32) dot_S8192x1024_S8192x1024_S1024x1024_0_0_1_1_n_n none (res_main_v83 W) (res_main_v14 W)) transposes_S1024x1024_S1024x1024_1_0) bitsLt_bf16_f32

theorem outGate_apply (e d : Fin 1024) : outGate W (ix2 e d) = ∑ r : Fin 8192, gateT (par W) (inp W r) e d := by
  unfold outGate
  refine (transpose_ix2_apply _ _ _ _).trans ((Cert.Products.dot_tn (φ₁ := .f32) (φ₂ := .f32) rfl none (res_main_v83 W) (res_main_v14 W) d e).trans (Finset.sum_congr rfl fun r _ => ?_))
  rw [v83_apply, v14_apply]
  exact mul_comm _ _

/-- The gradient of the projection's weights. -/
def outProj : FVec Ideal S256x1024 .bf16 :=
  truncf .bf16 (transpose S256x1024 [1, 0] (Host.dotGeneral (φ₁ := .f32) (φ₂ := .f32) dot_S8192x1024_S8192x256_S1024x256_0_0_1_1_n_n none (mulf (φ := .f32) (res_main_v23 W) (res_main_v78 W)) (aP W)) transposes_S1024x256_S256x1024_1_0) bitsLt_bf16_f32

theorem outProj_apply (e : Fin 256) (d : Fin 1024) : outProj W (ix2 e d) = ∑ r : Fin 8192, projT (par W) (inp W r) e d := by
  unfold outProj
  refine (transpose_ix2_apply _ _ _ _).trans ((Cert.Products.dot_tn rfl none (mulf (φ := .f32) (res_main_v23 W) (res_main_v78 W)) (aP W) d e).trans (Finset.sum_congr rfl fun r _ => ?_))
  refine (congrArg (fun s : EReal => s * aP W (ix2 r e)) (congrArg₂ (fun x y : EReal => x * y) (v23_apply W r d) (v78_apply W r d))).trans ?_
  unfold projT dgp
  rw [mul_comm (dh3 _ _ _)]
  exact mul_comm _ _

/-- A column sum, as a row. -/
theorem col_apply (Y : FVec Ideal S8192x1024 .f32) (z : Fin 1) (d : Fin 1024) :
    shapeCast S1x1024 (Host.reduceAdd Y (constant (F := Ideal) S_ .f32 0x00000000#32) reducesTo_S8192x1024_S1024_d0 h_S_) shapeCasts_S1024_S1x1024 (ix2 z d) = ∑ r : Fin 8192, Y (ix2 r d) :=
  (shapeCast_b_1b_apply _ _ z d).trans (host_sum_col _ _ (by decide) _ d)

/-- Half the summed loss. -/
def halfLoss : FVec Ideal S_ .f32 :=
  mulf (constant S_ .f32 0x3F000000#32) (Host.reduceAdd (Host.divf (Host.reduceAdd (mulf (res_main_v45 W) (res_main_v45 W)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_)

theorem halfLoss_apply (j : S_.Idx) : halfLoss W j = ∑ r : Fin 8192, half * loss (par W) (inp W r) := by
  unfold halfLoss
  refine (congrArg (fun s : EReal => half * s) (host_sum_vec _ _ (fun b => b.elim0) _ j)).trans ?_
  rw [half_eq, coe_mul_sum (by norm_num)]
  refine Finset.sum_congr rfl fun r _ => congrArg (fun s : EReal => ((1 / 2 : ℝ) : EReal) * s) ?_
  refine congrArg (fun s : EReal => Ideal.div s width) ((host_sum_row _ _ (by decide) _ r).trans (Finset.sum_congr rfl fun d _ => ?_))
  exact congrArg₂ (fun x y : EReal => x * y) (v45_apply W r d) (v45_apply W r d)

/-- The five pieces of the rows' array. -/
def pieces : List ((s : Shape) × (s.Idx → EReal)) :=
  [⟨S1x1024, (shapeCast S1x1024 (Host.reduceAdd (φ := .f32) (res_main_v83 W) (constant S_ .f32 0x00000000#32) reducesTo_S8192x1024_S1024_d0 h_S_) shapeCasts_S1024_S1x1024 : FVec Ideal S1x1024 .f32)⟩,
    ⟨S1x1024, (shapeCast S1x1024 (Host.reduceAdd (φ := .f32) (mulf (φ := .f32) (res_main_v12 W) (res_main_v88 W)) (constant S_ .f32 0x00000000#32) reducesTo_S8192x1024_S1024_d0 h_S_) shapeCasts_S1024_S1x1024 : FVec Ideal S1x1024 .f32)⟩,
    ⟨S1x1024, (shapeCast S1x1024 (Host.reduceAdd (φ := .f32) (mulf (φ := .f32) (res_main_v42 W) (res_main_v59 W)) (constant S_ .f32 0x00000000#32) reducesTo_S8192x1024_S1024_d0 h_S_) shapeCasts_S1024_S1x1024 : FVec Ideal S1x1024 .f32)⟩,
    ⟨S1x1024, (broadcastInDim S1x1024 ![] bcast_S_S1x1024 (halfLoss W) : FVec Ideal S1x1024 .f32)⟩,
    ⟨S4x1024, (broadcastInDim S4x1024 ![] bcast_S_S4x1024 (constant (F := Ideal) S_ .f32 0x00000000#32) : FVec Ideal S4x1024 .f32)⟩]

/-- The rows' array. -/
def outVec : FVec Ideal S8x1024 .f32 :=
  concatenate S8x1024 0 (pieces W) concatenates_S1x1024_S1x1024_S1x1024_S1x1024_S4x1024_S8x1024_d0

/-- The place in a piece of one row. -/
theorem off_one (k : Fin 8) (d : Fin 1024) : ∀ b : Fin S1x1024.rank, b.cast (rfl : S1x1024.rank = S8x1024.rank) ≠ 0 →
    ((ix2 (0 : Fin 1) d : S1x1024.Idx) b).val = ((ix2 k d : S8x1024.Idx) (b.cast (rfl : S1x1024.rank = S8x1024.rank))).val :=
  fun b hb => match b with
    | ⟨0, _⟩ => absurd rfl hb
    | ⟨1, _⟩ => rfl

theorem outVec_apply (k : Fin 8) (d : Fin 1024) : outVec W (ix2 k d) = vec (par W) (inp W) k d := by
  unfold outVec vec
  by_cases h0 : k.val = 0
  · rw [if_pos h0]
    refine (concatenate_apply_piece (t := S8x1024) 0 (pieces W) _ (ix2 k d) 0 (show 0 < 5 by decide) S1x1024 _ rfl rfl 0 rfl (ix2 (0 : Fin 1) d) (off_one k d) h0.symm).trans ((col_apply _ 0 d).trans ?_)
    exact Finset.sum_congr rfl fun r _ => v83_apply W r d
  rw [if_neg h0]
  by_cases h1 : k.val = 1
  · rw [if_pos h1]
    refine (concatenate_apply_piece (t := S8x1024) 0 (pieces W) _ (ix2 k d) 1 (show 1 < 5 by decide) S1x1024 _ rfl rfl 1 rfl (ix2 (0 : Fin 1) d) (off_one k d) h1.symm).trans ((col_apply _ 0 d).trans ?_)
    refine Finset.sum_congr rfl fun r _ => Eq.trans ?_ (mul_comm _ _)
    exact congrArg₂ (fun x y : EReal => x * y) (v12_apply W r d) (v88_apply W r d)
  rw [if_neg h1]
  by_cases h2 : k.val = 2
  · rw [if_pos h2]
    refine (concatenate_apply_piece (t := S8x1024) 0 (pieces W) _ (ix2 k d) 2 (show 2 < 5 by decide) S1x1024 _ rfl rfl 2 rfl (ix2 (0 : Fin 1) d) (off_one k d) h2.symm).trans ((col_apply _ 0 d).trans ?_)
    refine Finset.sum_congr rfl fun r _ => Eq.trans ?_ (mul_comm _ _)
    exact congrArg₂ (fun x y : EReal => x * y) (v42_apply W r d) (v59_apply W r d)
  rw [if_neg h2]
  by_cases h3 : k.val = 3
  · rw [if_pos h3]
    exact (concatenate_apply_piece (t := S8x1024) 0 (pieces W) _ (ix2 k d) 3 (show 3 < 5 by decide) S1x1024 _ rfl rfl 3 rfl (ix2 (0 : Fin 1) d) (off_one k d) h3.symm).trans (halfLoss_apply W _)
  rw [if_neg h3]
  refine (concatenate_apply_piece (t := S8x1024) 0 (pieces W) _ (ix2 k d) 4 (show 4 < 5 by decide) S4x1024 _ rfl rfl 4 rfl (ix2 (⟨k.val - 4, by omega⟩ : Fin 4) d) (fun b hb => ?_) ?_).trans Ideal.ofBits_zero_f32
  · match b with
    | ⟨0, _⟩ => exact absurd rfl hb
    | ⟨1, _⟩ => rfl
  · show 4 + (k.val - 4) = k.val; omega

end Cert.PleRefIdeal.Entries

end
-- ==== Proof.Ple.Claim.lean ====
/-
  The per-layer embedding's forward and backward pass equals the reference's over the reals: the rows' gradient entry by
  entry, and each of the sums over the rows as the same sum of the same terms.
-/
module

public import proofs.«01_k».proof.Proof.Ple.Value
public import proofs.«01_k».proof.Proof.Ple.Ref
public import proofs.«01_k».proof.Defs

@[expose] public section

set_option maxRecDepth 16384

noncomputable section

namespace Cert.PleIdeal.Last

open Idealize.ShloMosaic Idealize.ShloMosaic.TcCoe Idealize.ShloMosaic.ValueIdx Idealize.SL.Sem
open Cert.PleIdeal.Blocks Cert.PleRefIdeal.Entries Cert.PleTerms
open Idealize.ShloMosaic.StableHlo (launchContents)
open scoped BigOperators

variable (m : (ℓ : Loc nD τ sig) → Buf (Elt Ideal) ℓ)
  (m' : (ℓ : Loc Cert.PleRefIdeal.nD Cert.PleRefIdeal.τ Cert.PleRefIdeal.sig) → Buf (Elt Ideal) ℓ)

/-- The two programs start from the same arguments. -/
def Same (c : Dev nD) : Prop :=
  (m' ((c.tc : Thread Cert.PleRefIdeal.nD Cert.PleRefIdeal.τ).loc Cert.PleRefIdeal.main_arg0) : FVec Ideal S8192x1024 .f32) = argX m c
  ∧ (m' ((c.tc : Thread Cert.PleRefIdeal.nD Cert.PleRefIdeal.τ).loc Cert.PleRefIdeal.main_arg1) : FVec Ideal S8192x256 .f32) = argP m c
  ∧ (m' ((c.tc : Thread Cert.PleRefIdeal.nD Cert.PleRefIdeal.τ).loc Cert.PleRefIdeal.main_arg2) : FVec Ideal S8192x1024 .f32) = argT m c
  ∧ (m' ((c.tc : Thread Cert.PleRefIdeal.nD Cert.PleRefIdeal.τ).loc Cert.PleRefIdeal.main_arg3) : FVec Ideal S1x1024 .f32) = argG m c
  ∧ (m' ((c.tc : Thread Cert.PleRefIdeal.nD Cert.PleRefIdeal.τ).loc Cert.PleRefIdeal.main_arg4) : FVec Ideal S1024x1024 .f32) = argWg m c
  ∧ (m' ((c.tc : Thread Cert.PleRefIdeal.nD Cert.PleRefIdeal.τ).loc Cert.PleRefIdeal.main_arg5) : FVec Ideal S1x1024 .f32) = argB m c
  ∧ (m' ((c.tc : Thread Cert.PleRefIdeal.nD Cert.PleRefIdeal.τ).loc Cert.PleRefIdeal.main_arg6) : FVec Ideal S256x1024 .f32) = argWp m c
  ∧ (m' ((c.tc : Thread Cert.PleRefIdeal.nD Cert.PleRefIdeal.τ).loc Cert.PleRefIdeal.main_arg7) : FVec Ideal S1x1024 .f32) = argGf m c

variable {m m'}

/-- So they have the same parameters. -/
theorem par_same {c : Dev nD} (h : Same m m' c) : Cert.PleRefIdeal.Entries.par (launchContents m' c) = Blocks.par m c := by
  obtain ⟨-, -, -, h3, h4, h5, h6, h7⟩ := h
  unfold Cert.PleRefIdeal.Entries.par Blocks.par
  congr 1
  · exact congrArg (fun v => Cert.Norms.row v 0) h3
  · exact funext fun e => funext fun d => congrFun h4 (ix2 e d)
  · exact congrArg (fun v => Cert.Norms.row v 0) h5
  · exact funext fun e => funext fun d => congrFun h6 (ix2 e d)
  · exact congrArg (fun v => Cert.Norms.row v 0) h7

/-- And the same rows of the inputs. -/
theorem inp_same {c : Dev nD} (h : Same m m' c) : Cert.PleRefIdeal.Entries.inp (launchContents m' c) = Blocks.inp m c := by
  obtain ⟨h0, h1, h2, -⟩ := h
  funext r
  unfold Cert.PleRefIdeal.Entries.inp Blocks.inp
  congr 1
  · exact congrArg (fun v => Cert.Norms.row v r) h0
  · exact congrArg (fun v => Cert.Norms.row v r) h1
  · exact congrArg (fun v => Cert.Norms.row v r) h2

/-- The reference's gradient of the rows is the kernel's. -/
theorem ref_h {c : Dev nD} (h : Same m m' c) : outH (launchContents m' c) = (Gen.dats m 0 c).arrAt 8 cfg0.N :=
  Cert.Products.ext2 fun r d => (outH_apply (launchContents m' c) r d).trans (by
    rw [par_same h, inp_same h]; exact (arr8_apply m c r d).symm)

/-- The reference's eight sums are the kernel's. -/
theorem ref_vec {c : Dev nD} (h : Same m m' c) : outVec (launchContents m' c) = (Gen.dats m 0 c).arrAt 9 cfg0.N :=
  Cert.Products.ext2 fun k d => (outVec_apply (launchContents m' c) k d).trans (by
    rw [par_same h, inp_same h]; exact (arr9_apply m c k d).symm)

/-- The reference's gradient of the gate's weights is the kernel's. -/
theorem ref_gate {c : Dev nD} (h : Same m m' c) : outGate (launchContents m' c) = resGate m c :=
  Cert.Products.ext2 fun e d => (outGate_apply (launchContents m' c) e d).trans (by
    rw [par_same h, inp_same h]; exact (resGate_apply m c e d).symm)

/-- The reference's gradient of the projection's weights is the kernel's. -/
theorem ref_proj {c : Dev nD} (h : Same m m' c) : outProj (launchContents m' c) = resProj m c :=
  Cert.Products.ext2 fun e d => (outProj_apply (launchContents m' c) e d).trans (by
    rw [par_same h, inp_same h]; exact (resProj_apply m c e d).symm)

/-- The kernel and the reference end with the same four results, and neither writes an argument. -/
theorem algebraic : Cert.algebraic_PleIdeal_PleRefIdeal (hPleIdeal := Cert.PleIdeal.Gen.facts)
    (hPleRefIdeal := Cert.PleRefIdeal.Gen.facts) := by
  intro m g m' g' _ hargs
  refine ⟨fun c => (Gen.dats m 0 c).arrAt 8 cfg0.N, fun c => (Gen.dats m 0 c).arrAt 9 cfg0.N, fun c => resGate m c, fun c => resProj m c, ?_, ?_⟩
  · exact (θ_run _ _ _).mono (fun _ h c => ⟨(h.1 c).1, (h.1 c).2.1, (h.2 c).1, (h.2 c).2, (h.1 c).2.2⟩)
      (θ_run_and (Value.run_blocks m g) (run_res m g))
  · have hs : ∀ c : Dev nD, Same m m' c := hargs
    exact (θ_run _ _ _).mono (fun _ h c => ⟨(h c).1.trans (ref_h (hs c)), (h c).2.1.trans (ref_vec (hs c)), (h c).2.2.1.trans (ref_gate (hs c)),
        (h c).2.2.2.1.trans (ref_proj (hs c)), (h c).2.2.2.2⟩)
      (Cert.PleRefIdeal.Value.run m' g')

end Cert.PleIdeal.Last

end
-- ==== Proof.WgradOut.LastPoint.lean ====
/-
  The last point of the weight gradient's grid: it adds the last block's product to the accumulator, casts the sum into a
  buffer, copies that buffer to the result in HBM and waits for the copy. The theorem says what HBM holds afterwards.
-/
module

public import proofs.«01_k».proof.Proof.Gen.WgradOutIdeal.Frame
public import proofs.«01_k».proof.Proof.Lib.Whole

@[expose] public section

set_option maxRecDepth 16384

noncomputable section

namespace Cert.WgradOutIdeal.Last

open Cert.WgradOutIdeal Cert.WgradOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
theorem run_last (c : Dev nD) (i : grid0.Coords) (arg1 : Memref sig .tc .vmem S1024x1024 .bf16) (harg1 : arg1.IsWhole) (arg2 : Memref sig .tc .vmem S1024x1024 .f32) (harg2 : arg2.IsWhole) (arg4 : Memref sig .tc .vmem S1024x1024 .f32) (harg4 : arg4.IsWhole) (arg5 : Memref sig .tc .vmem S1024x1024 .bf16) (harg5 : arg5.IsWhole) (hc0 : ¬cond0_0 i) (hc1 : cond0_1 i)
    (x0 : Vec F S1024x1024 .bf16) (x1 : Vec F S1024x1024 .f32) (xs0 : Vec F S1024x1024 .f32) (W : Waits sig Unit) (K : PUnit → sProp 𝕄) :
        iprop(owns (c : Thread nD τ) arg1 fullShare x0 ∗ owns (c : Thread nD τ) arg2 fullShare x1 ∗ owns (c : Thread nD τ) arg4 fullShare xs0 ∗ (∃ d, owns (c : Thread nD τ) arg5 fullShare d) ∗ semVal ((c : Thread nD τ), SemLoc.dma 4) 0 ∗ (∃ f, hbPt0 c hbM0_0 f) ∗ owes (c : Thread nD τ) 0 W
            ∗ (iprop(owns (c : Thread nD τ) arg1 fullShare x0 ∗ owns (c : Thread nD τ) arg2 fullShare x1 ∗ (∃ f, arg4.view.loc (c : Thread nD τ) ↦[arg4.view.set]{fullShare} arg4.view.writes (Elt F) f (kernelRun0_C c i arg1 harg1 arg2 harg2 arg4 harg4 arg5 harg5 hc0 hc1 x0 x1 xs0).1) ∗ (∃ d, owns (c : Thread nD τ) arg5 fullShare d) ∗ semVal ((c : Thread nD τ), SemLoc.dma 4) 0 ∗ hbPt0 c hbM0_0 (k0_pay3 (k0_pay2 xs0 x0 x1)) ∗ (∃ W', owes (c : Thread nD τ) 0 W')) -∗ K ⟨⟩))
          ⊢ wp frame (wpE (defs₀ (F := F)) Variants.none c none) Set.univ (cc0_wgrad_out i arg1 harg1 arg2 harg2 (Memref.whole main_v1) (Memref.isWhole_whole _) arg4 harg4 arg5 harg5 cc0_scoped0) K := by
    simp only [cc0_wgrad_out_eq_skeleton]; unfold cc0_wgrad_out_skel
    unfold owns
    iintro ⟨⟨%f0, %hf0, H0⟩, ⟨%f1, %hf1, H1⟩, ⟨%fs0, %hfs0, HS0⟩, ⟨%ds1, %fs1, -, HS1⟩, Hq0, ⟨%fw0, Hh0⟩, HW, Hk⟩
    obtain rfl := harg1.eq_unread hf0; obtain rfl := harg2.eq_unread hf1; obtain rfl := harg4.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [HS0]; · iexists _; iexact HS0
    isplitl [HS1]
    · iexists _, _; isplitr; swap; · iexact HS1
      ipureintro; rfl
    isplitl [Hq0]; · iexact Hq0
    isplitl [Hh0]
    · have e : ∀ w, w = k0_pay3 (k0_pay2 xs0 x0 x1) → View.write (Elt F) (Memref.whole main_v1).view fw0 w Finset.univ = k0_pay3 (k0_pay2 xs0 x0 x1) := by
        intro w hw; rw [hw]; exact View.write_whole_univ _ _ _
      rw [e _ ?_]
      · iexact Hh0
      sl_unfold_words
      refine (Whole.read_cons _ _ Whole.hz2 _ _ []).trans ?_
      rw [View.readCov_unit_zero (S := S1024x1024) _ Whole.hz2]
      simp only [View.readAt_eq_ld, hfs0, hf0, hf1, View.ld_unit_zero (S := S1024x1024) Whole.hz2]
    iexists _; iexact HW

end Cert.WgradOutIdeal.Last
end
-- ==== Proof.WgradOut.Run.lean ====
/-
  A run of the weight gradient's program with the contents of its result named: the points before the last one fold the
  accumulator, and the last one leaves its cast in HBM.
-/
module

public import proofs.«01_k».proof.Proof.WgradOut.LastPoint
public import Idealize.ShloMosaic.Lib.Pipeline.FrameValue

@[expose] public section

set_option maxRecDepth 16384

noncomputable section

namespace Cert.WgradOutIdeal.Last

open Cert.WgradOutIdeal Cert.WgradOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Scratch `arg4` before the last point. -/
def accBefore (c : Dev nD) : Vec F S1024x1024 .f32 := outsAt0 m c 6 (by rw [show cfg0.N = 8 from N_0]; decide)

/-- The last point. -/
def tLast : Fin cfg0.N := ⟨7, by rw [show cfg0.N = 8 from N_0]; decide⟩

/-- The result left in HBM: the accumulated product, cast, over the point before the last and the last point's blocks. -/
def res (c : Dev nD) : Vec F S1024x1024 .bf16 := k0_pay3 (k0_pay2 (accBefore m c) (iblk m c 0 tLast) (iblk m c 1 tLast))

/-- The invariant after the last point: the one of the frame with the result named. -/
def PhiEnd (c : Dev nD) : sProp 𝕄 :=
  iprop(iprop(owns (c : Thread nD τ) scM0_0 fullShare (outsAt0 m c 7 tLast.isLt) ∗ (∃ d, owns (c : Thread nD τ) scM0_1 fullShare d)) ∗ (∃ r, prngReg c r) ∗ iprop(semVal ((c : Thread nD τ), SemLoc.dma 4) 0) ∗ iprop(emp) ∗ hbPt0 c hbM0_0 (res m c))

/-- The frame's proof data with the invariant after the last point strengthened. -/
def datsV (p : Fin 1) (c : Dev nD) : Dat τ (Elt F) Unit ℕ (Pipeline.UD sig nD τ) ℕ cfg0 c :=
  { dats m p c with Φ := fun t => if t.val = 8 then PhiEnd m c else PhiS m c t.val (Nat.le_of_lt_succ t.isLt) }

theorem A_eqV (c : Dev nD) (w : Fin cfg0.W) : (datsV m 0 c).A w = V m c (Pipeline.arrRef spec0 w) := by
  dsimp only [datsV, dats]

theorem Phi_end (c : Dev nD) (t : Fin (cfg0.N + 1)) (h : t.val = 8) : (datsV m 0 c).Φ t = PhiEnd m c := if_pos h

theorem Phi_pre (c : Dev nD) (t : Fin (cfg0.N + 1)) (h : ¬ t.val = 8) : (datsV m 0 c).Φ t = (dats m 0 c).Φ t := if_neg h

theorem sound_body (c : Dev nD) (t : Fin cfg0.N) :
    iprop((datsV m 0 c).Φ t.castSucc ∗ (datsV m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d)))
    ⊢ wp frame (wpE (defs₀ (F := F)) Variants.none c none) Set.univ (bodyAt0 t) (fun _ =>
      iprop((datsV m 0 c).Φ t.succ ∗ (datsV m 0 c).owesAt () t.succ
        ∗ owns (c : Thread nD τ) (ms0_0 t) fullShare ((dats m 0 c).after 0 t)
        ∗ owns (c : Thread nD τ) (ms0_1 t) fullShare ((dats m 0 c).after 1 t))) := by
  have hN : t.val < 8 := lt_of_lt_of_eq t.isLt (show cfg0.N = 8 from N_0)
  have e0 : (datsV m 0 c).Φ t.castSucc = (dats m 0 c).Φ t.castSucc := Phi_pre m c _ (by rw [Fin.val_castSucc]; omega)
  by_cases h1 : t.val = 7
  · obtain rfl : t = tLast := Fin.ext h1
    have e1 : (datsV m 0 c).Φ tLast.succ = PhiEnd m c := Phi_end m c _ rfl
    rw [e0, e1]
    have h0 : ¬ tLast.val % 8 = 0 := by show ¬ 7 % 8 = 0; decide
    have h1 : tLast.val % 8 = 7 := by show 7 % 8 = 7; decide
    simp only [before0_0, before0_1]
    rw [after0_0, after0_1]
    unfold Dat.owesAt Pipeline.owesWithin
    rw [show (datsV m 0 c).owed tLast.castSucc = 0 from rfl, show (datsV m 0 c).owed tLast.succ = 0 from rfl]
    rw [PhiS_castSucc m c tLast, PhiS_pos m c _ _ (show tLast.val ≠ 0 by decide)]
    unfold PhiEnd bodyAt0
    rw [show outsAt0 m c 7 tLast.isLt = _ from outsAt0_C m c tLast h0 h1]
    unfold sout0_C_0
    iintro ⟨⟨⟨HS0, HS1⟩, Hg, Hq0, -, Hh0⟩, ⟨%W, -, HW⟩, ⟨%d0, H0⟩, ⟨%d1, H1⟩⟩
    iapply (run_last c (grid0.coords tLast) _ _ _ _ _ _ _ _ (fun h => h0 ((hcond0_0 tLast).mp h)) ((hcond0_1 tLast).mpr h1) (iblk m c 0 tLast) (iblk m c 1 tLast) _ W _)
    isplitl [H0]; · iexact H0
    isplitl [H1]; · iexact H1
    isplitl [HS0]; · iexact HS0
    isplitl [HS1]; · iexact HS1
    isplitl [Hq0]; · iexact Hq0
    isplitl [Hh0]; · iexact Hh0
    isplitl [HW]; · iexact HW
    iintro ⟨H0, H1, ⟨%es0, HS0⟩, HS1, Hq0, Hh0, ⟨%W', HW'⟩⟩
    isplitl [HS0 HS1 Hg Hq0 Hh0]
    · isplitl [HS0 HS1]
      · isplitl [HS0]
        · unfold owns; iexists _; isplitr
          swap; · iexact HS0
          ipureintro; exact View.read_writes_of_cover _ _ _ _ _ (scover0_C_0 c _ _ _ _ _ _ _ _ _ _ _ _ _ _)
        iexact HS1
      isplitl [Hg]
      · iexact Hg
      isplitl [Hq0]
      · iexact Hq0
      isplitr; · iempintro
      iexact Hh0
    isplitl [HW']
    · iexists W'; isplitr; · ipureintro; exact fun _ _ => Or.inl trivial
      iexact HW'
    isplitl [H0]; · iexact H0
    iexact H1
  · have e1 : (datsV m 0 c).Φ t.succ = (dats m 0 c).Φ t.succ := Phi_pre m c _ (by rw [Fin.val_succ]; omega)
    rw [e0, e1]
    exact Gen.sound_body m c t

theorem body_obligation (c : Dev nD) : BodyObligation (datsV (F := F) m 0 c) (defs₀ (F := F)) Variants.none () Set.univ := fun t => by
  rw [bigSep_W0, bigSep_W0, defs₀_row]
  exact triple_restated (sound_body m c t) rfl .rfl fun _ => .rfl

/-- What the buffers the body writes hold at the end. -/
def G (c : Dev nD) (b : Ref sig .tc) : Buf (Elt F) ((c : Thread nD τ).loc b) :=
  if h : b = main_v1 then h ▸ res m c else V m c b

theorem hin (c : Dev nD) : Pipeline.ΦDRG osem0 spec0 H0 R0 (V m) (V m) c ⊢ (datsV m 0 c).Φ 0 :=
  (Pipeline.ΦDRG_ΦDR osem0 spec0 H0 R0 (V m) (V m) c).trans
    (by rw [Phi_pre m c 0 (by show ¬ 0 = 8; decide)]; exact Gen.hin m c)

theorem routed_eq (c : Dev nD) : (Pipeline.routed R0 c (G m c) : sProp 𝕄) = hbPt0 c hbM0_0 (res m c) := by
  unfold Pipeline.routed; rw [BI.bigSep_eq_bigSepL_of_eq [main_v1] (by decide) (by decide)]; rfl

theorem hout (c : Dev nD) : (datsV m 0 c).Φ (Fin.last cfg0.N) ⊢ Pipeline.ΦDRG osem0 spec0 H0 R0 (V m) (G m) c := by
  rw [Phi_end m c _ (by rw [Fin.val_last]; exact N_0), Pipeline.ΦDRG_eq, scopedRest0_eq, ownSems00_eq, hbmPts0_eq, routed_eq]
  unfold PhiEnd
  simp only [scM0_0, scM0_1, ← owns_whole]
  iintro ⟨⟨HS0, HS1⟩, Hg, Hq0, Hh0⟩
  isplitl [HS0 HS1]
  · isplitl [HS0]
    · iexists _; iexact HS0
    iexact HS1
  isplitl [Hg]; · iexact Hg
  isplitl [Hq0]
  · iexact Hq0
  iexact Hh0

set_option backward.isDefEq.respectTransparency.types false in
/-- The run with the result left in HBM named. -/
theorem run : θ_run defs (onTc (τ := τ) (main (F := F))) (s₀ m ρ) (Pipeline.FramePostRG cfgs (datsV m) 0 R0 (V m) (G m)) :=
  Pipeline.θ_run_frame_dmaRG (Q' := _) cfgs (datsV m) (0 : Fin 1) launch0 osem0 defs₀ Variants.none ownSemFacts0 H0 R0 H0_sub R0_sub m ρ main
    (hbody := fun c => (body_obligation m c).loose) (hshare := fun c => (datsV m 0 c).share_full fun _ => rfl)
    (howed := fun _ _ => rfl) (V := V m) (hmain := hmain m Variants.none) (hA := A_eqV m)
    (G := G m) (hin := hin m) (hout := hout m)

/-- The result array after the run. -/
theorem run_res : θ_run defs (onTc (τ := τ) (main (F := F))) ⟨m, fun _ => 0, ρ⟩ (fun r => ∀ c : Dev nD,
    r.2.mem ((c : Thread nD τ).loc main_v1) = res m c) :=
  (θ_run defs _ _).mono (fun _ h c => h.2 c main_v1 (by decide)) (run m ρ)

end Cert.WgradOutIdeal.Last

end
-- ==== Proof.WgradOut.Value.lean ====
/-
  The weight gradient of the output projection: the product accumulated over eight blocks of rows, cast and copied to the
  result, is one product over all rows.
-/
module

public import proofs.«01_k».proof.Proof.WgradOut.Run
public import proofs.«01_k».proof.Proof.Lib.Products
public import proofs.«01_k».proof.Proof.Gen.WgradOutRefIdeal.Run
public import Idealize.ShloMosaic.Lib.StableHlo.Run
public import Idealize.ShloMosaic.Lib.ValueLayout

@[expose] public section

set_option maxRecDepth 16384

noncomputable section

namespace Cert.WgradOutIdeal.Last

open Cert.WgradOutIdeal Cert.WgradOutIdeal.Gen
open Idealize.ShloMosaic Idealize.ShloMosaic.TcCoe Idealize.ShloMosaic.ValueIdx Idealize.SL.Sem
open scoped BigOperators

variable (m : (ℓ : Loc nD τ sig) → Buf (Elt Ideal) ℓ)

/-- The left factor: the rows the weight multiplied. -/
abbrev argL (c : Dev nD) : S8192x1024.Idx → EReal := m ((c : Thread nD τ).loc main_arg0)
/-- The right factor: the incoming gradient. -/
abbrev argR (c : Dev nD) : S8192x1024.Idx → EReal := m ((c : Thread nD τ).loc main_arg1)

/-- Point `t` works on rows `1024 t` and on, all columns. -/
theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel

/-- The left block at a point: the casts of that point's rows. -/
theorem blkL (c : Dev nD) (t : Fin cfg0.N) (r i : Fin 1024) (h : 1024 * t.val + r.val < 8192) :
    iblk m c 0 t (ix2 r i) = argL m c (ix2 (⟨1024 * t.val + r.val, h⟩ : Fin 8192) i) := by
  unfold iblk
  rw [View.read_apply]
  have hV : (V m c main_v0 : FVec Ideal S8192x1024 .bf16) = truncf (F := Ideal) .bf16 (m ((c : Thread nD τ).loc main_arg0)) bitsLt_bf16_f32 := by
    unfold V; after_results
  show (V m c main_v0 : FVec Ideal S8192x1024 .bf16) _ = _
  rw [hV]
  show m ((c : Thread nD τ).loc main_arg0) _ = m ((c : Thread nD τ).loc main_arg0) _
  congr 1
  funext a
  apply Fin.ext
  match a with
  | ⟨0, _⟩ => show win0_0.index t 0 * 1024 + 1 * r.val = 1024 * t.val + r.val; rw [(idx0 t).1]; omega
  | ⟨1, _⟩ => show win0_0.index t 1 * 1024 + 1 * i.val = i.val; rw [(idx0 t).2]; omega

/-- The right block at a point: that point's rows. -/
theorem blkR (c : Dev nD) (t : Fin cfg0.N) (r i : Fin 1024) (h : 1024 * t.val + r.val < 8192) :
    iblk m c 1 t (ix2 r i) = argR m c (ix2 (⟨1024 * t.val + r.val, h⟩ : Fin 8192) i) := by
  unfold iblk
  rw [View.read_apply]
  show V m c main_arg1 _ = _
  rw [V_main_arg1]
  show m ((c : Thread nD τ).loc main_arg1) _ = m ((c : Thread nD τ).loc main_arg1) _
  congr 1
  funext a
  apply Fin.ext
  match a with
  | ⟨0, _⟩ => show win0_1.index t 0 * 1024 + 1 * r.val = 1024 * t.val + r.val; rw [(idx1 t).1]; omega
  | ⟨1, _⟩ => show win0_1.index t 1 * 1024 + 1 * i.val = i.val; rw [(idx1 t).2]; omega

/-- One accumulation, entry by entry. -/
theorem pay2_apply (a : Vec Ideal S1024x1024 .f32) (x : Vec Ideal S1024x1024 .bf16) (y : Vec Ideal S1024x1024 .f32) (i j : Fin 1024) :
    k0_pay2 a x y (ix2 i j) = a (ix2 i j) + ∑ r : Fin 1024, (x (ix2 r i) : EReal) * y (ix2 r j) := by
  unfold k0_pay2
  simp only [shapeCast_self]
  refine congrArg (a (ix2 i j) + ·) ((Cert.Products.matmul_tn rfl none x (truncf (F := Ideal) .bf16 y bitsLt_bf16_f32) _ i j).trans ?_)
  show Ideal.ofBits .f32 0x00000000#32 + _ = _
  rw [Ideal.ofBits_zero_f32, zero_add]
  rfl

/-- The reset stores zeros. -/
theorem pay1_apply (i j : Fin 1024) : (k0_pay1 (F := Ideal)) (ix2 i j) = (0 : EReal) := by
  unfold k0_pay1
  simp only [shapeCast_self]
  exact Cert.Products.zero_word

theorem sout_A (c : Dev nD) (i : grid0.Coords) (arg1 harg1 arg2 harg2 arg4 harg4 arg5 harg5 hc0 hc1) (x0 : Vec Ideal S1024x1024 .bf16) (x1 : Vec Ideal S1024x1024 .f32) :
    sout0_A_0 c i arg1 harg1 arg2 harg2 arg4 harg4 arg5 harg5 hc0 hc1 x0 x1 = k0_pay2 (k0_pay1 (F := Ideal)) x0 x1 := by
  unfold sout0_A_0 kernelRun0_A
  rw [View.read_writes_junk_eq_canon]
  dsimp only
  sl_unfold_words
  rw [View.canon_cons_unit_zero (S := S1024x1024) Whole.hz2, View.readCov_unit_zero (S := S1024x1024) _ Whole.hz2]
  simp only [View.readAt_eq_ld, harg1.read_unread, harg2.read_unread, View.ld_unit_zero (S := S1024x1024) Whole.hz2]

theorem sout_B (c : Dev nD) (i : grid0.Coords) (arg1 harg1 arg2 harg2 arg4 harg4 arg5 harg5 hc0 hc1) (x0 : Vec Ideal S1024x1024 .bf16) (x1 xs0 : Vec Ideal S1024x1024 .f32) :
    sout0_B_0 c i arg1 harg1 arg2 harg2 arg4 harg4 arg5 harg5 hc0 hc1 x0 x1 xs0 = k0_pay2 xs0 x0 x1 := by
  unfold sout0_B_0 kernelRun0_B
  rw [View.read_writes_junk_eq_canon]
  dsimp only
  sl_unfold_words
  rw [View.canon_unit_zero (S := S1024x1024) Whole.hz2]
  simp only [View.readAt_eq_ld, harg1.read_unread, harg2.read_unread, harg4.read_unread, View.ld_unit_zero (S := S1024x1024) Whole.hz2]

/-- One entry's terms, over all rows. -/
def term (c : Dev nD) (i j : Fin 1024) (r : Fin 8192) : EReal := argL m c (ix2 r i) * argR m c (ix2 r j)

theorem step (c : Dev nD) (t : Fin cfg0.N) (a : Vec Ideal S1024x1024 .f32) (i j : Fin 1024)
    (h : a (ix2 i j) = Cert.Blocks.upTo (term m c i j) (1024 * t.val)) :
    k0_pay2 a (iblk m c 0 t) (iblk m c 1 t) (ix2 i j) = Cert.Blocks.upTo (term m c i j) (1024 * (t.val + 1)) := by
  have hN : t.val < 8 := lt_of_lt_of_eq t.isLt (show cfg0.N = 8 from N_0)
  rw [pay2_apply, h, Nat.mul_add, Nat.mul_one, Cert.Blocks.upTo_add _ _ _ (by omega)]
  congr 1
  refine Finset.sum_congr rfl fun r _ => ?_
  rw [blkL m c t r i (by omega), blkR m c t r j (by omega)]
  rfl

/-- After point `n < 7` the accumulator holds the terms of the rows met so far. -/
theorem acc_eq (c : Dev nD) : ∀ (n : ℕ) (hn : n < cfg0.N) (_ : n < 7) (i j : Fin 1024),
    outsAt0 m c n hn (ix2 i j) = Cert.Blocks.upTo (term m c i j) (1024 * (n + 1))
  | 0, hn, _, i, j => by
    rw [show outsAt0 m c 0 hn = _ from outsAt0_A m c ⟨0, hn⟩ (Nat.zero_mod _) (by show ¬ 0 % 8 = 7; decide), sout_A]
    exact step m c ⟨0, hn⟩ _ i j (by rw [pay1_apply]; exact (Cert.Blocks.upTo_zero _).symm)
  | n + 1, hn, h7, i, j => by
    rw [show outsAt0 m c (n + 1) hn = _ from outsAt0_B m c ⟨n + 1, hn⟩ (by show ¬ (n + 1) % 8 = 0; omega) (by show ¬ (n + 1) % 8 = 7; omega), sout_B]
    exact step m c ⟨n + 1, hn⟩ _ i j (acc_eq c n _ (by omega) i j)

/-- The result's entries: the sum over all rows. -/
theorem res_apply (c : Dev nD) (i j : Fin 1024) : res m c (ix2 i j) = ∑ r, term m c i j r := by
  unfold res k0_pay3
  simp only [shapeCast_self]
  show k0_pay2 (accBefore m c) (iblk m c 0 tLast) (iblk m c 1 tLast) (ix2 i j) = _
  rw [step m c tLast (accBefore m c) i j (acc_eq m c 6 _ (by decide) i j)]
  exact Cert.Blocks.upTo_all _

end Cert.WgradOutIdeal.Last

end
-- ==== Proof.WgradOut.Claim.lean ====
/-
  The output projection's weight gradient equals the reference's over the reals: both are, entry by entry, the sum over
  all rows of the products.
-/
module

public import proofs.«01_k».proof.Proof.WgradOut.Value
public import proofs.«01_k».proof.Defs

@[expose] public section

set_option maxRecDepth 16384

noncomputable section

namespace Cert.WgradOutIdeal.Last

open Idealize.ShloMosaic Idealize.ShloMosaic.TcCoe Idealize.ShloMosaic.ValueIdx Idealize.SL.Sem
open scoped BigOperators

/-- The reference's result, at arguments equal to the kernel's, is the kernel's. -/
theorem ref_eq (x y : Cert.WgradOutRefIdeal.S8192x1024.Idx → EReal) (r : Cert.WgradOutIdeal.S1024x1024.Idx → EReal)
    (h : ∀ i j : Fin 1024, r (ix2 i j) = ∑ k : Fin 8192, x (ix2 k i) * y (ix2 k j)) :
    truncf (F := Ideal) .bf16 (transpose Cert.WgradOutRefIdeal.S1024x1024 [1, 0]
      (Host.dotGeneral (F := Ideal) (φ₁ := .f32) (φ₂ := .f32) Cert.WgradOutRefIdeal.dot_S8192x1024_S8192x1024_S1024x1024_0_0_1_1_n_n none y x)
      Cert.WgradOutRefIdeal.Gen.facts.transposes_S1024x1024_S1024x1024_1_0) Cert.WgradOutRefIdeal.Gen.facts.bitsLt_bf16_f32 = r := by
  refine Cert.Products.ext2 fun i j => Eq.trans ?_ (h i j).symm
  refine (transpose_ix2_apply _ _ _ _).trans ((Cert.Products.dot_tn (φ₁ := .f32) (φ₂ := .f32) rfl none y x _ _).trans ?_)
  exact Finset.sum_congr rfl fun k _ => mul_comm _ _

theorem algebraic : Cert.algebraic_WgradOutIdeal_WgradOutRefIdeal (hWgradOutIdeal := Cert.WgradOutIdeal.Gen.facts)
    (hWgradOutRefIdeal := Cert.WgradOutRefIdeal.Gen.facts) := by
  intro m g m' g' _ hargs
  refine ⟨fun c => res m c, ?_, ?_⟩
  · exact (θ_run _ _ _).mono (fun _ h c => ⟨h.1 c, h.2 c⟩) (θ_run_and (run_res m g) (Cert.WgradOutIdeal.Gen.unchanged m g))
  · refine (θ_run _ _ _).mono (fun _ h c => ⟨(h c).1.trans ?_, (h c).2⟩) (Cert.WgradOutRefIdeal.Value.run m' g')
    rw [(hargs c).1, (hargs c).2]
    exact ref_eq (argL m c) (argR m c) _ (res_apply m c)

end Cert.WgradOutIdeal.Last

end
-- ==== Proof.Lib.Adam.lean ====
/-
  The optimiser's step at the ideal instance, entry by entry, and the sum of the eight received parts of a gradient.  The
  kernel spells the step with spread constants and the host with arrays broadcast from scalars; both are the same numbers.
-/
module

public import Idealize.ShloMosaic.PureOps.Ideal.Laws
public import Idealize.ShloMosaic.Lib.ValueLayout
public import Idealize.ShloMosaic.Lib.IdealHost
import Idealize.ShloMosaic.Lib.Pointwise.Reduce
public import Idealize.ShloMosaic.Lib.Pipeline.Value
public import Idealize.ShloMosaic.Lib.Pipeline.ValueKit.Tiles
public import proofs.«01_k».proof.Proof.Lib.Products

@[expose] public section

noncomputable section

namespace Cert.Adam

open Idealize.ShloMosaic hiding ix2 ix3
open Idealize.ShloMosaic.ValueIdx
open scoped BigOperators

/-- One entry of the new first moment, from the gradient and the old moment. -/
def step1 (g m : EReal) : EReal := Ideal.ofBits .f32 0x3F666666#32 * m + Ideal.ofBits .f32 0x3DCCCCCD#32 * g
/-- One entry of the new second moment. -/
def step2 (g v : EReal) : EReal := Ideal.ofBits .f32 0x3F7FBE77#32 * v + Ideal.ofBits .f32 0x3A83126F#32 * (g * g)
/-- One entry of the weight's change. -/
def change (g w m v : EReal) : EReal :=
  Ideal.ofBits .f32 0xBA83126F#32
    * (Ideal.div (Ideal.div (step1 g m) (Ideal.ofBits .f32 0x3F26BD02#32))
          (Ideal.sqrt (Ideal.div (step2 g v) (Ideal.ofBits .f32 0x3C231ACC#32)) + Ideal.ofBits .f32 0x322BCC77#32)
        + Ideal.ofBits .f32 0x3C23D70A#32 * w)

variable {S : Shape}

/-- The new first moment of a whole weight. -/
def moment1 (g m : FVec Ideal S .f32) : FVec Ideal S .f32 := fun i => step1 (g i) (m i)
/-- The new second moment of a whole weight. -/
def moment2 (g v : FVec Ideal S .f32) : FVec Ideal S .f32 := fun i => step2 (g i) (v i)
/-- The change of a whole weight. -/
def delta (g w m v : FVec Ideal S .f32) : FVec Ideal S .f32 := fun i => change (g i) (w i) (m i) (v i)

section host

variable (hb : (⟨0, ![]⟩ : Shape).BroadcastsInDim S ![]) {g g' w w' m m' v v' : FVec Ideal S .f32}

/-- A scalar's word spread by the host. -/
abbrev spread (k : BitVec 32) : FVec Ideal S .f32 := broadcastInDim S ![] hb (constant (⟨0, ![]⟩ : Shape) .f32 k)

/-- The host's new first moment, as it is composed. -/
abbrev host1 (g m : FVec Ideal S .f32) : FVec Ideal S .f32 :=
  addf (mulf (spread hb 0x3F666666#32) m) (mulf (spread hb 0x3DCCCCCD#32) g)
/-- The host's new second moment. -/
abbrev host2 (g v : FVec Ideal S .f32) : FVec Ideal S .f32 :=
  addf (mulf (spread hb 0x3F7FBE77#32) v) (mulf (spread hb 0x3A83126F#32) (mulf g g))
/-- The host's change. -/
abbrev hostD (g w m v : FVec Ideal S .f32) : FVec Ideal S .f32 :=
  mulf (spread hb 0xBA83126F#32)
    (addf (Host.divf (Host.divf (host1 hb g m) (spread hb 0x3F26BD02#32))
        (addf (Host.sqrt (Host.divf (host2 hb g v) (spread hb 0x3C231ACC#32))) (spread hb 0x322BCC77#32)))
      (mulf (spread hb 0x3C23D70A#32) w))

/-- The host's new first moment, of arguments that agree. -/
theorem host1_eq (hg : g' = g) (hm : m' = m) : host1 hb g' m' = moment1 g m := by
  subst hg hm; exact funext fun _ => rfl
/-- The host's new second moment. -/
theorem host2_eq (hg : g' = g) (hv : v' = v) : host2 hb g' v' = moment2 g v := by
  subst hg hv; exact funext fun _ => rfl
/-- The host's change. -/
theorem hostD_eq (hg : g' = g) (hw : w' = w) (hm : m' = m) (hv : v' = v) : hostD hb g' w' m' v' = delta g w m v := by
  subst hg hw hm hv; exact funext fun _ => rfl

end host

variable {a b : ℕ}

/-- The sum of the eight received parts. -/
def total (p : (⟨3, ![8, a, b]⟩ : Shape).Idx → EReal) : (⟨2, ![a, b]⟩ : Shape).Idx → EReal := fun i => ∑ s : Fin 8, p (ix3 s (i 0) (i 1))

/-- The host's sum of the parts. -/
theorem hostSum_eq {p p' : FVec Ideal ⟨3, ![8, a, b]⟩ .f32} (h : (⟨3, ![8, a, b]⟩ : Shape).ReducesTo [0] ⟨2, ![a, b]⟩) (hu : 0 < (⟨0, ![]⟩ : Shape).numel)
    (hp : p' = p) : Host.reduceAdd p' (constant (⟨0, ![]⟩ : Shape) .f32 0x00000000#32) h hu = total p := by
  subst hp
  refine Cert.Products.ext2 fun i j => ?_
  rw [hostReduceAdd_apply, Ideal.hostReduceAdd_r3_a0]
  show Ideal.ofBits .f32 0x00000000#32 + _ = _
  rw [Ideal.ofBits_zero_f32, zero_add]
  refine Finset.sum_congr rfl fun k _ => congrArg p' (funext fun d => ?_)
  match d with
  | ⟨0, _⟩ => rfl
  | ⟨1, _⟩ => rfl
  | ⟨2, _⟩ => rfl

/-- One part, loaded as a slab, read at an entry. -/
theorem slab_apply (x : Vec Ideal ⟨3, ![8, a, b]⟩ .bf16) (k : Fin 8) {off : Fin 3 → ℕ} (ho : off = ![k.val, 0, 0])
    (inb : ∀ d, off d + (![1, a, b] : Fin 3 → ℕ) d ≤ (![8, a, b] : Fin 3 → ℕ) d)
    (h : (⟨3, ![1, a, b]⟩ : Shape).ShapeCasts ⟨2, ![a, b]⟩) (i : Fin a) (j : Fin b) :
    shapeCast ⟨2, ![a, b]⟩ (View.ld (S := ⟨3, ![8, a, b]⟩) x (Rect.unit off ![1, a, b] inb)) h (ix2 i j) = x (ix3 k i j) := by
  subst ho
  refine (shapeCast_1ab_ab_apply _ _ _ _).trans (View.ld_unit_apply_of x _ _ _ _ _ fun d => ?_)
  match d with
  | ⟨0, _⟩ => rfl
  | ⟨1, _⟩ => show i.val = 0 + i.val; omega
  | ⟨2, _⟩ => show j.val = 0 + j.val; omega

/-- One part, loaded as a slab, laid out as a matrix and widened. -/
abbrev slab (x : Vec Ideal ⟨3, ![8, a, b]⟩ .bf16) (h : (⟨3, ![1, a, b]⟩ : Shape).ShapeCasts ⟨2, ![a, b]⟩) (hw : FTy.bf16.bits < FTy.f32.bits) (off : Fin 3 → ℕ)
    (inb : ∀ d, off d + (![1, a, b] : Fin 3 → ℕ) d ≤ (![8, a, b] : Fin 3 → ℕ) d) : FVec Ideal ⟨2, ![a, b]⟩ .f32 :=
  extf .f32 (shapeCast ⟨2, ![a, b]⟩ (View.ld (S := ⟨3, ![8, a, b]⟩) x (Rect.unit off ![1, a, b] inb)) h) hw

/-- The kernel's sum of the parts: the slabs are loaded one after the other, widened and added up. -/
theorem chain_eq (x : Vec Ideal ⟨3, ![8, a, b]⟩ .bf16) (h : (⟨3, ![1, a, b]⟩ : Shape).ShapeCasts ⟨2, ![a, b]⟩) (hw : FTy.bf16.bits < FTy.f32.bits)
    (i0 : ∀ d, (![0, 0, 0] : Fin 3 → ℕ) d + (![1, a, b] : Fin 3 → ℕ) d ≤ (![8, a, b] : Fin 3 → ℕ) d)
    (i1 : ∀ d, (![1, 0, 0] : Fin 3 → ℕ) d + (![1, a, b] : Fin 3 → ℕ) d ≤ (![8, a, b] : Fin 3 → ℕ) d)
    (i2 : ∀ d, (![2, 0, 0] : Fin 3 → ℕ) d + (![1, a, b] : Fin 3 → ℕ) d ≤ (![8, a, b] : Fin 3 → ℕ) d)
    (i3 : ∀ d, (![3, 0, 0] : Fin 3 → ℕ) d + (![1, a, b] : Fin 3 → ℕ) d ≤ (![8, a, b] : Fin 3 → ℕ) d)
    (i4 : ∀ d, (![4, 0, 0] : Fin 3 → ℕ) d + (![1, a, b] : Fin 3 → ℕ) d ≤ (![8, a, b] : Fin 3 → ℕ) d)
    (i5 : ∀ d, (![5, 0, 0] : Fin 3 → ℕ) d + (![1, a, b] : Fin 3 → ℕ) d ≤ (![8, a, b] : Fin 3 → ℕ) d)
    (i6 : ∀ d, (![6, 0, 0] : Fin 3 → ℕ) d + (![1, a, b] : Fin 3 → ℕ) d ≤ (![8, a, b] : Fin 3 → ℕ) d)
    (i7 : ∀ d, (![7, 0, 0] : Fin 3 → ℕ) d + (![1, a, b] : Fin 3 → ℕ) d ≤ (![8, a, b] : Fin 3 → ℕ) d) :
    addf (addf (addf (addf (addf (addf (addf (slab x h hw ![0, 0, 0] i0) (slab x h hw ![1, 0, 0] i1)) (slab x h hw ![2, 0, 0] i2))
      (slab x h hw ![3, 0, 0] i3)) (slab x h hw ![4, 0, 0] i4)) (slab x h hw ![5, 0, 0] i5)) (slab x h hw ![6, 0, 0] i6)) (slab x h hw ![7, 0, 0] i7)
      = total x := by
  refine Cert.Products.ext2 fun i j => Eq.symm ?_
  refine (Fin.sum_univ_eight fun k : Fin 8 => (x (ix3 k i j) : EReal)).trans ?_
  refine congrArg₂ (fun p q : EReal => p + q) (congrArg₂ (fun p q : EReal => p + q) (congrArg₂ (fun p q : EReal => p + q)
    (congrArg₂ (fun p q : EReal => p + q) (congrArg₂ (fun p q : EReal => p + q) (congrArg₂ (fun p q : EReal => p + q)
    (congrArg₂ (fun p q : EReal => p + q) ?_ ?_) ?_) ?_) ?_) ?_) ?_) ?_
  · exact (slab_apply x 0 rfl i0 h i j).symm
  · exact (slab_apply x 1 rfl i1 h i j).symm
  · exact (slab_apply x 2 rfl i2 h i j).symm
  · exact (slab_apply x 3 rfl i3 h i j).symm
  · exact (slab_apply x 4 rfl i4 h i j).symm
  · exact (slab_apply x 5 rfl i5 h i j).symm
  · exact (slab_apply x 6 rfl i6 h i j).symm
  · exact (slab_apply x 7 rfl i7 h i j).symm

end Cert.Adam

end
-- ==== Proof.AdamUp.Value.lean ====
/-
  The optimiser's step for `w_up` over the reals: the four arrays after the run.  A point takes a block of rows of the
  weight, its moments and the eight parts of its gradient, and writes the same rows of the four results.
-/
module

public import proofs.«01_k».proof.Proof.Lib.Adam
public import proofs.«01_k».proof.Proof.Lib.Whole
public import proofs.«01_k».proof.Proof.Gen.AdamUpIdeal.Value
public import Idealize.ShloMosaic.Lib.StableHlo.Run

@[expose] public section

set_option maxRecDepth 16384

noncomputable section

namespace Cert.AdamUpIdeal.Rows

open Cert.AdamUpIdeal Cert.AdamUpIdeal.Gen Cert.Adam
open Idealize.ShloMosaic Idealize.ShloMosaic.TcCoe Idealize.ShloMosaic.ValueIdx Idealize.SL.Sem
open scoped BigOperators

section point

variable (x0 : Vec Ideal S8x256x512 .bf16) (x1 x2 x3 : Vec Ideal S256x512 .f32)

/-- A point's first payload: the sum of the parts' rows. -/
theorem sum_eq : k0_pay4 (View.ld x0 r0_0) (View.ld x0 r0_1) (View.ld x0 r0_2) (View.ld x0 r0_3) (View.ld x0 r0_4) (View.ld x0 r0_5)
    (View.ld x0 r0_6) (View.ld x0 r0_7) = total x0 :=
  chain_eq x0 shapeCasts_S1x256x512_S256x512 bitsLt_bf16_f32 _ _ _ _ _ _ _ _

theorem pay5_eq : k0_pay5 x0 x1 x2 x3 = total x0 := by
  unfold k0_pay5; exact sum_eq x0

/-- The rows of the gradient. -/
theorem out4_eq : out0_4 x0 x1 x2 x3 = total x0 := by
  unfold out0_4
  rw [View.canon_unit_zero (S := S256x512) Cert.Whole.hz2, sum_eq]
/-- The rows of the change. -/
theorem out5_eq : out0_5 x0 x1 x2 x3 = delta (total x0) x1 x2 x3 := by
  unfold out0_5
  rw [View.canon_unit_zero (S := S256x512) Cert.Whole.hz2, pay5_eq]
  simp only [View.ld_unit_zero (S := S256x512) Cert.Whole.hz2]
  exact funext fun _ => rfl
/-- The rows of the new first moment. -/
theorem out6_eq : out0_6 x0 x1 x2 x3 = moment1 (total x0) x2 := by
  unfold out0_6
  rw [View.canon_unit_zero (S := S256x512) Cert.Whole.hz2, pay5_eq]
  simp only [View.ld_unit_zero (S := S256x512) Cert.Whole.hz2]
  exact funext fun _ => rfl
/-- The rows of the new second moment. -/
theorem out7_eq : out0_7 x0 x1 x2 x3 = moment2 (total x0) x3 := by
  unfold out0_7
  rw [View.canon_unit_zero (S := S256x512) Cert.Whole.hz2, pay5_eq]
  simp only [View.ld_unit_zero (S := S256x512) Cert.Whole.hz2]
  exact funext fun _ => rfl

end point

variable (m : (ℓ : Loc nD τ sig) → Buf (Elt Ideal) ℓ)

/-- The eight received parts of the gradient. -/
abbrev argP (c : Dev nD) : FVec Ideal S8x1024x512 .f32 := m ((c : Thread nD τ).loc main_arg0)
/-- The weight. -/
abbrev argW (c : Dev nD) : FVec Ideal S1024x512 .f32 := m ((c : Thread nD τ).loc main_arg1)
/-- Its first moment. -/
abbrev argM (c : Dev nD) : FVec Ideal S1024x512 .f32 := m ((c : Thread nD τ).loc main_arg2)
/-- Its second moment. -/
abbrev argV (c : Dev nD) : FVec Ideal S1024x512 .f32 := m ((c : Thread nD τ).loc main_arg3)

/-- The parts' block at a point: the point's rows of every part, -/
theorem idxP : ∀ t : Fin cfg0.N, win0_0.index t 0 = 0 ∧ win0_0.index t 1 = t.val ∧ win0_0.index t 2 = 0 := by decide +kernel
/-- and the other inputs' blocks: the point's rows, -/
theorem idxI : ∀ t : Fin cfg0.N, (win0_1.index t 0 = t.val ∧ win0_1.index t 1 = 0) ∧ (win0_2.index t 0 = t.val ∧ win0_2.index t 1 = 0)
    ∧ (win0_3.index t 0 = t.val ∧ win0_3.index t 1 = 0) := by decide +kernel
/-- as the results' are; -/
theorem idxO : ∀ t : Fin cfg0.N, (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0) := by decide +kernel
/-- every point writes its four blocks back. -/
theorem flushes : ∀ t : Fin cfg0.N, (cfg0.win 4).flush t = true ∧ (cfg0.win 5).flush t = true ∧ (cfg0.win 6).flush t = true
    ∧ (cfg0.win 7).flush t = true := by decide +kernel

/-- Row `r` of point `t`'s block. -/
def rowOf (t : Fin cfg0.N) (r : Fin 256) : Fin 1024 := ⟨256 * t.val + r.val, by
  have := lt_of_lt_of_eq t.isLt (show cfg0.N = 4 from N_0); omega⟩
/-- The point of row `R`'s block. -/
def pt (R : Fin 1024) : Fin cfg0.N := ⟨R.val / 256, by rw [show cfg0.N = 4 from N_0]; omega⟩
/-- The place of row `R` in its block. -/
def off (R : Fin 1024) : Fin 256 := ⟨R.val % 256, Nat.mod_lt _ (by decide)⟩
theorem rowOf_pt (R : Fin 1024) : rowOf (pt R) (off R) = R := Fin.ext (by show 256 * (R.val / 256) + R.val % 256 = R.val; omega)

/-- A point's block of an array cut into blocks of rows: where its rows lie. -/
theorem row_idx {i : S1024x512.Idx} {i0 i1 : ℕ} {t : Fin cfg0.N} {r : Fin 256} {d : Fin 512} (h0 : i0 = t.val) (h1 : i1 = 0)
    (e0 : (i 0).val = i0 * 256 + 1 * r.val) (e1 : (i 1).val = i1 * 512 + 1 * d.val) : i = ix2 (rowOf t r) d := by
  subst h0 h1
  funext a
  apply Fin.ext
  match a with
  | ⟨0, _⟩ => exact e0.trans (by show t.val * 256 + 1 * r.val = 256 * t.val + r.val; omega)
  | ⟨1, _⟩ => exact e1.trans (by show 0 * 512 + 1 * d.val = d.val; omega)

/-- The parts' block. -/
theorem blkP (c : Dev nD) (t : Fin cfg0.N) (s : Fin 8) (r : Fin 256) (d : Fin 512) :
    (iblk m c 0 t (ix3 s r d) : EReal) = argP m c (ix3 s (rowOf t r) d) := by
  unfold iblk
  rw [View.read_apply]
  have hV : (V m c main_v0 : FVec Ideal S8x1024x512 .bf16) = truncf (F := Ideal) .bf16 (m ((c : Thread nD τ).loc main_arg0)) bitsLt_bf16_f32 := by
    unfold V; after_results
  show (V m c main_v0 : FVec Ideal S8x1024x512 .bf16) _ = _
  rw [hV]
  show m ((c : Thread nD τ).loc main_arg0) _ = m ((c : Thread nD τ).loc main_arg0) _
  congr 1
  funext a
  apply Fin.ext
  match a with
  | ⟨0, _⟩ => show win0_0.index t 0 * 8 + 1 * s.val = s.val; rw [(idxP t).1]; omega
  | ⟨1, _⟩ => show win0_0.index t 1 * 256 + 1 * r.val = 256 * t.val + r.val; rw [(idxP t).2.1]; omega
  | ⟨2, _⟩ => show win0_0.index t 2 * 512 + 1 * d.val = d.val; rw [(idxP t).2.2]; omega

/-- The sum of a point's block of the parts: the same rows of the sum of the parts. -/
theorem blkG (c : Dev nD) (t : Fin cfg0.N) (r : Fin 256) (d : Fin 512) :
    total (iblk m c 0 t) (ix2 r d) = total (argP m c) (ix2 (rowOf t r) d) :=
  Finset.sum_congr rfl fun s _ => blkP m c t s r d

/-- The weight's block. -/
theorem blkW (c : Dev nD) (t : Fin cfg0.N) (r : Fin 256) (d : Fin 512) : iblk m c 1 t (ix2 r d) = argW m c (ix2 (rowOf t r) d) := by
  unfold iblk
  rw [View.read_apply]
  show V m c main_arg1 _ = _
  rw [V_main_arg1]
  exact congrArg (argW m c) (row_idx (idxI t).1.1 (idxI t).1.2 rfl rfl)
/-- The first moment's block. -/
theorem blkM (c : Dev nD) (t : Fin cfg0.N) (r : Fin 256) (d : Fin 512) : iblk m c 2 t (ix2 r d) = argM m c (ix2 (rowOf t r) d) := by
  unfold iblk
  rw [View.read_apply]
  show V m c main_arg2 _ = _
  rw [V_main_arg2]
  exact congrArg (argM m c) (row_idx (idxI t).2.1.1 (idxI t).2.1.2 rfl rfl)
/-- The second moment's block. -/
theorem blkV (c : Dev nD) (t : Fin cfg0.N) (r : Fin 256) (d : Fin 512) : iblk m c 3 t (ix2 r d) = argV m c (ix2 (rowOf t r) d) := by
  unfold iblk
  rw [View.read_apply]
  show V m c main_arg3 _ = _
  rw [V_main_arg3]
  exact congrArg (argV m c) (row_idx (idxI t).2.2.1 (idxI t).2.2.2 rfl rfl)

/-- The gradient. -/
theorem arr4_eq (c : Dev nD) : (dats m 0 c).arrAt 4 cfg0.N = total (argP m c) := by
  refine Cert.Products.ext2 fun R d => ?_
  have hb := congrFun (Value.blocks4 m c (pt R) (flushes _).1) (ix2 (off R) d)
  rw [View.read_apply, Value.flushed4, show ((cfg0.win 4).blk (pt R)).view.emb (ix2 (off R) d) = (ix2 (rowOf (pt R) (off R)) d : S1024x512.Idx) from
    row_idx (idxO _).1.1 (idxO _).1.2 rfl rfl, rowOf_pt] at hb
  refine hb.trans ((congrFun (out4_eq _ _ _ _) (ix2 (off R) d)).trans ?_)
  exact (blkG m c (pt R) (off R) d).trans (by rw [rowOf_pt])

/-- The change. -/
theorem arr5_eq (c : Dev nD) : (dats m 0 c).arrAt 5 cfg0.N = delta (total (argP m c)) (argW m c) (argM m c) (argV m c) := by
  refine Cert.Products.ext2 fun R d => ?_
  have hb := congrFun (Value.blocks5 m c (pt R) (flushes _).2.1) (ix2 (off R) d)
  rw [View.read_apply, Value.flushed5, show ((cfg0.win 5).blk (pt R)).view.emb (ix2 (off R) d) = (ix2 (rowOf (pt R) (off R)) d : S1024x512.Idx) from
    row_idx (idxO _).2.1.1 (idxO _).2.1.2 rfl rfl, rowOf_pt] at hb
  refine hb.trans ((congrFun (out5_eq _ _ _ _) (ix2 (off R) d)).trans ?_)
  show change (total (iblk m c 0 (pt R)) (ix2 (off R) d)) (iblk m c 1 (pt R) (ix2 (off R) d)) (iblk m c 2 (pt R) (ix2 (off R) d))
    (iblk m c 3 (pt R) (ix2 (off R) d)) = change _ _ _ _
  rw [blkG, blkW, blkM, blkV, rowOf_pt]

/-- The new first moment. -/
theorem arr6_eq (c : Dev nD) : (dats m 0 c).arrAt 6 cfg0.N = moment1 (total (argP m c)) (argM m c) := by
  refine Cert.Products.ext2 fun R d => ?_
  have hb := congrFun (Value.blocks6 m c (pt R) (flushes _).2.2.1) (ix2 (off R) d)
  rw [View.read_apply, Value.flushed6, show ((cfg0.win 6).blk (pt R)).view.emb (ix2 (off R) d) = (ix2 (rowOf (pt R) (off R)) d : S1024x512.Idx) from
    row_idx (idxO _).2.2.1.1 (idxO _).2.2.1.2 rfl rfl, rowOf_pt] at hb
  refine hb.trans ((congrFun (out6_eq _ _ _ _) (ix2 (off R) d)).trans ?_)
  show step1 (total (iblk m c 0 (pt R)) (ix2 (off R) d)) (iblk m c 2 (pt R) (ix2 (off R) d)) = step1 _ _
  rw [blkG, blkM, rowOf_pt]

/-- The new second moment. -/
theorem arr7_eq (c : Dev nD) : (dats m 0 c).arrAt 7 cfg0.N = moment2 (total (argP m c)) (argV m c) := by
  refine Cert.Products.ext2 fun R d => ?_
  have hb := congrFun (Value.blocks7 m c (pt R) (flushes _).2.2.2) (ix2 (off R) d)
  rw [View.read_apply, Value.flushed7, show ((cfg0.win 7).blk (pt R)).view.emb (ix2 (off R) d) = (ix2 (rowOf (pt R) (off R)) d : S1024x512.Idx) from
    row_idx (idxO _).2.2.2.1 (idxO _).2.2.2.2 rfl rfl, rowOf_pt] at hb
  refine hb.trans ((congrFun (out7_eq _ _ _ _) (ix2 (off R) d)).trans ?_)
  show step2 (total (iblk m c 0 (pt R)) (ix2 (off R) d)) (iblk m c 3 (pt R) (ix2 (off R) d)) = step2 _ _
  rw [blkG, blkV, rowOf_pt]

end Cert.AdamUpIdeal.Rows

end
-- ==== Proof.AdamUp.Claim.lean ====
/-
  The optimiser's step for `w_up` equals the reference's over the reals: the gradient is the sum of the eight parts, and the
  moments and the change are the same expressions of it.
-/
module

public import proofs.«01_k».proof.Proof.AdamUp.Value
public import proofs.«01_k».proof.Proof.Gen.AdamUpRefIdeal.Run
public import proofs.«01_k».proof.Defs

@[expose] public section

set_option maxRecDepth 16384

noncomputable section

namespace Cert.AdamUpIdeal.Rows

open Idealize.ShloMosaic Idealize.ShloMosaic.TcCoe Idealize.SL.Sem Cert.Adam

/-- The kernel and the reference end with the same four results, and neither writes an argument. -/
theorem algebraic : Cert.algebraic_AdamUpIdeal_AdamUpRefIdeal (hAdamUpIdeal := Cert.AdamUpIdeal.Gen.facts)
    (hAdamUpRefIdeal := Cert.AdamUpRefIdeal.Gen.facts) := by
  intro m g m' g' _ hargs
  refine ⟨fun c => total (argP m c), fun c => delta (total (argP m c)) (argW m c) (argM m c) (argV m c),
    fun c => moment1 (total (argP m c)) (argM m c), fun c => moment2 (total (argP m c)) (argV m c), ?_, ?_⟩
  · exact (θ_run _ _ _).mono (fun _ h c => ⟨(h c).1.trans (arr4_eq m c), (h c).2.1.trans (arr5_eq m c), (h c).2.2.1.trans (arr6_eq m c),
      (h c).2.2.2.1.trans (arr7_eq m c), (h c).2.2.2.2⟩) (Value.run_blocks m g)
  · refine (θ_run _ _ _).mono (fun _ h c => ?_) (Cert.AdamUpRefIdeal.Value.run m' g')
    obtain ⟨hp, hw, hm, hv⟩ := hargs c
    exact ⟨(h c).1.trans (hostSum_eq _ _ hp), (h c).2.1.trans (hostD_eq _ (hostSum_eq _ _ hp) hw hm hv), (h c).2.2.1.trans (host1_eq _ (hostSum_eq _ _ hp) hm), (h c).2.2.2.1.trans (host2_eq _ (hostSum_eq _ _ hp) hv),
      (h c).2.2.2.2⟩

end Cert.AdamUpIdeal.Rows

end
-- ==== Proof.AdamDown.Value.lean ====
/-
  The optimiser's step for `w_down` over the reals: the four arrays after the run.  A point takes a block of rows of the
  weight, its moments and the eight parts of its gradient, and writes the same rows of the four results.
-/
module

public import proofs.«01_k».proof.Proof.Lib.Adam
public import proofs.«01_k».proof.Proof.Lib.Whole
public import proofs.«01_k».proof.Proof.Gen.AdamDownIdeal.Value
public import Idealize.ShloMosaic.Lib.StableHlo.Run

@[expose] public section

set_option maxRecDepth 16384

noncomputable section

namespace Cert.AdamDownIdeal.Rows

open Cert.AdamDownIdeal Cert.AdamDownIdeal.Gen Cert.Adam
open Idealize.ShloMosaic Idealize.ShloMosaic.TcCoe Idealize.ShloMosaic.ValueIdx Idealize.SL.Sem
open scoped BigOperators

section point

variable (x0 : Vec Ideal S8x256x1024 .bf16) (x1 x2 x3 : Vec Ideal S256x1024 .f32)

/-- A point's first payload: the sum of the parts' rows. -/
theorem sum_eq : k0_pay4 (View.ld x0 r0_0) (View.ld x0 r0_1) (View.ld x0 r0_2) (View.ld x0 r0_3) (View.ld x0 r0_4) (View.ld x0 r0_5)
    (View.ld x0 r0_6) (View.ld x0 r0_7) = total x0 :=
  chain_eq x0 shapeCasts_S1x256x1024_S256x1024 bitsLt_bf16_f32 _ _ _ _ _ _ _ _

theorem pay5_eq : k0_pay5 x0 x1 x2 x3 = total x0 := by
  unfold k0_pay5; exact sum_eq x0

/-- The rows of the gradient. -/
theorem out4_eq : out0_4 x0 x1 x2 x3 = total x0 := by
  unfold out0_4
  rw [View.canon_unit_zero (S := S256x1024) Cert.Whole.hz2, sum_eq]
/-- The rows of the change. -/
theorem out5_eq : out0_5 x0 x1 x2 x3 = delta (total x0) x1 x2 x3 := by
  unfold out0_5
  rw [View.canon_unit_zero (S := S256x1024) Cert.Whole.hz2, pay5_eq]
  simp only [View.ld_unit_zero (S := S256x1024) Cert.Whole.hz2]
  exact funext fun _ => rfl
/-- The rows of the new first moment. -/
theorem out6_eq : out0_6 x0 x1 x2 x3 = moment1 (total x0) x2 := by
  unfold out0_6
  rw [View.canon_unit_zero (S := S256x1024) Cert.Whole.hz2, pay5_eq]
  simp only [View.ld_unit_zero (S := S256x1024) Cert.Whole.hz2]
  exact funext fun _ => rfl
/-- The rows of the new second moment. -/
theorem out7_eq : out0_7 x0 x1 x2 x3 = moment2 (total x0) x3 := by
  unfold out0_7
  rw [View.canon_unit_zero (S := S256x1024) Cert.Whole.hz2, pay5_eq]
  simp only [View.ld_unit_zero (S := S256x1024) Cert.Whole.hz2]
  exact funext fun _ => rfl

end point

variable (m : (ℓ : Loc nD τ sig) → Buf (Elt Ideal) ℓ)

/-- The eight received parts of the gradient. -/
abbrev argP (c : Dev nD) : FVec Ideal S8x512x1024 .f32 := m ((c : Thread nD τ).loc main_arg0)
/-- The weight. -/
abbrev argW (c : Dev nD) : FVec Ideal S512x1024 .f32 := m ((c : Thread nD τ).loc main_arg1)
/-- Its first moment. -/
abbrev argM (c : Dev nD) : FVec Ideal S512x1024 .f32 := m ((c : Thread nD τ).loc main_arg2)
/-- Its second moment. -/
abbrev argV (c : Dev nD) : FVec Ideal S512x1024 .f32 := m ((c : Thread nD τ).loc main_arg3)

/-- The parts' block at a point: the point's rows of every part, -/
theorem idxP : ∀ t : Fin cfg0.N, win0_0.index t 0 = 0 ∧ win0_0.index t 1 = t.val ∧ win0_0.index t 2 = 0 := by decide +kernel
/-- and the other inputs' blocks: the point's rows, -/
theorem idxI : ∀ t : Fin cfg0.N, (win0_1.index t 0 = t.val ∧ win0_1.index t 1 = 0) ∧ (win0_2.index t 0 = t.val ∧ win0_2.index t 1 = 0)
    ∧ (win0_3.index t 0 = t.val ∧ win0_3.index t 1 = 0) := by decide +kernel
/-- as the results' are; -/
theorem idxO : ∀ t : Fin cfg0.N, (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0) := by decide +kernel
/-- every point writes its four blocks back. -/
theorem flushes : ∀ t : Fin cfg0.N, (cfg0.win 4).flush t = true ∧ (cfg0.win 5).flush t = true ∧ (cfg0.win 6).flush t = true
    ∧ (cfg0.win 7).flush t = true := by decide +kernel

/-- Row `r` of point `t`'s block. -/
def rowOf (t : Fin cfg0.N) (r : Fin 256) : Fin 512 := ⟨256 * t.val + r.val, by
  have := lt_of_lt_of_eq t.isLt (show cfg0.N = 2 from N_0); omega⟩
/-- The point of row `R`'s block. -/
def pt (R : Fin 512) : Fin cfg0.N := ⟨R.val / 256, by rw [show cfg0.N = 2 from N_0]; omega⟩
/-- The place of row `R` in its block. -/
def off (R : Fin 512) : Fin 256 := ⟨R.val % 256, Nat.mod_lt _ (by decide)⟩
theorem rowOf_pt (R : Fin 512) : rowOf (pt R) (off R) = R := Fin.ext (by show 256 * (R.val / 256) + R.val % 256 = R.val; omega)

/-- A point's block of an array cut into blocks of rows: where its rows lie. -/
theorem row_idx {i : S512x1024.Idx} {i0 i1 : ℕ} {t : Fin cfg0.N} {r : Fin 256} {d : Fin 1024} (h0 : i0 = t.val) (h1 : i1 = 0)
    (e0 : (i 0).val = i0 * 256 + 1 * r.val) (e1 : (i 1).val = i1 * 1024 + 1 * d.val) : i = ix2 (rowOf t r) d := by
  subst h0 h1
  funext a
  apply Fin.ext
  match a with
  | ⟨0, _⟩ => exact e0.trans (by show t.val * 256 + 1 * r.val = 256 * t.val + r.val; omega)
  | ⟨1, _⟩ => exact e1.trans (by show 0 * 1024 + 1 * d.val = d.val; omega)

/-- The parts' block. -/
theorem blkP (c : Dev nD) (t : Fin cfg0.N) (s : Fin 8) (r : Fin 256) (d : Fin 1024) :
    (iblk m c 0 t (ix3 s r d) : EReal) = argP m c (ix3 s (rowOf t r) d) := by
  unfold iblk
  rw [View.read_apply]
  have hV : (V m c main_v0 : FVec Ideal S8x512x1024 .bf16) = truncf (F := Ideal) .bf16 (m ((c : Thread nD τ).loc main_arg0)) bitsLt_bf16_f32 := by
    unfold V; after_results
  show (V m c main_v0 : FVec Ideal S8x512x1024 .bf16) _ = _
  rw [hV]
  show m ((c : Thread nD τ).loc main_arg0) _ = m ((c : Thread nD τ).loc main_arg0) _
  congr 1
  funext a
  apply Fin.ext
  match a with
  | ⟨0, _⟩ => show win0_0.index t 0 * 8 + 1 * s.val = s.val; rw [(idxP t).1]; omega
  | ⟨1, _⟩ => show win0_0.index t 1 * 256 + 1 * r.val = 256 * t.val + r.val; rw [(idxP t).2.1]; omega
  | ⟨2, _⟩ => show win0_0.index t 2 * 1024 + 1 * d.val = d.val; rw [(idxP t).2.2]; omega

/-- The sum of a point's block of the parts: the same rows of the sum of the parts. -/
theorem blkG (c : Dev nD) (t : Fin cfg0.N) (r : Fin 256) (d : Fin 1024) :
    total (iblk m c 0 t) (ix2 r d) = total (argP m c) (ix2 (rowOf t r) d) :=
  Finset.sum_congr rfl fun s _ => blkP m c t s r d

/-- The weight's block. -/
theorem blkW (c : Dev nD) (t : Fin cfg0.N) (r : Fin 256) (d : Fin 1024) : iblk m c 1 t (ix2 r d) = argW m c (ix2 (rowOf t r) d) := by
  unfold iblk
  rw [View.read_apply]
  show V m c main_arg1 _ = _
  rw [V_main_arg1]
  exact congrArg (argW m c) (row_idx (idxI t).1.1 (idxI t).1.2 rfl rfl)
/-- The first moment's block. -/
theorem blkM (c : Dev nD) (t : Fin cfg0.N) (r : Fin 256) (d : Fin 1024) : iblk m c 2 t (ix2 r d) = argM m c (ix2 (rowOf t r) d) := by
  unfold iblk
  rw [View.read_apply]
  show V m c main_arg2 _ = _
  rw [V_main_arg2]
  exact congrArg (argM m c) (row_idx (idxI t).2.1.1 (idxI t).2.1.2 rfl rfl)
/-- The second moment's block. -/
theorem blkV (c : Dev nD) (t : Fin cfg0.N) (r : Fin 256) (d : Fin 1024) : iblk m c 3 t (ix2 r d) = argV m c (ix2 (rowOf t r) d) := by
  unfold iblk
  rw [View.read_apply]
  show V m c main_arg3 _ = _
  rw [V_main_arg3]
  exact congrArg (argV m c) (row_idx (idxI t).2.2.1 (idxI t).2.2.2 rfl rfl)

/-- The gradient. -/
theorem arr4_eq (c : Dev nD) : (dats m 0 c).arrAt 4 cfg0.N = total (argP m c) := by
  refine Cert.Products.ext2 fun R d => ?_
  have hb := congrFun (Value.blocks4 m c (pt R) (flushes _).1) (ix2 (off R) d)
  rw [View.read_apply, Value.flushed4, show ((cfg0.win 4).blk (pt R)).view.emb (ix2 (off R) d) = (ix2 (rowOf (pt R) (off R)) d : S512x1024.Idx) from
    row_idx (idxO _).1.1 (idxO _).1.2 rfl rfl, rowOf_pt] at hb
  refine hb.trans ((congrFun (out4_eq _ _ _ _) (ix2 (off R) d)).trans ?_)
  exact (blkG m c (pt R) (off R) d).trans (by rw [rowOf_pt])

/-- The change. -/
theorem arr5_eq (c : Dev nD) : (dats m 0 c).arrAt 5 cfg0.N = delta (total (argP m c)) (argW m c) (argM m c) (argV m c) := by
  refine Cert.Products.ext2 fun R d => ?_
  have hb := congrFun (Value.blocks5 m c (pt R) (flushes _).2.1) (ix2 (off R) d)
  rw [View.read_apply, Value.flushed5, show ((cfg0.win 5).blk (pt R)).view.emb (ix2 (off R) d) = (ix2 (rowOf (pt R) (off R)) d : S512x1024.Idx) from
    row_idx (idxO _).2.1.1 (idxO _).2.1.2 rfl rfl, rowOf_pt] at hb
  refine hb.trans ((congrFun (out5_eq _ _ _ _) (ix2 (off R) d)).trans ?_)
  show change (total (iblk m c 0 (pt R)) (ix2 (off R) d)) (iblk m c 1 (pt R) (ix2 (off R) d)) (iblk m c 2 (pt R) (ix2 (off R) d))
    (iblk m c 3 (pt R) (ix2 (off R) d)) = change _ _ _ _
  rw [blkG, blkW, blkM, blkV, rowOf_pt]

/-- The new first moment. -/
theorem arr6_eq (c : Dev nD) : (dats m 0 c).arrAt 6 cfg0.N = moment1 (total (argP m c)) (argM m c) := by
  refine Cert.Products.ext2 fun R d => ?_
  have hb := congrFun (Value.blocks6 m c (pt R) (flushes _).2.2.1) (ix2 (off R) d)
  rw [View.read_apply, Value.flushed6, show ((cfg0.win 6).blk (pt R)).view.emb (ix2 (off R) d) = (ix2 (rowOf (pt R) (off R)) d : S512x1024.Idx) from
    row_idx (idxO _).2.2.1.1 (idxO _).2.2.1.2 rfl rfl, rowOf_pt] at hb
  refine hb.trans ((congrFun (out6_eq _ _ _ _) (ix2 (off R) d)).trans ?_)
  show step1 (total (iblk m c 0 (pt R)) (ix2 (off R) d)) (iblk m c 2 (pt R) (ix2 (off R) d)) = step1 _ _
  rw [blkG, blkM, rowOf_pt]

/-- The new second moment. -/
theorem arr7_eq (c : Dev nD) : (dats m 0 c).arrAt 7 cfg0.N = moment2 (total (argP m c)) (argV m c) := by
  refine Cert.Products.ext2 fun R d => ?_
  have hb := congrFun (Value.blocks7 m c (pt R) (flushes _).2.2.2) (ix2 (off R) d)
  rw [View.read_apply, Value.flushed7, show ((cfg0.win 7).blk (pt R)).view.emb (ix2 (off R) d) = (ix2 (rowOf (pt R) (off R)) d : S512x1024.Idx) from
    row_idx (idxO _).2.2.2.1 (idxO _).2.2.2.2 rfl rfl, rowOf_pt] at hb
  refine hb.trans ((congrFun (out7_eq _ _ _ _) (ix2 (off R) d)).trans ?_)
  show step2 (total (iblk m c 0 (pt R)) (ix2 (off R) d)) (iblk m c 3 (pt R) (ix2 (off R) d)) = step2 _ _
  rw [blkG, blkV, rowOf_pt]

end Cert.AdamDownIdeal.Rows

end
-- ==== Proof.AdamDown.Claim.lean ====
/-
  The optimiser's step for `w_down` equals the reference's over the reals: the gradient is the sum of the eight parts, and the
  moments and the change are the same expressions of it.
-/
module

public import proofs.«01_k».proof.Proof.AdamDown.Value
public import proofs.«01_k».proof.Proof.Gen.AdamDownRefIdeal.Run
public import proofs.«01_k».proof.Defs

@[expose] public section

set_option maxRecDepth 16384

noncomputable section

namespace Cert.AdamDownIdeal.Rows

open Idealize.ShloMosaic Idealize.ShloMosaic.TcCoe Idealize.SL.Sem Cert.Adam

/-- The kernel and the reference end with the same four results, and neither writes an argument. -/
theorem algebraic : Cert.algebraic_AdamDownIdeal_AdamDownRefIdeal (hAdamDownIdeal := Cert.AdamDownIdeal.Gen.facts)
    (hAdamDownRefIdeal := Cert.AdamDownRefIdeal.Gen.facts) := by
  intro m g m' g' _ hargs
  refine ⟨fun c => total (argP m c), fun c => delta (total (argP m c)) (argW m c) (argM m c) (argV m c),
    fun c => moment1 (total (argP m c)) (argM m c), fun c => moment2 (total (argP m c)) (argV m c), ?_, ?_⟩
  · exact (θ_run _ _ _).mono (fun _ h c => ⟨(h c).1.trans (arr4_eq m c), (h c).2.1.trans (arr5_eq m c), (h c).2.2.1.trans (arr6_eq m c),
      (h c).2.2.2.1.trans (arr7_eq m c), (h c).2.2.2.2⟩) (Value.run_blocks m g)
  · refine (θ_run _ _ _).mono (fun _ h c => ?_) (Cert.AdamDownRefIdeal.Value.run m' g')
    obtain ⟨hp, hw, hm, hv⟩ := hargs c
    exact ⟨(h c).1.trans (hostSum_eq _ _ hp), (h c).2.1.trans (hostD_eq _ (hostSum_eq _ _ hp) hw hm hv), (h c).2.2.1.trans (host1_eq _ (hostSum_eq _ _ hp) hm), (h c).2.2.2.1.trans (host2_eq _ (hostSum_eq _ _ hp) hv),
      (h c).2.2.2.2⟩

end Cert.AdamDownIdeal.Rows

end
-- ==== Proof.AdamMedium.Frame.lean ====
/-
  The frame of the optimiser's call for the medium weights.  It is the generated frame of the program, with more steps allowed
  where the body's triple is restated over all the windows, and with each result a function of the blocks it is read off alone.
-/
module

public import proofs.«01_k».proof.Proof.Gen.AdamMediumIdeal.Launch
public import proofs.«01_k».proof.Proof.Gen.AdamMediumIdeal.Skeleton
public import proofs.«01_k».proof.Proof.Gen.AdamMediumIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.AdamMediumIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1920000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_AdamMediumIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).2 main_arg0 (Pipeline.mem_restRefs_of main_arg0 (by decide) (by decide))).trans (V_main_arg0 m c),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).2 main_arg8 (Pipeline.mem_restRefs_of main_arg8 (by decide) (by decide))).trans (V_main_arg8 m c),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).1 11).trans (((dats 0 c).arrAt_in 11 rfl _).trans ((hA c 11).trans (V_main_arg11 m c))),
      ((h c).2 main_arg12 (Pipeline.mem_restRefs_of main_arg12 (by decide) (by decide))).trans (V_main_arg12 m c),
      ((h c).1 13).trans (((dats 0 c).arrAt_in 13 rfl _).trans ((hA c 13).trans (V_main_arg13 m c))),
      ((h c).1 14).trans (((dats 0 c).arrAt_in 14 rfl _).trans ((hA c 14).trans (V_main_arg14 m c))),
      ((h c).1 15).trans (((dats 0 c).arrAt_in 15 rfl _).trans ((hA c 15).trans (V_main_arg15 m c)))⟩) h

/-! ## The body's accesses -/

abbrev r0_0 : Rect S8x192x1024 := Rect.unit (s := S8x192x1024) ![0, 0, 0] S1x192x1024.size inb_S8x192x1024_S1x192x1024_0_0_0
abbrev r0_1 : Rect S8x192x1024 := Rect.unit (s := S8x192x1024) ![1, 0, 0] S1x192x1024.size inb_S8x192x1024_S1x192x1024_1_0_0
abbrev r0_2 : Rect S8x192x1024 := Rect.unit (s := S8x192x1024) ![2, 0, 0] S1x192x1024.size inb_S8x192x1024_S1x192x1024_2_0_0
abbrev r0_3 : Rect S8x192x1024 := Rect.unit (s := S8x192x1024) ![3, 0, 0] S1x192x1024.size inb_S8x192x1024_S1x192x1024_3_0_0
abbrev r0_4 : Rect S8x192x1024 := Rect.unit (s := S8x192x1024) ![4, 0, 0] S1x192x1024.size inb_S8x192x1024_S1x192x1024_4_0_0
abbrev r0_5 : Rect S8x192x1024 := Rect.unit (s := S8x192x1024) ![5, 0, 0] S1x192x1024.size inb_S8x192x1024_S1x192x1024_5_0_0
abbrev r0_6 : Rect S8x192x1024 := Rect.unit (s := S8x192x1024) ![6, 0, 0] S1x192x1024.size inb_S8x192x1024_S1x192x1024_6_0_0
abbrev r0_7 : Rect S8x192x1024 := Rect.unit (s := S8x192x1024) ![7, 0, 0] S1x192x1024.size inb_S8x192x1024_S1x192x1024_7_0_0
abbrev r0_8 : Rect S192x1024 := Rect.unit (s := S192x1024) ![0, 0] S192x1024.size inb_S192x1024_S192x1024_0_0
abbrev r0_9 : Rect S8x128x1024 := Rect.unit (s := S8x128x1024) ![0, 0, 0] S1x128x1024.size inb_S8x128x1024_S1x128x1024_0_0_0
abbrev r0_10 : Rect S8x128x1024 := Rect.unit (s := S8x128x1024) ![1, 0, 0] S1x128x1024.size inb_S8x128x1024_S1x128x1024_1_0_0
abbrev r0_11 : Rect S8x128x1024 := Rect.unit (s := S8x128x1024) ![2, 0, 0] S1x128x1024.size inb_S8x128x1024_S1x128x1024_2_0_0
abbrev r0_12 : Rect S8x128x1024 := Rect.unit (s := S8x128x1024) ![3, 0, 0] S1x128x1024.size inb_S8x128x1024_S1x128x1024_3_0_0
abbrev r0_13 : Rect S8x128x1024 := Rect.unit (s := S8x128x1024) ![4, 0, 0] S1x128x1024.size inb_S8x128x1024_S1x128x1024_4_0_0
abbrev r0_14 : Rect S8x128x1024 := Rect.unit (s := S8x128x1024) ![5, 0, 0] S1x128x1024.size inb_S8x128x1024_S1x128x1024_5_0_0
abbrev r0_15 : Rect S8x128x1024 := Rect.unit (s := S8x128x1024) ![6, 0, 0] S1x128x1024.size inb_S8x128x1024_S1x128x1024_6_0_0
abbrev r0_16 : Rect S8x128x1024 := Rect.unit (s := S8x128x1024) ![7, 0, 0] S1x128x1024.size inb_S8x128x1024_S1x128x1024_7_0_0
abbrev r0_17 : Rect S128x1024 := Rect.unit (s := S128x1024) ![0, 0] S128x1024.size inb_S128x1024_S128x1024_0_0
abbrev r0_18 : Rect S8x256x128 := Rect.unit (s := S8x256x128) ![0, 0, 0] S1x256x128.size inb_S8x256x128_S1x256x128_0_0_0
abbrev r0_19 : Rect S8x256x128 := Rect.unit (s := S8x256x128) ![1, 0, 0] S1x256x128.size inb_S8x256x128_S1x256x128_1_0_0
abbrev r0_20 : Rect S8x256x128 := Rect.unit (s := S8x256x128) ![2, 0, 0] S1x256x128.size inb_S8x256x128_S1x256x128_2_0_0
abbrev r0_21 : Rect S8x256x128 := Rect.unit (s := S8x256x128) ![3, 0, 0] S1x256x128.size inb_S8x256x128_S1x256x128_3_0_0
abbrev r0_22 : Rect S8x256x128 := Rect.unit (s := S8x256x128) ![4, 0, 0] S1x256x128.size inb_S8x256x128_S1x256x128_4_0_0
abbrev r0_23 : Rect S8x256x128 := Rect.unit (s := S8x256x128) ![5, 0, 0] S1x256x128.size inb_S8x256x128_S1x256x128_5_0_0
abbrev r0_24 : Rect S8x256x128 := Rect.unit (s := S8x256x128) ![6, 0, 0] S1x256x128.size inb_S8x256x128_S1x256x128_6_0_0
abbrev r0_25 : Rect S8x256x128 := Rect.unit (s := S8x256x128) ![7, 0, 0] S1x256x128.size inb_S8x256x128_S1x256x128_7_0_0
abbrev r0_26 : Rect S256x128 := Rect.unit (s := S256x128) ![0, 0] S256x128.size inb_S256x128_S256x128_0_0

/-! ## What the body leaves in each output window's buffer -/

/-! ### Values of the body that the stores' payloads, spelt out, would write more than once

    Each is a vector the body binds (often a part call's result), stated over the input windows' blocks and
    numbered on from the skeleton's payload functions (`k0_pay25` …, after `k0_pay24`), so that
    `out0_W` and the values after it name it instead of spelling it out (a proof opens a canon
    with them, `unfold_payloads` opens them with the payloads); the comment after each is the printed function's
    name for the value (a count appended where that name is bound again). -/

def k0_pay25 (x0 : Vec F S8x192x1024 .bf16) : FVec F S192x1024 .f32 :=
  k0_pay3 (View.ld x0 r0_0) (View.ld x0 r0_1) (View.ld x0 r0_2) (View.ld x0 r0_3) (View.ld x0 r0_4) (View.ld x0 r0_5) (View.ld x0 r0_6) (View.ld x0 r0_7) -- `v30`
def k0_pay26 (x4 : Vec F S8x128x1024 .bf16) : FVec F S128x1024 .f32 :=
  k0_pay7 (View.ld x4 r0_9) -- `v64`
def k0_pay27 (x4 : Vec F S8x128x1024 .bf16) : FVec F S128x1024 .f32 :=
  k0_pay8 (k0_pay26 x4) (View.ld x4 r0_10) (View.ld x4 r0_11) (View.ld x4 r0_12) (View.ld x4 r0_13) (View.ld x4 r0_14) (View.ld x4 r0_15) (View.ld x4 r0_16) -- `v92`
def k0_pay28 (x8 : Vec F S8x128x1024 .bf16) : FVec F S128x1024 .f32 :=
  k0_pay12 (View.ld x8 r0_9) (View.ld x8 r0_10) -- `v130`
def k0_pay29 (x8 : Vec F S8x128x1024 .bf16) : FVec F S128x1024 .f32 :=
  k0_pay13 (k0_pay28 x8) (View.ld x8 r0_11) (View.ld x8 r0_12) (View.ld x8 r0_13) (View.ld x8 r0_14) (View.ld x8 r0_15) (View.ld x8 r0_16) -- `v154`
def k0_pay30 (x10 : Vec F S128x1024 .f32) : FVec F S128x1024 .f32 :=
  k0_pay14 (View.ld x10 r0_17) -- `v160`
def k0_pay31 (x8 : Vec F S8x128x1024 .bf16) : FVec F S128x1024 .f32 :=
  k0_pay15 (k0_pay28 x8) (View.ld x8 r0_11) (View.ld x8 r0_12) (View.ld x8 r0_13) (View.ld x8 r0_14) (View.ld x8 r0_15) (View.ld x8 r0_16) -- `v162`
def k0_pay32 (x12 : Vec F S8x256x128 .bf16) : FVec F S256x128 .f32 :=
  k0_pay19 (View.ld x12 r0_18) (View.ld x12 r0_19) (View.ld x12 r0_20) -- `v196`
def k0_pay33 (x12 : Vec F S8x256x128 .bf16) (x14 : Vec F S256x128 .f32) : FVec F S256x128 .f32 :=
  k0_pay21 (k0_pay32 x12) (View.ld x12 r0_21) (View.ld x12 r0_22) (View.ld x12 r0_23) (View.ld x12 r0_24) (View.ld x12 r0_25) (View.ld x14 r0_26) -- `v225`
def k0_pay34 (x15 : Vec F S256x128 .f32) : FVec F S256x128 .f32 :=
  k0_pay22 (View.ld x15 r0_26) -- `v227`
def k0_pay35 (x12 : Vec F S8x256x128 .bf16) : FVec F S256x128 .f32 :=
  k0_pay23 (k0_pay32 x12) (View.ld x12 r0_21) (View.ld x12 r0_22) (View.ld x12 r0_23) (View.ld x12 r0_24) (View.ld x12 r0_25) -- `v228`
def k0_pay36 : FVec F S256x128 .f32 :=
  k0_pay24 (F := F) -- `v229`

def out0_16 (x0 : Vec F S8x192x1024 .bf16) : Vec F S192x1024 .f32 :=
  View.canon [⟨r0_8, k0_pay3 (View.ld x0 r0_0) (View.ld x0 r0_1) (View.ld x0 r0_2) (View.ld x0 r0_3) (View.ld x0 r0_4) (View.ld x0 r0_5) (View.ld x0 r0_6) (View.ld x0 r0_7)⟩]

theorem cover0_16 (p0 : Vec F S192x1024 .f32) (y : S192x1024.Idx) :
    ∃ pc ∈ ([⟨r0_8, p0⟩] : List (View.Piece (Elt F) S192x1024 .f32)), y ∈ pc.1.set :=
  View.cover_of_tiled [⟨r0_8, p0⟩] S192x1024.size (by rfl) y

def out0_17 (x0 : Vec F S8x192x1024 .bf16) (x1 x2 x3 : Vec F S192x1024 .f32) : Vec F S192x1024 .f32 :=
  View.canon [⟨r0_8, k0_pay6 (k0_pay25 x0) (View.ld x1 r0_8) (View.ld x2 r0_8) (View.ld x3 r0_8)⟩]

theorem cover0_17 (p0 : Vec F S192x1024 .f32) (y : S192x1024.Idx) :
    ∃ pc ∈ ([⟨r0_8, p0⟩] : List (View.Piece (Elt F) S192x1024 .f32)), y ∈ pc.1.set :=
  View.cover_of_tiled [⟨r0_8, p0⟩] S192x1024.size (by rfl) y

def out0_18 (x0 : Vec F S8x192x1024 .bf16) (x2 : Vec F S192x1024 .f32) : Vec F S192x1024 .f32 :=
  View.canon [⟨r0_8, k0_pay4 (k0_pay25 x0) (View.ld x2 r0_8)⟩]

theorem cover0_18 (p0 : Vec F S192x1024 .f32) (y : S192x1024.Idx) :
    ∃ pc ∈ ([⟨r0_8, p0⟩] : List (View.Piece (Elt F) S192x1024 .f32)), y ∈ pc.1.set :=
  View.cover_of_tiled [⟨r0_8, p0⟩] S192x1024.size (by rfl) y

def out0_19 (x0 : Vec F S8x192x1024 .bf16) (x3 : Vec F S192x1024 .f32) : Vec F S192x1024 .f32 :=
  View.canon [⟨r0_8, k0_pay5 (k0_pay25 x0) (View.ld x3 r0_8)⟩]

theorem cover0_19 (p0 : Vec F S192x1024 .f32) (y : S192x1024.Idx) :
    ∃ pc ∈ ([⟨r0_8, p0⟩] : List (View.Piece (Elt F) S192x1024 .f32)), y ∈ pc.1.set :=
  View.cover_of_tiled [⟨r0_8, p0⟩] S192x1024.size (by rfl) y

def out0_20 (x4 : Vec F S8x128x1024 .bf16) : Vec F S128x1024 .f32 :=
  View.canon [⟨r0_17, k0_pay8 (k0_pay26 x4) (View.ld x4 r0_10) (View.ld x4 r0_11) (View.ld x4 r0_12) (View.ld x4 r0_13) (View.ld x4 r0_14) (View.ld x4 r0_15) (View.ld x4 r0_16)⟩]

theorem cover0_20 (p0 : Vec F S128x1024 .f32) (y : S128x1024.Idx) :
    ∃ pc ∈ ([⟨r0_17, p0⟩] : List (View.Piece (Elt F) S128x1024 .f32)), y ∈ pc.1.set :=
  View.cover_of_tiled [⟨r0_17, p0⟩] S128x1024.size (by rfl) y

def out0_21 (x4 : Vec F S8x128x1024 .bf16) (x5 x6 x7 : Vec F S128x1024 .f32) : Vec F S128x1024 .f32 :=
  View.canon [⟨r0_17, k0_pay11 (k0_pay27 x4) (View.ld x5 r0_17) (View.ld x6 r0_17) (View.ld x7 r0_17)⟩]

theorem cover0_21 (p0 : Vec F S128x1024 .f32) (y : S128x1024.Idx) :
    ∃ pc ∈ ([⟨r0_17, p0⟩] : List (View.Piece (Elt F) S128x1024 .f32)), y ∈ pc.1.set :=
  View.cover_of_tiled [⟨r0_17, p0⟩] S128x1024.size (by rfl) y

def out0_22 (x4 : Vec F S8x128x1024 .bf16) (x6 : Vec F S128x1024 .f32) : Vec F S128x1024 .f32 :=
  View.canon [⟨r0_17, k0_pay9 (k0_pay27 x4) (View.ld x6 r0_17)⟩]

theorem cover0_22 (p0 : Vec F S128x1024 .f32) (y : S128x1024.Idx) :
    ∃ pc ∈ ([⟨r0_17, p0⟩] : List (View.Piece (Elt F) S128x1024 .f32)), y ∈ pc.1.set :=
  View.cover_of_tiled [⟨r0_17, p0⟩] S128x1024.size (by rfl) y

def out0_23 (x4 : Vec F S8x128x1024 .bf16) (x7 : Vec F S128x1024 .f32) : Vec F S128x1024 .f32 :=
  View.canon [⟨r0_17, k0_pay10 (k0_pay27 x4) (View.ld x7 r0_17)⟩]

theorem cover0_23 (p0 : Vec F S128x1024 .f32) (y : S128x1024.Idx) :
    ∃ pc ∈ ([⟨r0_17, p0⟩] : List (View.Piece (Elt F) S128x1024 .f32)), y ∈ pc.1.set :=
  View.cover_of_tiled [⟨r0_17, p0⟩] S128x1024.size (by rfl) y

def out0_24 (x8 : Vec F S8x128x1024 .bf16) : Vec F S128x1024 .f32 :=
  View.canon [⟨r0_17, k0_pay13 (k0_pay28 x8) (View.ld x8 r0_11) (View.ld x8 r0_12) (View.ld x8 r0_13) (View.ld x8 r0_14) (View.ld x8 r0_15) (View.ld x8 r0_16)⟩]

theorem cover0_24 (p0 : Vec F S128x1024 .f32) (y : S128x1024.Idx) :
    ∃ pc ∈ ([⟨r0_17, p0⟩] : List (View.Piece (Elt F) S128x1024 .f32)), y ∈ pc.1.set :=
  View.cover_of_tiled [⟨r0_17, p0⟩] S128x1024.size (by rfl) y

def out0_25 (x8 : Vec F S8x128x1024 .bf16) (x9 x10 x11 : Vec F S128x1024 .f32) : Vec F S128x1024 .f32 :=
  View.canon [⟨r0_17, k0_pay18 (k0_pay29 x8) (View.ld x9 r0_17) (View.ld x11 r0_17) (k0_pay30 x10) (k0_pay31 x8)⟩]

theorem cover0_25 (p0 : Vec F S128x1024 .f32) (y : S128x1024.Idx) :
    ∃ pc ∈ ([⟨r0_17, p0⟩] : List (View.Piece (Elt F) S128x1024 .f32)), y ∈ pc.1.set :=
  View.cover_of_tiled [⟨r0_17, p0⟩] S128x1024.size (by rfl) y

def out0_26 (x8 : Vec F S8x128x1024 .bf16) (x10 : Vec F S128x1024 .f32) : Vec F S128x1024 .f32 :=
  View.canon [⟨r0_17, k0_pay16 (k0_pay30 x10) (k0_pay31 x8)⟩]

theorem cover0_26 (p0 : Vec F S128x1024 .f32) (y : S128x1024.Idx) :
    ∃ pc ∈ ([⟨r0_17, p0⟩] : List (View.Piece (Elt F) S128x1024 .f32)), y ∈ pc.1.set :=
  View.cover_of_tiled [⟨r0_17, p0⟩] S128x1024.size (by rfl) y

def out0_27 (x8 : Vec F S8x128x1024 .bf16) (x11 : Vec F S128x1024 .f32) : Vec F S128x1024 .f32 :=
  View.canon [⟨r0_17, k0_pay17 (k0_pay29 x8) (View.ld x11 r0_17)⟩]

theorem cover0_27 (p0 : Vec F S128x1024 .f32) (y : S128x1024.Idx) :
    ∃ pc ∈ ([⟨r0_17, p0⟩] : List (View.Piece (Elt F) S128x1024 .f32)), y ∈ pc.1.set :=
  View.cover_of_tiled [⟨r0_17, p0⟩] S128x1024.size (by rfl) y

def out0_28 (x12 : Vec F S8x256x128 .bf16) : Vec F S256x128 .f32 :=
  View.canon [⟨r0_26, k0_pay20 (k0_pay32 x12) (View.ld x12 r0_21) (View.ld x12 r0_22) (View.ld x12 r0_23) (View.ld x12 r0_24) (View.ld x12 r0_25)⟩]

theorem cover0_28 (p0 : Vec F S256x128 .f32) (y : S256x128.Idx) :
    ∃ pc ∈ ([⟨r0_26, p0⟩] : List (View.Piece (Elt F) S256x128 .f32)), y ∈ pc.1.set :=
  View.cover_of_tiled [⟨r0_26, p0⟩] S256x128.size (by rfl) y

def out0_29 (x12 : Vec F S8x256x128 .bf16) (x13 x14 x15 : Vec F S256x128 .f32) : Vec F S256x128 .f32 :=
  View.canon [⟨r0_26, k0_pay2 (View.ld x13 r0_26) (k0_pay33 x12 x14) (k0_pay34 x15) (k0_pay35 x12) (k0_pay36)⟩]

theorem cover0_29 (p0 : Vec F S256x128 .f32) (y : S256x128.Idx) :
    ∃ pc ∈ ([⟨r0_26, p0⟩] : List (View.Piece (Elt F) S256x128 .f32)), y ∈ pc.1.set :=
  View.cover_of_tiled [⟨r0_26, p0⟩] S256x128.size (by rfl) y

def out0_30 (x12 : Vec F S8x256x128 .bf16) (x14 : Vec F S256x128 .f32) : Vec F S256x128 .f32 :=
  View.canon [⟨r0_26, k0_pay33 x12 x14⟩]

theorem cover0_30 (p0 : Vec F S256x128 .f32) (y : S256x128.Idx) :
    ∃ pc ∈ ([⟨r0_26, p0⟩] : List (View.Piece (Elt F) S256x128 .f32)), y ∈ pc.1.set :=
  View.cover_of_tiled [⟨r0_26, p0⟩] S256x128.size (by rfl) y

def out0_31 (x12 : Vec F S8x256x128 .bf16) (x15 : Vec F S256x128 .f32) : Vec F S256x128 .f32 :=
  View.canon [⟨r0_26, k0_pay1 (k0_pay34 x15) (k0_pay35 x12) (k0_pay36)⟩]

theorem cover0_31 (p0 : Vec F S256x128 .f32) (y : S256x128.Idx) :
    ∃ pc ∈ ([⟨r0_26, p0⟩] : List (View.Piece (Elt F) S256x128 .f32)), y ∈ pc.1.set :=
  View.cover_of_tiled [⟨r0_26, p0⟩] S256x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (arg0 : Memref sig .tc .vmem S8x192x1024 .bf16) (harg0 : arg0.IsWhole) (arg1 : Memref sig .tc .vmem S192x1024 .f32) (harg1 : arg1.IsWhole) (arg2 : Memref sig .tc .vmem S192x1024 .f32) (harg2 : arg2.IsWhole) (arg3 : Memref sig .tc .vmem S192x1024 .f32) (harg3 : arg3.IsWhole) (arg4 : Memref sig .tc .vmem S8x128x1024 .bf16) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S8x128x1024 .bf16) (harg8 : arg8.IsWhole) (arg9 : Memref sig .tc .vmem S128x1024 .f32) (harg9 : arg9.IsWhole) (arg10 : Memref sig .tc .vmem S128x1024 .f32) (harg10 : arg10.IsWhole) (arg11 : Memref sig .tc .vmem S128x1024 .f32) (harg11 : arg11.IsWhole) (arg12 : Memref sig .tc .vmem S8x256x128 .bf16) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S192x1024 .f32) (harg16 : arg16.IsWhole) (arg17 : Memref sig .tc .vmem S192x1024 .f32) (harg17 : arg17.IsWhole) (arg18 : Memref sig .tc .vmem S192x1024 .f32) (harg18 : arg18.IsWhole) (arg19 : Memref sig .tc .vmem S192x1024 .f32) (harg19 : arg19.IsWhole) (arg20 : Memref sig .tc .vmem S128x1024 .f32) (harg20 : arg20.IsWhole) (arg21 : Memref sig .tc .vmem S128x1024 .f32) (harg21 : arg21.IsWhole) (arg22 : Memref sig .tc .vmem S128x1024 .f32) (harg22 : arg22.IsWhole) (arg23 : Memref sig .tc .vmem S128x1024 .f32) (harg23 : arg23.IsWhole) (arg24 : Memref sig .tc .vmem S128x1024 .f32) (harg24 : arg24.IsWhole) (arg25 : Memref sig .tc .vmem S128x1024 .f32) (harg25 : arg25.IsWhole) (arg26 : Memref sig .tc .vmem S128x1024 .f32) (harg26 : arg26.IsWhole) (arg27 : Memref sig .tc .vmem S128x1024 .f32) (harg27 : arg27.IsWhole) (arg28 : Memref sig .tc .vmem S256x128 .f32) (harg28 : arg28.IsWhole) (arg29 : Memref sig .tc .vmem S256x128 .f32) (harg29 : arg29.IsWhole) (arg30 : Memref sig .tc .vmem S256x128 .f32) (harg30 : arg30.IsWhole) (arg31 : Memref sig .tc .vmem S256x128 .f32) (harg31 : arg31.IsWhole)
    (x0 : Vec F S8x192x1024 .bf16) (x1 x2 x3 : Vec F S192x1024 .f32) (x4 : Vec F S8x128x1024 .bf16) (x5 x6 x7 : Vec F S128x1024 .f32) (x8 : Vec F S8x128x1024 .bf16) (x9 x10 x11 : Vec F S128x1024 .f32) (x12 : Vec F S8x256x128 .bf16) (x13 x14 x15 : Vec F S256x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare (out0_16 x0) ∗ owns (c : Thread nD τ) arg17 fullShare (out0_17 x0 x1 x2 x3) ∗ owns (c : Thread nD τ) arg18 fullShare (out0_18 x0 x2) ∗ owns (c : Thread nD τ) arg19 fullShare (out0_19 x0 x3) ∗ owns (c : Thread nD τ) arg20 fullShare (out0_20 x4) ∗ owns (c : Thread nD τ) arg21 fullShare (out0_21 x4 x5 x6 x7) ∗ owns (c : Thread nD τ) arg22 fullShare (out0_22 x4 x6) ∗ owns (c : Thread nD τ) arg23 fullShare (out0_23 x4 x7) ∗ owns (c : Thread nD τ) arg24 fullShare (out0_24 x8) ∗ owns (c : Thread nD τ) arg25 fullShare (out0_25 x8 x9 x10 x11) ∗ owns (c : Thread nD τ) arg26 fullShare (out0_26 x8 x10) ∗ owns (c : Thread nD τ) arg27 fullShare (out0_27 x8 x11) ∗ owns (c : Thread nD τ) arg28 fullShare (out0_28 x12) ∗ owns (c : Thread nD τ) arg29 fullShare (out0_29 x12 x13 x14 x15) ∗ owns (c : Thread nD τ) arg30 fullShare (out0_30 x12 x14) ∗ owns (c : Thread nD τ) arg31 fullShare (out0_31 x12 x15)) -∗ K ⟨⟩))
      ⊢ wp frame (wpE (defs₀ (F := F)) Variants.none c none) E (cc0_adamw_medium arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  simp only [cc0_adamw_medium_eq_skeleton]; unfold cc0_adamw_medium_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  isplitl [H28]
  · iexists _; isplitr
    swap; · iexact H28
    ipureintro
    refine (View.read_writes_eq_canon _ _ _ (cover0_28 _)).trans ?_
    rfl
  isplitl [H29]
  · iexists _; isplitr
    swap; · iexact H29
    ipureintro
    refine (View.read_writes_eq_canon _ _ _ (cover0_29 _)).trans ?_
    rfl
  isplitl [H30]
  · iexists _; isplitr
    swap; · iexact H30
    ipureintro
    refine (View.read_writes_eq_canon _ _ _ (cover0_30 _)).trans ?_
    rfl
  iexists _; isplitr
  swap; · iexact H31
  ipureintro
  refine (View.read_writes_eq_canon _ _ _ (cover0_31 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out0_16 (iblk m c 0 t)
    | ⟨17, _⟩ => out0_17 (iblk m c 0 t) (iblk m c 1 t) (iblk m c 2 t) (iblk m c 3 t)
    | ⟨18, _⟩ => out0_18 (iblk m c 0 t) (iblk m c 2 t)
    | ⟨19, _⟩ => out0_19 (iblk m c 0 t) (iblk m c 3 t)
    | ⟨20, _⟩ => out0_20 (iblk m c 4 t)
    | ⟨21, _⟩ => out0_21 (iblk m c 4 t) (iblk m c 5 t) (iblk m c 6 t) (iblk m c 7 t)
    | ⟨22, _⟩ => out0_22 (iblk m c 4 t) (iblk m c 6 t)
    | ⟨23, _⟩ => out0_23 (iblk m c 4 t) (iblk m c 7 t)
    | ⟨24, _⟩ => out0_24 (iblk m c 8 t)
    | ⟨25, _⟩ => out0_25 (iblk m c 8 t) (iblk m c 9 t) (iblk m c 10 t) (iblk m c 11 t)
    | ⟨26, _⟩ => out0_26 (iblk m c 8 t) (iblk m c 10 t)
    | ⟨27, _⟩ => out0_27 (iblk m c 8 t) (iblk m c 11 t)
    | ⟨28, _⟩ => out0_28 (iblk m c 12 t)
    | ⟨29, _⟩ => out0_29 (iblk m c 12 t) (iblk m c 13 t) (iblk m c 14 t) (iblk m c 15 t)
    | ⟨30, _⟩ => out0_30 (iblk m c 12 t) (iblk m c 14 t)
    | ⟨31, _⟩ => out0_31 (iblk m c 12 t) (iblk m c 15 t)
    | ⟨_ + 32, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = out0_16 (iblk m c 0 t) := by dsimp only [dats]
theorem after0_17 (c : Dev nD) (t : Fin cfg0.N) : (dats m 0 c).after 17 t = out0_17 (iblk m c 0 t) (iblk m c 1 t) (iblk m c 2 t) (iblk m c 3 t) := by dsimp only [dats]
theorem after0_18 (c : Dev nD) (t : Fin cfg0.N) : (dats m 0 c).after 18 t = out0_18 (iblk m c 0 t) (iblk m c 2 t) := by dsimp only [dats]
theorem after0_19 (c : Dev nD) (t : Fin cfg0.N) : (dats m 0 c).after 19 t = out0_19 (iblk m c 0 t) (iblk m c 3 t) := by dsimp only [dats]
theorem after0_20 (c : Dev nD) (t : Fin cfg0.N) : (dats m 0 c).after 20 t = out0_20 (iblk m c 4 t) := by dsimp only [dats]
theorem after0_21 (c : Dev nD) (t : Fin cfg0.N) : (dats m 0 c).after 21 t = out0_21 (iblk m c 4 t) (iblk m c 5 t) (iblk m c 6 t) (iblk m c 7 t) := by dsimp only [dats]
theorem after0_22 (c : Dev nD) (t : Fin cfg0.N) : (dats m 0 c).after 22 t = out0_22 (iblk m c 4 t) (iblk m c 6 t) := by dsimp only [dats]
theorem after0_23 (c : Dev nD) (t : Fin cfg0.N) : (dats m 0 c).after 23 t = out0_23 (iblk m c 4 t) (iblk m c 7 t) := by dsimp only [dats]
theorem after0_24 (c : Dev nD) (t : Fin cfg0.N) : (dats m 0 c).after 24 t = out0_24 (iblk m c 8 t) := by dsimp only [dats]
theorem after0_25 (c : Dev nD) (t : Fin cfg0.N) : (dats m 0 c).after 25 t = out0_25 (iblk m c 8 t) (iblk m c 9 t) (iblk m c 10 t) (iblk m c 11 t) := by dsimp only [dats]
theorem after0_26 (c : Dev nD) (t : Fin cfg0.N) : (dats m 0 c).after 26 t = out0_26 (iblk m c 8 t) (iblk m c 10 t) := by dsimp only [dats]
theorem after0_27 (c : Dev nD) (t : Fin cfg0.N) : (dats m 0 c).after 27 t = out0_27 (iblk m c 8 t) (iblk m c 11 t) := by dsimp only [dats]
theorem after0_28 (c : Dev nD) (t : Fin cfg0.N) : (dats m 0 c).after 28 t = out0_28 (iblk m c 12 t) := by dsimp only [dats]
theorem after0_29 (c : Dev nD) (t : Fin cfg0.N) : (dats m 0 c).after 29 t = out0_29 (iblk m c 12 t) (iblk m c 13 t) (iblk m c 14 t) (iblk m c 15 t) := by dsimp only [dats]
theorem after0_30 (c : Dev nD) (t : Fin cfg0.N) : (dats m 0 c).after 30 t = out0_30 (iblk m c 12 t) (iblk m c 14 t) := by dsimp only [dats]
theorem after0_31 (c : Dev nD) (t : Fin cfg0.N) : (dats m 0 c).after 31 t = out0_31 (iblk m c 12 t) (iblk m c 15 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t))

set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  iintro ⟨H0, H1, H2, H3, H4, H5, H6, H7, H8, H9, H10, H11, H12, H13, H14, H15, H16, H17, H18, H19, H20, H21, H22, H23, H24, H25, H26, H27, H28, H29, H30, H31⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- THE FRAME: `Cert.quiescent_AdamMediumIdeal`'s statement (Defs.lean) at any `F` — Proof.lean cites it at `Bits`:
    `theorem Cert.Proof.claim : Cert.Claim := ⟨Cert.AdamMediumIdeal.Gen.facts, fun m ρ _ => Cert.AdamMediumIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.AdamMediumIdeal.Gen

end
-- ==== Proof.AdamMedium.Plain.lean ====
/-
  The optimiser call `adamw_medium` as written and the same call as read over the reals are one program text, so the frame shown
  for the second, at any reading of the floats, is the frame of the first.
-/
module

public import proofs.«01_k».proof.Proof.AdamMedium.Frame
public import proofs.«01_k».proof.Proof.Gen.AdamMedium
public import proofs.«01_k».proof.Defs

@[expose] public section

set_option maxRecDepth 16384

namespace Cert.AdamMedium.Plain

open Idealize.ShloMosaic Idealize.ShloMosaic.TcCoe

variable {F : FTy → Type} [FloatOps F]

set_option maxHeartbeats 1000000 in
/-- The two body tables are one: at the only label both run the same statements. -/
theorem bodies_eq : @Cert.AdamMedium.defs₀ F _ Cert.AdamMedium.Gen.facts = @Cert.AdamMediumIdeal.defs₀ F _ Cert.AdamMediumIdeal.Gen.facts := by
  unfold Cert.AdamMedium.defs₀ Cert.AdamMediumIdeal.defs₀
  refine congrArg Defs.onTc ?_
  funext k x
  match k, x with
  | 0, (t, s) => rfl

set_option maxHeartbeats 1000000 in
/-- The two tables with the pipeline's bodies added are one. -/
theorem defs_eq : @Cert.AdamMedium.defs F _ Cert.AdamMedium.Gen.facts = @Cert.AdamMediumIdeal.defs F _ Cert.AdamMediumIdeal.Gen.facts :=
  congrArg (Pipeline.defs _) bodies_eq

set_option maxHeartbeats 1000000 in
/-- The call as written ends with its arguments unchanged and every semaphore zero. -/
theorem frame : Cert.quiescent_AdamMedium (hAdamMedium := Cert.AdamMedium.Gen.facts) := by
  intro m ρ _
  rw [defs_eq]
  exact Cert.AdamMediumIdeal.Gen.frame m ρ

end Cert.AdamMedium.Plain

end
-- ==== Proof.Lib.WholeWindow.lean ====
/-
  Windows whose block is their whole array, as a call without a grid has them: the block of an array is the array, and a
  single store through the whole block leaves its payload, read off whole loads.
-/
module

public import Idealize.ShloMosaic.PureOps.Ideal.Laws
public import Idealize.ShloMosaic.Lib.Pipeline.Value
public import Idealize.ShloMosaic.Lib.Pipeline.ValueKit.Geometry

@[expose] public section

namespace Cert.WholeWindow

open Idealize.ShloMosaic Idealize.ShloMosaic.Pipeline

/-- An index of a block at index zero is the same index of the array. -/
theorem blk_emb {sig : RefSig} {G : Grid} (w : Window sig G) (t : Fin G.N) (h : ∀ a, w.index t a = 0) (j : (w.xblock (G.coords t)).Idx)
    (i : w.shape.Idx) (hj : ∀ a, (j a : ℕ) = i a) : (w.blk t).view.emb j = w.arr.view.emb i := by
  show w.arr.view.emb ((w.rect t).emb j) = _
  exact congrArg w.arr.view.emb (funext fun a => Fin.ext ((Window.rect_emb_val_of_index_zero w t a (h a) j).trans (hj a)))

section store

variable {S : Shape} {off : Fin S.rank → ℕ} (hz : off = fun _ => 0) (inb : ∀ a, off a + S.size a ≤ S.size a)
include hz

/-- A whole load is the block. -/
theorem load {x a : Vec Ideal S .f32} (h : x = a) : View.ld x (Rect.unit off S.size inb) = a :=
  (View.ld_unit_zero hz inb x).trans h

/-- A whole store of a payload known otherwise. -/
theorem store {p q : Vec Ideal S .f32} (h : p = q) :
    View.canon [(⟨Rect.unit off S.size inb, p⟩ : View.Piece (Elt Ideal) S .f32)] = q :=
  (View.canon_unit_zero hz inb p).trans h

/-- A whole store of a whole load. -/
theorem store1 {x a : Vec Ideal S .f32} (h : x = a) :
    View.canon [(⟨Rect.unit off S.size inb, View.ld x (Rect.unit off S.size inb)⟩ : View.Piece (Elt Ideal) S .f32)] = a :=
  store hz inb (load hz inb h)

/-- A whole store of a payload of two whole loads. -/
theorem store2 (f : Vec Ideal S .f32 → Vec Ideal S .f32 → Vec Ideal S .f32) {x a : Vec Ideal S .f32} {y b : Vec Ideal S .f32} (hx : x = a) (hy : y = b) :
    View.canon [(⟨Rect.unit off S.size inb, f (View.ld x (Rect.unit off S.size inb)) (View.ld y (Rect.unit off S.size inb))⟩ : View.Piece (Elt Ideal) S .f32)]
      = f a b :=
  store hz inb (congr (congrArg f (load hz inb hx)) (load hz inb hy))

/-- A whole store of a payload of four whole loads. -/
theorem store4 (f : Vec Ideal S .f32 → Vec Ideal S .f32 → Vec Ideal S .f32 → Vec Ideal S .f32 → Vec Ideal S .f32) {x a : Vec Ideal S .f32} {y b : Vec Ideal S .f32}
    {z d : Vec Ideal S .f32} {u k : Vec Ideal S .f32} (hx : x = a) (hy : y = b) (hu : z = d) (hk : u = k) :
    View.canon [(⟨Rect.unit off S.size inb, f (View.ld x (Rect.unit off S.size inb)) (View.ld y (Rect.unit off S.size inb))
        (View.ld z (Rect.unit off S.size inb)) (View.ld u (Rect.unit off S.size inb))⟩ : View.Piece (Elt Ideal) S .f32)]
      = f a b d k :=
  store hz inb (congr (congr (congr (congrArg f (load hz inb hx)) (load hz inb hy)) (load hz inb hu)) (load hz inb hk))

end store

end Cert.WholeWindow

end
-- ==== Proof.AdamMedium.Value.lean ====
/-
  What the optimiser call for the medium weights leaves: for each of its four weights the sum of the eight received parts of the
  gradient, the weight's change and the two new moments, each the optimiser's step of that sum and of the other arguments.
-/
module

public import proofs.«01_k».proof.Proof.AdamMedium.Frame
public import proofs.«01_k».proof.Proof.Lib.Adam
public import proofs.«01_k».proof.Proof.Lib.Whole
public import proofs.«01_k».proof.Proof.Lib.WholeWindow

@[expose] public section

set_option maxRecDepth 16384

noncomputable section

namespace Cert.AdamMediumIdeal.Rows

open Cert.AdamMediumIdeal Cert.AdamMediumIdeal.Gen Idealize.ShloMosaic Idealize.ShloMosaic.TcCoe Idealize.SL.Sem Cert.Adam Cert.WholeWindow
open Idealize.ShloMosaic.Pipeline (Dat)

section point

variable (x0 : Vec Ideal S8x192x1024 .bf16) (x1 x2 x3 : Vec Ideal S192x1024 .f32) (x4 : Vec Ideal S8x128x1024 .bf16) (x5 x6 x7 : Vec Ideal S128x1024 .f32)
  (x8 : Vec Ideal S8x128x1024 .bf16) (x9 x10 x11 : Vec Ideal S128x1024 .f32) (x12 : Vec Ideal S8x256x128 .bf16) (x13 x14 x15 : Vec Ideal S256x128 .f32)

/-! The sums of the parts: each weight's are added up in the order they are loaded, in one or two stretches of the body. -/

theorem sum0 : k0_pay3 (View.ld x0 r0_0) (View.ld x0 r0_1) (View.ld x0 r0_2) (View.ld x0 r0_3) (View.ld x0 r0_4) (View.ld x0 r0_5)
    (View.ld x0 r0_6) (View.ld x0 r0_7) = total x0 :=
  chain_eq x0 shapeCasts_S1x192x1024_S192x1024 bitsLt_bf16_f32 _ _ _ _ _ _ _ _
theorem sum1 : k0_pay8 (k0_pay7 (View.ld x4 r0_9)) (View.ld x4 r0_10) (View.ld x4 r0_11) (View.ld x4 r0_12) (View.ld x4 r0_13) (View.ld x4 r0_14)
    (View.ld x4 r0_15) (View.ld x4 r0_16) = total x4 :=
  chain_eq x4 shapeCasts_S1x128x1024_S128x1024 bitsLt_bf16_f32 _ _ _ _ _ _ _ _
theorem sum2 : k0_pay13 (k0_pay12 (View.ld x8 r0_9) (View.ld x8 r0_10)) (View.ld x8 r0_11) (View.ld x8 r0_12) (View.ld x8 r0_13) (View.ld x8 r0_14)
    (View.ld x8 r0_15) (View.ld x8 r0_16) = total x8 :=
  chain_eq x8 shapeCasts_S1x128x1024_S128x1024 bitsLt_bf16_f32 _ _ _ _ _ _ _ _
theorem sum3 : k0_pay20 (k0_pay19 (View.ld x12 r0_18) (View.ld x12 r0_19) (View.ld x12 r0_20)) (View.ld x12 r0_21) (View.ld x12 r0_22) (View.ld x12 r0_23)
    (View.ld x12 r0_24) (View.ld x12 r0_25) = total x12 :=
  chain_eq x12 shapeCasts_S1x256x128_S256x128 bitsLt_bf16_f32 _ _ _ _ _ _ _ _

/-! The values the body carries from one stretch to the next. -/

theorem pay25_eq : k0_pay25 x0 = total x0 := sum0 x0
theorem pay27_eq : k0_pay27 x4 = total x4 := sum1 x4
theorem pay29_eq : k0_pay29 x8 = total x8 := sum2 x8
theorem pay30_eq : k0_pay30 x10 = k0_pay14 x10 := congrArg k0_pay14 (load (S := S128x1024) Cert.Whole.hz2 _ rfl)
theorem pay31_eq : k0_pay31 x8 = mulf (broadcast S128x1024 (Scalar.ofBits (F := Ideal) .f32 0x3DCCCCCD#32)) (total x8) :=
  congrArg (mulf (broadcast S128x1024 (Scalar.ofBits (F := Ideal) .f32 0x3DCCCCCD#32))) (sum2 x8)
theorem pay33_eq : k0_pay33 x12 x14 = moment1 (total x12) x14 :=
  (congr (congrArg (fun p q : FVec Ideal S256x128 .f32 => addf (mulf (broadcast S256x128 (Scalar.ofBits (F := Ideal) .f32 0x3F666666#32)) q)
    (mulf (broadcast S256x128 (Scalar.ofBits (F := Ideal) .f32 0x3DCCCCCD#32)) p)) (sum3 x12)) (load (S := S256x128) Cert.Whole.hz2 _ rfl)).trans (funext fun _ => rfl)
theorem pay34_eq : k0_pay34 x15 = k0_pay22 x15 := congrArg k0_pay22 (load (S := S256x128) Cert.Whole.hz2 _ rfl)
theorem pay35_eq : k0_pay35 x12 = mulf (F := Ideal) (φ := .f32) (total x12) (total x12) := congrArg (fun p : FVec Ideal S256x128 .f32 => mulf p p) (sum3 x12)

/-! Weight 0: the gradient, the change and the two new moments. -/

theorem out16_eq : out0_16 x0 = total x0 := by
  unfold out0_16
  rw [View.canon_unit_zero (S := S192x1024) Cert.Whole.hz2, sum0]
theorem out17_eq : out0_17 x0 x1 x2 x3 = delta (total x0) x1 x2 x3 := by
  unfold out0_17
  rw [View.canon_unit_zero (S := S192x1024) Cert.Whole.hz2, pay25_eq]
  simp only [View.ld_unit_zero (S := S192x1024) Cert.Whole.hz2]
  exact funext fun _ => rfl
theorem out18_eq : out0_18 x0 x2 = moment1 (total x0) x2 := by
  unfold out0_18
  rw [View.canon_unit_zero (S := S192x1024) Cert.Whole.hz2, pay25_eq]
  simp only [View.ld_unit_zero (S := S192x1024) Cert.Whole.hz2]
  exact funext fun _ => rfl
theorem out19_eq : out0_19 x0 x3 = moment2 (total x0) x3 := by
  unfold out0_19
  rw [View.canon_unit_zero (S := S192x1024) Cert.Whole.hz2, pay25_eq]
  simp only [View.ld_unit_zero (S := S192x1024) Cert.Whole.hz2]
  exact funext fun _ => rfl

/-! Weight 1: the gradient, the change and the two new moments. -/

theorem out20_eq : out0_20 x4 = total x4 := by
  unfold out0_20 k0_pay26
  rw [View.canon_unit_zero (S := S128x1024) Cert.Whole.hz2, sum1]
theorem out21_eq : out0_21 x4 x5 x6 x7 = delta (total x4) x5 x6 x7 := by
  unfold out0_21
  rw [View.canon_unit_zero (S := S128x1024) Cert.Whole.hz2, pay27_eq]
  simp only [View.ld_unit_zero (S := S128x1024) Cert.Whole.hz2]
  exact funext fun _ => rfl
theorem out22_eq : out0_22 x4 x6 = moment1 (total x4) x6 := by
  unfold out0_22
  rw [View.canon_unit_zero (S := S128x1024) Cert.Whole.hz2, pay27_eq]
  simp only [View.ld_unit_zero (S := S128x1024) Cert.Whole.hz2]
  exact funext fun _ => rfl
theorem out23_eq : out0_23 x4 x7 = moment2 (total x4) x7 := by
  unfold out0_23
  rw [View.canon_unit_zero (S := S128x1024) Cert.Whole.hz2, pay27_eq]
  simp only [View.ld_unit_zero (S := S128x1024) Cert.Whole.hz2]
  exact funext fun _ => rfl

/-! Weight 2: the gradient, the change and the two new moments. -/

theorem out24_eq : out0_24 x8 = total x8 := by
  unfold out0_24 k0_pay28
  rw [View.canon_unit_zero (S := S128x1024) Cert.Whole.hz2, sum2]
theorem out25_eq : out0_25 x8 x9 x10 x11 = delta (total x8) x9 x10 x11 := by
  unfold out0_25
  rw [View.canon_unit_zero (S := S128x1024) Cert.Whole.hz2, pay29_eq, pay30_eq, pay31_eq]
  simp only [View.ld_unit_zero (S := S128x1024) Cert.Whole.hz2]
  exact funext fun _ => rfl
theorem out26_eq : out0_26 x8 x10 = moment1 (total x8) x10 := by
  unfold out0_26
  rw [View.canon_unit_zero (S := S128x1024) Cert.Whole.hz2, pay30_eq, pay31_eq]
  exact funext fun _ => rfl
theorem out27_eq : out0_27 x8 x11 = moment2 (total x8) x11 := by
  unfold out0_27
  rw [View.canon_unit_zero (S := S128x1024) Cert.Whole.hz2, pay29_eq]
  simp only [View.ld_unit_zero (S := S128x1024) Cert.Whole.hz2]
  exact funext fun _ => rfl

/-! Weight 3: the gradient, the change and the two new moments. -/

theorem out28_eq : out0_28 x12 = total x12 := by
  unfold out0_28 k0_pay32
  rw [View.canon_unit_zero (S := S256x128) Cert.Whole.hz2, sum3]
theorem out29_eq : out0_29 x12 x13 x14 x15 = delta (total x12) x13 x14 x15 := by
  unfold out0_29
  rw [View.canon_unit_zero (S := S256x128) Cert.Whole.hz2, pay33_eq, pay34_eq, pay35_eq]
  simp only [View.ld_unit_zero (S := S256x128) Cert.Whole.hz2]
  exact funext fun _ => rfl
theorem out30_eq : out0_30 x12 x14 = moment1 (total x12) x14 := by
  unfold out0_30
  rw [View.canon_unit_zero (S := S256x128) Cert.Whole.hz2, pay33_eq]
theorem out31_eq : out0_31 x12 x15 = moment2 (total x12) x15 := by
  unfold out0_31
  rw [View.canon_unit_zero (S := S256x128) Cert.Whole.hz2, pay34_eq, pay35_eq]
  exact funext fun _ => rfl

end point

variable (m : (ℓ : Loc nD τ sig) → Buf (Elt Ideal) ℓ)

/-- The call's one point. -/
abbrev pt : Fin cfg0.N := ⟨0, by decide⟩

/-! The argument arrays, and each input window's block, which is its array; the parts' windows stage the parts as rounded by
the host, which over the reals are the parts. -/

abbrev arg0 (c : Dev nD) : FVec Ideal S8x192x1024 .f32 := m ((c.tc : Thread nD τ).loc main_arg0)
abbrev arg1 (c : Dev nD) : FVec Ideal S192x1024 .f32 := m ((c.tc : Thread nD τ).loc main_arg1)
abbrev arg2 (c : Dev nD) : FVec Ideal S192x1024 .f32 := m ((c.tc : Thread nD τ).loc main_arg2)
abbrev arg3 (c : Dev nD) : FVec Ideal S192x1024 .f32 := m ((c.tc : Thread nD τ).loc main_arg3)
abbrev arg4 (c : Dev nD) : FVec Ideal S8x128x1024 .f32 := m ((c.tc : Thread nD τ).loc main_arg4)
abbrev arg5 (c : Dev nD) : FVec Ideal S128x1024 .f32 := m ((c.tc : Thread nD τ).loc main_arg5)
abbrev arg6 (c : Dev nD) : FVec Ideal S128x1024 .f32 := m ((c.tc : Thread nD τ).loc main_arg6)
abbrev arg7 (c : Dev nD) : FVec Ideal S128x1024 .f32 := m ((c.tc : Thread nD τ).loc main_arg7)
abbrev arg8 (c : Dev nD) : FVec Ideal S8x128x1024 .f32 := m ((c.tc : Thread nD τ).loc main_arg8)
abbrev arg9 (c : Dev nD) : FVec Ideal S128x1024 .f32 := m ((c.tc : Thread nD τ).loc main_arg9)
abbrev arg10 (c : Dev nD) : FVec Ideal S128x1024 .f32 := m ((c.tc : Thread nD τ).loc main_arg10)
abbrev arg11 (c : Dev nD) : FVec Ideal S128x1024 .f32 := m ((c.tc : Thread nD τ).loc main_arg11)
abbrev arg12 (c : Dev nD) : FVec Ideal S8x256x128 .f32 := m ((c.tc : Thread nD τ).loc main_arg12)
abbrev arg13 (c : Dev nD) : FVec Ideal S256x128 .f32 := m ((c.tc : Thread nD τ).loc main_arg13)
abbrev arg14 (c : Dev nD) : FVec Ideal S256x128 .f32 := m ((c.tc : Thread nD τ).loc main_arg14)
abbrev arg15 (c : Dev nD) : FVec Ideal S256x128 .f32 := m ((c.tc : Thread nD τ).loc main_arg15)

abbrev block0 (c : Dev nD) : FVec Ideal S8x192x1024 .bf16 := iblk m c 0 pt
theorem in0 (c : Dev nD) : block0 m c = truncf (F := Ideal) .bf16 (arg0 m c) bitsLt_bf16_f32 := by
  have hV : (V m c main_v0 : FVec Ideal S8x192x1024 .bf16) = truncf (F := Ideal) .bf16 (m ((c.tc : Thread nD τ).loc main_arg0)) bitsLt_bf16_f32 := by
    unfold V; after_results
  exact funext fun j => (congrArg (V m c main_v0 : FVec Ideal S8x192x1024 .bf16) (blk_emb (cfg0.win 0) pt (fun _ => rfl) j j fun _ => rfl)).trans (congrFun hV j)
abbrev block1 (c : Dev nD) : FVec Ideal S192x1024 .f32 := iblk m c 1 pt
theorem in1 (c : Dev nD) : block1 m c = arg1 m c :=
  funext fun j => (congrArg (V m c main_arg1 : FVec Ideal S192x1024 .f32) (blk_emb (cfg0.win 1) pt (fun _ => rfl) j j fun _ => rfl)).trans (congrFun (V_main_arg1 m c) j)
abbrev block2 (c : Dev nD) : FVec Ideal S192x1024 .f32 := iblk m c 2 pt
theorem in2 (c : Dev nD) : block2 m c = arg2 m c :=
  funext fun j => (congrArg (V m c main_arg2 : FVec Ideal S192x1024 .f32) (blk_emb (cfg0.win 2) pt (fun _ => rfl) j j fun _ => rfl)).trans (congrFun (V_main_arg2 m c) j)
abbrev block3 (c : Dev nD) : FVec Ideal S192x1024 .f32 := iblk m c 3 pt
theorem in3 (c : Dev nD) : block3 m c = arg3 m c :=
  funext fun j => (congrArg (V m c main_arg3 : FVec Ideal S192x1024 .f32) (blk_emb (cfg0.win 3) pt (fun _ => rfl) j j fun _ => rfl)).trans (congrFun (V_main_arg3 m c) j)
abbrev block4 (c : Dev nD) : FVec Ideal S8x128x1024 .bf16 := iblk m c 4 pt
theorem in4 (c : Dev nD) : block4 m c = truncf (F := Ideal) .bf16 (arg4 m c) bitsLt_bf16_f32 := by
  have hV : (V m c main_v1 : FVec Ideal S8x128x1024 .bf16) = truncf (F := Ideal) .bf16 (m ((c.tc : Thread nD τ).loc main_arg4)) bitsLt_bf16_f32 := by
    unfold V; after_results
  exact funext fun j => (congrArg (V m c main_v1 : FVec Ideal S8x128x1024 .bf16) (blk_emb (cfg0.win 4) pt (fun _ => rfl) j j fun _ => rfl)).trans (congrFun hV j)
abbrev block5 (c : Dev nD) : FVec Ideal S128x1024 .f32 := iblk m c 5 pt
theorem in5 (c : Dev nD) : block5 m c = arg5 m c :=
  funext fun j => (congrArg (V m c main_arg5 : FVec Ideal S128x1024 .f32) (blk_emb (cfg0.win 5) pt (fun _ => rfl) j j fun _ => rfl)).trans (congrFun (V_main_arg5 m c) j)
abbrev block6 (c : Dev nD) : FVec Ideal S128x1024 .f32 := iblk m c 6 pt
theorem in6 (c : Dev nD) : block6 m c = arg6 m c :=
  funext fun j => (congrArg (V m c main_arg6 : FVec Ideal S128x1024 .f32) (blk_emb (cfg0.win 6) pt (fun _ => rfl) j j fun _ => rfl)).trans (congrFun (V_main_arg6 m c) j)
abbrev block7 (c : Dev nD) : FVec Ideal S128x1024 .f32 := iblk m c 7 pt
theorem in7 (c : Dev nD) : block7 m c = arg7 m c :=
  funext fun j => (congrArg (V m c main_arg7 : FVec Ideal S128x1024 .f32) (blk_emb (cfg0.win 7) pt (fun _ => rfl) j j fun _ => rfl)).trans (congrFun (V_main_arg7 m c) j)
abbrev block8 (c : Dev nD) : FVec Ideal S8x128x1024 .bf16 := iblk m c 8 pt
theorem in8 (c : Dev nD) : block8 m c = truncf (F := Ideal) .bf16 (arg8 m c) bitsLt_bf16_f32 := by
  have hV : (V m c main_v2 : FVec Ideal S8x128x1024 .bf16) = truncf (F := Ideal) .bf16 (m ((c.tc : Thread nD τ).loc main_arg8)) bitsLt_bf16_f32 := by
    unfold V; after_results
  exact funext fun j => (congrArg (V m c main_v2 : FVec Ideal S8x128x1024 .bf16) (blk_emb (cfg0.win 8) pt (fun _ => rfl) j j fun _ => rfl)).trans (congrFun hV j)
abbrev block9 (c : Dev nD) : FVec Ideal S128x1024 .f32 := iblk m c 9 pt
theorem in9 (c : Dev nD) : block9 m c = arg9 m c :=
  funext fun j => (congrArg (V m c main_arg9 : FVec Ideal S128x1024 .f32) (blk_emb (cfg0.win 9) pt (fun _ => rfl) j j fun _ => rfl)).trans (congrFun (V_main_arg9 m c) j)
abbrev block10 (c : Dev nD) : FVec Ideal S128x1024 .f32 := iblk m c 10 pt
theorem in10 (c : Dev nD) : block10 m c = arg10 m c :=
  funext fun j => (congrArg (V m c main_arg10 : FVec Ideal S128x1024 .f32) (blk_emb (cfg0.win 10) pt (fun _ => rfl) j j fun _ => rfl)).trans (congrFun (V_main_arg10 m c) j)
abbrev block11 (c : Dev nD) : FVec Ideal S128x1024 .f32 := iblk m c 11 pt
theorem in11 (c : Dev nD) : block11 m c = arg11 m c :=
  funext fun j => (congrArg (V m c main_arg11 : FVec Ideal S128x1024 .f32) (blk_emb (cfg0.win 11) pt (fun _ => rfl) j j fun _ => rfl)).trans (congrFun (V_main_arg11 m c) j)
abbrev block12 (c : Dev nD) : FVec Ideal S8x256x128 .bf16 := iblk m c 12 pt
theorem in12 (c : Dev nD) : block12 m c = truncf (F := Ideal) .bf16 (arg12 m c) bitsLt_bf16_f32 := by
  have hV : (V m c main_v3 : FVec Ideal S8x256x128 .bf16) = truncf (F := Ideal) .bf16 (m ((c.tc : Thread nD τ).loc main_arg12)) bitsLt_bf16_f32 := by
    unfold V; after_results
  exact funext fun j => (congrArg (V m c main_v3 : FVec Ideal S8x256x128 .bf16) (blk_emb (cfg0.win 12) pt (fun _ => rfl) j j fun _ => rfl)).trans (congrFun hV j)
abbrev block13 (c : Dev nD) : FVec Ideal S256x128 .f32 := iblk m c 13 pt
theorem in13 (c : Dev nD) : block13 m c = arg13 m c :=
  funext fun j => (congrArg (V m c main_arg13 : FVec Ideal S256x128 .f32) (blk_emb (cfg0.win 13) pt (fun _ => rfl) j j fun _ => rfl)).trans (congrFun (V_main_arg13 m c) j)
abbrev block14 (c : Dev nD) : FVec Ideal S256x128 .f32 := iblk m c 14 pt
theorem in14 (c : Dev nD) : block14 m c = arg14 m c :=
  funext fun j => (congrArg (V m c main_arg14 : FVec Ideal S256x128 .f32) (blk_emb (cfg0.win 14) pt (fun _ => rfl) j j fun _ => rfl)).trans (congrFun (V_main_arg14 m c) j)
abbrev block15 (c : Dev nD) : FVec Ideal S256x128 .f32 := iblk m c 15 pt
theorem in15 (c : Dev nD) : block15 m c = arg15 m c :=
  funext fun j => (congrArg (V m c main_arg15 : FVec Ideal S256x128 .f32) (blk_emb (cfg0.win 15) pt (fun _ => rfl) j j fun _ => rfl)).trans (congrFun (V_main_arg15 m c) j)

/-! Weight 0. -/

/-- The gradient: the sum of the parts. -/
theorem arr16 (c : Dev nD) : (dats m 0 c).arrAt 16 cfg0.N = total (arg0 m c) := by
  have left : (dats m 0 c).after 16 pt = total (arg0 m c) := by
    rw [after0_16]
    exact (out16_eq (block0 m c)).trans ((congrArg total (in0 m c)))
  exact (dats m 0 c).arrAt_eq_of_after_last 16 pt (by decide +kernel) _ fun j => congrFun left j
/-- The weight's change. -/
theorem arr17 (c : Dev nD) : (dats m 0 c).arrAt 17 cfg0.N = delta (total (arg0 m c)) (arg1 m c) (arg2 m c) (arg3 m c) := by
  have left : (dats m 0 c).after 17 pt = delta (total (arg0 m c)) (arg1 m c) (arg2 m c) (arg3 m c) := by
    rw [after0_17]
    exact (out17_eq (block0 m c) (block1 m c) (block2 m c) (block3 m c)).trans (congr (congr (congr (congrArg delta (congrArg total (in0 m c))) (in1 m c)) (in2 m c)) (in3 m c))
  exact (dats m 0 c).arrAt_eq_of_after_last 17 pt (by decide +kernel) _ fun j => congrFun left j
/-- The new first moment. -/
theorem arr18 (c : Dev nD) : (dats m 0 c).arrAt 18 cfg0.N = moment1 (total (arg0 m c)) (arg2 m c) := by
  have left : (dats m 0 c).after 18 pt = moment1 (total (arg0 m c)) (arg2 m c) := by
    rw [after0_18]
    exact (out18_eq (block0 m c) (block2 m c)).trans (congr (congrArg moment1 (congrArg total (in0 m c))) (in2 m c))
  exact (dats m 0 c).arrAt_eq_of_after_last 18 pt (by decide +kernel) _ fun j => congrFun left j
/-- The new second moment. -/
theorem arr19 (c : Dev nD) : (dats m 0 c).arrAt 19 cfg0.N = moment2 (total (arg0 m c)) (arg3 m c) := by
  have left : (dats m 0 c).after 19 pt = moment2 (total (arg0 m c)) (arg3 m c) := by
    rw [after0_19]
    exact (out19_eq (block0 m c) (block3 m c)).trans (congr (congrArg moment2 (congrArg total (in0 m c))) (in3 m c))
  exact (dats m 0 c).arrAt_eq_of_after_last 19 pt (by decide +kernel) _ fun j => congrFun left j

/-! Weight 1. -/

/-- The gradient: the sum of the parts. -/
theorem arr20 (c : Dev nD) : (dats m 0 c).arrAt 20 cfg0.N = total (arg4 m c) := by
  have left : (dats m 0 c).after 20 pt = total (arg4 m c) := by
    rw [after0_20]
    exact (out20_eq (block4 m c)).trans ((congrArg total (in4 m c)))
  exact (dats m 0 c).arrAt_eq_of_after_last 20 pt (by decide +kernel) _ fun j => congrFun left j
/-- The weight's change. -/
theorem arr21 (c : Dev nD) : (dats m 0 c).arrAt 21 cfg0.N = delta (total (arg4 m c)) (arg5 m c) (arg6 m c) (arg7 m c) := by
  have left : (dats m 0 c).after 21 pt = delta (total (arg4 m c)) (arg5 m c) (arg6 m c) (arg7 m c) := by
    rw [after0_21]
    exact (out21_eq (block4 m c) (block5 m c) (block6 m c) (block7 m c)).trans (congr (congr (congr (congrArg delta (congrArg total (in4 m c))) (in5 m c)) (in6 m c)) (in7 m c))
  exact (dats m 0 c).arrAt_eq_of_after_last 21 pt (by decide +kernel) _ fun j => congrFun left j
/-- The new first moment. -/
theorem arr22 (c : Dev nD) : (dats m 0 c).arrAt 22 cfg0.N = moment1 (total (arg4 m c)) (arg6 m c) := by
  have left : (dats m 0 c).after 22 pt = moment1 (total (arg4 m c)) (arg6 m c) := by
    rw [after0_22]
    exact (out22_eq (block4 m c) (block6 m c)).trans (congr (congrArg moment1 (congrArg total (in4 m c))) (in6 m c))
  exact (dats m 0 c).arrAt_eq_of_after_last 22 pt (by decide +kernel) _ fun j => congrFun left j
/-- The new second moment. -/
theorem arr23 (c : Dev nD) : (dats m 0 c).arrAt 23 cfg0.N = moment2 (total (arg4 m c)) (arg7 m c) := by
  have left : (dats m 0 c).after 23 pt = moment2 (total (arg4 m c)) (arg7 m c) := by
    rw [after0_23]
    exact (out23_eq (block4 m c) (block7 m c)).trans (congr (congrArg moment2 (congrArg total (in4 m c))) (in7 m c))
  exact (dats m 0 c).arrAt_eq_of_after_last 23 pt (by decide +kernel) _ fun j => congrFun left j

/-! Weight 2. -/

/-- The gradient: the sum of the parts. -/
theorem arr24 (c : Dev nD) : (dats m 0 c).arrAt 24 cfg0.N = total (arg8 m c) := by
  have left : (dats m 0 c).after 24 pt = total (arg8 m c) := by
    rw [after0_24]
    exact (out24_eq (block8 m c)).trans ((congrArg total (in8 m c)))
  exact (dats m 0 c).arrAt_eq_of_after_last 24 pt (by decide +kernel) _ fun j => congrFun left j
/-- The weight's change. -/
theorem arr25 (c : Dev nD) : (dats m 0 c).arrAt 25 cfg0.N = delta (total (arg8 m c)) (arg9 m c) (arg10 m c) (arg11 m c) := by
  have left : (dats m 0 c).after 25 pt = delta (total (arg8 m c)) (arg9 m c) (arg10 m c) (arg11 m c) := by
    rw [after0_25]
    exact (out25_eq (block8 m c) (block9 m c) (block10 m c) (block11 m c)).trans (congr (congr (congr (congrArg delta (congrArg total (in8 m c))) (in9 m c)) (in10 m c)) (in11 m c))
  exact (dats m 0 c).arrAt_eq_of_after_last 25 pt (by decide +kernel) _ fun j => congrFun left j
/-- The new first moment. -/
theorem arr26 (c : Dev nD) : (dats m 0 c).arrAt 26 cfg0.N = moment1 (total (arg8 m c)) (arg10 m c) := by
  have left : (dats m 0 c).after 26 pt = moment1 (total (arg8 m c)) (arg10 m c) := by
    rw [after0_26]
    exact (out26_eq (block8 m c) (block10 m c)).trans (congr (congrArg moment1 (congrArg total (in8 m c))) (in10 m c))
  exact (dats m 0 c).arrAt_eq_of_after_last 26 pt (by decide +kernel) _ fun j => congrFun left j
/-- The new second moment. -/
theorem arr27 (c : Dev nD) : (dats m 0 c).arrAt 27 cfg0.N = moment2 (total (arg8 m c)) (arg11 m c) := by
  have left : (dats m 0 c).after 27 pt = moment2 (total (arg8 m c)) (arg11 m c) := by
    rw [after0_27]
    exact (out27_eq (block8 m c) (block11 m c)).trans (congr (congrArg moment2 (congrArg total (in8 m c))) (in11 m c))
  exact (dats m 0 c).arrAt_eq_of_after_last 27 pt (by decide +kernel) _ fun j => congrFun left j

/-! Weight 3. -/

/-- The gradient: the sum of the parts. -/
theorem arr28 (c : Dev nD) : (dats m 0 c).arrAt 28 cfg0.N = total (arg12 m c) := by
  have left : (dats m 0 c).after 28 pt = total (arg12 m c) := by
    rw [after0_28]
    exact (out28_eq (block12 m c)).trans ((congrArg total (in12 m c)))
  exact (dats m 0 c).arrAt_eq_of_after_last 28 pt (by decide +kernel) _ fun j => congrFun left j
/-- The weight's change. -/
theorem arr29 (c : Dev nD) : (dats m 0 c).arrAt 29 cfg0.N = delta (total (arg12 m c)) (arg13 m c) (arg14 m c) (arg15 m c) := by
  have left : (dats m 0 c).after 29 pt = delta (total (arg12 m c)) (arg13 m c) (arg14 m c) (arg15 m c) := by
    rw [after0_29]
    exact (out29_eq (block12 m c) (block13 m c) (block14 m c) (block15 m c)).trans (congr (congr (congr (congrArg delta (congrArg total (in12 m c))) (in13 m c)) (in14 m c)) (in15 m c))
  exact (dats m 0 c).arrAt_eq_of_after_last 29 pt (by decide +kernel) _ fun j => congrFun left j
/-- The new first moment. -/
theorem arr30 (c : Dev nD) : (dats m 0 c).arrAt 30 cfg0.N = moment1 (total (arg12 m c)) (arg14 m c) := by
  have left : (dats m 0 c).after 30 pt = moment1 (total (arg12 m c)) (arg14 m c) := by
    rw [after0_30]
    exact (out30_eq (block12 m c) (block14 m c)).trans (congr (congrArg moment1 (congrArg total (in12 m c))) (in14 m c))
  exact (dats m 0 c).arrAt_eq_of_after_last 30 pt (by decide +kernel) _ fun j => congrFun left j
/-- The new second moment. -/
theorem arr31 (c : Dev nD) : (dats m 0 c).arrAt 31 cfg0.N = moment2 (total (arg12 m c)) (arg15 m c) := by
  have left : (dats m 0 c).after 31 pt = moment2 (total (arg12 m c)) (arg15 m c) := by
    rw [after0_31]
    exact (out31_eq (block12 m c) (block15 m c)).trans (congr (congrArg moment2 (congrArg total (in12 m c))) (in15 m c))
  exact (dats m 0 c).arrAt_eq_of_after_last 31 pt (by decide +kernel) _ fun j => congrFun left j

end Cert.AdamMediumIdeal.Rows

end
-- ==== Proof.AdamMedium.Claim.lean ====
/-
  The optimiser call for the medium weights equals the reference's over the reals: each gradient is the sum of the eight parts,
  and the moments and the change are the same expressions of it.
-/
module

public import proofs.«01_k».proof.Proof.AdamMedium.Value
public import proofs.«01_k».proof.Proof.Gen.AdamMediumRefIdeal.Run
public import proofs.«01_k».proof.Defs

@[expose] public section

set_option maxRecDepth 16384

noncomputable section

namespace Cert.AdamMediumIdeal.Rows

open Idealize.ShloMosaic Idealize.ShloMosaic.TcCoe Idealize.SL.Sem Cert.Adam Cert.AdamMediumIdeal Cert.AdamMediumIdeal.Gen

set_option maxHeartbeats 4000000 in
/-- The kernel and the reference end with the same sixteen results, and neither writes an argument. -/
theorem algebraic : Cert.algebraic_AdamMediumIdeal_AdamMediumRefIdeal (hAdamMediumIdeal := Cert.AdamMediumIdeal.Gen.facts)
    (hAdamMediumRefIdeal := Cert.AdamMediumRefIdeal.Gen.facts) := by
  intro m g m' g' _ hargs
  refine ⟨fun c => total (arg0 m c), fun c => delta (total (arg0 m c)) (arg1 m c) (arg2 m c) (arg3 m c), fun c => moment1 (total (arg0 m c)) (arg2 m c), fun c => moment2 (total (arg0 m c)) (arg3 m c),
    fun c => total (arg4 m c), fun c => delta (total (arg4 m c)) (arg5 m c) (arg6 m c) (arg7 m c), fun c => moment1 (total (arg4 m c)) (arg6 m c), fun c => moment2 (total (arg4 m c)) (arg7 m c),
    fun c => total (arg8 m c), fun c => delta (total (arg8 m c)) (arg9 m c) (arg10 m c) (arg11 m c), fun c => moment1 (total (arg8 m c)) (arg10 m c), fun c => moment2 (total (arg8 m c)) (arg11 m c),
    fun c => total (arg12 m c), fun c => delta (total (arg12 m c)) (arg13 m c) (arg14 m c) (arg15 m c), fun c => moment1 (total (arg12 m c)) (arg14 m c), fun c => moment2 (total (arg12 m c)) (arg15 m c),
    ?_, ?_⟩
  · refine (θ_run _ _ _).mono (fun _ h c => ?_) (run_main m g)
    exact ⟨(h.out_eq c 16).trans (arr16 m c), (h.out_eq c 17).trans (arr17 m c), (h.out_eq c 18).trans (arr18 m c), (h.out_eq c 19).trans (arr19 m c),
      (h.out_eq c 20).trans (arr20 m c), (h.out_eq c 21).trans (arr21 m c), (h.out_eq c 22).trans (arr22 m c), (h.out_eq c 23).trans (arr23 m c),
      (h.out_eq c 24).trans (arr24 m c), (h.out_eq c 25).trans (arr25 m c), (h.out_eq c 26).trans (arr26 m c), (h.out_eq c 27).trans (arr27 m c),
      (h.out_eq c 28).trans (arr28 m c), (h.out_eq c 29).trans (arr29 m c), (h.out_eq c 30).trans (arr30 m c), (h.out_eq c 31).trans (arr31 m c),
      (h.rest_eq c main_arg0 (by decide)).trans (V_main_arg0 m c), (h.in_eq c 1 rfl).trans ((A_eq m c 1).trans (V_main_arg1 m c)),
      (h.in_eq c 2 rfl).trans ((A_eq m c 2).trans (V_main_arg2 m c)), (h.in_eq c 3 rfl).trans ((A_eq m c 3).trans (V_main_arg3 m c)),
      (h.rest_eq c main_arg4 (by decide)).trans (V_main_arg4 m c), (h.in_eq c 5 rfl).trans ((A_eq m c 5).trans (V_main_arg5 m c)),
      (h.in_eq c 6 rfl).trans ((A_eq m c 6).trans (V_main_arg6 m c)), (h.in_eq c 7 rfl).trans ((A_eq m c 7).trans (V_main_arg7 m c)),
      (h.rest_eq c main_arg8 (by decide)).trans (V_main_arg8 m c), (h.in_eq c 9 rfl).trans ((A_eq m c 9).trans (V_main_arg9 m c)),
      (h.in_eq c 10 rfl).trans ((A_eq m c 10).trans (V_main_arg10 m c)), (h.in_eq c 11 rfl).trans ((A_eq m c 11).trans (V_main_arg11 m c)),
      (h.rest_eq c main_arg12 (by decide)).trans (V_main_arg12 m c), (h.in_eq c 13 rfl).trans ((A_eq m c 13).trans (V_main_arg13 m c)),
      (h.in_eq c 14 rfl).trans ((A_eq m c 14).trans (V_main_arg14 m c)), (h.in_eq c 15 rfl).trans ((A_eq m c 15).trans (V_main_arg15 m c))⟩
  · refine (θ_run _ _ _).mono (fun _ h c => ?_) (Cert.AdamMediumRefIdeal.Value.run m' g')
    obtain ⟨a0, a1, a2, a3, a4, a5, a6, a7, a8, a9, a10, a11, a12, a13, a14, a15⟩ := hargs c
    obtain ⟨r0, r1, r2, r3, r4, r5, r6, r7, r8, r9, r10, r11, r12, r13, r14, r15, kept⟩ := h c
    exact ⟨r0.trans (hostSum_eq _ _ a0), r1.trans (hostD_eq _ (hostSum_eq _ _ a0) a1 a2 a3), r2.trans (host1_eq _ (hostSum_eq _ _ a0) a2), r3.trans (host2_eq _ (hostSum_eq _ _ a0) a3),
      r4.trans (hostSum_eq _ _ a4), r5.trans (hostD_eq _ (hostSum_eq _ _ a4) a5 a6 a7), r6.trans (host1_eq _ (hostSum_eq _ _ a4) a6), r7.trans (host2_eq _ (hostSum_eq _ _ a4) a7),
      r8.trans (hostSum_eq _ _ a8), r9.trans (hostD_eq _ (hostSum_eq _ _ a8) a9 a10 a11), r10.trans (host1_eq _ (hostSum_eq _ _ a8) a10), r11.trans (host2_eq _ (hostSum_eq _ _ a8) a11),
      r12.trans (hostSum_eq _ _ a12), r13.trans (hostD_eq _ (hostSum_eq _ _ a12) a13 a14 a15), r14.trans (host1_eq _ (hostSum_eq _ _ a12) a14), r15.trans (host2_eq _ (hostSum_eq _ _ a12) a15),
      kept⟩

end Cert.AdamMediumIdeal.Rows

end
-- ==== Proof.AdamSmall.Frame.lean ====
/-
  The frame of the optimiser's call for the small weights.  It is the generated frame of the program, with more steps allowed
  where the body's triple is restated over all the windows, and with each result a function of the blocks it is read off alone.
-/
module

public import proofs.«01_k».proof.Proof.Gen.AdamSmallIdeal.Launch
public import proofs.«01_k».proof.Proof.Gen.AdamSmallIdeal.Skeleton
public import proofs.«01_k».proof.Proof.Gen.AdamSmallIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.AdamSmallIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl
theorem V_main_arg11 (c : Dev nD) : V m c main_arg11 = m ((c : Thread nD τ).loc main_arg11) := rfl
theorem V_main_arg12 (c : Dev nD) : V m c main_arg12 = m ((c : Thread nD τ).loc main_arg12) := rfl
theorem V_main_arg13 (c : Dev nD) : V m c main_arg13 = m ((c : Thread nD τ).loc main_arg13) := rfl
theorem V_main_arg14 (c : Dev nD) : V m c main_arg14 = m ((c : Thread nD τ).loc main_arg14) := rfl
theorem V_main_arg15 (c : Dev nD) : V m c main_arg15 = m ((c : Thread nD τ).loc main_arg15) := rfl
theorem V_main_arg16 (c : Dev nD) : V m c main_arg16 = m ((c : Thread nD τ).loc main_arg16) := rfl
theorem V_main_arg17 (c : Dev nD) : V m c main_arg17 = m ((c : Thread nD τ).loc main_arg17) := rfl
theorem V_main_arg18 (c : Dev nD) : V m c main_arg18 = m ((c : Thread nD τ).loc main_arg18) := rfl
theorem V_main_arg19 (c : Dev nD) : V m c main_arg19 = m ((c : Thread nD τ).loc main_arg19) := rfl
theorem V_main_arg20 (c : Dev nD) : V m c main_arg20 = m ((c : Thread nD τ).loc main_arg20) := rfl
theorem V_main_arg21 (c : Dev nD) : V m c main_arg21 = m ((c : Thread nD τ).loc main_arg21) := rfl
theorem V_main_arg22 (c : Dev nD) : V m c main_arg22 = m ((c : Thread nD τ).loc main_arg22) := rfl
theorem V_main_arg23 (c : Dev nD) : V m c main_arg23 = m ((c : Thread nD τ).loc main_arg23) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Input window 22's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
/-- Input window 23's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 2880000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_AdamSmallIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).1 11).trans (((dats 0 c).arrAt_in 11 rfl _).trans ((hA c 11).trans (V_main_arg11 m c))),
      ((h c).1 12).trans (((dats 0 c).arrAt_in 12 rfl _).trans ((hA c 12).trans (V_main_arg12 m c))),
      ((h c).1 13).trans (((dats 0 c).arrAt_in 13 rfl _).trans ((hA c 13).trans (V_main_arg13 m c))),
      ((h c).1 14).trans (((dats 0 c).arrAt_in 14 rfl _).trans ((hA c 14).trans (V_main_arg14 m c))),
      ((h c).1 15).trans (((dats 0 c).arrAt_in 15 rfl _).trans ((hA c 15).trans (V_main_arg15 m c))),
      ((h c).1 16).trans (((dats 0 c).arrAt_in 16 rfl _).trans ((hA c 16).trans (V_main_arg16 m c))),
      ((h c).1 17).trans (((dats 0 c).arrAt_in 17 rfl _).trans ((hA c 17).trans (V_main_arg17 m c))),
      ((h c).1 18).trans (((dats 0 c).arrAt_in 18 rfl _).trans ((hA c 18).trans (V_main_arg18 m c))),
      ((h c).1 19).trans (((dats 0 c).arrAt_in 19 rfl _).trans ((hA c 19).trans (V_main_arg19 m c))),
      ((h c).1 20).trans (((dats 0 c).arrAt_in 20 rfl _).trans ((hA c 20).trans (V_main_arg20 m c))),
      ((h c).1 21).trans (((dats 0 c).arrAt_in 21 rfl _).trans ((hA c 21).trans (V_main_arg21 m c))),
      ((h c).1 22).trans (((dats 0 c).arrAt_in 22 rfl _).trans ((hA c 22).trans (V_main_arg22 m c))),
      ((h c).1 23).trans (((dats 0 c).arrAt_in 23 rfl _).trans ((hA c 23).trans (V_main_arg23 m c)))⟩) h

/-! ## The body's accesses -/

abbrev r0_0 : Rect S8x1024 := Rect.unit (s := S8x1024) ![0, 0] S8x1024.size inb_S8x1024_S8x1024_0_0
abbrev r0_1 : Rect S16x512 := Rect.unit (s := S16x512) ![0, 0] S16x512.size inb_S16x512_S16x512_0_0
abbrev r0_2 : Rect S512x128 := Rect.unit (s := S512x128) ![0, 0] S512x128.size inb_S512x128_S512x128_0_0
abbrev r0_3 : Rect S512x64 := Rect.unit (s := S512x64) ![0, 0] S512x64.size inb_S512x64_S512x64_0_0
abbrev r0_4 : Rect S4x64 := Rect.unit (s := S4x64) ![0, 0] S4x64.size inb_S4x64_S4x64_0_0

/-! ## What the body leaves in each output window's buffer -/

def out0_24 (x0 : Vec F S8x1024 .f32) : Vec F S8x1024 .f32 :=
  View.canon [⟨r0_0, View.ld x0 r0_0⟩]

theorem cover0_24 (p0 : Vec F S8x1024 .f32) (y : S8x1024.Idx) :
    ∃ pc ∈ ([⟨r0_0, p0⟩] : List (View.Piece (Elt F) S8x1024 .f32)), y ∈ pc.1.set :=
  View.cover_of_tiled [⟨r0_0, p0⟩] S8x1024.size (by rfl) y

def out0_25 (x0 x1 x2 x3 : Vec F S8x1024 .f32) : Vec F S8x1024 .f32 :=
  View.canon [⟨r0_0, k0_pay3 (View.ld x0 r0_0) (View.ld x1 r0_0) (View.ld x2 r0_0) (View.ld x3 r0_0)⟩]

theorem cover0_25 (p0 : Vec F S8x1024 .f32) (y : S8x1024.Idx) :
    ∃ pc ∈ ([⟨r0_0, p0⟩] : List (View.Piece (Elt F) S8x1024 .f32)), y ∈ pc.1.set :=
  View.cover_of_tiled [⟨r0_0, p0⟩] S8x1024.size (by rfl) y

def out0_26 (x0 x2 : Vec F S8x1024 .f32) : Vec F S8x1024 .f32 :=
  View.canon [⟨r0_0, k0_pay1 (View.ld x0 r0_0) (View.ld x2 r0_0)⟩]

theorem cover0_26 (p0 : Vec F S8x1024 .f32) (y : S8x1024.Idx) :
    ∃ pc ∈ ([⟨r0_0, p0⟩] : List (View.Piece (Elt F) S8x1024 .f32)), y ∈ pc.1.set :=
  View.cover_of_tiled [⟨r0_0, p0⟩] S8x1024.size (by rfl) y

def out0_27 (x0 x3 : Vec F S8x1024 .f32) : Vec F S8x1024 .f32 :=
  View.canon [⟨r0_0, k0_pay2 (View.ld x0 r0_0) (View.ld x3 r0_0)⟩]

theorem cover0_27 (p0 : Vec F S8x1024 .f32) (y : S8x1024.Idx) :
    ∃ pc ∈ ([⟨r0_0, p0⟩] : List (View.Piece (Elt F) S8x1024 .f32)), y ∈ pc.1.set :=
  View.cover_of_tiled [⟨r0_0, p0⟩] S8x1024.size (by rfl) y

def out0_28 (x4 : Vec F S16x512 .f32) : Vec F S16x512 .f32 :=
  View.canon [⟨r0_1, View.ld x4 r0_1⟩]

theorem cover0_28 (p0 : Vec F S16x512 .f32) (y : S16x512.Idx) :
    ∃ pc ∈ ([⟨r0_1, p0⟩] : List (View.Piece (Elt F) S16x512 .f32)), y ∈ pc.1.set :=
  View.cover_of_tiled [⟨r0_1, p0⟩] S16x512.size (by rfl) y

def out0_29 (x4 x5 x6 x7 : Vec F S16x512 .f32) : Vec F S16x512 .f32 :=
  View.canon [⟨r0_1, k0_pay6 (View.ld x4 r0_1) (View.ld x5 r0_1) (View.ld x6 r0_1) (View.ld x7 r0_1)⟩]

theorem cover0_29 (p0 : Vec F S16x512 .f32) (y : S16x512.Idx) :
    ∃ pc ∈ ([⟨r0_1, p0⟩] : List (View.Piece (Elt F) S16x512 .f32)), y ∈ pc.1.set :=
  View.cover_of_tiled [⟨r0_1, p0⟩] S16x512.size (by rfl) y

def out0_30 (x4 x6 : Vec F S16x512 .f32) : Vec F S16x512 .f32 :=
  View.canon [⟨r0_1, k0_pay4 (View.ld x4 r0_1) (View.ld x6 r0_1)⟩]

theorem cover0_30 (p0 : Vec F S16x512 .f32) (y : S16x512.Idx) :
    ∃ pc ∈ ([⟨r0_1, p0⟩] : List (View.Piece (Elt F) S16x512 .f32)), y ∈ pc.1.set :=
  View.cover_of_tiled [⟨r0_1, p0⟩] S16x512.size (by rfl) y

def out0_31 (x4 x7 : Vec F S16x512 .f32) : Vec F S16x512 .f32 :=
  View.canon [⟨r0_1, k0_pay5 (View.ld x4 r0_1) (View.ld x7 r0_1)⟩]

theorem cover0_31 (p0 : Vec F S16x512 .f32) (y : S16x512.Idx) :
    ∃ pc ∈ ([⟨r0_1, p0⟩] : List (View.Piece (Elt F) S16x512 .f32)), y ∈ pc.1.set :=
  View.cover_of_tiled [⟨r0_1, p0⟩] S16x512.size (by rfl) y

def out0_32 (x8 : Vec F S512x128 .f32) : Vec F S512x128 .f32 :=
  View.canon [⟨r0_2, View.ld x8 r0_2⟩]

theorem cover0_32 (p0 : Vec F S512x128 .f32) (y : S512x128.Idx) :
    ∃ pc ∈ ([⟨r0_2, p0⟩] : List (View.Piece (Elt F) S512x128 .f32)), y ∈ pc.1.set :=
  View.cover_of_tiled [⟨r0_2, p0⟩] S512x128.size (by rfl) y

def out0_33 (x8 x9 x10 x11 : Vec F S512x128 .f32) : Vec F S512x128 .f32 :=
  View.canon [⟨r0_2, k0_pay9 (View.ld x8 r0_2) (View.ld x9 r0_2) (View.ld x10 r0_2) (View.ld x11 r0_2)⟩]

theorem cover0_33 (p0 : Vec F S512x128 .f32) (y : S512x128.Idx) :
    ∃ pc ∈ ([⟨r0_2, p0⟩] : List (View.Piece (Elt F) S512x128 .f32)), y ∈ pc.1.set :=
  View.cover_of_tiled [⟨r0_2, p0⟩] S512x128.size (by rfl) y

def out0_34 (x8 x10 : Vec F S512x128 .f32) : Vec F S512x128 .f32 :=
  View.canon [⟨r0_2, k0_pay7 (View.ld x8 r0_2) (View.ld x10 r0_2)⟩]

theorem cover0_34 (p0 : Vec F S512x128 .f32) (y : S512x128.Idx) :
    ∃ pc ∈ ([⟨r0_2, p0⟩] : List (View.Piece (Elt F) S512x128 .f32)), y ∈ pc.1.set :=
  View.cover_of_tiled [⟨r0_2, p0⟩] S512x128.size (by rfl) y

def out0_35 (x8 x11 : Vec F S512x128 .f32) : Vec F S512x128 .f32 :=
  View.canon [⟨r0_2, k0_pay8 (View.ld x8 r0_2) (View.ld x11 r0_2)⟩]

theorem cover0_35 (p0 : Vec F S512x128 .f32) (y : S512x128.Idx) :
    ∃ pc ∈ ([⟨r0_2, p0⟩] : List (View.Piece (Elt F) S512x128 .f32)), y ∈ pc.1.set :=
  View.cover_of_tiled [⟨r0_2, p0⟩] S512x128.size (by rfl) y

def out0_36 (x12 : Vec F S512x64 .f32) : Vec F S512x64 .f32 :=
  View.canon [⟨r0_3, View.ld x12 r0_3⟩]

theorem cover0_36 (p0 : Vec F S512x64 .f32) (y : S512x64.Idx) :
    ∃ pc ∈ ([⟨r0_3, p0⟩] : List (View.Piece (Elt F) S512x64 .f32)), y ∈ pc.1.set :=
  View.cover_of_tiled [⟨r0_3, p0⟩] S512x64.size (by rfl) y

def out0_37 (x12 x13 x14 x15 : Vec F S512x64 .f32) : Vec F S512x64 .f32 :=
  View.canon [⟨r0_3, k0_pay12 (View.ld x12 r0_3) (View.ld x13 r0_3) (View.ld x14 r0_3) (View.ld x15 r0_3)⟩]

theorem cover0_37 (p0 : Vec F S512x64 .f32) (y : S512x64.Idx) :
    ∃ pc ∈ ([⟨r0_3, p0⟩] : List (View.Piece (Elt F) S512x64 .f32)), y ∈ pc.1.set :=
  View.cover_of_tiled [⟨r0_3, p0⟩] S512x64.size (by rfl) y

def out0_38 (x12 x14 : Vec F S512x64 .f32) : Vec F S512x64 .f32 :=
  View.canon [⟨r0_3, k0_pay10 (View.ld x12 r0_3) (View.ld x14 r0_3)⟩]

theorem cover0_38 (p0 : Vec F S512x64 .f32) (y : S512x64.Idx) :
    ∃ pc ∈ ([⟨r0_3, p0⟩] : List (View.Piece (Elt F) S512x64 .f32)), y ∈ pc.1.set :=
  View.cover_of_tiled [⟨r0_3, p0⟩] S512x64.size (by rfl) y

def out0_39 (x12 x15 : Vec F S512x64 .f32) : Vec F S512x64 .f32 :=
  View.canon [⟨r0_3, k0_pay11 (View.ld x12 r0_3) (View.ld x15 r0_3)⟩]

theorem cover0_39 (p0 : Vec F S512x64 .f32) (y : S512x64.Idx) :
    ∃ pc ∈ ([⟨r0_3, p0⟩] : List (View.Piece (Elt F) S512x64 .f32)), y ∈ pc.1.set :=
  View.cover_of_tiled [⟨r0_3, p0⟩] S512x64.size (by rfl) y

def out0_40 (x16 : Vec F S512x64 .f32) : Vec F S512x64 .f32 :=
  View.canon [⟨r0_3, View.ld x16 r0_3⟩]

theorem cover0_40 (p0 : Vec F S512x64 .f32) (y : S512x64.Idx) :
    ∃ pc ∈ ([⟨r0_3, p0⟩] : List (View.Piece (Elt F) S512x64 .f32)), y ∈ pc.1.set :=
  View.cover_of_tiled [⟨r0_3, p0⟩] S512x64.size (by rfl) y

def out0_41 (x16 x17 x18 x19 : Vec F S512x64 .f32) : Vec F S512x64 .f32 :=
  View.canon [⟨r0_3, k0_pay15 (View.ld x16 r0_3) (View.ld x17 r0_3) (View.ld x18 r0_3) (View.ld x19 r0_3)⟩]

theorem cover0_41 (p0 : Vec F S512x64 .f32) (y : S512x64.Idx) :
    ∃ pc ∈ ([⟨r0_3, p0⟩] : List (View.Piece (Elt F) S512x64 .f32)), y ∈ pc.1.set :=
  View.cover_of_tiled [⟨r0_3, p0⟩] S512x64.size (by rfl) y

def out0_42 (x16 x18 : Vec F S512x64 .f32) : Vec F S512x64 .f32 :=
  View.canon [⟨r0_3, k0_pay13 (View.ld x16 r0_3) (View.ld x18 r0_3)⟩]

theorem cover0_42 (p0 : Vec F S512x64 .f32) (y : S512x64.Idx) :
    ∃ pc ∈ ([⟨r0_3, p0⟩] : List (View.Piece (Elt F) S512x64 .f32)), y ∈ pc.1.set :=
  View.cover_of_tiled [⟨r0_3, p0⟩] S512x64.size (by rfl) y

def out0_43 (x16 x19 : Vec F S512x64 .f32) : Vec F S512x64 .f32 :=
  View.canon [⟨r0_3, k0_pay14 (View.ld x16 r0_3) (View.ld x19 r0_3)⟩]

theorem cover0_43 (p0 : Vec F S512x64 .f32) (y : S512x64.Idx) :
    ∃ pc ∈ ([⟨r0_3, p0⟩] : List (View.Piece (Elt F) S512x64 .f32)), y ∈ pc.1.set :=
  View.cover_of_tiled [⟨r0_3, p0⟩] S512x64.size (by rfl) y

def out0_44 (x20 : Vec F S4x64 .f32) : Vec F S4x64 .f32 :=
  View.canon [⟨r0_4, View.ld x20 r0_4⟩]

theorem cover0_44 (p0 : Vec F S4x64 .f32) (y : S4x64.Idx) :
    ∃ pc ∈ ([⟨r0_4, p0⟩] : List (View.Piece (Elt F) S4x64 .f32)), y ∈ pc.1.set :=
  View.cover_of_tiled [⟨r0_4, p0⟩] S4x64.size (by rfl) y

def out0_45 (x20 x21 x22 x23 : Vec F S4x64 .f32) : Vec F S4x64 .f32 :=
  View.canon [⟨r0_4, k0_pay18 (View.ld x20 r0_4) (View.ld x21 r0_4) (View.ld x22 r0_4) (View.ld x23 r0_4)⟩]

theorem cover0_45 (p0 : Vec F S4x64 .f32) (y : S4x64.Idx) :
    ∃ pc ∈ ([⟨r0_4, p0⟩] : List (View.Piece (Elt F) S4x64 .f32)), y ∈ pc.1.set :=
  View.cover_of_tiled [⟨r0_4, p0⟩] S4x64.size (by rfl) y

def out0_46 (x20 x22 : Vec F S4x64 .f32) : Vec F S4x64 .f32 :=
  View.canon [⟨r0_4, k0_pay16 (View.ld x20 r0_4) (View.ld x22 r0_4)⟩]

theorem cover0_46 (p0 : Vec F S4x64 .f32) (y : S4x64.Idx) :
    ∃ pc ∈ ([⟨r0_4, p0⟩] : List (View.Piece (Elt F) S4x64 .f32)), y ∈ pc.1.set :=
  View.cover_of_tiled [⟨r0_4, p0⟩] S4x64.size (by rfl) y

def out0_47 (x20 x23 : Vec F S4x64 .f32) : Vec F S4x64 .f32 :=
  View.canon [⟨r0_4, k0_pay17 (View.ld x20 r0_4) (View.ld x23 r0_4)⟩]

theorem cover0_47 (p0 : Vec F S4x64 .f32) (y : S4x64.Idx) :
    ∃ pc ∈ ([⟨r0_4, p0⟩] : List (View.Piece (Elt F) S4x64 .f32)), y ∈ pc.1.set :=
  View.cover_of_tiled [⟨r0_4, p0⟩] S4x64.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (arg0 : Memref sig .tc .vmem S8x1024 .f32) (harg0 : arg0.IsWhole) (arg1 : Memref sig .tc .vmem S8x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x64 .f32) (harg12 : arg12.IsWhole) (arg13 : Memref sig .tc .vmem S512x64 .f32) (harg13 : arg13.IsWhole) (arg14 : Memref sig .tc .vmem S512x64 .f32) (harg14 : arg14.IsWhole) (arg15 : Memref sig .tc .vmem S512x64 .f32) (harg15 : arg15.IsWhole) (arg16 : Memref sig .tc .vmem S512x64 .f32) (harg16 : arg16.IsWhole) (arg17 : Memref sig .tc .vmem S512x64 .f32) (harg17 : arg17.IsWhole) (arg18 : Memref sig .tc .vmem S512x64 .f32) (harg18 : arg18.IsWhole) (arg19 : Memref sig .tc .vmem S512x64 .f32) (harg19 : arg19.IsWhole) (arg20 : Memref sig .tc .vmem S4x64 .f32) (harg20 : arg20.IsWhole) (arg21 : Memref sig .tc .vmem S4x64 .f32) (harg21 : arg21.IsWhole) (arg22 : Memref sig .tc .vmem S4x64 .f32) (harg22 : arg22.IsWhole) (arg23 : Memref sig .tc .vmem S4x64 .f32) (harg23 : arg23.IsWhole) (arg24 : Memref sig .tc .vmem S8x1024 .f32) (harg24 : arg24.IsWhole) (arg25 : Memref sig .tc .vmem S8x1024 .f32) (harg25 : arg25.IsWhole) (arg26 : Memref sig .tc .vmem S8x1024 .f32) (harg26 : arg26.IsWhole) (arg27 : Memref sig .tc .vmem S8x1024 .f32) (harg27 : arg27.IsWhole) (arg28 : Memref sig .tc .vmem S16x512 .f32) (harg28 : arg28.IsWhole) (arg29 : Memref sig .tc .vmem S16x512 .f32) (harg29 : arg29.IsWhole) (arg30 : Memref sig .tc .vmem S16x512 .f32) (harg30 : arg30.IsWhole) (arg31 : Memref sig .tc .vmem S16x512 .f32) (harg31 : arg31.IsWhole) (arg32 : Memref sig .tc .vmem S512x128 .f32) (harg32 : arg32.IsWhole) (arg33 : Memref sig .tc .vmem S512x128 .f32) (harg33 : arg33.IsWhole) (arg34 : Memref sig .tc .vmem S512x128 .f32) (harg34 : arg34.IsWhole) (arg35 : Memref sig .tc .vmem S512x128 .f32) (harg35 : arg35.IsWhole) (arg36 : Memref sig .tc .vmem S512x64 .f32) (harg36 : arg36.IsWhole) (arg37 : Memref sig .tc .vmem S512x64 .f32) (harg37 : arg37.IsWhole) (arg38 : Memref sig .tc .vmem S512x64 .f32) (harg38 : arg38.IsWhole) (arg39 : Memref sig .tc .vmem S512x64 .f32) (harg39 : arg39.IsWhole) (arg40 : Memref sig .tc .vmem S512x64 .f32) (harg40 : arg40.IsWhole) (arg41 : Memref sig .tc .vmem S512x64 .f32) (harg41 : arg41.IsWhole) (arg42 : Memref sig .tc .vmem S512x64 .f32) (harg42 : arg42.IsWhole) (arg43 : Memref sig .tc .vmem S512x64 .f32) (harg43 : arg43.IsWhole) (arg44 : Memref sig .tc .vmem S4x64 .f32) (harg44 : arg44.IsWhole) (arg45 : Memref sig .tc .vmem S4x64 .f32) (harg45 : arg45.IsWhole) (arg46 : Memref sig .tc .vmem S4x64 .f32) (harg46 : arg46.IsWhole) (arg47 : Memref sig .tc .vmem S4x64 .f32) (harg47 : arg47.IsWhole)
    (x0 x1 x2 x3 : Vec F S8x1024 .f32) (x4 x5 x6 x7 : Vec F S16x512 .f32) (x8 x9 x10 x11 : Vec F S512x128 .f32) (x12 x13 x14 x15 x16 x17 x18 x19 : Vec F S512x64 .f32) (x20 x21 x22 x23 : Vec F S4x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare (out0_24 x0) ∗ owns (c : Thread nD τ) arg25 fullShare (out0_25 x0 x1 x2 x3) ∗ owns (c : Thread nD τ) arg26 fullShare (out0_26 x0 x2) ∗ owns (c : Thread nD τ) arg27 fullShare (out0_27 x0 x3) ∗ owns (c : Thread nD τ) arg28 fullShare (out0_28 x4) ∗ owns (c : Thread nD τ) arg29 fullShare (out0_29 x4 x5 x6 x7) ∗ owns (c : Thread nD τ) arg30 fullShare (out0_30 x4 x6) ∗ owns (c : Thread nD τ) arg31 fullShare (out0_31 x4 x7) ∗ owns (c : Thread nD τ) arg32 fullShare (out0_32 x8) ∗ owns (c : Thread nD τ) arg33 fullShare (out0_33 x8 x9 x10 x11) ∗ owns (c : Thread nD τ) arg34 fullShare (out0_34 x8 x10) ∗ owns (c : Thread nD τ) arg35 fullShare (out0_35 x8 x11) ∗ owns (c : Thread nD τ) arg36 fullShare (out0_36 x12) ∗ owns (c : Thread nD τ) arg37 fullShare (out0_37 x12 x13 x14 x15) ∗ owns (c : Thread nD τ) arg38 fullShare (out0_38 x12 x14) ∗ owns (c : Thread nD τ) arg39 fullShare (out0_39 x12 x15) ∗ owns (c : Thread nD τ) arg40 fullShare (out0_40 x16) ∗ owns (c : Thread nD τ) arg41 fullShare (out0_41 x16 x17 x18 x19) ∗ owns (c : Thread nD τ) arg42 fullShare (out0_42 x16 x18) ∗ owns (c : Thread nD τ) arg43 fullShare (out0_43 x16 x19) ∗ owns (c : Thread nD τ) arg44 fullShare (out0_44 x20) ∗ owns (c : Thread nD τ) arg45 fullShare (out0_45 x20 x21 x22 x23) ∗ owns (c : Thread nD τ) arg46 fullShare (out0_46 x20 x22) ∗ owns (c : Thread nD τ) arg47 fullShare (out0_47 x20 x23)) -∗ K ⟨⟩))
      ⊢ wp frame (wpE (defs₀ (F := F)) Variants.none c none) E (cc0_adamw_small arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47) K := by
  simp only [cc0_adamw_small_eq_skeleton]; unfold cc0_adamw_small_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, Hk⟩
  subst hf0 hf1 hf2 hf3 hf4 hf5 hf6 hf7 hf8 hf9 hf10 hf11 hf12 hf13 hf14 hf15 hf16 hf17 hf18 hf19 hf20 hf21 hf22 hf23
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists _; isplitr
    swap; · iexact H24
    ipureintro
    exact View.read_writes_eq_canon _ _ _ (cover0_24 _)
  isplitl [H25]
  · iexists _; isplitr
    swap; · iexact H25
    ipureintro
    exact View.read_writes_eq_canon _ _ _ (cover0_25 _)
  isplitl [H26]
  · iexists _; isplitr
    swap; · iexact H26
    ipureintro
    exact View.read_writes_eq_canon _ _ _ (cover0_26 _)
  isplitl [H27]
  · iexists _; isplitr
    swap; · iexact H27
    ipureintro
    exact View.read_writes_eq_canon _ _ _ (cover0_27 _)
  isplitl [H28]
  · iexists _; isplitr
    swap; · iexact H28
    ipureintro
    exact View.read_writes_eq_canon _ _ _ (cover0_28 _)
  isplitl [H29]
  · iexists _; isplitr
    swap; · iexact H29
    ipureintro
    exact View.read_writes_eq_canon _ _ _ (cover0_29 _)
  isplitl [H30]
  · iexists _; isplitr
    swap; · iexact H30
    ipureintro
    exact View.read_writes_eq_canon _ _ _ (cover0_30 _)
  isplitl [H31]
  · iexists _; isplitr
    swap; · iexact H31
    ipureintro
    exact View.read_writes_eq_canon _ _ _ (cover0_31 _)
  isplitl [H32]
  · iexists _; isplitr
    swap; · iexact H32
    ipureintro
    exact View.read_writes_eq_canon _ _ _ (cover0_32 _)
  isplitl [H33]
  · iexists _; isplitr
    swap; · iexact H33
    ipureintro
    exact View.read_writes_eq_canon _ _ _ (cover0_33 _)
  isplitl [H34]
  · iexists _; isplitr
    swap; · iexact H34
    ipureintro
    exact View.read_writes_eq_canon _ _ _ (cover0_34 _)
  isplitl [H35]
  · iexists _; isplitr
    swap; · iexact H35
    ipureintro
    exact View.read_writes_eq_canon _ _ _ (cover0_35 _)
  isplitl [H36]
  · iexists _; isplitr
    swap; · iexact H36
    ipureintro
    exact View.read_writes_eq_canon _ _ _ (cover0_36 _)
  isplitl [H37]
  · iexists _; isplitr
    swap; · iexact H37
    ipureintro
    exact View.read_writes_eq_canon _ _ _ (cover0_37 _)
  isplitl [H38]
  · iexists _; isplitr
    swap; · iexact H38
    ipureintro
    exact View.read_writes_eq_canon _ _ _ (cover0_38 _)
  isplitl [H39]
  · iexists _; isplitr
    swap; · iexact H39
    ipureintro
    exact View.read_writes_eq_canon _ _ _ (cover0_39 _)
  isplitl [H40]
  · iexists _; isplitr
    swap; · iexact H40
    ipureintro
    exact View.read_writes_eq_canon _ _ _ (cover0_40 _)
  isplitl [H41]
  · iexists _; isplitr
    swap; · iexact H41
    ipureintro
    exact View.read_writes_eq_canon _ _ _ (cover0_41 _)
  isplitl [H42]
  · iexists _; isplitr
    swap; · iexact H42
    ipureintro
    exact View.read_writes_eq_canon _ _ _ (cover0_42 _)
  isplitl [H43]
  · iexists _; isplitr
    swap; · iexact H43
    ipureintro
    exact View.read_writes_eq_canon _ _ _ (cover0_43 _)
  isplitl [H44]
  · iexists _; isplitr
    swap; · iexact H44
    ipureintro
    exact View.read_writes_eq_canon _ _ _ (cover0_44 _)
  isplitl [H45]
  · iexists _; isplitr
    swap; · iexact H45
    ipureintro
    exact View.read_writes_eq_canon _ _ _ (cover0_45 _)
  isplitl [H46]
  · iexists _; isplitr
    swap; · iexact H46
    ipureintro
    exact View.read_writes_eq_canon _ _ _ (cover0_46 _)
  iexists _; isplitr
  swap; · iexact H47
  ipureintro
  exact View.read_writes_eq_canon _ _ _ (cover0_47 _)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => out0_24 (iblk m c 0 t)
    | ⟨25, _⟩ => out0_25 (iblk m c 0 t) (iblk m c 1 t) (iblk m c 2 t) (iblk m c 3 t)
    | ⟨26, _⟩ => out0_26 (iblk m c 0 t) (iblk m c 2 t)
    | ⟨27, _⟩ => out0_27 (iblk m c 0 t) (iblk m c 3 t)
    | ⟨28, _⟩ => out0_28 (iblk m c 4 t)
    | ⟨29, _⟩ => out0_29 (iblk m c 4 t) (iblk m c 5 t) (iblk m c 6 t) (iblk m c 7 t)
    | ⟨30, _⟩ => out0_30 (iblk m c 4 t) (iblk m c 6 t)
    | ⟨31, _⟩ => out0_31 (iblk m c 4 t) (iblk m c 7 t)
    | ⟨32, _⟩ => out0_32 (iblk m c 8 t)
    | ⟨33, _⟩ => out0_33 (iblk m c 8 t) (iblk m c 9 t) (iblk m c 10 t) (iblk m c 11 t)
    | ⟨34, _⟩ => out0_34 (iblk m c 8 t) (iblk m c 10 t)
    | ⟨35, _⟩ => out0_35 (iblk m c 8 t) (iblk m c 11 t)
    | ⟨36, _⟩ => out0_36 (iblk m c 12 t)
    | ⟨37, _⟩ => out0_37 (iblk m c 12 t) (iblk m c 13 t) (iblk m c 14 t) (iblk m c 15 t)
    | ⟨38, _⟩ => out0_38 (iblk m c 12 t) (iblk m c 14 t)
    | ⟨39, _⟩ => out0_39 (iblk m c 12 t) (iblk m c 15 t)
    | ⟨40, _⟩ => out0_40 (iblk m c 16 t)
    | ⟨41, _⟩ => out0_41 (iblk m c 16 t) (iblk m c 17 t) (iblk m c 18 t) (iblk m c 19 t)
    | ⟨42, _⟩ => out0_42 (iblk m c 16 t) (iblk m c 18 t)
    | ⟨43, _⟩ => out0_43 (iblk m c 16 t) (iblk m c 19 t)
    | ⟨44, _⟩ => out0_44 (iblk m c 20 t)
    | ⟨45, _⟩ => out0_45 (iblk m c 20 t) (iblk m c 21 t) (iblk m c 22 t) (iblk m c 23 t)
    | ⟨46, _⟩ => out0_46 (iblk m c 20 t) (iblk m c 22 t)
    | ⟨47, _⟩ => out0_47 (iblk m c 20 t) (iblk m c 23 t)
    | ⟨_ + 48, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = out0_24 (iblk m c 0 t) := by dsimp only [dats]
theorem after0_25 (c : Dev nD) (t : Fin cfg0.N) : (dats m 0 c).after 25 t = out0_25 (iblk m c 0 t) (iblk m c 1 t) (iblk m c 2 t) (iblk m c 3 t) := by dsimp only [dats]
theorem after0_26 (c : Dev nD) (t : Fin cfg0.N) : (dats m 0 c).after 26 t = out0_26 (iblk m c 0 t) (iblk m c 2 t) := by dsimp only [dats]
theorem after0_27 (c : Dev nD) (t : Fin cfg0.N) : (dats m 0 c).after 27 t = out0_27 (iblk m c 0 t) (iblk m c 3 t) := by dsimp only [dats]
theorem after0_28 (c : Dev nD) (t : Fin cfg0.N) : (dats m 0 c).after 28 t = out0_28 (iblk m c 4 t) := by dsimp only [dats]
theorem after0_29 (c : Dev nD) (t : Fin cfg0.N) : (dats m 0 c).after 29 t = out0_29 (iblk m c 4 t) (iblk m c 5 t) (iblk m c 6 t) (iblk m c 7 t) := by dsimp only [dats]
theorem after0_30 (c : Dev nD) (t : Fin cfg0.N) : (dats m 0 c).after 30 t = out0_30 (iblk m c 4 t) (iblk m c 6 t) := by dsimp only [dats]
theorem after0_31 (c : Dev nD) (t : Fin cfg0.N) : (dats m 0 c).after 31 t = out0_31 (iblk m c 4 t) (iblk m c 7 t) := by dsimp only [dats]
theorem after0_32 (c : Dev nD) (t : Fin cfg0.N) : (dats m 0 c).after 32 t = out0_32 (iblk m c 8 t) := by dsimp only [dats]
theorem after0_33 (c : Dev nD) (t : Fin cfg0.N) : (dats m 0 c).after 33 t = out0_33 (iblk m c 8 t) (iblk m c 9 t) (iblk m c 10 t) (iblk m c 11 t) := by dsimp only [dats]
theorem after0_34 (c : Dev nD) (t : Fin cfg0.N) : (dats m 0 c).after 34 t = out0_34 (iblk m c 8 t) (iblk m c 10 t) := by dsimp only [dats]
theorem after0_35 (c : Dev nD) (t : Fin cfg0.N) : (dats m 0 c).after 35 t = out0_35 (iblk m c 8 t) (iblk m c 11 t) := by dsimp only [dats]
theorem after0_36 (c : Dev nD) (t : Fin cfg0.N) : (dats m 0 c).after 36 t = out0_36 (iblk m c 12 t) := by dsimp only [dats]
theorem after0_37 (c : Dev nD) (t : Fin cfg0.N) : (dats m 0 c).after 37 t = out0_37 (iblk m c 12 t) (iblk m c 13 t) (iblk m c 14 t) (iblk m c 15 t) := by dsimp only [dats]
theorem after0_38 (c : Dev nD) (t : Fin cfg0.N) : (dats m 0 c).after 38 t = out0_38 (iblk m c 12 t) (iblk m c 14 t) := by dsimp only [dats]
theorem after0_39 (c : Dev nD) (t : Fin cfg0.N) : (dats m 0 c).after 39 t = out0_39 (iblk m c 12 t) (iblk m c 15 t) := by dsimp only [dats]
theorem after0_40 (c : Dev nD) (t : Fin cfg0.N) : (dats m 0 c).after 40 t = out0_40 (iblk m c 16 t) := by dsimp only [dats]
theorem after0_41 (c : Dev nD) (t : Fin cfg0.N) : (dats m 0 c).after 41 t = out0_41 (iblk m c 16 t) (iblk m c 17 t) (iblk m c 18 t) (iblk m c 19 t) := by dsimp only [dats]
theorem after0_42 (c : Dev nD) (t : Fin cfg0.N) : (dats m 0 c).after 42 t = out0_42 (iblk m c 16 t) (iblk m c 18 t) := by dsimp only [dats]
theorem after0_43 (c : Dev nD) (t : Fin cfg0.N) : (dats m 0 c).after 43 t = out0_43 (iblk m c 16 t) (iblk m c 19 t) := by dsimp only [dats]
theorem after0_44 (c : Dev nD) (t : Fin cfg0.N) : (dats m 0 c).after 44 t = out0_44 (iblk m c 20 t) := by dsimp only [dats]
theorem after0_45 (c : Dev nD) (t : Fin cfg0.N) : (dats m 0 c).after 45 t = out0_45 (iblk m c 20 t) (iblk m c 21 t) (iblk m c 22 t) (iblk m c 23 t) := by dsimp only [dats]
theorem after0_46 (c : Dev nD) (t : Fin cfg0.N) : (dats m 0 c).after 46 t = out0_46 (iblk m c 20 t) (iblk m c 22 t) := by dsimp only [dats]
theorem after0_47 (c : Dev nD) (t : Fin cfg0.N) : (dats m 0 c).after 47 t = out0_47 (iblk m c 20 t) (iblk m c 23 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d))
    ∗ (∃ d, owns (c : Thread nD τ) (st0_43 t) fullShare ((dats m 0 c).before 43 t d))
    ∗ (∃ d, owns (c : Thread nD τ) (st0_44 t) fullShare ((dats m 0 c).before 44 t d))
    ∗ (∃ d, owns (c : Thread nD τ) (st0_45 t) fullShare ((dats m 0 c).before 45 t d))
    ∗ (∃ d, owns (c : Thread nD τ) (st0_46 t) fullShare ((dats m 0 c).before 46 t d))
    ∗ (∃ d, owns (c : Thread nD τ) (st0_47 t) fullShare ((dats m 0 c).before 47 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t)
    ∗ owns (c : Thread nD τ) (st0_43 t) fullShare ((dats m 0 c).after 43 t)
    ∗ owns (c : Thread nD τ) (st0_44 t) fullShare ((dats m 0 c).after 44 t)
    ∗ owns (c : Thread nD τ) (st0_45 t) fullShare ((dats m 0 c).after 45 t)
    ∗ owns (c : Thread nD τ) (st0_46 t) fullShare ((dats m 0 c).after 46 t)
    ∗ owns (c : Thread nD τ) (st0_47 t) fullShare ((dats m 0 c).after 47 t))

set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40, after0_41, after0_42, after0_43, after0_44, after0_45, after0_46, after0_47]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  iexact H47

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  frame_of m ρ (dats m) (A_eq m) (run_main m ρ)

/-- THE FRAME: `Cert.quiescent_AdamSmallIdeal`'s statement (Defs.lean) at any `F` — Proof.lean cites it at `Bits`:
    `theorem Cert.Proof.claim : Cert.Claim := ⟨Cert.AdamSmallIdeal.Gen.facts, fun m ρ _ => Cert.AdamSmallIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23))
      ∧ r.2.sem = fun _ => 0) :=
  θ_run_and (unchanged m ρ) ((θ_run defs _ _).mono (fun _ h => h.2) (run_main_quiescent m ρ))

end Cert.AdamSmallIdeal.Gen

end
-- ==== Proof.AdamSmall.Plain.lean ====
/-
  The optimiser call `adamw_small` as written and the same call as read over the reals are one program text, so the frame shown
  for the second, at any reading of the floats, is the frame of the first.
-/
module

public import proofs.«01_k».proof.Proof.AdamSmall.Frame
public import proofs.«01_k».proof.Proof.Gen.AdamSmall
public import proofs.«01_k».proof.Defs

@[expose] public section

set_option maxRecDepth 16384

namespace Cert.AdamSmall.Plain

open Idealize.ShloMosaic Idealize.ShloMosaic.TcCoe

variable {F : FTy → Type} [FloatOps F]

set_option maxHeartbeats 4000000 in
/-- The kernel function is one text in both. -/
theorem kernel_eq : @Cert.AdamSmall.cc0_adamw_small F _ Cert.AdamSmall.Gen.facts = @Cert.AdamSmallIdeal.cc0_adamw_small F _ Cert.AdamSmallIdeal.Gen.facts := rfl

set_option maxHeartbeats 4000000 in
/-- The two body tables are one: at the only label both run the same statements. -/
theorem bodies_eq : @Cert.AdamSmall.defs₀ F _ Cert.AdamSmall.Gen.facts = @Cert.AdamSmallIdeal.defs₀ F _ Cert.AdamSmallIdeal.Gen.facts := by
  unfold Cert.AdamSmall.defs₀ Cert.AdamSmallIdeal.defs₀
  refine congrArg Defs.onTc ?_
  funext k x
  match k, x with
  | 0, (t, s) => rfl

set_option maxHeartbeats 1000000 in
/-- The two tables with the pipeline's bodies added are one. -/
theorem defs_eq : @Cert.AdamSmall.defs F _ Cert.AdamSmall.Gen.facts = @Cert.AdamSmallIdeal.defs F _ Cert.AdamSmallIdeal.Gen.facts :=
  congrArg (Pipeline.defs _) bodies_eq

set_option maxHeartbeats 1000000 in
/-- The call as written ends with its arguments unchanged and every semaphore zero. -/
theorem frame : Cert.quiescent_AdamSmall (hAdamSmall := Cert.AdamSmall.Gen.facts) := by
  intro m ρ _
  rw [defs_eq]
  exact Cert.AdamSmallIdeal.Gen.frame m ρ

end Cert.AdamSmall.Plain

end
-- ==== Proof.AdamSmall.Value.lean ====
/-
  What the optimiser call for the small weights leaves: for each of its six packed arrays the gradient as given, the weight's
  change and the two new moments, each the optimiser's step of the four arguments.
-/
module

public import proofs.«01_k».proof.Proof.AdamSmall.Frame
public import proofs.«01_k».proof.Proof.Lib.Adam
public import proofs.«01_k».proof.Proof.Lib.WholeWindow

@[expose] public section

set_option maxRecDepth 16384

noncomputable section

namespace Cert.AdamSmallIdeal.Rows

open Cert.AdamSmallIdeal Cert.AdamSmallIdeal.Gen Idealize.ShloMosaic Idealize.ShloMosaic.TcCoe Idealize.SL.Sem Cert.Adam Cert.WholeWindow
open Idealize.ShloMosaic.Pipeline (Dat)

variable (m : (ℓ : Loc nD τ sig) → Buf (Elt Ideal) ℓ)

theorem hz : (![0, 0] : Fin 2 → ℕ) = fun _ => 0 := funext fun a => by fin_cases a <;> rfl

/-- The call's one point. -/
abbrev pt : Fin cfg0.N := ⟨0, by decide⟩

/-! The argument arrays, and each input window's block, which is its array. -/

abbrev arg0 (c : Dev nD) : FVec Ideal S8x1024 .f32 := m ((c.tc : Thread nD τ).loc main_arg0)
abbrev arg1 (c : Dev nD) : FVec Ideal S8x1024 .f32 := m ((c.tc : Thread nD τ).loc main_arg1)
abbrev arg2 (c : Dev nD) : FVec Ideal S8x1024 .f32 := m ((c.tc : Thread nD τ).loc main_arg2)
abbrev arg3 (c : Dev nD) : FVec Ideal S8x1024 .f32 := m ((c.tc : Thread nD τ).loc main_arg3)
abbrev arg4 (c : Dev nD) : FVec Ideal S16x512 .f32 := m ((c.tc : Thread nD τ).loc main_arg4)
abbrev arg5 (c : Dev nD) : FVec Ideal S16x512 .f32 := m ((c.tc : Thread nD τ).loc main_arg5)
abbrev arg6 (c : Dev nD) : FVec Ideal S16x512 .f32 := m ((c.tc : Thread nD τ).loc main_arg6)
abbrev arg7 (c : Dev nD) : FVec Ideal S16x512 .f32 := m ((c.tc : Thread nD τ).loc main_arg7)
abbrev arg8 (c : Dev nD) : FVec Ideal S512x128 .f32 := m ((c.tc : Thread nD τ).loc main_arg8)
abbrev arg9 (c : Dev nD) : FVec Ideal S512x128 .f32 := m ((c.tc : Thread nD τ).loc main_arg9)
abbrev arg10 (c : Dev nD) : FVec Ideal S512x128 .f32 := m ((c.tc : Thread nD τ).loc main_arg10)
abbrev arg11 (c : Dev nD) : FVec Ideal S512x128 .f32 := m ((c.tc : Thread nD τ).loc main_arg11)
abbrev arg12 (c : Dev nD) : FVec Ideal S512x64 .f32 := m ((c.tc : Thread nD τ).loc main_arg12)
abbrev arg13 (c : Dev nD) : FVec Ideal S512x64 .f32 := m ((c.tc : Thread nD τ).loc main_arg13)
abbrev arg14 (c : Dev nD) : FVec Ideal S512x64 .f32 := m ((c.tc : Thread nD τ).loc main_arg14)
abbrev arg15 (c : Dev nD) : FVec Ideal S512x64 .f32 := m ((c.tc : Thread nD τ).loc main_arg15)
abbrev arg16 (c : Dev nD) : FVec Ideal S512x64 .f32 := m ((c.tc : Thread nD τ).loc main_arg16)
abbrev arg17 (c : Dev nD) : FVec Ideal S512x64 .f32 := m ((c.tc : Thread nD τ).loc main_arg17)
abbrev arg18 (c : Dev nD) : FVec Ideal S512x64 .f32 := m ((c.tc : Thread nD τ).loc main_arg18)
abbrev arg19 (c : Dev nD) : FVec Ideal S512x64 .f32 := m ((c.tc : Thread nD τ).loc main_arg19)
abbrev arg20 (c : Dev nD) : FVec Ideal S4x64 .f32 := m ((c.tc : Thread nD τ).loc main_arg20)
abbrev arg21 (c : Dev nD) : FVec Ideal S4x64 .f32 := m ((c.tc : Thread nD τ).loc main_arg21)
abbrev arg22 (c : Dev nD) : FVec Ideal S4x64 .f32 := m ((c.tc : Thread nD τ).loc main_arg22)
abbrev arg23 (c : Dev nD) : FVec Ideal S4x64 .f32 := m ((c.tc : Thread nD τ).loc main_arg23)

abbrev block0 (c : Dev nD) : FVec Ideal S8x1024 .f32 := iblk m c 0 pt
theorem in0 (c : Dev nD) : block0 m c = arg0 m c := funext fun j => congrArg (arg0 m c) (blk_emb (cfg0.win 0) pt (fun _ => rfl) j j fun _ => rfl)
abbrev block1 (c : Dev nD) : FVec Ideal S8x1024 .f32 := iblk m c 1 pt
theorem in1 (c : Dev nD) : block1 m c = arg1 m c := funext fun j => congrArg (arg1 m c) (blk_emb (cfg0.win 1) pt (fun _ => rfl) j j fun _ => rfl)
abbrev block2 (c : Dev nD) : FVec Ideal S8x1024 .f32 := iblk m c 2 pt
theorem in2 (c : Dev nD) : block2 m c = arg2 m c := funext fun j => congrArg (arg2 m c) (blk_emb (cfg0.win 2) pt (fun _ => rfl) j j fun _ => rfl)
abbrev block3 (c : Dev nD) : FVec Ideal S8x1024 .f32 := iblk m c 3 pt
theorem in3 (c : Dev nD) : block3 m c = arg3 m c := funext fun j => congrArg (arg3 m c) (blk_emb (cfg0.win 3) pt (fun _ => rfl) j j fun _ => rfl)
abbrev block4 (c : Dev nD) : FVec Ideal S16x512 .f32 := iblk m c 4 pt
theorem in4 (c : Dev nD) : block4 m c = arg4 m c := funext fun j => congrArg (arg4 m c) (blk_emb (cfg0.win 4) pt (fun _ => rfl) j j fun _ => rfl)
abbrev block5 (c : Dev nD) : FVec Ideal S16x512 .f32 := iblk m c 5 pt
theorem in5 (c : Dev nD) : block5 m c = arg5 m c := funext fun j => congrArg (arg5 m c) (blk_emb (cfg0.win 5) pt (fun _ => rfl) j j fun _ => rfl)
abbrev block6 (c : Dev nD) : FVec Ideal S16x512 .f32 := iblk m c 6 pt
theorem in6 (c : Dev nD) : block6 m c = arg6 m c := funext fun j => congrArg (arg6 m c) (blk_emb (cfg0.win 6) pt (fun _ => rfl) j j fun _ => rfl)
abbrev block7 (c : Dev nD) : FVec Ideal S16x512 .f32 := iblk m c 7 pt
theorem in7 (c : Dev nD) : block7 m c = arg7 m c := funext fun j => congrArg (arg7 m c) (blk_emb (cfg0.win 7) pt (fun _ => rfl) j j fun _ => rfl)
abbrev block8 (c : Dev nD) : FVec Ideal S512x128 .f32 := iblk m c 8 pt
theorem in8 (c : Dev nD) : block8 m c = arg8 m c := funext fun j => congrArg (arg8 m c) (blk_emb (cfg0.win 8) pt (fun _ => rfl) j j fun _ => rfl)
abbrev block9 (c : Dev nD) : FVec Ideal S512x128 .f32 := iblk m c 9 pt
theorem in9 (c : Dev nD) : block9 m c = arg9 m c := funext fun j => congrArg (arg9 m c) (blk_emb (cfg0.win 9) pt (fun _ => rfl) j j fun _ => rfl)
abbrev block10 (c : Dev nD) : FVec Ideal S512x128 .f32 := iblk m c 10 pt
theorem in10 (c : Dev nD) : block10 m c = arg10 m c := funext fun j => congrArg (arg10 m c) (blk_emb (cfg0.win 10) pt (fun _ => rfl) j j fun _ => rfl)
abbrev block11 (c : Dev nD) : FVec Ideal S512x128 .f32 := iblk m c 11 pt
theorem in11 (c : Dev nD) : block11 m c = arg11 m c := funext fun j => congrArg (arg11 m c) (blk_emb (cfg0.win 11) pt (fun _ => rfl) j j fun _ => rfl)
abbrev block12 (c : Dev nD) : FVec Ideal S512x64 .f32 := iblk m c 12 pt
theorem in12 (c : Dev nD) : block12 m c = arg12 m c := funext fun j => congrArg (arg12 m c) (blk_emb (cfg0.win 12) pt (fun _ => rfl) j j fun _ => rfl)
abbrev block13 (c : Dev nD) : FVec Ideal S512x64 .f32 := iblk m c 13 pt
theorem in13 (c : Dev nD) : block13 m c = arg13 m c := funext fun j => congrArg (arg13 m c) (blk_emb (cfg0.win 13) pt (fun _ => rfl) j j fun _ => rfl)
abbrev block14 (c : Dev nD) : FVec Ideal S512x64 .f32 := iblk m c 14 pt
theorem in14 (c : Dev nD) : block14 m c = arg14 m c := funext fun j => congrArg (arg14 m c) (blk_emb (cfg0.win 14) pt (fun _ => rfl) j j fun _ => rfl)
abbrev block15 (c : Dev nD) : FVec Ideal S512x64 .f32 := iblk m c 15 pt
theorem in15 (c : Dev nD) : block15 m c = arg15 m c := funext fun j => congrArg (arg15 m c) (blk_emb (cfg0.win 15) pt (fun _ => rfl) j j fun _ => rfl)
abbrev block16 (c : Dev nD) : FVec Ideal S512x64 .f32 := iblk m c 16 pt
theorem in16 (c : Dev nD) : block16 m c = arg16 m c := funext fun j => congrArg (arg16 m c) (blk_emb (cfg0.win 16) pt (fun _ => rfl) j j fun _ => rfl)
abbrev block17 (c : Dev nD) : FVec Ideal S512x64 .f32 := iblk m c 17 pt
theorem in17 (c : Dev nD) : block17 m c = arg17 m c := funext fun j => congrArg (arg17 m c) (blk_emb (cfg0.win 17) pt (fun _ => rfl) j j fun _ => rfl)
abbrev block18 (c : Dev nD) : FVec Ideal S512x64 .f32 := iblk m c 18 pt
theorem in18 (c : Dev nD) : block18 m c = arg18 m c := funext fun j => congrArg (arg18 m c) (blk_emb (cfg0.win 18) pt (fun _ => rfl) j j fun _ => rfl)
abbrev block19 (c : Dev nD) : FVec Ideal S512x64 .f32 := iblk m c 19 pt
theorem in19 (c : Dev nD) : block19 m c = arg19 m c := funext fun j => congrArg (arg19 m c) (blk_emb (cfg0.win 19) pt (fun _ => rfl) j j fun _ => rfl)
abbrev block20 (c : Dev nD) : FVec Ideal S4x64 .f32 := iblk m c 20 pt
theorem in20 (c : Dev nD) : block20 m c = arg20 m c := funext fun j => congrArg (arg20 m c) (blk_emb (cfg0.win 20) pt (fun _ => rfl) j j fun _ => rfl)
abbrev block21 (c : Dev nD) : FVec Ideal S4x64 .f32 := iblk m c 21 pt
theorem in21 (c : Dev nD) : block21 m c = arg21 m c := funext fun j => congrArg (arg21 m c) (blk_emb (cfg0.win 21) pt (fun _ => rfl) j j fun _ => rfl)
abbrev block22 (c : Dev nD) : FVec Ideal S4x64 .f32 := iblk m c 22 pt
theorem in22 (c : Dev nD) : block22 m c = arg22 m c := funext fun j => congrArg (arg22 m c) (blk_emb (cfg0.win 22) pt (fun _ => rfl) j j fun _ => rfl)
abbrev block23 (c : Dev nD) : FVec Ideal S4x64 .f32 := iblk m c 23 pt
theorem in23 (c : Dev nD) : block23 m c = arg23 m c := funext fun j => congrArg (arg23 m c) (blk_emb (cfg0.win 23) pt (fun _ => rfl) j j fun _ => rfl)

/-! Packed array 0. -/

/-- The gradient, as given. -/
theorem arr24 (c : Dev nD) : (dats m 0 c).arrAt 24 cfg0.N = arg0 m c := by
  have left : (dats m 0 c).after 24 pt = arg0 m c := by
    rw [after0_24]
    unfold out0_24
    exact store1 (S := S8x1024) hz _ (in0 m c)
  exact (dats m 0 c).arrAt_eq_of_after_last 24 pt (by decide +kernel) _ fun j => congrFun left j
/-- The weight's change. -/
theorem arr25 (c : Dev nD) : (dats m 0 c).arrAt 25 cfg0.N = delta (arg0 m c) (arg1 m c) (arg2 m c) (arg3 m c) := by
  have left : (dats m 0 c).after 25 pt = delta (arg0 m c) (arg1 m c) (arg2 m c) (arg3 m c) := by
    rw [after0_25]
    unfold out0_25
    exact (store4 (S := S8x1024) hz _ k0_pay3 (in0 m c) (in1 m c) (in2 m c) (in3 m c)).trans (funext fun _ => rfl)
  exact (dats m 0 c).arrAt_eq_of_after_last 25 pt (by decide +kernel) _ fun j => congrFun left j
/-- The new first moment. -/
theorem arr26 (c : Dev nD) : (dats m 0 c).arrAt 26 cfg0.N = moment1 (arg0 m c) (arg2 m c) := by
  have left : (dats m 0 c).after 26 pt = moment1 (arg0 m c) (arg2 m c) := by
    rw [after0_26]
    unfold out0_26
    exact (store2 (S := S8x1024) hz _ k0_pay1 (in0 m c) (in2 m c)).trans (funext fun _ => rfl)
  exact (dats m 0 c).arrAt_eq_of_after_last 26 pt (by decide +kernel) _ fun j => congrFun left j
/-- The new second moment. -/
theorem arr27 (c : Dev nD) : (dats m 0 c).arrAt 27 cfg0.N = moment2 (arg0 m c) (arg3 m c) := by
  have left : (dats m 0 c).after 27 pt = moment2 (arg0 m c) (arg3 m c) := by
    rw [after0_27]
    unfold out0_27
    exact (store2 (S := S8x1024) hz _ k0_pay2 (in0 m c) (in3 m c)).trans (funext fun _ => rfl)
  exact (dats m 0 c).arrAt_eq_of_after_last 27 pt (by decide +kernel) _ fun j => congrFun left j

/-! Packed array 1. -/

/-- The gradient, as given. -/
theorem arr28 (c : Dev nD) : (dats m 0 c).arrAt 28 cfg0.N = arg4 m c := by
  have left : (dats m 0 c).after 28 pt = arg4 m c := by
    rw [after0_28]
    unfold out0_28
    exact store1 (S := S16x512) hz _ (in4 m c)
  exact (dats m 0 c).arrAt_eq_of_after_last 28 pt (by decide +kernel) _ fun j => congrFun left j
/-- The weight's change. -/
theorem arr29 (c : Dev nD) : (dats m 0 c).arrAt 29 cfg0.N = delta (arg4 m c) (arg5 m c) (arg6 m c) (arg7 m c) := by
  have left : (dats m 0 c).after 29 pt = delta (arg4 m c) (arg5 m c) (arg6 m c) (arg7 m c) := by
    rw [after0_29]
    unfold out0_29
    exact (store4 (S := S16x512) hz _ k0_pay6 (in4 m c) (in5 m c) (in6 m c) (in7 m c)).trans (funext fun _ => rfl)
  exact (dats m 0 c).arrAt_eq_of_after_last 29 pt (by decide +kernel) _ fun j => congrFun left j
/-- The new first moment. -/
theorem arr30 (c : Dev nD) : (dats m 0 c).arrAt 30 cfg0.N = moment1 (arg4 m c) (arg6 m c) := by
  have left : (dats m 0 c).after 30 pt = moment1 (arg4 m c) (arg6 m c) := by
    rw [after0_30]
    unfold out0_30
    exact (store2 (S := S16x512) hz _ k0_pay4 (in4 m c) (in6 m c)).trans (funext fun _ => rfl)
  exact (dats m 0 c).arrAt_eq_of_after_last 30 pt (by decide +kernel) _ fun j => congrFun left j
/-- The new second moment. -/
theorem arr31 (c : Dev nD) : (dats m 0 c).arrAt 31 cfg0.N = moment2 (arg4 m c) (arg7 m c) := by
  have left : (dats m 0 c).after 31 pt = moment2 (arg4 m c) (arg7 m c) := by
    rw [after0_31]
    unfold out0_31
    exact (store2 (S := S16x512) hz _ k0_pay5 (in4 m c) (in7 m c)).trans (funext fun _ => rfl)
  exact (dats m 0 c).arrAt_eq_of_after_last 31 pt (by decide +kernel) _ fun j => congrFun left j

/-! Packed array 2. -/

/-- The gradient, as given. -/
theorem arr32 (c : Dev nD) : (dats m 0 c).arrAt 32 cfg0.N = arg8 m c := by
  have left : (dats m 0 c).after 32 pt = arg8 m c := by
    rw [after0_32]
    unfold out0_32
    exact store1 (S := S512x128) hz _ (in8 m c)
  exact (dats m 0 c).arrAt_eq_of_after_last 32 pt (by decide +kernel) _ fun j => congrFun left j
/-- The weight's change. -/
theorem arr33 (c : Dev nD) : (dats m 0 c).arrAt 33 cfg0.N = delta (arg8 m c) (arg9 m c) (arg10 m c) (arg11 m c) := by
  have left : (dats m 0 c).after 33 pt = delta (arg8 m c) (arg9 m c) (arg10 m c) (arg11 m c) := by
    rw [after0_33]
    unfold out0_33
    exact (store4 (S := S512x128) hz _ k0_pay9 (in8 m c) (in9 m c) (in10 m c) (in11 m c)).trans (funext fun _ => rfl)
  exact (dats m 0 c).arrAt_eq_of_after_last 33 pt (by decide +kernel) _ fun j => congrFun left j
/-- The new first moment. -/
theorem arr34 (c : Dev nD) : (dats m 0 c).arrAt 34 cfg0.N = moment1 (arg8 m c) (arg10 m c) := by
  have left : (dats m 0 c).after 34 pt = moment1 (arg8 m c) (arg10 m c) := by
    rw [after0_34]
    unfold out0_34
    exact (store2 (S := S512x128) hz _ k0_pay7 (in8 m c) (in10 m c)).trans (funext fun _ => rfl)
  exact (dats m 0 c).arrAt_eq_of_after_last 34 pt (by decide +kernel) _ fun j => congrFun left j
/-- The new second moment. -/
theorem arr35 (c : Dev nD) : (dats m 0 c).arrAt 35 cfg0.N = moment2 (arg8 m c) (arg11 m c) := by
  have left : (dats m 0 c).after 35 pt = moment2 (arg8 m c) (arg11 m c) := by
    rw [after0_35]
    unfold out0_35
    exact (store2 (S := S512x128) hz _ k0_pay8 (in8 m c) (in11 m c)).trans (funext fun _ => rfl)
  exact (dats m 0 c).arrAt_eq_of_after_last 35 pt (by decide +kernel) _ fun j => congrFun left j

/-! Packed array 3. -/

/-- The gradient, as given. -/
theorem arr36 (c : Dev nD) : (dats m 0 c).arrAt 36 cfg0.N = arg12 m c := by
  have left : (dats m 0 c).after 36 pt = arg12 m c := by
    rw [after0_36]
    unfold out0_36
    exact store1 (S := S512x64) hz _ (in12 m c)
  exact (dats m 0 c).arrAt_eq_of_after_last 36 pt (by decide +kernel) _ fun j => congrFun left j
/-- The weight's change. -/
theorem arr37 (c : Dev nD) : (dats m 0 c).arrAt 37 cfg0.N = delta (arg12 m c) (arg13 m c) (arg14 m c) (arg15 m c) := by
  have left : (dats m 0 c).after 37 pt = delta (arg12 m c) (arg13 m c) (arg14 m c) (arg15 m c) := by
    rw [after0_37]
    unfold out0_37
    exact (store4 (S := S512x64) hz _ k0_pay12 (in12 m c) (in13 m c) (in14 m c) (in15 m c)).trans (funext fun _ => rfl)
  exact (dats m 0 c).arrAt_eq_of_after_last 37 pt (by decide +kernel) _ fun j => congrFun left j
/-- The new first moment. -/
theorem arr38 (c : Dev nD) : (dats m 0 c).arrAt 38 cfg0.N = moment1 (arg12 m c) (arg14 m c) := by
  have left : (dats m 0 c).after 38 pt = moment1 (arg12 m c) (arg14 m c) := by
    rw [after0_38]
    unfold out0_38
    exact (store2 (S := S512x64) hz _ k0_pay10 (in12 m c) (in14 m c)).trans (funext fun _ => rfl)
  exact (dats m 0 c).arrAt_eq_of_after_last 38 pt (by decide +kernel) _ fun j => congrFun left j
/-- The new second moment. -/
theorem arr39 (c : Dev nD) : (dats m 0 c).arrAt 39 cfg0.N = moment2 (arg12 m c) (arg15 m c) := by
  have left : (dats m 0 c).after 39 pt = moment2 (arg12 m c) (arg15 m c) := by
    rw [after0_39]
    unfold out0_39
    exact (store2 (S := S512x64) hz _ k0_pay11 (in12 m c) (in15 m c)).trans (funext fun _ => rfl)
  exact (dats m 0 c).arrAt_eq_of_after_last 39 pt (by decide +kernel) _ fun j => congrFun left j

/-! Packed array 4. -/

/-- The gradient, as given. -/
theorem arr40 (c : Dev nD) : (dats m 0 c).arrAt 40 cfg0.N = arg16 m c := by
  have left : (dats m 0 c).after 40 pt = arg16 m c := by
    rw [after0_40]
    unfold out0_40
    exact store1 (S := S512x64) hz _ (in16 m c)
  exact (dats m 0 c).arrAt_eq_of_after_last 40 pt (by decide +kernel) _ fun j => congrFun left j
/-- The weight's change. -/
theorem arr41 (c : Dev nD) : (dats m 0 c).arrAt 41 cfg0.N = delta (arg16 m c) (arg17 m c) (arg18 m c) (arg19 m c) := by
  have left : (dats m 0 c).after 41 pt = delta (arg16 m c) (arg17 m c) (arg18 m c) (arg19 m c) := by
    rw [after0_41]
    unfold out0_41
    exact (store4 (S := S512x64) hz _ k0_pay15 (in16 m c) (in17 m c) (in18 m c) (in19 m c)).trans (funext fun _ => rfl)
  exact (dats m 0 c).arrAt_eq_of_after_last 41 pt (by decide +kernel) _ fun j => congrFun left j
/-- The new first moment. -/
theorem arr42 (c : Dev nD) : (dats m 0 c).arrAt 42 cfg0.N = moment1 (arg16 m c) (arg18 m c) := by
  have left : (dats m 0 c).after 42 pt = moment1 (arg16 m c) (arg18 m c) := by
    rw [after0_42]
    unfold out0_42
    exact (store2 (S := S512x64) hz _ k0_pay13 (in16 m c) (in18 m c)).trans (funext fun _ => rfl)
  exact (dats m 0 c).arrAt_eq_of_after_last 42 pt (by decide +kernel) _ fun j => congrFun left j
/-- The new second moment. -/
theorem arr43 (c : Dev nD) : (dats m 0 c).arrAt 43 cfg0.N = moment2 (arg16 m c) (arg19 m c) := by
  have left : (dats m 0 c).after 43 pt = moment2 (arg16 m c) (arg19 m c) := by
    rw [after0_43]
    unfold out0_43
    exact (store2 (S := S512x64) hz _ k0_pay14 (in16 m c) (in19 m c)).trans (funext fun _ => rfl)
  exact (dats m 0 c).arrAt_eq_of_after_last 43 pt (by decide +kernel) _ fun j => congrFun left j

/-! Packed array 5. -/

/-- The gradient, as given. -/
theorem arr44 (c : Dev nD) : (dats m 0 c).arrAt 44 cfg0.N = arg20 m c := by
  have left : (dats m 0 c).after 44 pt = arg20 m c := by
    rw [after0_44]
    unfold out0_44
    exact store1 (S := S4x64) hz _ (in20 m c)
  exact (dats m 0 c).arrAt_eq_of_after_last 44 pt (by decide +kernel) _ fun j => congrFun left j
/-- The weight's change. -/
theorem arr45 (c : Dev nD) : (dats m 0 c).arrAt 45 cfg0.N = delta (arg20 m c) (arg21 m c) (arg22 m c) (arg23 m c) := by
  have left : (dats m 0 c).after 45 pt = delta (arg20 m c) (arg21 m c) (arg22 m c) (arg23 m c) := by
    rw [after0_45]
    unfold out0_45
    exact (store4 (S := S4x64) hz _ k0_pay18 (in20 m c) (in21 m c) (in22 m c) (in23 m c)).trans (funext fun _ => rfl)
  exact (dats m 0 c).arrAt_eq_of_after_last 45 pt (by decide +kernel) _ fun j => congrFun left j
/-- The new first moment. -/
theorem arr46 (c : Dev nD) : (dats m 0 c).arrAt 46 cfg0.N = moment1 (arg20 m c) (arg22 m c) := by
  have left : (dats m 0 c).after 46 pt = moment1 (arg20 m c) (arg22 m c) := by
    rw [after0_46]
    unfold out0_46
    exact (store2 (S := S4x64) hz _ k0_pay16 (in20 m c) (in22 m c)).trans (funext fun _ => rfl)
  exact (dats m 0 c).arrAt_eq_of_after_last 46 pt (by decide +kernel) _ fun j => congrFun left j
/-- The new second moment. -/
theorem arr47 (c : Dev nD) : (dats m 0 c).arrAt 47 cfg0.N = moment2 (arg20 m c) (arg23 m c) := by
  have left : (dats m 0 c).after 47 pt = moment2 (arg20 m c) (arg23 m c) := by
    rw [after0_47]
    unfold out0_47
    exact (store2 (S := S4x64) hz _ k0_pay17 (in20 m c) (in23 m c)).trans (funext fun _ => rfl)
  exact (dats m 0 c).arrAt_eq_of_after_last 47 pt (by decide +kernel) _ fun j => congrFun left j

end Cert.AdamSmallIdeal.Rows

end
-- ==== Proof.AdamSmall.Claim.lean ====
/-
  The optimiser call for the small weights equals the reference's over the reals: each gradient comes out as given, and the
  moments and the change are the same expressions of the arguments.
-/
module

public import proofs.«01_k».proof.Proof.AdamSmall.Value
public import proofs.«01_k».proof.Proof.Gen.AdamSmallRefIdeal.Run
public import proofs.«01_k».proof.Defs

@[expose] public section

set_option maxRecDepth 16384

noncomputable section

namespace Cert.AdamSmallIdeal.Rows

open Idealize.ShloMosaic Idealize.ShloMosaic.TcCoe Idealize.SL.Sem Cert.Adam Cert.AdamSmallIdeal.Gen

set_option maxHeartbeats 4000000 in
/-- The kernel and the reference end with the same twenty-four results, and neither writes an argument. -/
theorem algebraic : Cert.algebraic_AdamSmallIdeal_AdamSmallRefIdeal (hAdamSmallIdeal := Cert.AdamSmallIdeal.Gen.facts)
    (hAdamSmallRefIdeal := Cert.AdamSmallRefIdeal.Gen.facts) := by
  intro m g m' g' _ hargs
  refine ⟨fun c => arg0 m c, fun c => delta (arg0 m c) (arg1 m c) (arg2 m c) (arg3 m c), fun c => moment1 (arg0 m c) (arg2 m c), fun c => moment2 (arg0 m c) (arg3 m c),
    fun c => arg4 m c, fun c => delta (arg4 m c) (arg5 m c) (arg6 m c) (arg7 m c), fun c => moment1 (arg4 m c) (arg6 m c), fun c => moment2 (arg4 m c) (arg7 m c),
    fun c => arg8 m c, fun c => delta (arg8 m c) (arg9 m c) (arg10 m c) (arg11 m c), fun c => moment1 (arg8 m c) (arg10 m c), fun c => moment2 (arg8 m c) (arg11 m c),
    fun c => arg12 m c, fun c => delta (arg12 m c) (arg13 m c) (arg14 m c) (arg15 m c), fun c => moment1 (arg12 m c) (arg14 m c), fun c => moment2 (arg12 m c) (arg15 m c),
    fun c => arg16 m c, fun c => delta (arg16 m c) (arg17 m c) (arg18 m c) (arg19 m c), fun c => moment1 (arg16 m c) (arg18 m c), fun c => moment2 (arg16 m c) (arg19 m c),
    fun c => arg20 m c, fun c => delta (arg20 m c) (arg21 m c) (arg22 m c) (arg23 m c), fun c => moment1 (arg20 m c) (arg22 m c), fun c => moment2 (arg20 m c) (arg23 m c),
    ?_, ?_⟩
  · refine (θ_run _ _ _).mono (fun _ h c => ?_) (run_main m g)
    exact ⟨(h.out_eq c 24).trans (arr24 m c), (h.out_eq c 25).trans (arr25 m c), (h.out_eq c 26).trans (arr26 m c), (h.out_eq c 27).trans (arr27 m c),
      (h.out_eq c 28).trans (arr28 m c), (h.out_eq c 29).trans (arr29 m c), (h.out_eq c 30).trans (arr30 m c), (h.out_eq c 31).trans (arr31 m c),
      (h.out_eq c 32).trans (arr32 m c), (h.out_eq c 33).trans (arr33 m c), (h.out_eq c 34).trans (arr34 m c), (h.out_eq c 35).trans (arr35 m c),
      (h.out_eq c 36).trans (arr36 m c), (h.out_eq c 37).trans (arr37 m c), (h.out_eq c 38).trans (arr38 m c), (h.out_eq c 39).trans (arr39 m c),
      (h.out_eq c 40).trans (arr40 m c), (h.out_eq c 41).trans (arr41 m c), (h.out_eq c 42).trans (arr42 m c), (h.out_eq c 43).trans (arr43 m c),
      (h.out_eq c 44).trans (arr44 m c), (h.out_eq c 45).trans (arr45 m c), (h.out_eq c 46).trans (arr46 m c), (h.out_eq c 47).trans (arr47 m c),
      (h.in_eq c 0 rfl).trans (A_eq m c 0), (h.in_eq c 1 rfl).trans (A_eq m c 1), (h.in_eq c 2 rfl).trans (A_eq m c 2), (h.in_eq c 3 rfl).trans (A_eq m c 3),
      (h.in_eq c 4 rfl).trans (A_eq m c 4), (h.in_eq c 5 rfl).trans (A_eq m c 5), (h.in_eq c 6 rfl).trans (A_eq m c 6), (h.in_eq c 7 rfl).trans (A_eq m c 7),
      (h.in_eq c 8 rfl).trans (A_eq m c 8), (h.in_eq c 9 rfl).trans (A_eq m c 9), (h.in_eq c 10 rfl).trans (A_eq m c 10), (h.in_eq c 11 rfl).trans (A_eq m c 11),
      (h.in_eq c 12 rfl).trans (A_eq m c 12), (h.in_eq c 13 rfl).trans (A_eq m c 13), (h.in_eq c 14 rfl).trans (A_eq m c 14), (h.in_eq c 15 rfl).trans (A_eq m c 15),
      (h.in_eq c 16 rfl).trans (A_eq m c 16), (h.in_eq c 17 rfl).trans (A_eq m c 17), (h.in_eq c 18 rfl).trans (A_eq m c 18), (h.in_eq c 19 rfl).trans (A_eq m c 19),
      (h.in_eq c 20 rfl).trans (A_eq m c 20), (h.in_eq c 21 rfl).trans (A_eq m c 21), (h.in_eq c 22 rfl).trans (A_eq m c 22), (h.in_eq c 23 rfl).trans (A_eq m c 23)⟩
  · refine (θ_run _ _ _).mono (fun _ h c => ?_) (Cert.AdamSmallRefIdeal.Value.run m' g')
    obtain ⟨a0, a1, a2, a3, a4, a5, a6, a7, a8, a9, a10, a11, a12, a13, a14, a15, a16, a17, a18, a19, a20, a21, a22, a23⟩ := hargs c
    obtain ⟨r0, r1, r2, r3, r4, r5, r6, r7, r8, r9, r10, r11, r12, r13, r14, r15, r16, r17, r18, r19, r20, r21, r22, r23, kept⟩ := h c
    exact ⟨r0.trans a0, r1.trans (hostD_eq _ a0 a1 a2 a3), r2.trans (host1_eq _ a0 a2), r3.trans (host2_eq _ a0 a3),
      r4.trans a4, r5.trans (hostD_eq _ a4 a5 a6 a7), r6.trans (host1_eq _ a4 a6), r7.trans (host2_eq _ a4 a7),
      r8.trans a8, r9.trans (hostD_eq _ a8 a9 a10 a11), r10.trans (host1_eq _ a8 a10), r11.trans (host2_eq _ a8 a11),
      r12.trans a12, r13.trans (hostD_eq _ a12 a13 a14 a15), r14.trans (host1_eq _ a12 a14), r15.trans (host2_eq _ a12 a15),
      r16.trans a16, r17.trans (hostD_eq _ a16 a17 a18 a19), r18.trans (host1_eq _ a16 a18), r19.trans (host2_eq _ a16 a19),
      r20.trans a20, r21.trans (hostD_eq _ a20 a21 a22 a23), r22.trans (host1_eq _ a20 a22), r23.trans (host2_eq _ a20 a23),
      kept⟩

end Cert.AdamSmallIdeal.Rows

end
-- ==== Proof.lean ====
module

public import proofs.«01_k».proof.Defs
public import proofs.«01_k».proof.Proof.Gen.MlpBwd
public import proofs.«01_k».proof.Proof.Gen.MlpBwd.Skeleton
public import proofs.«01_k».proof.Proof.Gen.MlpBwd.Launch
public import proofs.«01_k».proof.Proof.Gen.MlpBwd.Points
public import proofs.«01_k».proof.Proof.Gen.MlpBwd.Frame
public import proofs.«01_k».proof.Proof.Gen.MlpBwdIdeal
public import proofs.«01_k».proof.Proof.Gen.MlpBwdIdeal.Skeleton
public import proofs.«01_k».proof.Proof.Gen.MlpBwdIdeal.Launch
public import proofs.«01_k».proof.Proof.Gen.MlpBwdIdeal.Points
public import proofs.«01_k».proof.Proof.Gen.MlpBwdIdeal.Frame
public import proofs.«01_k».proof.Proof.Gen.MlpBwdRefIdeal
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleRefIdeal
public import proofs.«01_k».proof.Proof.Gen.MlpFwd
public import proofs.«01_k».proof.Proof.Gen.MlpFwd.Skeleton
public import proofs.«01_k».proof.Proof.Gen.MlpFwd.Launch
public import proofs.«01_k».proof.Proof.Gen.MlpFwd.Points
public import proofs.«01_k».proof.Proof.Gen.MlpFwd.Frame
public import proofs.«01_k».proof.Proof.Gen.MlpFwdIdeal
public import proofs.«01_k».proof.Proof.Gen.MlpFwdIdeal.Skeleton
public import proofs.«01_k».proof.Proof.Gen.MlpFwdIdeal.Launch
public import proofs.«01_k».proof.Proof.Gen.MlpFwdIdeal.Points
public import proofs.«01_k».proof.Proof.Gen.MlpFwdIdeal.Frame
public import proofs.«01_k».proof.Proof.Gen.MlpFwdRefIdeal
public import proofs.«01_k».proof.Proof.Gen.WgradOut
public import proofs.«01_k».proof.Proof.Gen.WgradOut.Skeleton
public import proofs.«01_k».proof.Proof.Gen.WgradOut.Launch
public import proofs.«01_k».proof.Proof.Gen.WgradOut.Points
public import proofs.«01_k».proof.Proof.Gen.WgradOut.Frame
public import proofs.«01_k».proof.Proof.Gen.WgradOutIdeal
public import proofs.«01_k».proof.Proof.Gen.WgradOutIdeal.Skeleton
public import proofs.«01_k».proof.Proof.Gen.WgradOutIdeal.Launch
public import proofs.«01_k».proof.Proof.Gen.WgradOutIdeal.Points
public import proofs.«01_k».proof.Proof.Gen.WgradOutIdeal.Frame
public import proofs.«01_k».proof.Proof.Gen.WgradOutRefIdeal
public import proofs.«01_k».proof.Proof.Gen.MlpBwdIdeal.Value
public import proofs.«01_k».proof.Proof.Gen.MlpBwdRefIdeal.Run
public import proofs.«01_k».proof.Proof.Gen.PleIdeal.Value
public import proofs.«01_k».proof.Proof.Gen.PleRefIdeal.Run
public import proofs.«01_k».proof.Proof.Gen.MlpFwdIdeal.Value
public import proofs.«01_k».proof.Proof.Gen.MlpFwdRefIdeal.Run
public import proofs.«01_k».proof.Proof.Gen.WgradOutRefIdeal.Run
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpRefIdeal
public import proofs.«01_k».proof.Proof.Gen.AdamUpIdeal.Value
public import proofs.«01_k».proof.Proof.Gen.AdamUpRefIdeal.Run
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownRefIdeal
public import proofs.«01_k».proof.Proof.Gen.AdamDownIdeal.Value
public import proofs.«01_k».proof.Proof.Gen.AdamDownRefIdeal.Run
public import proofs.«01_k».proof.Proof.Gen.AdamMedium
public import proofs.«01_k».proof.Proof.Gen.AdamMedium.Skeleton
public import proofs.«01_k».proof.Proof.Gen.AdamMedium.Launch
public import proofs.«01_k».proof.Proof.Gen.AdamMedium.Points
public import proofs.«01_k».proof.Proof.Gen.AdamMediumIdeal
public import proofs.«01_k».proof.Proof.Gen.AdamMediumIdeal.Skeleton
public import proofs.«01_k».proof.Proof.Gen.AdamMediumIdeal.Launch
public import proofs.«01_k».proof.Proof.Gen.AdamMediumIdeal.Points
public import proofs.«01_k».proof.Proof.Gen.AdamMediumRefIdeal
public import proofs.«01_k».proof.Proof.Gen.AdamMediumRefIdeal.Run
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallRefIdeal
public import proofs.«01_k».proof.Proof.Gen.AdamSmallRefIdeal.Run
public import proofs.«01_k».proof.Proof.MlpBwd.Claim
public import proofs.«01_k».proof.Proof.MlpFwd.Claim
public import proofs.«01_k».proof.Proof.Ple.Claim
public import proofs.«01_k».proof.Proof.WgradOut.Claim
public import proofs.«01_k».proof.Proof.AdamUp.Claim
public import proofs.«01_k».proof.Proof.AdamDown.Claim
public import proofs.«01_k».proof.Proof.AdamMedium.Plain
public import proofs.«01_k».proof.Proof.AdamMedium.Claim
public import proofs.«01_k».proof.Proof.AdamSmall.Plain
public import proofs.«01_k».proof.Proof.AdamSmall.Claim
public import Idealize.ShloMosaic.Adequacy
public import Idealize.ShloMosaic.Init

@[expose] public section

noncomputable section

namespace Cert.Proof

open Idealize.ShloMosaic Idealize.SL.Sem Cert.MlpBwd

/-- The reference has no semaphore and writes none of its arguments. -/
theorem frame_MlpBwdRefIdeal : Cert.quiescent_MlpBwdRefIdeal := fun m ρ _ =>
  (θ_run Cert.MlpBwdRefIdeal.defs _ _).mono (fun _ h => ⟨fun c => (h c).2.2.2, sem_eq_zero_of_no_sems (by decide) _⟩)
    (Cert.MlpBwdRefIdeal.Value.run m ρ)

/-- The reference has no semaphore and writes none of its arguments. -/
theorem frame_PleRefIdeal : Cert.quiescent_PleRefIdeal := fun m ρ _ =>
  (θ_run Cert.PleRefIdeal.defs _ _).mono (fun _ h => ⟨fun c => (h c).2.2.2.2, sem_eq_zero_of_no_sems (by decide) _⟩)
    (Cert.PleRefIdeal.Value.run m ρ)

/-- The reference has no semaphore and writes none of its arguments. -/
theorem frame_MlpFwdRefIdeal : Cert.quiescent_MlpFwdRefIdeal := fun m ρ _ =>
  (θ_run Cert.MlpFwdRefIdeal.defs _ _).mono (fun _ h => ⟨fun c => (h c).2.2.2, sem_eq_zero_of_no_sems (by decide) _⟩)
    (Cert.MlpFwdRefIdeal.Value.run m ρ)

/-- The reference has no semaphore and writes none of its arguments. -/
theorem frame_WgradOutRefIdeal : Cert.quiescent_WgradOutRefIdeal := fun m ρ _ =>
  (θ_run Cert.WgradOutRefIdeal.defs _ _).mono (fun _ h => ⟨fun c => (h c).2, sem_eq_zero_of_no_sems (by decide) _⟩)
    (Cert.WgradOutRefIdeal.Value.run m ρ)

/-- The reference has no semaphore and writes none of its arguments. -/
theorem frame_AdamUpRefIdeal : Cert.quiescent_AdamUpRefIdeal := fun m ρ _ =>
  (θ_run Cert.AdamUpRefIdeal.defs _ _).mono (fun _ h => ⟨fun c => (h c).2.2.2.2, sem_eq_zero_of_no_sems (by decide) _⟩)
    (Cert.AdamUpRefIdeal.Value.run m ρ)

/-- The reference has no semaphore and writes none of its arguments. -/
theorem frame_AdamDownRefIdeal : Cert.quiescent_AdamDownRefIdeal := fun m ρ _ =>
  (θ_run Cert.AdamDownRefIdeal.defs _ _).mono (fun _ h => ⟨fun c => (h c).2.2.2.2, sem_eq_zero_of_no_sems (by decide) _⟩)
    (Cert.AdamDownRefIdeal.Value.run m ρ)

/-- The reference has no semaphore and writes none of its arguments. -/
theorem frame_AdamMediumRefIdeal : Cert.quiescent_AdamMediumRefIdeal := fun m ρ _ =>
  (θ_run Cert.AdamMediumRefIdeal.defs _ _).mono (fun _ h => ⟨fun c => (h c).2.2.2.2.2.2.2.2.2.2.2.2.2.2.2.2, sem_eq_zero_of_no_sems (by decide) _⟩)
    (Cert.AdamMediumRefIdeal.Value.run m ρ)

/-- The reference has no semaphore and writes none of its arguments. -/
theorem frame_AdamSmallRefIdeal : Cert.quiescent_AdamSmallRefIdeal := fun m ρ _ =>
  (θ_run Cert.AdamSmallRefIdeal.defs _ _).mono (fun _ h => ⟨fun c => (h c).2.2.2.2.2.2.2.2.2.2.2.2.2.2.2.2.2.2.2.2.2.2.2.2, sem_eq_zero_of_no_sems (by decide) _⟩)
    (Cert.AdamSmallRefIdeal.Value.run m ρ)

theorem claim : Cert.Claim := ⟨Cert.MlpBwd.Gen.facts, Cert.MlpBwdIdeal.Gen.facts, Cert.MlpBwdRefIdeal.Gen.facts, Cert.Ple.Gen.facts, Cert.PleIdeal.Gen.facts, Cert.PleRefIdeal.Gen.facts, Cert.MlpFwd.Gen.facts, Cert.MlpFwdIdeal.Gen.facts, Cert.MlpFwdRefIdeal.Gen.facts, Cert.WgradOut.Gen.facts, Cert.WgradOutIdeal.Gen.facts, Cert.WgradOutRefIdeal.Gen.facts, Cert.AdamUp.Gen.facts, Cert.AdamUpIdeal.Gen.facts, Cert.AdamUpRefIdeal.Gen.facts, Cert.AdamDown.Gen.facts, Cert.AdamDownIdeal.Gen.facts, Cert.AdamDownRefIdeal.Gen.facts, Cert.AdamMedium.Gen.facts, Cert.AdamMediumIdeal.Gen.facts, Cert.AdamMediumRefIdeal.Gen.facts, Cert.AdamSmall.Gen.facts, Cert.AdamSmallIdeal.Gen.facts, Cert.AdamSmallRefIdeal.Gen.facts,
  fun m ρ _ => Cert.MlpBwd.Gen.frame m ρ,
  fun m ρ _ => Cert.MlpBwdIdeal.Gen.frame m ρ,
  frame_MlpBwdRefIdeal,
  fun m ρ _ => Cert.Ple.Gen.frame m ρ,
  fun m ρ _ => Cert.PleIdeal.Gen.frame m ρ,
  frame_PleRefIdeal,
  fun m ρ _ => Cert.MlpFwd.Gen.frame m ρ,
  fun m ρ _ => Cert.MlpFwdIdeal.Gen.frame m ρ,
  frame_MlpFwdRefIdeal,
  fun m ρ _ => Cert.WgradOut.Gen.frame m ρ,
  fun m ρ _ => Cert.WgradOutIdeal.Gen.frame m ρ,
  frame_WgradOutRefIdeal,
  fun m ρ _ => Cert.AdamUp.Gen.frame m ρ,
  fun m ρ _ => Cert.AdamUpIdeal.Gen.frame m ρ,
  frame_AdamUpRefIdeal,
  fun m ρ _ => Cert.AdamDown.Gen.frame m ρ,
  fun m ρ _ => Cert.AdamDownIdeal.Gen.frame m ρ,
  frame_AdamDownRefIdeal,
  Cert.AdamMedium.Plain.frame,
  fun m ρ _ => Cert.AdamMediumIdeal.Gen.frame m ρ,
  frame_AdamMediumRefIdeal,
  Cert.AdamSmall.Plain.frame,
  fun m ρ _ => Cert.AdamSmallIdeal.Gen.frame m ρ,
  frame_AdamSmallRefIdeal,
  trivial,
  Cert.MlpBwdIdeal.Last.algebraic,
  trivial,
  Cert.PleIdeal.Last.algebraic,
  trivial,
  Cert.MlpFwdIdeal.Rows.algebraic,
  trivial,
  Cert.WgradOutIdeal.Last.algebraic,
  trivial,
  Cert.AdamUpIdeal.Rows.algebraic,
  trivial,
  Cert.AdamDownIdeal.Rows.algebraic,
  trivial,
  Cert.AdamMediumIdeal.Rows.algebraic,
  trivial,
  Cert.AdamSmallIdeal.Rows.algebraic⟩

end Cert.Proof

end
